-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v21_0)) (v1 : (c : Dev Cert.Kernel5Ideal.nD) → Buf (Elt Ideal) ((c.tc : Thread Cert.Kernel5Ideal.nD Cert.Kernel5Ideal.τ).loc Cert.Kernel5Ideal.main_v21_1)) (v2 : (c : Dev Cert.Kernel5Ideal.nD) → Buf (Elt Ideal) ((c.tc : Thread Cert.Kernel5Ideal.nD Cert.Kernel5Ideal.τ).loc Cert.Kernel5Ideal.main_v21_2)) (v3 : (c : Dev Cert.Kernel5Ideal.nD) → Buf (Elt Ideal) ((c.tc : Thread Cert.Kernel5Ideal.nD Cert.Kernel5Ideal.τ).loc Cert.Kernel5Ideal.main_v21_3)) (v4 : (c : Dev Cert.Kernel5Ideal.nD) → Buf (Elt Ideal) ((c.tc : Thread Cert.Kernel5Ideal.nD Cert.Kernel5Ideal.τ).loc Cert.Kernel5Ideal.main_v21_4)) (v5 : (c : Dev Cert.Kernel5Ideal.nD) → Buf (Elt Ideal) ((c.tc : Thread Cert.Kernel5Ideal.nD Cert.Kernel5Ideal.τ).loc Cert.Kernel5Ideal.main_v21_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21_0) = v0 c
          ∧ r.2.mem ((c.tc : Thread Cert.Kernel5Ideal.nD Cert.Kernel5Ideal.τ).loc Cert.Kernel5Ideal.main_v21_1) = v1 c
          ∧ r.2.mem ((c.tc : Thread Cert.Kernel5Ideal.nD Cert.Kernel5Ideal.τ).loc Cert.Kernel5Ideal.main_v21_2) = v2 c
          ∧ r.2.mem ((c.tc : Thread Cert.Kernel5Ideal.nD Cert.Kernel5Ideal.τ).loc Cert.Kernel5Ideal.main_v21_3) = v3 c
          ∧ r.2.mem ((c.tc : Thread Cert.Kernel5Ideal.nD Cert.Kernel5Ideal.τ).loc Cert.Kernel5Ideal.main_v21_4) = v4 c
          ∧ r.2.mem ((c.tc : Thread Cert.Kernel5Ideal.nD Cert.Kernel5Ideal.τ).loc Cert.Kernel5Ideal.main_v21_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v48) = v0 c
          ∧ r.2.mem ((c.tc : Thread Cert.Reference5Ideal.nD Cert.Reference5Ideal.τ).loc Cert.Reference5Ideal.main_v50) = v1 c
          ∧ r.2.mem ((c.tc : Thread Cert.Reference5Ideal.nD Cert.Reference5Ideal.τ).loc Cert.Reference5Ideal.main_v53) = v2 c
          ∧ r.2.mem ((c.tc : Thread Cert.Reference5Ideal.nD Cert.Reference5Ideal.τ).loc Cert.Reference5Ideal.main_v54) = v3 c
          ∧ r.2.mem ((c.tc : Thread Cert.Reference5Ideal.nD Cert.Reference5Ideal.τ).loc Cert.Reference5Ideal.main_v55) = v4 c
          ∧ r.2.mem ((c.tc : Thread Cert.Reference5Ideal.nD Cert.Reference5Ideal.τ).loc Cert.Reference5Ideal.main_v56) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v88_0)) (v1 : (c : Dev Cert.Kernel6Ideal.nD) → Buf (Elt Ideal) ((c.tc : Thread Cert.Kernel6Ideal.nD Cert.Kernel6Ideal.τ).loc Cert.Kernel6Ideal.main_v88_1)) (v2 : (c : Dev Cert.Kernel6Ideal.nD) → Buf (Elt Ideal) ((c.tc : Thread Cert.Kernel6Ideal.nD Cert.Kernel6Ideal.τ).loc Cert.Kernel6Ideal.main_v88_2)) (v3 : (c : Dev Cert.Kernel6Ideal.nD) → Buf (Elt Ideal) ((c.tc : Thread Cert.Kernel6Ideal.nD Cert.Kernel6Ideal.τ).loc Cert.Kernel6Ideal.main_v88_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v88_0) = v0 c
          ∧ r.2.mem ((c.tc : Thread Cert.Kernel6Ideal.nD Cert.Kernel6Ideal.τ).loc Cert.Kernel6Ideal.main_v88_1) = v1 c
          ∧ r.2.mem ((c.tc : Thread Cert.Kernel6Ideal.nD Cert.Kernel6Ideal.τ).loc Cert.Kernel6Ideal.main_v88_2) = v2 c
          ∧ r.2.mem ((c.tc : Thread Cert.Kernel6Ideal.nD Cert.Kernel6Ideal.τ).loc Cert.Kernel6Ideal.main_v88_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v129) = v0 c
          ∧ r.2.mem ((c.tc : Thread Cert.Reference6Ideal.nD Cert.Reference6Ideal.τ).loc Cert.Reference6Ideal.main_v133) = v1 c
          ∧ r.2.mem ((c.tc : Thread Cert.Reference6Ideal.nD Cert.Reference6Ideal.τ).loc Cert.Reference6Ideal.main_v139) = v2 c
          ∧ r.2.mem ((c.tc : Thread Cert.Reference6Ideal.nD Cert.Reference6Ideal.τ).loc Cert.Reference6Ideal.main_v190) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S2x16384x8x64 : Shape := ⟨4, ![2, 16384, 8, 64]⟩
abbrev S2x16384x8x32 : Shape := ⟨4, ![2, 16384, 8, 32]⟩
abbrev S2x16384x32 : Shape := ⟨3, ![2, 16384, 32]⟩
abbrev S2x256x8x64 : Shape := ⟨4, ![2, 256, 8, 64]⟩
abbrev S2x256x32 : Shape := ⟨3, ![2, 256, 32]⟩
abbrev S_ : Shape := ⟨0, ![]⟩

class Facts : Prop where
  bcast_S_S2x16384x8x64 : S_.BroadcastsInDim S2x16384x8x64 (![] : Fin 0 → Fin S2x16384x8x64.rank)
  reducesTo_S2x16384x8x64_S_d0_1_2_3 : S2x16384x8x64.ReducesTo [0, 1, 2, 3] S_
  h_S_ : 0 < S_.numel
  bcast_S_S2x16384x8x32 : S_.BroadcastsInDim S2x16384x8x32 (![] : Fin 0 → Fin S2x16384x8x32.rank)
  reducesTo_S2x16384x8x32_S_d0_1_2_3 : S2x16384x8x32.ReducesTo [0, 1, 2, 3] S_
  bcast_S_S2x16384x32 : S_.BroadcastsInDim S2x16384x32 (![] : Fin 0 → Fin S2x16384x32.rank)
  reducesTo_S2x16384x32_S_d0_1_2 : S2x16384x32.ReducesTo [0, 1, 2] S_
  bcast_S_S2x256x8x64 : S_.BroadcastsInDim S2x256x8x64 (![] : Fin 0 → Fin S2x256x8x64.rank)
  reducesTo_S2x256x8x64_S_d0_1_2_3 : S2x256x8x64.ReducesTo [0, 1, 2, 3] S_
  bcast_S_S2x256x32 : S_.BroadcastsInDim S2x256x32 (![] : Fin 0 → Fin S2x256x32.rank)
  reducesTo_S2x256x32_S_d0_1_2 : S2x256x32.ReducesTo [0, 1, 2] S_

variable [Facts]

def fn_part1 {F : FTy → Type} [FloatOps F] (main_arg5 : FVec F S2x256x8x64 .f32) (main_arg6 : FVec F S2x256x32 .f32) (main_v13 : IVec S_ 1) (main_v16 : IVec S2x16384x32 1) : IVec S_ 1 :=
  let main_c_5 : IVec S_ 1 := constantI S_ 1 1#1
  let main_v17 : IVec S_ 1 := (fun x v => Host.reduce IntOp.andi x v reducesTo_S2x16384x32_S_d0_1_2 h_S_) main_v16 main_c_5
  let main_v18 : IVec S_ 1 := andi main_v13 main_v17
  let main_v19 : FVec F S2x256x8x64 .f32 := Host.absf main_arg5
  let main_cst_6 : FVec F S_ .f32 := constant S_ .f32 0x7F800000#32
  let main_v20 : FVec F S2x256x8x64 .f32 := broadcastInDim S2x256x8x64 ![] bcast_S_S2x256x8x64 main_cst_6
  let main_v21 : IVec S2x256x8x64 1 := cmpf .olt main_v19 main_v20
  let main_c_7 : IVec S_ 1 := constantI S_ 1 1#1
  let main_v22 : IVec S_ 1 := (fun x v => Host.reduce IntOp.andi x v reducesTo_S2x256x8x64_S_d0_1_2_3 h_S_) main_v21 main_c_7
  let main_v23 : IVec S_ 1 := andi main_v18 main_v22
  let main_v24 : FVec F S2x256x32 .f32 := Host.absf main_arg6
  let main_cst_8 : FVec F S_ .f32 := constant S_ .f32 0x7F800000#32
  let main_v25 : FVec F S2x256x32 .f32 := broadcastInDim S2x256x32 ![] bcast_S_S2x256x32 main_cst_8
  let main_v26 : IVec S2x256x32 1 := cmpf .olt main_v24 main_v25
  let main_c_9 : IVec S_ 1 := constantI S_ 1 1#1
  let main_v27 : IVec S_ 1 := (fun x v => Host.reduce IntOp.andi x v reducesTo_S2x256x32_S_d0_1_2 h_S_) main_v26 main_c_9
  let main_v28 : IVec S_ 1 := andi main_v23 main_v27
  main_v28

def fn {F : FTy → Type} [FloatOps F] (main_arg0 : FVec F S2x16384x8x64 .f32) (main_arg1 : FVec F S2x16384x8x32 .f32) (main_arg2 : FVec F S2x16384x8x64 .f32) (main_arg3 : FVec F S2x16384x32 .f32) (main_arg4 : FVec F S2x16384x8x64 .f32) (main_arg5 : FVec F S2x256x8x64 .f32) (main_arg6 : FVec F S2x256x32 .f32) (main_arg7 : FVec F S2x256x8x64 .f32) : IVec S_ 1 :=
  let main_v0 : FVec F S2x16384x8x64 .f32 := Host.absf main_arg0
  let main_cst : FVec F S_ .f32 := constant S_ .f32 0x7F800000#32
  let main_v1 : FVec F S2x16384x8x64 .f32 := broadcastInDim S2x16384x8x64 ![] bcast_S_S2x16384x8x64 main_cst
  let main_v2 : IVec S2x16384x8x64 1 := cmpf .olt main_v0 main_v1
  let main_c : IVec S_ 1 := constantI S_ 1 1#1
  let main_v3 : IVec S_ 1 := (fun x v => Host.reduce IntOp.andi x v reducesTo_S2x16384x8x64_S_d0_1_2_3 h_S_) main_v2 main_c
  let main_v4 : FVec F S2x16384x8x32 .f32 := Host.absf main_arg1
  let main_cst_0 : FVec F S_ .f32 := constant S_ .f32 0x7F800000#32
  let main_v5 : FVec F S2x16384x8x32 .f32 := broadcastInDim S2x16384x8x32 ![] bcast_S_S2x16384x8x32 main_cst_0
  let main_v6 : IVec S2x16384x8x32 1 := cmpf .olt main_v4 main_v5
  let main_c_1 : IVec S_ 1 := constantI S_ 1 1#1
  let main_v7 : IVec S_ 1 := (fun x v => Host.reduce IntOp.andi x v reducesTo_S2x16384x8x32_S_d0_1_2_3 h_S_) main_v6 main_c_1
  let main_v8 : IVec S_ 1 := andi main_v3 main_v7
  let main_v9 : FVec F S2x16384x8x64 .f32 := Host.absf main_arg2
  let main_cst_2 : FVec F S_ .f32 := constant S_ .f32 0x7F800000#32
  let main_v10 : FVec F S2x16384x8x64 .f32 := broadcastInDim S2x16384x8x64 ![] bcast_S_S2x16384x8x64 main_cst_2
  let main_v11 : IVec S2x16384x8x64 1 := cmpf .olt main_v9 main_v10
  let main_c_3 : IVec S_ 1 := constantI S_ 1 1#1
  let main_v12 : IVec S_ 1 := (fun x v => Host.reduce IntOp.andi x v reducesTo_S2x16384x8x64_S_d0_1_2_3 h_S_) main_v11 main_c_3
  let main_v13 : IVec S_ 1 := andi main_v8 main_v12
  let main_v14 : FVec F S2x16384x32 .f32 := Host.absf main_arg3
  let main_cst_4 : FVec F S_ .f32 := constant S_ .f32 0x7F800000#32
  let main_v15 : FVec F S2x16384x32 .f32 := broadcastInDim S2x16384x32 ![] bcast_S_S2x16384x32 main_cst_4
  let main_v16 : IVec S2x16384x32 1 := cmpf .olt main_v14 main_v15
  fn_part1 (F := F) main_arg5 main_arg6 main_v13 main_v16
-- ==== Pre_finite6.lean ====
abbrev S2x16384x1024 : Shape := ⟨3, ![2, 16384, 1024]⟩
abbrev S1024 : Shape := ⟨1, ![1024]⟩
abbrev S2x1024 : Shape := ⟨2, ![2, 1024]⟩
abbrev S1024x1696 : Shape := ⟨2, ![1024, 1696]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S128 : Shape := ⟨1, ![128]⟩
abbrev S4x128x128 : Shape := ⟨3, ![4, 128, 128]⟩
abbrev S4x128 : Shape := ⟨2, ![4, 128]⟩
abbrev S_ : Shape := ⟨0, ![]⟩

class Facts : Prop where
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S2x1024 : S_.BroadcastsInDim S2x1024 (![] : Fin 0 → Fin S2x1024.rank)
  reducesTo_S2x1024_S_d0_1 : S2x1024.ReducesTo [0, 1] S_
  bcast_S_S1024x1696 : S_.BroadcastsInDim S1024x1696 (![] : Fin 0 → Fin S1024x1696.rank)
  reducesTo_S1024x1696_S_d0_1 : S1024x1696.ReducesTo [0, 1] S_
  bcast_S_S384 : S_.BroadcastsInDim S384 (![] : Fin 0 → Fin S384.rank)
  reducesTo_S384_S_d0 : S384.ReducesTo [0] S_
  bcast_S_S384x768 : S_.BroadcastsInDim S384x768 (![] : Fin 0 → Fin S384x768.rank)
  reducesTo_S384x768_S_d0_1 : S384x768.ReducesTo [0, 1] S_

variable [Facts]

def fn_part1 {F : FTy → Type} [FloatOps F] (main_arg4 : FVec F S1024x1696 .f32) (main_arg5 : FVec F S384 .f32) (main_arg6 : FVec F S384x768 .f32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : FVec F S1024x1696 .f32 := Host.absf main_arg4
  let main_cst_6 : FVec F S_ .f32 := constant S_ .f32 0x7F800000#32
  let main_v20 : FVec F S1024x1696 .f32 := broadcastInDim S1024x1696 ![] bcast_S_S1024x1696 main_cst_6
  let main_v21 : IVec S1024x1696 1 := cmpf .olt main_v19 main_v20
  let main_c_7 : IVec S_ 1 := constantI S_ 1 1#1
  let main_v22 : IVec S_ 1 := (fun x v => Host.reduce IntOp.andi x v reducesTo_S1024x1696_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384x768 .f32 := Host.absf main_arg6
  let main_cst_10 : FVec F S_ .f32 := constant S_ .f32 0x7F800000#32
  let main_v30 : FVec F S384x768 .f32 := broadcastInDim S384x768 ![] bcast_S_S384x768 main_cst_10
  let main_v31 : IVec S384x768 1 := cmpf .olt main_v29 main_v30
  let main_c_11 : IVec S_ 1 := constantI S_ 1 1#1
  let main_v32 : IVec S_ 1 := (fun x v => Host.reduce IntOp.andi x v reducesTo_S384x768_S_d0_1 h_S_) main_v31 main_c_11
  let main_v33 : IVec S_ 1 := andi main_v28 main_v32
  main_v33

def fn {F : FTy → Type} [FloatOps F] (main_arg0 : FVec F S2x16384x1024 .f32) (main_arg1 : FVec F S1024 .f32) (main_arg2 : FVec F S2x1024 .f32) (main_arg3 : FVec F S2x1024 .f32) (main_arg4 : FVec F S1024x1696 .f32) (main_arg5 : FVec F S384 .f32) (main_arg6 : FVec F S384x768 .f32) (main_arg7 : FVec F S256 .f32) (main_arg8 : FVec F S256x1024 .f32) (main_arg9 : FVec F S128 .f32) (main_arg10 : FVec F S4x128x128 .f32) (main_arg11 : FVec F S4x128 .f32) : IVec S_ 1 :=
  let main_v0 : FVec F S2x16384x1024 .f32 := Host.absf main_arg0
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_c : IVec S_ 1 := constantI S_ 1 1#1
  let main_v3 : IVec S_ 1 := (fun x v => Host.reduce IntOp.andi x v reducesTo_S2x16384x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2x1024 .f32 := Host.absf main_arg2
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S2x1024 .f32 := Host.absf main_arg3
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_arg4 main_arg5 main_arg6 main_v13 main_v16
-- ==== Kernel.lean ====
abbrev S2x16384x8x64 : Shape := ⟨4, ![2, 16384, 8, 64]⟩
abbrev S2x16384x8x32 : Shape := ⟨4, ![2, 16384, 8, 32]⟩
abbrev S2x16384x32 : Shape := ⟨3, ![2, 16384, 32]⟩
abbrev S2x256x8x64 : Shape := ⟨4, ![2, 256, 8, 64]⟩
abbrev S2x256x32 : Shape := ⟨3, ![2, 256, 32]⟩
abbrev S2x16384x8x96 : Shape := ⟨4, ![2, 16384, 8, 96]⟩
abbrev S_ : Shape := ⟨0, ![]⟩
abbrev S2x16384x8x128 : Shape := ⟨4, ![2, 16384, 8, 128]⟩
abbrev S32768x1024 : Shape := ⟨2, ![32768, 1024]⟩
abbrev S1024x32768 : Shape := ⟨2, ![1024, 32768]⟩
abbrev S2x16384x1x32 : Shape := ⟨4, ![2, 16384, 1, 32]⟩
abbrev S2x16384x8x16 : Shape := ⟨4, ![2, 16384, 8, 16]⟩
abbrev S2x16384x8x80 : Shape := ⟨4, ![2, 16384, 8, 80]⟩
abbrev S32768x640 : Shape := ⟨2, ![32768, 640]⟩
abbrev S640x32768 : Shape := ⟨2, ![640, 32768]⟩
abbrev S2x256x1x32 : Shape := ⟨4, ![2, 256, 1, 32]⟩
abbrev S2x256x8x32 : Shape := ⟨4, ![2, 256, 8, 32]⟩
abbrev S2x256x8x128 : Shape := ⟨4, ![2, 256, 8, 128]⟩
abbrev S512x1024 : Shape := ⟨2, ![512, 1024]⟩
abbrev S2x256x8x16 : Shape := ⟨4, ![2, 256, 8, 16]⟩
abbrev S2x256x8x80 : Shape := ⟨4, ![2, 256, 8, 80]⟩
abbrev S512x640 : Shape := ⟨2, ![512, 640]⟩
abbrev S640x512 : Shape := ⟨2, ![640, 512]⟩
abbrev S32768x512 : Shape := ⟨2, ![32768, 512]⟩
abbrev S256x512 : Shape := ⟨2, ![256, 512]⟩
abbrev S16384x256 : Shape := ⟨2, ![16384, 256]⟩
abbrev S160x16384 : Shape := ⟨2, ![160, 16384]⟩
abbrev S256x256 : Shape := ⟨2, ![256, 256]⟩
abbrev S160x256 : Shape := ⟨2, ![160, 256]⟩
abbrev S512x128 : Shape := ⟨2, ![512, 128]⟩
abbrev S2x3x256x512 : Shape := ⟨4, ![2, 3, 256, 512]⟩
abbrev S2x80x512 : Shape := ⟨3, ![2, 80, 512]⟩
abbrev S80x512 : Shape := ⟨2, ![80, 512]⟩
abbrev S1x80x512 : Shape := ⟨3, ![1, 80, 512]⟩
abbrev S1x512 : Shape := ⟨2, ![1, 512]⟩
abbrev S256x128 : Shape := ⟨2, ![256, 128]⟩
abbrev S128x512 : Shape := ⟨2, ![128, 512]⟩
abbrev S1x1x256x512 : Shape := ⟨4, ![1, 1, 256, 512]⟩
abbrev S512 : Shape := ⟨1, ![512]⟩
abbrev S80x256 : Shape := ⟨2, ![80, 256]⟩
abbrev S64x512 : Shape := ⟨2, ![64, 512]⟩

abbrev nBuf : Space → Nat
  | .hbm => 49
  | .vmem => 15
  | .smem => 0
  | _ => 0

abbrev bufTy : (tb : Table) → Fin (tcTables nBuf tb) → BufTy
  | .hbm, ⟨0, _⟩ => ⟨S2x16384x8x64, .f32⟩
  | .hbm, ⟨1, _⟩ => ⟨S2x16384x8x32, .f32⟩
  | .hbm, ⟨2, _⟩ => ⟨S2x16384x8x64, .f32⟩
  | .hbm, ⟨3, _⟩ => ⟨S2x16384x32, .f32⟩
  | .hbm, ⟨4, _⟩ => ⟨S2x16384x8x64, .f32⟩
  | .hbm, ⟨5, _⟩ => ⟨S2x256x8x64, .f32⟩
  | .hbm, ⟨6, _⟩ => ⟨S2x256x32, .f32⟩
  | .hbm, ⟨7, _⟩ => ⟨S2x256x8x64, .f32⟩
  | .hbm, ⟨8, _⟩ => ⟨S2x16384x8x96, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x16384x8x96, .f32⟩
  | .hbm, ⟨15, _⟩ => ⟨S2x16384x8x96, .f32⟩
  | .hbm, ⟨16, _⟩ => ⟨S_, .f32⟩
  | .hbm, ⟨17, _⟩ => ⟨S2x16384x8x32, .f32⟩
  | .hbm, ⟨18, _⟩ => ⟨S2x16384x8x128, .f32⟩
  | .hbm, ⟨19, _⟩ => ⟨S32768x1024, .f32⟩
  | .hbm, ⟨20, _⟩ => ⟨S1024x32768, .f32⟩
  | .hbm, ⟨21, _⟩ => ⟨S1024x32768, .bf16⟩
  | .hbm, ⟨22, _⟩ => ⟨S2x16384x1x32, .f32⟩
  | .hbm, ⟨23, _⟩ => ⟨S2x16384x8x32, .f32⟩
  | .hbm, ⟨24, _⟩ => ⟨S_, .f32⟩
  | .hbm, ⟨25, _⟩ => ⟨S2x16384x8x32, .f32⟩
  | .hbm, ⟨26, _⟩ => ⟨S2x16384x8x128, .f32⟩
  | .hbm, ⟨27, _⟩ => ⟨S32768x1024, .f32⟩
  | .hbm, ⟨28, _⟩ => ⟨S32768x1024, .bf16⟩
  | .hbm, ⟨29, _⟩ => ⟨S_, .f32⟩
  | .hbm, ⟨30, _⟩ => ⟨S2x16384x8x16, .f32⟩
  | .hbm, ⟨31, _⟩ => ⟨S2x16384x8x80, .f32⟩
  | .hbm, ⟨32, _⟩ => ⟨S32768x640, .f32⟩
  | .hbm, ⟨33, _⟩ => ⟨S640x32768, .f32⟩
  | .hbm, ⟨34, _⟩ => ⟨S640x32768, .bf16⟩
  | .hbm, ⟨35, _⟩ => ⟨S2x256x1x32, .f32⟩
  | .hbm, ⟨36, _⟩ => ⟨S2x256x8x32, .f32⟩
  | .hbm, ⟨37, _⟩ => ⟨S_, .f32⟩
  | .hbm, ⟨38, _⟩ => ⟨S2x256x8x32, .f32⟩
  | .hbm, ⟨39, _⟩ => ⟨S2x256x8x128, .f32⟩
  | .hbm, ⟨40, _⟩ => ⟨S512x1024, .f32⟩
  | .hbm, ⟨41, _⟩ => ⟨S512x1024, .bf16⟩
  | .hbm, ⟨42, _⟩ => ⟨S_, .f32⟩
  | .hbm, ⟨43, _⟩ => ⟨S2x256x8x16, .f32⟩
  | .hbm, ⟨44, _⟩ => ⟨S2x256x8x80, .f32⟩
  | .hbm, ⟨45, _⟩ => ⟨S512x640, .f32⟩
  | .hbm, ⟨46, _⟩ => ⟨S640x512, .f32⟩
  | .hbm, ⟨47, _⟩ => ⟨S640x512, .bf16⟩
  | .hbm, ⟨48, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S16384x256, .bf16⟩
  | .local _ .vmem, ⟨3, _⟩ => ⟨S16384x256, .bf16⟩
  | .local _ .vmem, ⟨4, _⟩ => ⟨S160x16384, .bf16⟩
  | .local _ .vmem, ⟨5, _⟩ => ⟨S160x16384, .bf16⟩
  | .local _ .vmem, ⟨6, _⟩ => ⟨S256x256, .bf16⟩
  | .local _ .vmem, ⟨7, _⟩ => ⟨S256x256, .bf16⟩
  | .local _ .vmem, ⟨8, _⟩ => ⟨S160x256, .bf16⟩
  | .local _ .vmem, ⟨9, _⟩ => ⟨S160x256, .bf16⟩
  | .local _ .vmem, ⟨10, _⟩ => ⟨S512x128, .bf16⟩
  | .local _ .vmem, ⟨11, _⟩ => ⟨S512x128, .bf16⟩
  | .local _ .vmem, ⟨12, _⟩ => ⟨S2x3x256x512, .f32⟩
  | .local _ .vmem, ⟨13, _⟩ => ⟨S2x3x256x512, .bf16⟩
  | .local _ .vmem, ⟨14, _⟩ => ⟨S2x80x512, .f32⟩
  | _, _ => ⟨S2x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S160x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S160x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x16384x8x64 : Shape := ⟨4, ![2, 16384, 8, 64]⟩
abbrev S2x16384x8x32 : Shape := ⟨4, ![2, 16384, 8, 32]⟩
abbrev S2x16384x32 : Shape := ⟨3, ![2, 16384, 32]⟩
abbrev S2x256x8x64 : Shape := ⟨4, ![2, 256, 8, 64]⟩
abbrev S2x256x32 : Shape := ⟨3, ![2, 256, 32]⟩
abbrev S2x16640x8x64 : Shape := ⟨4, ![2, 16640, 8, 64]⟩
abbrev S2x16640x32 : Shape := ⟨3, ![2, 16640, 32]⟩
abbrev S2x8x16384x16640 : Shape := ⟨4, ![2, 8, 16384, 16640]⟩
abbrev S2x16640x16384x8 : Shape := ⟨4, ![2, 16640, 16384, 8]⟩
abbrev S_ : Shape := ⟨0, ![]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩
abbrev S32768x512 : Shape := ⟨2, ![32768, 512]⟩

abbrev nBuf : Space → Nat
  | .hbm => 37
  | .vmem => 0
  | .smem => 0
  | _ => 0

abbrev bufTy : (tb : Table) → Fin (tcTables nBuf tb) → BufTy
  | .hbm, ⟨0, _⟩ => ⟨S2x16384x8x64, .f32⟩
  | .hbm, ⟨1, _⟩ => ⟨S2x16384x8x32, .f32⟩
  | .hbm, ⟨2, _⟩ => ⟨S2x16384x8x64, .f32⟩
  | .hbm, ⟨3, _⟩ => ⟨S2x16384x32, .f32⟩
  | .hbm, ⟨4, _⟩ => ⟨S2x16384x8x64, .f32⟩
  | .hbm, ⟨5, _⟩ => ⟨S2x256x8x64, .f32⟩
  | .hbm, ⟨6, _⟩ => ⟨S2x256x32, .f32⟩
  | .hbm, ⟨7, _⟩ => ⟨S2x256x8x64, .f32⟩
  | .hbm, ⟨8, _⟩ => ⟨S2x16640x8x64, .f32⟩
  | .hbm, ⟨9, _⟩ => ⟨S2x16640x32, .f32⟩
  | .hbm, ⟨10, _⟩ => ⟨S2x16640x8x64, .f32⟩
  | .hbm, ⟨11, _⟩ => ⟨S2x8x16384x16640, .f32⟩
  | .hbm, ⟨12, _⟩ => ⟨S2x16640x16384x8, .f32⟩
  | .hbm, ⟨13, _⟩ => ⟨S2x8x16384x16640, .f32⟩
  | .hbm, ⟨14, _⟩ => ⟨S2x8x16384x16640, .f32⟩
  | .hbm, ⟨15, _⟩ => ⟨S_, .f32⟩
  | .hbm, ⟨16, _⟩ => ⟨S_, .f32⟩
  | .hbm, ⟨17, _⟩ => ⟨S2x8x16384x16640, .f32⟩
  | .hbm, ⟨18, _⟩ => ⟨S2x8x16384x16640, .f32⟩
  | .hbm, ⟨19, _⟩ => ⟨S_, .f32⟩
  | .hbm, ⟨20, _⟩ => ⟨S2x8x16384, .f32⟩
  | .hbm, ⟨21, _⟩ => ⟨S_, .f32⟩
  | .hbm, ⟨22, _⟩ => ⟨S2x8x16384, .f32⟩
  | .hbm, ⟨23, _⟩ => ⟨S2x8x16384, .f32⟩
  | .hbm, ⟨24, _⟩ => ⟨S2x8x16384x1, .f32⟩
  | .hbm, ⟨25, _⟩ => ⟨S2x8x16384x16640, .f32⟩
  | .hbm, ⟨26, _⟩ => ⟨S2x8x16384x16640, .f32⟩
  | .hbm, ⟨27, _⟩ => ⟨S2x8x16384x16640, .f32⟩
  | .hbm, ⟨28, _⟩ => ⟨S_, .f32⟩
  | .hbm, ⟨29, _⟩ => ⟨S2x8x16384, .f32⟩
  | .hbm, ⟨30, _⟩ => ⟨S2x8x16384x1, .f32⟩
  | .hbm, ⟨31, _⟩ => ⟨S2x8x16384x16640, .f32⟩
  | .hbm, ⟨32, _⟩ => ⟨S2x8x16384x16640, .f32⟩
  | .hbm, ⟨33, _⟩ => ⟨S2x8x64x16384, .f32⟩
  | .hbm, ⟨34, _⟩ => ⟨S2x16384x8x64, .f32⟩
  | .hbm, ⟨35, _⟩ => ⟨S32768x512, .f32⟩
  | .hbm, ⟨36, _⟩ => ⟨S32768x512, .bf16⟩
  | _, _ => ⟨S2x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Kernel2.lean ====
abbrev S2x16384x1024 : Shape := ⟨3, ![2, 16384, 1024]⟩
abbrev S256 : Shape := ⟨1, ![256]⟩
abbrev S2x1024 : Shape := ⟨2, ![2, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S32768x1024 : Shape := ⟨2, ![32768, 1024]⟩
abbrev S1x256 : Shape := ⟨2, ![1, 256]⟩
abbrev S2x1x1024 : Shape := ⟨3, ![2, 1, 1024]⟩
abbrev S1x1024 : Shape := ⟨2, ![1, 1024]⟩
abbrev S512x1024 : Shape := ⟨2, ![512, 1024]⟩
abbrev S1x1x1024 : Shape := ⟨3, ![1, 1, 1024]⟩
abbrev S512x256 : Shape := ⟨2, ![512, 256]⟩
abbrev S512 : Shape := ⟨1, ![512]⟩
abbrev S512x1 : Shape := ⟨2, ![512, 1]⟩
abbrev S256x1024 : Shape := ⟨2, ![256, 1024]⟩

abbrev nBuf : Space → Nat
  | .hbm => 29
  | .vmem => 24
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x1024, .f32⟩
  | .hbm, ⟨4, _⟩ => ⟨S256, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S1024, .f32⟩
  | .hbm, ⟨10, _⟩ => ⟨S1024x1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S1x256, .f32⟩
  | .hbm, ⟨19, _⟩ => ⟨S2x1x1024, .f32⟩
  | .hbm, ⟨20, _⟩ => ⟨S1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S1024x1024, .bf16⟩
  | .hbm, ⟨25, _⟩ => ⟨S1024x4096, .bf16⟩
  | .hbm, ⟨26, _⟩ => ⟨S4096x1024, .bf16⟩
  | .hbm, ⟨27, _⟩ => ⟨S1x1024, .f32⟩
  | .hbm, ⟨28, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x256, .f32⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1024x1024, .bf16⟩
  | .local _ .vmem, ⟨19, _⟩ => ⟨S1024x4096, .bf16⟩
  | .local _ .vmem, ⟨20, _⟩ => ⟨S4096x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S2x16384x1024 : Shape := ⟨3, ![2, 16384, 1024]⟩
abbrev S256 : Shape := ⟨1, ![256]⟩
abbrev S2x1024 : Shape := ⟨2, ![2, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S2x16384x4x256 : Shape := ⟨4, ![2, 16384, 4, 256]⟩
abbrev S_ : Shape := ⟨0, ![]⟩
abbrev S2x16384x4 : Shape := ⟨3, ![2, 16384, 4]⟩
abbrev S2x16384x4x1 : Shape := ⟨4, ![2, 16384, 4, 1]⟩
abbrev S1x1x1x256 : Shape := ⟨4, ![1, 1, 1, 256]⟩
abbrev S2x1x1024 : Shape := ⟨3, ![2, 1, 1024]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4096 : Shape := ⟨3, ![2, 16384, 4096]⟩
abbrev S32768x1024 : Shape := ⟨2, ![32768, 1024]⟩

abbrev nBuf : Space → Nat
  | .hbm => 101
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x1024, .f32⟩
  | .hbm, ⟨4, _⟩ => ⟨S256, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S1024, .f32⟩
  | .hbm, ⟨10, _⟩ => ⟨S1024x1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S2x16384x1024, .f32⟩
  | .hbm, ⟨15, _⟩ => ⟨S2x16384x4x256, .f32⟩
  | .hbm, ⟨16, _⟩ => ⟨S2x16384x4x256, .f32⟩
  | .hbm, ⟨17, _⟩ => ⟨S_, .f32⟩
  | .hbm, ⟨18, _⟩ => ⟨S2x16384x4, .f32⟩
  | .hbm, ⟨19, _⟩ => ⟨S2x16384x4x1, .f32⟩
  | .hbm, ⟨20, _⟩ => ⟨S_, .f32⟩
  | .hbm, ⟨21, _⟩ => ⟨S2x16384x4x1, .f32⟩
  | .hbm, ⟨22, _⟩ => ⟨S2x16384x4x1, .f32⟩
  | .hbm, ⟨23, _⟩ => ⟨S_, .f32⟩
  | .hbm, ⟨24, _⟩ => ⟨S2x16384x4x1, .f32⟩
  | .hbm, ⟨25, _⟩ => ⟨S2x16384x4x1, .f32⟩
  | .hbm, ⟨26, _⟩ => ⟨S2x16384x4x1, .f32⟩
  | .hbm, ⟨27, _⟩ => ⟨S2x16384x4x256, .f32⟩
  | .hbm, ⟨28, _⟩ => ⟨S2x16384x4x256, .f32⟩
  | .hbm, ⟨29, _⟩ => ⟨S1x1x1x256, .f32⟩
  | .hbm, ⟨30, _⟩ => ⟨S2x16384x4x256, .f32⟩
  | .hbm, ⟨31, _⟩ => ⟨S2x16384x4x256, .f32⟩
  | .hbm, ⟨32, _⟩ => ⟨S2x16384x1024, .f32⟩
  | .hbm, ⟨33, _⟩ => ⟨S2x16384x1024, .f32⟩
  | .hbm, ⟨34, _⟩ => ⟨S_, .f32⟩
  | .hbm, ⟨35, _⟩ => ⟨S2x16384x1024, .f32⟩
  | .hbm, ⟨36, _⟩ => ⟨S2x16384x1024, .f32⟩
  | .hbm, ⟨37, _⟩ => ⟨S_, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S2x16384x4x256, .f32⟩
  | .hbm, ⟨42, _⟩ => ⟨S2x16384x4x256, .f32⟩
  | .hbm, ⟨43, _⟩ => ⟨S2x16384x1024, .f32⟩
  | .hbm, ⟨44, _⟩ => ⟨S2x16384x1024, .f32⟩
  | .hbm, ⟨45, _⟩ => ⟨S2x1x1024, .f32⟩
  | .hbm, ⟨46, _⟩ => ⟨S2x16384x1024, .f32⟩
  | .hbm, ⟨47, _⟩ => ⟨S2x16384x1024, .f32⟩
  | .hbm, ⟨48, _⟩ => ⟨S2x16384x1024, .f32⟩
  | .hbm, ⟨49, _⟩ => ⟨S2x16384x1024, .f32⟩
  | .hbm, ⟨50, _⟩ => ⟨S_, .f32⟩
  | .hbm, ⟨51, _⟩ => ⟨S2x16384, .f32⟩
  | .hbm, ⟨52, _⟩ => ⟨S2x16384x1, .f32⟩
  | .hbm, ⟨53, _⟩ => ⟨S_, .f32⟩
  | .hbm, ⟨54, _⟩ => ⟨S2x16384x1, .f32⟩
  | .hbm, ⟨55, _⟩ => ⟨S2x16384x1, .f32⟩
  | .hbm, ⟨56, _⟩ => ⟨S_, .f32⟩
  | .hbm, ⟨57, _⟩ => ⟨S2x16384x1, .f32⟩
  | .hbm, ⟨58, _⟩ => ⟨S2x16384x1, .f32⟩
  | .hbm, ⟨59, _⟩ => ⟨S2x16384x1, .f32⟩
  | .hbm, ⟨60, _⟩ => ⟨S2x16384x1024, .f32⟩
  | .hbm, ⟨61, _⟩ => ⟨S2x16384x1024, .f32⟩
  | .hbm, ⟨62, _⟩ => ⟨S1x1x1024, .f32⟩
  | .hbm, ⟨63, _⟩ => ⟨S2x16384x1024, .f32⟩
  | .hbm, ⟨64, _⟩ => ⟨S2x16384x1024, .f32⟩
  | .hbm, ⟨65, _⟩ => ⟨S2x1x1024, .f32⟩
  | .hbm, ⟨66, _⟩ => ⟨S_, .f32⟩
  | .hbm, ⟨67, _⟩ => ⟨S2x1x1024, .f32⟩
  | .hbm, ⟨68, _⟩ => ⟨S2x1x1024, .f32⟩
  | .hbm, ⟨69, _⟩ => ⟨S2x16384x1024, .f32⟩
  | .hbm, ⟨70, _⟩ => ⟨S2x16384x1024, .f32⟩
  | .hbm, ⟨71, _⟩ => ⟨S2x1x1024, .f32⟩
  | .hbm, ⟨72, _⟩ => ⟨S2x16384x1024, .f32⟩
  | .hbm, ⟨73, _⟩ => ⟨S2x16384x1024, .f32⟩
  | .hbm, ⟨74, _⟩ => ⟨S2x1x1024, .f32⟩
  | .hbm, ⟨75, _⟩ => ⟨S2x16384x4096, .f32⟩
  | .hbm, ⟨76, _⟩ => ⟨S_, .f32⟩
  | .hbm, ⟨77, _⟩ => ⟨S2x16384x4096, .f32⟩
  | .hbm, ⟨78, _⟩ => ⟨S2x16384x4096, .f32⟩
  | .hbm, ⟨79, _⟩ => ⟨S2x16384x4096, .f32⟩
  | .hbm, ⟨80, _⟩ => ⟨S2x16384x1024, .f32⟩
  | .hbm, ⟨81, _⟩ => ⟨S2x16384x1024, .f32⟩
  | .hbm, ⟨82, _⟩ => ⟨S2x16384x1024, .f32⟩
  | .hbm, ⟨83, _⟩ => ⟨S2x16384x1024, .f32⟩
  | .hbm, ⟨84, _⟩ => ⟨S2x16384x1024, .f32⟩
  | .hbm, ⟨85, _⟩ => ⟨S_, .f32⟩
  | .hbm, ⟨86, _⟩ => ⟨S2x16384, .f32⟩
  | .hbm, ⟨87, _⟩ => ⟨S2x16384x1, .f32⟩
  | .hbm, ⟨88, _⟩ => ⟨S_, .f32⟩
  | .hbm, ⟨89, _⟩ => ⟨S2x16384x1, .f32⟩
  | .hbm, ⟨90, _⟩ => ⟨S2x16384x1, .f32⟩
  | .hbm, ⟨91, _⟩ => ⟨S_, .f32⟩
  | .hbm, ⟨92, _⟩ => ⟨S2x16384x1, .f32⟩
  | .hbm, ⟨93, _⟩ => ⟨S2x16384x1, .f32⟩
  | .hbm, ⟨94, _⟩ => ⟨S2x16384x1, .f32⟩
  | .hbm, ⟨95, _⟩ => ⟨S2x16384x1024, .f32⟩
  | .hbm, ⟨96, _⟩ => ⟨S2x16384x1024, .f32⟩
  | .hbm, ⟨97, _⟩ => ⟨S1x1x1024, .f32⟩
  | .hbm, ⟨98, _⟩ => ⟨S2x16384x1024, .f32⟩
  | .hbm, ⟨99, _⟩ => ⟨S2x16384x1024, .f32⟩
  | .hbm, ⟨100, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_2 : Ref sig .tc := ⟨.hbm, 50, rfl⟩
abbrev main_v25 : Ref sig .tc := ⟨.hbm, 51, rfl⟩
abbrev main_v26 : Ref sig .tc := ⟨.hbm, 52, rfl⟩
abbrev main_cst_3 : Ref sig .tc := ⟨.hbm, 53, rfl⟩
abbrev main_v27 : Ref sig .tc := ⟨.hbm, 54, rfl⟩
abbrev main_v28 : Ref sig .tc := ⟨.hbm, 55, rfl⟩
abbrev main_cst_4 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_5 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call1_cst : Ref sig .tc := ⟨.hbm, 76, rfl⟩
abbrev main_call1_v0 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_6 : Ref sig .tc := ⟨.hbm, 85, rfl⟩
abbrev main_v54 : Ref sig .tc := ⟨.hbm, 86, rfl⟩
abbrev main_v55 : Ref sig .tc := ⟨.hbm, 87, rfl⟩
abbrev main_cst_7 : Ref sig .tc := ⟨.hbm, 88, rfl⟩
abbrev main_v56 : Ref sig .tc := ⟨.hbm, 89, rfl⟩
abbrev main_v57 : Ref sig .tc := ⟨.hbm, 90, rfl⟩
abbrev main_cst_8 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x16384x512 : Shape := ⟨3, ![2, 16384, 512]⟩
abbrev S2x1024 : Shape := ⟨2, ![2, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S32768x1024 : Shape := ⟨2, ![32768, 1024]⟩
abbrev S32768x512 : Shape := ⟨2, ![32768, 512]⟩
abbrev S2x1x1024 : Shape := ⟨3, ![2, 1, 1024]⟩
abbrev S1x1024 : Shape := ⟨2, ![1, 1024]⟩
abbrev S512x1024 : Shape := ⟨2, ![512, 1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩

abbrev nBuf : Space → Nat
  | .hbm => 25
  | .vmem => 21
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x16384x512, .bf16⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S1024, .f32⟩
  | .hbm, ⟨8, _⟩ => ⟨S1024x1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S32768x1024, .f32⟩
  | .hbm, ⟨13, _⟩ => ⟨S32768x512, .bf16⟩
  | .hbm, ⟨14, _⟩ => ⟨S32768x512, .bf16⟩
  | .hbm, ⟨15, _⟩ => ⟨S2x1x1024, .f32⟩
  | .hbm, ⟨16, _⟩ => ⟨S1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S1024x1024, .bf16⟩
  | .hbm, ⟨21, _⟩ => ⟨S1024x4096, .bf16⟩
  | .hbm, ⟨22, _⟩ => ⟨S4096x1024, .bf16⟩
  | .hbm, ⟨23, _⟩ => ⟨S1x1024, .f32⟩
  | .hbm, ⟨24, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1024x1024, .bf16⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S2x16384x1024 : Shape := ⟨3, ![2, 16384, 1024]⟩
abbrev S2x16384x512 : Shape := ⟨3, ![2, 16384, 512]⟩
abbrev S2x1024 : Shape := ⟨2, ![2, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4096 : Shape := ⟨3, ![2, 16384, 4096]⟩
abbrev S32768x1024 : Shape := ⟨2, ![32768, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x16384x512, .bf16⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S1024, .f32⟩
  | .hbm, ⟨8, _⟩ => ⟨S1024x1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S2x16384x1024, .bf16⟩
  | .hbm, ⟨13, _⟩ => ⟨S2x16384x1024, .f32⟩
  | .hbm, ⟨14, _⟩ => ⟨S2x16384x1024, .f32⟩
  | .hbm, ⟨15, _⟩ => ⟨S2x1x1024, .f32⟩
  | .hbm, ⟨16, _⟩ => ⟨S2x16384x1024, .f32⟩
  | .hbm, ⟨17, _⟩ => ⟨S2x16384x1024, .f32⟩
  | .hbm, ⟨18, _⟩ => ⟨S2x16384x1024, .f32⟩
  | .hbm, ⟨19, _⟩ => ⟨S2x16384x1024, .f32⟩
  | .hbm, ⟨20, _⟩ => ⟨S_, .f32⟩
  | .hbm, ⟨21, _⟩ => ⟨S2x16384, .f32⟩
  | .hbm, ⟨22, _⟩ => ⟨S2x16384x1, .f32⟩
  | .hbm, ⟨23, _⟩ => ⟨S_, .f32⟩
  | .hbm, ⟨24, _⟩ => ⟨S2x16384x1, .f32⟩
  | .hbm, ⟨25, _⟩ => ⟨S2x16384x1, .f32⟩
  | .hbm, ⟨26, _⟩ => ⟨S_, .f32⟩
  | .hbm, ⟨27, _⟩ => ⟨S2x16384x1, .f32⟩
  | .hbm, ⟨28, _⟩ => ⟨S2x16384x1, .f32⟩
  | .hbm, ⟨29, _⟩ => ⟨S2x16384x1, .f32⟩
  | .hbm, ⟨30, _⟩ => ⟨S2x16384x1024, .f32⟩
  | .hbm, ⟨31, _⟩ => ⟨S2x16384x1024, .f32⟩
  | .hbm, ⟨32, _⟩ => ⟨S1x1x1024, .f32⟩
  | .hbm, ⟨33, _⟩ => ⟨S2x16384x1024, .f32⟩
  | .hbm, ⟨34, _⟩ => ⟨S2x16384x1024, .f32⟩
  | .hbm, ⟨35, _⟩ => ⟨S2x1x1024, .f32⟩
  | .hbm, ⟨36, _⟩ => ⟨S_, .f32⟩
  | .hbm, ⟨37, _⟩ => ⟨S2x1x1024, .f32⟩
  | .hbm, ⟨38, _⟩ => ⟨S2x1x1024, .f32⟩
  | .hbm, ⟨39, _⟩ => ⟨S2x16384x1024, .f32⟩
  | .hbm, ⟨40, _⟩ => ⟨S2x16384x1024, .f32⟩
  | .hbm, ⟨41, _⟩ => ⟨S2x1x1024, .f32⟩
  | .hbm, ⟨42, _⟩ => ⟨S2x16384x1024, .f32⟩
  | .hbm, ⟨43, _⟩ => ⟨S2x16384x1024, .f32⟩
  | .hbm, ⟨44, _⟩ => ⟨S2x1x1024, .f32⟩
  | .hbm, ⟨45, _⟩ => ⟨S2x16384x4096, .f32⟩
  | .hbm, ⟨46, _⟩ => ⟨S_, .f32⟩
  | .hbm, ⟨47, _⟩ => ⟨S2x16384x4096, .f32⟩
  | .hbm, ⟨48, _⟩ => ⟨S2x16384x4096, .f32⟩
  | .hbm, ⟨49, _⟩ => ⟨S2x16384x4096, .f32⟩
  | .hbm, ⟨50, _⟩ => ⟨S2x16384x1024, .f32⟩
  | .hbm, ⟨51, _⟩ => ⟨S2x16384x1024, .f32⟩
  | .hbm, ⟨52, _⟩ => ⟨S2x16384x1024, .f32⟩
  | .hbm, ⟨53, _⟩ => ⟨S2x16384x1024, .f32⟩
  | .hbm, ⟨54, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== Kernel4.lean ====
abbrev S2x16384x1024 : Shape := ⟨3, ![2, 16384, 1024]⟩
abbrev S256 : Shape := ⟨1, ![256]⟩
abbrev S2x1024 : Shape := ⟨2, ![2, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S32768x1024 : Shape := ⟨2, ![32768, 1024]⟩
abbrev S1x256 : Shape := ⟨2, ![1, 256]⟩
abbrev S2x1x1024 : Shape := ⟨3, ![2, 1, 1024]⟩
abbrev S1x1024 : Shape := ⟨2, ![1, 1024]⟩
abbrev S512x1024 : Shape := ⟨2, ![512, 1024]⟩
abbrev S1x1x1024 : Shape := ⟨3, ![1, 1, 1024]⟩
abbrev S512x256 : Shape := ⟨2, ![512, 256]⟩
abbrev S512 : Shape := ⟨1, ![512]⟩
abbrev S512x1 : Shape := ⟨2, ![512, 1]⟩
abbrev S256x1024 : Shape := ⟨2, ![256, 1024]⟩

abbrev nBuf : Space → Nat
  | .hbm => 29
  | .vmem => 24
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x1024, .f32⟩
  | .hbm, ⟨4, _⟩ => ⟨S256, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S1024, .f32⟩
  | .hbm, ⟨10, _⟩ => ⟨S1024x1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S1x256, .f32⟩
  | .hbm, ⟨19, _⟩ => ⟨S2x1x1024, .f32⟩
  | .hbm, ⟨20, _⟩ => ⟨S1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S1024x1024, .bf16⟩
  | .hbm, ⟨25, _⟩ => ⟨S1024x4096, .bf16⟩
  | .hbm, ⟨26, _⟩ => ⟨S4096x1024, .bf16⟩
  | .hbm, ⟨27, _⟩ => ⟨S1x1024, .f32⟩
  | .hbm, ⟨28, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x256, .f32⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1024x1024, .bf16⟩
  | .local _ .vmem, ⟨19, _⟩ => ⟨S1024x4096, .bf16⟩
  | .local _ .vmem, ⟨20, _⟩ => ⟨S4096x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S2x16384x1024 : Shape := ⟨3, ![2, 16384, 1024]⟩
abbrev S256 : Shape := ⟨1, ![256]⟩
abbrev S2x1024 : Shape := ⟨2, ![2, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S2x16384x4x256 : Shape := ⟨4, ![2, 16384, 4, 256]⟩
abbrev S_ : Shape := ⟨0, ![]⟩
abbrev S2x16384x4 : Shape := ⟨3, ![2, 16384, 4]⟩
abbrev S2x16384x4x1 : Shape := ⟨4, ![2, 16384, 4, 1]⟩
abbrev S1x1x1x256 : Shape := ⟨4, ![1, 1, 1, 256]⟩
abbrev S2x1x1024 : Shape := ⟨3, ![2, 1, 1024]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4096 : Shape := ⟨3, ![2, 16384, 4096]⟩
abbrev S32768x1024 : Shape := ⟨2, ![32768, 1024]⟩

abbrev nBuf : Space → Nat
  | .hbm => 85
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x1024, .f32⟩
  | .hbm, ⟨4, _⟩ => ⟨S256, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S1024, .f32⟩
  | .hbm, ⟨10, _⟩ => ⟨S1024x1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S2x16384x1024, .f32⟩
  | .hbm, ⟨15, _⟩ => ⟨S2x16384x4x256, .f32⟩
  | .hbm, ⟨16, _⟩ => ⟨S2x16384x4x256, .f32⟩
  | .hbm, ⟨17, _⟩ => ⟨S_, .f32⟩
  | .hbm, ⟨18, _⟩ => ⟨S2x16384x4, .f32⟩
  | .hbm, ⟨19, _⟩ => ⟨S2x16384x4x1, .f32⟩
  | .hbm, ⟨20, _⟩ => ⟨S_, .f32⟩
  | .hbm, ⟨21, _⟩ => ⟨S2x16384x4x1, .f32⟩
  | .hbm, ⟨22, _⟩ => ⟨S2x16384x4x1, .f32⟩
  | .hbm, ⟨23, _⟩ => ⟨S_, .f32⟩
  | .hbm, ⟨24, _⟩ => ⟨S2x16384x4x1, .f32⟩
  | .hbm, ⟨25, _⟩ => ⟨S2x16384x4x1, .f32⟩
  | .hbm, ⟨26, _⟩ => ⟨S2x16384x4x1, .f32⟩
  | .hbm, ⟨27, _⟩ => ⟨S2x16384x4x256, .f32⟩
  | .hbm, ⟨28, _⟩ => ⟨S2x16384x4x256, .f32⟩
  | .hbm, ⟨29, _⟩ => ⟨S1x1x1x256, .f32⟩
  | .hbm, ⟨30, _⟩ => ⟨S2x16384x4x256, .f32⟩
  | .hbm, ⟨31, _⟩ => ⟨S2x16384x4x256, .f32⟩
  | .hbm, ⟨32, _⟩ => ⟨S2x16384x1024, .f32⟩
  | .hbm, ⟨33, _⟩ => ⟨S2x16384x1024, .f32⟩
  | .hbm, ⟨34, _⟩ => ⟨S_, .f32⟩
  | .hbm, ⟨35, _⟩ => ⟨S2x16384x1024, .f32⟩
  | .hbm, ⟨36, _⟩ => ⟨S2x16384x1024, .f32⟩
  | .hbm, ⟨37, _⟩ => ⟨S_, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S2x16384x4x256, .f32⟩
  | .hbm, ⟨42, _⟩ => ⟨S2x16384x4x256, .f32⟩
  | .hbm, ⟨43, _⟩ => ⟨S2x16384x1024, .f32⟩
  | .hbm, ⟨44, _⟩ => ⟨S2x16384x1024, .f32⟩
  | .hbm, ⟨45, _⟩ => ⟨S2x1x1024, .f32⟩
  | .hbm, ⟨46, _⟩ => ⟨S2x16384x1024, .f32⟩
  | .hbm, ⟨47, _⟩ => ⟨S2x16384x1024, .f32⟩
  | .hbm, ⟨48, _⟩ => ⟨S2x16384x1024, .f32⟩
  | .hbm, ⟨49, _⟩ => ⟨S2x16384x1024, .f32⟩
  | .hbm, ⟨50, _⟩ => ⟨S_, .f32⟩
  | .hbm, ⟨51, _⟩ => ⟨S2x16384, .f32⟩
  | .hbm, ⟨52, _⟩ => ⟨S2x16384x1, .f32⟩
  | .hbm, ⟨53, _⟩ => ⟨S_, .f32⟩
  | .hbm, ⟨54, _⟩ => ⟨S2x16384x1, .f32⟩
  | .hbm, ⟨55, _⟩ => ⟨S2x16384x1, .f32⟩
  | .hbm, ⟨56, _⟩ => ⟨S_, .f32⟩
  | .hbm, ⟨57, _⟩ => ⟨S2x16384x1, .f32⟩
  | .hbm, ⟨58, _⟩ => ⟨S2x16384x1, .f32⟩
  | .hbm, ⟨59, _⟩ => ⟨S2x16384x1, .f32⟩
  | .hbm, ⟨60, _⟩ => ⟨S2x16384x1024, .f32⟩
  | .hbm, ⟨61, _⟩ => ⟨S2x16384x1024, .f32⟩
  | .hbm, ⟨62, _⟩ => ⟨S1x1x1024, .f32⟩
  | .hbm, ⟨63, _⟩ => ⟨S2x16384x1024, .f32⟩
  | .hbm, ⟨64, _⟩ => ⟨S2x16384x1024, .f32⟩
  | .hbm, ⟨65, _⟩ => ⟨S2x1x1024, .f32⟩
  | .hbm, ⟨66, _⟩ => ⟨S_, .f32⟩
  | .hbm, ⟨67, _⟩ => ⟨S2x1x1024, .f32⟩
  | .hbm, ⟨68, _⟩ => ⟨S2x1x1024, .f32⟩
  | .hbm, ⟨69, _⟩ => ⟨S2x16384x1024, .f32⟩
  | .hbm, ⟨70, _⟩ => ⟨S2x16384x1024, .f32⟩
  | .hbm, ⟨71, _⟩ => ⟨S2x1x1024, .f32⟩
  | .hbm, ⟨72, _⟩ => ⟨S2x16384x1024, .f32⟩
  | .hbm, ⟨73, _⟩ => ⟨S2x16384x1024, .f32⟩
  | .hbm, ⟨74, _⟩ => ⟨S2x1x1024, .f32⟩
  | .hbm, ⟨75, _⟩ => ⟨S2x16384x4096, .f32⟩
  | .hbm, ⟨76, _⟩ => ⟨S_, .f32⟩
  | .hbm, ⟨77, _⟩ => ⟨S2x16384x4096, .f32⟩
  | .hbm, ⟨78, _⟩ => ⟨S2x16384x4096, .f32⟩
  | .hbm, ⟨79, _⟩ => ⟨S2x16384x4096, .f32⟩
  | .hbm, ⟨80, _⟩ => ⟨S2x16384x1024, .f32⟩
  | .hbm, ⟨81, _⟩ => ⟨S2x16384x1024, .f32⟩
  | .hbm, ⟨82, _⟩ => ⟨S2x16384x1024, .f32⟩
  | .hbm, ⟨83, _⟩ => ⟨S2x16384x1024, .f32⟩
  | .hbm, ⟨84, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_2 : Ref sig .tc := ⟨.hbm, 50, rfl⟩
abbrev main_v25 : Ref sig .tc := ⟨.hbm, 51, rfl⟩
abbrev main_v26 : Ref sig .tc := ⟨.hbm, 52, rfl⟩
abbrev main_cst_3 : Ref sig .tc := ⟨.hbm, 53, rfl⟩
abbrev main_v27 : Ref sig .tc := ⟨.hbm, 54, rfl⟩
abbrev main_v28 : Ref sig .tc := ⟨.hbm, 55, rfl⟩
abbrev main_cst_4 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_5 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call1_cst : Ref sig .tc := ⟨.hbm, 76, rfl⟩
abbrev main_call1_v0 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩

abbrev nD : Nat := 1
abbrev τ : Topo := Topo.v7x

variable {F : FTy → Type} [FloatOps F]
-- ==== Kernel5.lean ====
abbrev S2x16384x1024 : Shape := ⟨3, ![2, 16384, 1024]⟩
abbrev S1024 : Shape := ⟨1, ![1024]⟩
abbrev S2x1024 : Shape := ⟨2, ![2, 1024]⟩
abbrev S1024x3104 : Shape := ⟨2, ![1024, 3104]⟩
abbrev S16x512 : Shape := ⟨2, ![16, 512]⟩
abbrev S512 : Shape := ⟨1, ![512]⟩
abbrev S32768x1024 : Shape := ⟨2, ![32768, 1024]⟩
abbrev S1x1024 : Shape := ⟨2, ![1, 1024]⟩
abbrev S2x1x1024 : Shape := ⟨3, ![2, 1, 1024]⟩
abbrev S1024x32 : Shape := ⟨2, ![1024, 32]⟩
abbrev S_ : Shape := ⟨0, ![]⟩
abbrev S1024x96 : Shape := ⟨2, ![1024, 96]⟩
abbrev S1024x1024 : Shape := ⟨2, ![1024, 1024]⟩
abbrev S1024x512 : Shape := ⟨2, ![1024, 512]⟩
abbrev S1024x1536 : Shape := ⟨2, ![1024, 1536]⟩
abbrev S1024x3200 : Shape := ⟨2, ![1024, 3200]⟩
abbrev S128x512 : Shape := ⟨2, ![128, 512]⟩
abbrev S1 : Shape := ⟨1, ![1]⟩
abbrev S1x512 : Shape := ⟨2, ![1, 512]⟩
abbrev S32768x512 : Shape := ⟨2, ![32768, 512]⟩
abbrev S512x1024 : Shape := ⟨2, ![512, 1024]⟩
abbrev S1x1x1024 : Shape := ⟨3, ![1, 1, 1024]⟩
abbrev S512x512 : Shape := ⟨2, ![512, 512]⟩
abbrev S128x128 : Shape := ⟨2, ![128, 128]⟩
abbrev S512x1 : Shape := ⟨2, ![512, 1]⟩
abbrev S512x3200 : Shape := ⟨2, ![512, 3200]⟩
abbrev S512x128 : Shape := ⟨2, ![512, 128]⟩

abbrev nBuf : Space → Nat
  | .hbm => 41
  | .vmem => 24
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3104, .f32⟩
  | .hbm, ⟨5, _⟩ => ⟨S16x512, .f32⟩
  | .hbm, ⟨6, _⟩ => ⟨S512, .f32⟩
  | .hbm, ⟨7, _⟩ => ⟨S16x512, .f32⟩
  | .hbm, ⟨8, _⟩ => ⟨S512, .f32⟩
  | .hbm, ⟨9, _⟩ => ⟨S32768x1024, .f32⟩
  | .hbm, ⟨10, _⟩ => ⟨S1x1024, .f32⟩
  | .hbm, ⟨11, _⟩ => ⟨S2x1x1024, .f32⟩
  | .hbm, ⟨12, _⟩ => ⟨S2x1x1024, .f32⟩
  | .hbm, ⟨13, _⟩ => ⟨S1024x32, .f32⟩
  | .hbm, ⟨14, _⟩ => ⟨S_, .f32⟩
  | .hbm, ⟨15, _⟩ => ⟨S1024x96, .f32⟩
  | .hbm, ⟨16, _⟩ => ⟨S1024x1024, .f32⟩
  | .hbm, ⟨17, _⟩ => ⟨S1024x512, .f32⟩
  | .hbm, ⟨18, _⟩ => ⟨S1024x1536, .f32⟩
  | .hbm, ⟨19, _⟩ => ⟨S1024x3200, .f32⟩
  | .hbm, ⟨20, _⟩ => ⟨S1024x3200, .bf16⟩
  | .hbm, ⟨21, _⟩ => ⟨S_, .f32⟩
  | .hbm, ⟨22, _⟩ => ⟨S128x512, .f32⟩
  | .hbm, ⟨23, _⟩ => ⟨S_, .i32⟩
  | .hbm, ⟨24, _⟩ => ⟨S1, .i32⟩
  | .hbm, ⟨25, _⟩ => ⟨S128x512, .f32⟩
  | .hbm, ⟨26, _⟩ => ⟨S128x512, .bf16⟩
  | .hbm, ⟨27, _⟩ => ⟨S_, .f32⟩
  | .hbm, ⟨28, _⟩ => ⟨S128x512, .f32⟩
  | .hbm, ⟨29, _⟩ => ⟨S_, .i32⟩
  | .hbm, ⟨30, _⟩ => ⟨S1, .i32⟩
  | .hbm, ⟨31, _⟩ => ⟨S128x512, .f32⟩
  | .hbm, ⟨32, _⟩ => ⟨S128x512, .bf16⟩
  | .hbm, ⟨33, _⟩ => ⟨S1x512, .f32⟩
  | .hbm, ⟨34, _⟩ => ⟨S1x512, .f32⟩
  | .hbm, ⟨35, _⟩ => ⟨S32768x512, .f32⟩
  | .hbm, ⟨36, _⟩ => ⟨S32768x1024, .bf16⟩
  | .hbm, ⟨37, _⟩ => ⟨S32768x512, .f32⟩
  | .hbm, ⟨38, _⟩ => ⟨S32768x1024, .f32⟩
  | .hbm, ⟨39, _⟩ => ⟨S32768x512, .f32⟩
  | .hbm, ⟨40, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3200, .bf16⟩
  | .local _ .vmem, ⟨8, _⟩ => ⟨S128x512, .bf16⟩
  | .local _ .vmem, ⟨9, _⟩ => ⟨S1x512, .f32⟩
  | .local _ .vmem, ⟨10, _⟩ => ⟨S128x512, .bf16⟩
  | .local _ .vmem, ⟨11, _⟩ => ⟨S1x512, .f32⟩
  | .local _ .vmem, ⟨12, _⟩ => ⟨S512x512, .f32⟩
  | .local _ .vmem, ⟨13, _⟩ => ⟨S512x512, .f32⟩
  | .local _ .vmem, ⟨14, _⟩ => ⟨S512x1024, .bf16⟩
  | .local _ .vmem, ⟨15, _⟩ => ⟨S512x1024, .bf16⟩
  | .local _ .vmem, ⟨16, _⟩ => ⟨S512x512, .f32⟩
  | .local _ .vmem, ⟨17, _⟩ => ⟨S512x512, .f32⟩
  | .local _ .vmem, ⟨18, _⟩ => ⟨S512x1024, .f32⟩
  | .local _ .vmem, ⟨19, _⟩ => ⟨S512x1024, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev main_v21_3 : Ref sig .tc := ⟨.hbm, 38, rfl⟩
abbrev main_v21_4 : Ref sig .tc := ⟨.hbm, 39, rfl⟩
abbrev main_v21_5 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S2x16384x1024 : Shape := ⟨3, ![2, 16384, 1024]⟩
abbrev S1024 : Shape := ⟨1, ![1024]⟩
abbrev S2x1024 : Shape := ⟨2, ![2, 1024]⟩
abbrev S1024x3104 : Shape := ⟨2, ![1024, 3104]⟩
abbrev S16x512 : Shape := ⟨2, ![16, 512]⟩
abbrev S512 : Shape := ⟨1, ![512]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x1x1024 : Shape := ⟨3, ![2, 1, 1024]⟩
abbrev S2x16384x3104 : Shape := ⟨3, ![2, 16384, 3104]⟩
abbrev S2x16384x512 : Shape := ⟨3, ![2, 16384, 512]⟩
abbrev S2x16384x16 : Shape := ⟨3, ![2, 16384, 16]⟩
abbrev S1x1x512 : Shape := ⟨3, ![1, 1, 512]⟩
abbrev S2x256x64x512 : Shape := ⟨4, ![2, 256, 64, 512]⟩
abbrev S32768x512 : Shape := ⟨2, ![32768, 512]⟩
abbrev S32768x1024 : Shape := ⟨2, ![32768, 1024]⟩

abbrev nBuf : Space → Nat
  | .hbm => 107
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3104, .f32⟩
  | .hbm, ⟨5, _⟩ => ⟨S16x512, .f32⟩
  | .hbm, ⟨6, _⟩ => ⟨S512, .f32⟩
  | .hbm, ⟨7, _⟩ => ⟨S16x512, .f32⟩
  | .hbm, ⟨8, _⟩ => ⟨S512, .f32⟩
  | .hbm, ⟨9, _⟩ => ⟨S2x16384x1024, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S2x16384x1, .f32⟩
  | .hbm, ⟨20, _⟩ => ⟨S2x16384x1024, .f32⟩
  | .hbm, ⟨21, _⟩ => ⟨S2x16384x1024, .f32⟩
  | .hbm, ⟨22, _⟩ => ⟨S1x1x1024, .f32⟩
  | .hbm, ⟨23, _⟩ => ⟨S2x16384x1024, .f32⟩
  | .hbm, ⟨24, _⟩ => ⟨S2x16384x1024, .f32⟩
  | .hbm, ⟨25, _⟩ => ⟨S2x1x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x16384x1024, .f32⟩
  | .hbm, ⟨30, _⟩ => ⟨S2x16384x1024, .f32⟩
  | .hbm, ⟨31, _⟩ => ⟨S2x1x1024, .f32⟩
  | .hbm, ⟨32, _⟩ => ⟨S2x16384x1024, .f32⟩
  | .hbm, ⟨33, _⟩ => ⟨S2x16384x1024, .f32⟩
  | .hbm, ⟨34, _⟩ => ⟨S2x16384x3104, .f32⟩
  | .hbm, ⟨35, _⟩ => ⟨S2x16384x512, .f32⟩
  | .hbm, ⟨36, _⟩ => ⟨S2x16384x1024, .f32⟩
  | .hbm, ⟨37, _⟩ => ⟨S2x16384x16, .f32⟩
  | .hbm, ⟨38, _⟩ => ⟨S2x16384x16, .f32⟩
  | .hbm, ⟨39, _⟩ => ⟨S2x16384x512, .f32⟩
  | .hbm, ⟨40, _⟩ => ⟨S2x16384x1024, .f32⟩
  | .hbm, ⟨41, _⟩ => ⟨S2x16384x512, .f32⟩
  | .hbm, ⟨42, _⟩ => ⟨S1x1x512, .f32⟩
  | .hbm, ⟨43, _⟩ => ⟨S2x16384x512, .f32⟩
  | .hbm, ⟨44, _⟩ => ⟨S2x16384x512, .f32⟩
  | .hbm, ⟨45, _⟩ => ⟨S2x16384x512, .f32⟩
  | .hbm, ⟨46, _⟩ => ⟨S_, .f32⟩
  | .hbm, ⟨47, _⟩ => ⟨S2x16384x512, .f32⟩
  | .hbm, ⟨48, _⟩ => ⟨S2x16384x512, .f32⟩
  | .hbm, ⟨49, _⟩ => ⟨S2x16384x512, .f32⟩
  | .hbm, ⟨50, _⟩ => ⟨S2x16384x512, .f32⟩
  | .hbm, ⟨51, _⟩ => ⟨S2x16384x512, .i1⟩
  | .hbm, ⟨52, _⟩ => ⟨S2x16384x512, .f32⟩
  | .hbm, ⟨53, _⟩ => ⟨S2x16384x512, .f32⟩
  | .hbm, ⟨54, _⟩ => ⟨S2x16384x512, .f32⟩
  | .hbm, ⟨55, _⟩ => ⟨S2x16384x512, .f32⟩
  | .hbm, ⟨56, _⟩ => ⟨S2x16384x512, .f32⟩
  | .hbm, ⟨57, _⟩ => ⟨S2x16384x512, .f32⟩
  | .hbm, ⟨58, _⟩ => ⟨S2x16384x512, .f32⟩
  | .hbm, ⟨59, _⟩ => ⟨S2x16384x512, .f32⟩
  | .hbm, ⟨60, _⟩ => ⟨S2x16384x512, .f32⟩
  | .hbm, ⟨61, _⟩ => ⟨S_, .f32⟩
  | .hbm, ⟨62, _⟩ => ⟨S2x16384x512, .f32⟩
  | .hbm, ⟨63, _⟩ => ⟨S2x16384x512, .f32⟩
  | .hbm, ⟨64, _⟩ => ⟨S2x256x64x512, .f32⟩
  | .hbm, ⟨65, _⟩ => ⟨S_, .f32⟩
  | .hbm, ⟨66, _⟩ => ⟨S_, .f32⟩
  | .hbm, ⟨67, _⟩ => ⟨S2x256x64x512, .f32⟩
  | .hbm, ⟨68, _⟩ => ⟨S2x16384x512, .f32⟩
  | .hbm, ⟨69, _⟩ => ⟨S1x1x512, .f32⟩
  | .hbm, ⟨70, _⟩ => ⟨S2x16384x512, .f32⟩
  | .hbm, ⟨71, _⟩ => ⟨S2x16384x512, .f32⟩
  | .hbm, ⟨72, _⟩ => ⟨S2x16384x512, .f32⟩
  | .hbm, ⟨73, _⟩ => ⟨S_, .f32⟩
  | .hbm, ⟨74, _⟩ => ⟨S2x16384x512, .f32⟩
  | .hbm, ⟨75, _⟩ => ⟨S2x16384x512, .f32⟩
  | .hbm, ⟨76, _⟩ => ⟨S2x16384x512, .f32⟩
  | .hbm, ⟨77, _⟩ => ⟨S2x16384x512, .f32⟩
  | .hbm, ⟨78, _⟩ => ⟨S2x16384x512, .i1⟩
  | .hbm, ⟨79, _⟩ => ⟨S2x16384x512, .f32⟩
  | .hbm, ⟨80, _⟩ => ⟨S2x16384x512, .f32⟩
  | .hbm, ⟨81, _⟩ => ⟨S2x16384x512, .f32⟩
  | .hbm, ⟨82, _⟩ => ⟨S2x16384x512, .f32⟩
  | .hbm, ⟨83, _⟩ => ⟨S2x16384x512, .f32⟩
  | .hbm, ⟨84, _⟩ => ⟨S2x16384x512, .f32⟩
  | .hbm, ⟨85, _⟩ => ⟨S2x16384x512, .f32⟩
  | .hbm, ⟨86, _⟩ => ⟨S2x16384x512, .f32⟩
  | .hbm, ⟨87, _⟩ => ⟨S2x16384x512, .f32⟩
  | .hbm, ⟨88, _⟩ => ⟨S_, .f32⟩
  | .hbm, ⟨89, _⟩ => ⟨S2x16384x512, .f32⟩
  | .hbm, ⟨90, _⟩ => ⟨S2x16384x512, .f32⟩
  | .hbm, ⟨91, _⟩ => ⟨S2x256x64x512, .f32⟩
  | .hbm, ⟨92, _⟩ => ⟨S2x256x64x512, .f32⟩
  | .hbm, ⟨93, _⟩ => ⟨S_, .f32⟩
  | .hbm, ⟨94, _⟩ => ⟨S_, .f32⟩
  | .hbm, ⟨95, _⟩ => ⟨S2x256x64x512, .f32⟩
  | .hbm, ⟨96, _⟩ => ⟨S2x256x64x512, .f32⟩
  | .hbm, ⟨97, _⟩ => ⟨S32768x512, .f32⟩
  | .hbm, ⟨98, _⟩ => ⟨S32768x1024, .f32⟩
  | .hbm, ⟨99, _⟩ => ⟨S32768x1024, .bf16⟩
  | .hbm, ⟨100, _⟩ => ⟨S_, .f32⟩
  | .hbm, ⟨101, _⟩ => ⟨S2x16384x512, .f32⟩
  | .hbm, ⟨102, _⟩ => ⟨S2x16384x512, .f32⟩
  | .hbm, ⟨103, _⟩ => ⟨S32768x512, .f32⟩
  | .hbm, ⟨104, _⟩ => ⟨S32768x1024, .f32⟩
  | .hbm, ⟨105, _⟩ => ⟨S32768x512, .f32⟩
  | .hbm, ⟨106, _⟩ => ⟨S32768x512, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_call0_cst : Ref sig .tc := ⟨.hbm, 46, rfl⟩
abbrev main_call0_call0_v0 : Ref sig .tc := ⟨.hbm, 47, rfl⟩
abbrev main_call0_call0_v1 : Ref sig .tc := ⟨.hbm, 48, rfl⟩
abbrev main_call0_call0_v2 : Ref sig .tc := ⟨.hbm, 49, rfl⟩
abbrev main_call0_call0_v3 : Ref sig .tc := ⟨.hbm, 50, rfl⟩
abbrev main_call0_call0_v4 : Ref sig .tc := ⟨.hbm, 51, rfl⟩
abbrev main_call0_call0_v5 : Ref sig .tc := ⟨.hbm, 52, rfl⟩
abbrev main_call0_call0_v6 : Ref sig .tc := ⟨.hbm, 53, rfl⟩
abbrev main_call0_call0_v7 : Ref sig .tc := ⟨.hbm, 54, rfl⟩
abbrev main_call0_call0_v8 : Ref sig .tc := ⟨.hbm, 55, rfl⟩
abbrev main_call0_call0_v9 : Ref sig .tc := ⟨.hbm, 56, rfl⟩
abbrev main_call0_call0_v10 : Ref sig .tc := ⟨.hbm, 57, rfl⟩
abbrev main_call0_call0_v11 : Ref sig .tc := ⟨.hbm, 58, rfl⟩
abbrev main_call0_v1 : Ref sig .tc := ⟨.hbm, 59, rfl⟩
abbrev main_v32 : Ref sig .tc := ⟨.hbm, 60, rfl⟩
abbrev main_cst_3 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_call1_call0_cst : Ref sig .tc := ⟨.hbm, 65, rfl⟩
abbrev main_call1_call0_v0 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_call2_v0 : Ref sig .tc := ⟨.hbm, 72, rfl⟩
abbrev main_call2_call0_cst : Ref sig .tc := ⟨.hbm, 73, rfl⟩
abbrev main_call2_call0_v0 : Ref sig .tc := ⟨.hbm, 74, rfl⟩
abbrev main_call2_call0_v1 : Ref sig .tc := ⟨.hbm, 75, rfl⟩
abbrev main_call2_call0_v2 : Ref sig .tc := ⟨.hbm, 76, rfl⟩
abbrev main_call2_call0_v3 : Ref sig .tc := ⟨.hbm, 77, rfl⟩
abbrev main_call2_call0_v4 : Ref sig .tc := ⟨.hbm, 78, rfl⟩
abbrev main_call2_call0_v5 : Ref sig .tc := ⟨.hbm, 79, rfl⟩
abbrev main_call2_call0_v6 : Ref sig .tc := ⟨.hbm, 80, rfl⟩
abbrev main_call2_call0_v7 : Ref sig .tc := ⟨.hbm, 81, rfl⟩
abbrev main_call2_call0_v8 : Ref sig .tc := ⟨.hbm, 82, rfl⟩
abbrev main_call2_call0_v9 : Ref sig .tc := ⟨.hbm, 83, rfl⟩
abbrev main_call2_call0_v10 : Ref sig .tc := ⟨.hbm, 84, rfl⟩
abbrev main_call2_call0_v11 : Ref sig .tc := ⟨.hbm, 85, rfl⟩
abbrev main_call2_v1 : Ref sig .tc := ⟨.hbm, 86, rfl⟩
abbrev main_v41 : Ref sig .tc := ⟨.hbm, 87, rfl⟩
abbrev main_cst_4 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_call4_call0_cst : Ref sig .tc := ⟨.hbm, 93, rfl⟩
abbrev main_call4_call0_v0 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_cst_5 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩

abbrev nD : Nat := 1
abbrev τ : Topo := Topo.v7x

variable {F : FTy → Type} [FloatOps F]
-- ==== Kernel6.lean ====
abbrev S2x16384x1024 : Shape := ⟨3, ![2, 16384, 1024]⟩
abbrev S1024 : Shape := ⟨1, ![1024]⟩
abbrev S2x1024 : Shape := ⟨2, ![2, 1024]⟩
abbrev S1024x1696 : Shape := ⟨2, ![1024, 1696]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S128 : Shape := ⟨1, ![128]⟩
abbrev S4x128x128 : Shape := ⟨3, ![4, 128, 128]⟩
abbrev S4x128 : Shape := ⟨2, ![4, 128]⟩
abbrev S32768x1024 : Shape := ⟨2, ![32768, 1024]⟩
abbrev S1x1024 : Shape := ⟨2, ![1, 1024]⟩
abbrev S2x1x1024 : Shape := ⟨3, ![2, 1, 1024]⟩
abbrev S256x64 : Shape := ⟨2, ![256, 64]⟩
abbrev S16384 : Shape := ⟨1, ![16384]⟩
abbrev S64 : Shape := ⟨1, ![64]⟩
abbrev S1x64 : Shape := ⟨2, ![1, 64]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S16384x32 : Shape := ⟨2, ![16384, 32]⟩
abbrev S16384x64 : Shape := ⟨2, ![16384, 64]⟩
abbrev S16384x128 : Shape := ⟨2, ![16384, 128]⟩
abbrev S32x16384 : Shape := ⟨2, ![32, 16384]⟩
abbrev S1024x32 : Shape := ⟨2, ![1024, 32]⟩
abbrev S1024x640 : Shape := ⟨2, ![1024, 640]⟩
abbrev S1024x8 : Shape := ⟨2, ![1024, 8]⟩
abbrev S1024x64 : Shape := ⟨2, ![1024, 64]⟩
abbrev S1024x512 : Shape := ⟨2, ![1024, 512]⟩
abbrev S1024x1792 : Shape := ⟨2, ![1024, 1792]⟩
abbrev S384x8x96 : Shape := ⟨3, ![384, 8, 96]⟩
abbrev S384x8x32 : Shape := ⟨3, ![384, 8, 32]⟩
abbrev S384x8x8 : Shape := ⟨3, ![384, 8, 8]⟩
abbrev S384x8x128 : Shape := ⟨3, ![384, 8, 128]⟩
abbrev S384x1024 : Shape := ⟨2, ![384, 1024]⟩
abbrev S1024x384 : Shape := ⟨2, ![1024, 384]⟩
abbrev S256x8x128 : Shape := ⟨3, ![256, 8, 128]⟩
abbrev S256x8x64 : Shape := ⟨3, ![256, 8, 64]⟩
abbrev S256x512 : Shape := ⟨2, ![256, 512]⟩
abbrev S512x256 : Shape := ⟨2, ![512, 256]⟩
abbrev S128x4 : Shape := ⟨2, ![128, 4]⟩
abbrev S128x4x128 : Shape := ⟨3, ![128, 4, 128]⟩
abbrev S128x512 : Shape := ⟨2, ![128, 512]⟩
abbrev S1x384 : Shape := ⟨2, ![1, 384]⟩
abbrev S1x256 : Shape := ⟨2, ![1, 256]⟩
abbrev S1x128 : Shape := ⟨2, ![1, 128]⟩
abbrev S1024x32768 : Shape := ⟨2, ![1024, 32768]⟩
abbrev S640x32768 : Shape := ⟨2, ![640, 32768]⟩
abbrev S32768x512 : Shape := ⟨2, ![32768, 512]⟩
abbrev S512x1024 : Shape := ⟨2, ![512, 1024]⟩
abbrev S1x1x1024 : Shape := ⟨3, ![1, 1, 1024]⟩
abbrev S512x128 : Shape := ⟨2, ![512, 128]⟩
abbrev S32x512 : Shape := ⟨2, ![32, 512]⟩
abbrev S640x512 : Shape := ⟨2, ![640, 512]⟩
abbrev S512x512 : Shape := ⟨2, ![512, 512]⟩
abbrev S512 : Shape := ⟨1, ![512]⟩
abbrev S512x1 : Shape := ⟨2, ![512, 1]⟩
abbrev S512x1792 : Shape := ⟨2, ![512, 1792]⟩
abbrev S512x384 : Shape := ⟨2, ![512, 384]⟩
abbrev S64x512 : Shape := ⟨2, ![64, 512]⟩
abbrev S16x512 : Shape := ⟨2, ![16, 512]⟩
abbrev S1x128x128 : Shape := ⟨3, ![1, 128, 128]⟩
abbrev S128x128 : Shape := ⟨2, ![128, 128]⟩

abbrev nBuf : Space → Nat
  | .hbm => 113
  | .vmem => 32
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x1696, .f32⟩
  | .hbm, ⟨5, _⟩ => ⟨S384, .f32⟩
  | .hbm, ⟨6, _⟩ => ⟨S384x768, .f32⟩
  | .hbm, ⟨7, _⟩ => ⟨S256, .f32⟩
  | .hbm, ⟨8, _⟩ => ⟨S256x1024, .f32⟩
  | .hbm, ⟨9, _⟩ => ⟨S128, .f32⟩
  | .hbm, ⟨10, _⟩ => ⟨S4x128x128, .f32⟩
  | .hbm, ⟨11, _⟩ => ⟨S4x128, .f32⟩
  | .hbm, ⟨12, _⟩ => ⟨S32768x1024, .f32⟩
  | .hbm, ⟨13, _⟩ => ⟨S1x1024, .f32⟩
  | .hbm, ⟨14, _⟩ => ⟨S2x1x1024, .f32⟩
  | .hbm, ⟨15, _⟩ => ⟨S2x1x1024, .f32⟩
  | .hbm, ⟨16, _⟩ => ⟨S256, .f32⟩
  | .hbm, ⟨17, _⟩ => ⟨S256x64, .f32⟩
  | .hbm, ⟨18, _⟩ => ⟨S16384, .f32⟩
  | .hbm, ⟨19, _⟩ => ⟨S64, .f32⟩
  | .hbm, ⟨20, _⟩ => ⟨S1x64, .f32⟩
  | .hbm, ⟨21, _⟩ => ⟨S256x64, .f32⟩
  | .hbm, ⟨22, _⟩ => ⟨S16384, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S16384x1, .f32⟩
  | .hbm, ⟨38, _⟩ => ⟨S1x8, .f32⟩
  | .hbm, ⟨39, _⟩ => ⟨S16384x8, .f32⟩
  | .hbm, ⟨40, _⟩ => ⟨S16384x8, .f32⟩
  | .hbm, ⟨41, _⟩ => ⟨S16384x8, .f32⟩
  | .hbm, ⟨42, _⟩ => ⟨S16384x1, .f32⟩
  | .hbm, ⟨43, _⟩ => ⟨S1x8, .f32⟩
  | .hbm, ⟨44, _⟩ => ⟨S16384x8, .f32⟩
  | .hbm, ⟨45, _⟩ => ⟨S16384x8, .f32⟩
  | .hbm, ⟨46, _⟩ => ⟨S16384x8, .f32⟩
  | .hbm, ⟨47, _⟩ => ⟨S16384x32, .f32⟩
  | .hbm, ⟨48, _⟩ => ⟨S_, .f32⟩
  | .hbm, ⟨49, _⟩ => ⟨S16384x64, .f32⟩
  | .hbm, ⟨50, _⟩ => ⟨S_, .f32⟩
  | .hbm, ⟨51, _⟩ => ⟨S16384x32, .f32⟩
  | .hbm, ⟨52, _⟩ => ⟨S16384x32, .f32⟩
  | .hbm, ⟨53, _⟩ => ⟨S16384x128, .f32⟩
  | .hbm, ⟨54, _⟩ => ⟨S_, .f32⟩
  | .hbm, ⟨55, _⟩ => ⟨S16384x64, .f32⟩
  | .hbm, ⟨56, _⟩ => ⟨S16384x64, .f32⟩
  | .hbm, ⟨57, _⟩ => ⟨S16384x32, .f32⟩
  | .hbm, ⟨58, _⟩ => ⟨S16384x128, .f32⟩
  | .hbm, ⟨59, _⟩ => ⟨S16384x32, .f32⟩
  | .hbm, ⟨60, _⟩ => ⟨S32x16384, .f32⟩
  | .hbm, ⟨61, _⟩ => ⟨S16384x32, .f32⟩
  | .hbm, ⟨62, _⟩ => ⟨S32x16384, .f32⟩
  | .hbm, ⟨63, _⟩ => ⟨S1024x32, .f32⟩
  | .hbm, ⟨64, _⟩ => ⟨S1024x640, .f32⟩
  | .hbm, ⟨65, _⟩ => ⟨S1024x8, .f32⟩
  | .hbm, ⟨66, _⟩ => ⟨S1024x8, .f32⟩
  | .hbm, ⟨67, _⟩ => ⟨S1024x8, .f32⟩
  | .hbm, ⟨68, _⟩ => ⟨S1024x8, .f32⟩
  | .hbm, ⟨69, _⟩ => ⟨S1024x8, .f32⟩
  | .hbm, ⟨70, _⟩ => ⟨S1024x8, .f32⟩
  | .hbm, ⟨71, _⟩ => ⟨S1024x32, .f32⟩
  | .hbm, ⟨72, _⟩ => ⟨S_, .f32⟩
  | .hbm, ⟨73, _⟩ => ⟨S1024x64, .f32⟩
  | .hbm, ⟨74, _⟩ => ⟨S1024x512, .f32⟩
  | .hbm, ⟨75, _⟩ => ⟨S1024x512, .f32⟩
  | .hbm, ⟨76, _⟩ => ⟨S1024x1792, .f32⟩
  | .hbm, ⟨77, _⟩ => ⟨S1024x1792, .bf16⟩
  | .hbm, ⟨78, _⟩ => ⟨S384x8x96, .f32⟩
  | .hbm, ⟨79, _⟩ => ⟨S384x8x32, .f32⟩
  | .hbm, ⟨80, _⟩ => ⟨S384x8x8, .f32⟩
  | .hbm, ⟨81, _⟩ => ⟨S384x8x8, .f32⟩
  | .hbm, ⟨82, _⟩ => ⟨S384x8x8, .f32⟩
  | .hbm, ⟨83, _⟩ => ⟨S384x8x8, .f32⟩
  | .hbm, ⟨84, _⟩ => ⟨S384x8x8, .f32⟩
  | .hbm, ⟨85, _⟩ => ⟨S384x8x8, .f32⟩
  | .hbm, ⟨86, _⟩ => ⟨S384x8x32, .f32⟩
  | .hbm, ⟨87, _⟩ => ⟨S384x8x128, .f32⟩
  | .hbm, ⟨88, _⟩ => ⟨S384x1024, .f32⟩
  | .hbm, ⟨89, _⟩ => ⟨S1024x384, .f32⟩
  | .hbm, ⟨90, _⟩ => ⟨S1024x384, .bf16⟩
  | .hbm, ⟨91, _⟩ => ⟨S256x8x128, .f32⟩
  | .hbm, ⟨92, _⟩ => ⟨S256x8x64, .f32⟩
  | .hbm, ⟨93, _⟩ => ⟨S_, .f32⟩
  | .hbm, ⟨94, _⟩ => ⟨S256x8x64, .f32⟩
  | .hbm, ⟨95, _⟩ => ⟨S256x8x128, .f32⟩
  | .hbm, ⟨96, _⟩ => ⟨S256x1024, .f32⟩
  | .hbm, ⟨97, _⟩ => ⟨S256x1024, .bf16⟩
  | .hbm, ⟨98, _⟩ => ⟨S256x8x64, .f32⟩
  | .hbm, ⟨99, _⟩ => ⟨S256x512, .f32⟩
  | .hbm, ⟨100, _⟩ => ⟨S512x256, .f32⟩
  | .hbm, ⟨101, _⟩ => ⟨S512x256, .bf16⟩
  | .hbm, ⟨102, _⟩ => ⟨S128x4, .f32⟩
  | .hbm, ⟨103, _⟩ => ⟨S128x4x128, .f32⟩
  | .hbm, ⟨104, _⟩ => ⟨S128x512, .f32⟩
  | .hbm, ⟨105, _⟩ => ⟨S1x384, .f32⟩
  | .hbm, ⟨106, _⟩ => ⟨S1x256, .f32⟩
  | .hbm, ⟨107, _⟩ => ⟨S1x128, .f32⟩
  | .hbm, ⟨108, _⟩ => ⟨S4x128x128, .bf16⟩
  | .hbm, ⟨109, _⟩ => ⟨S1024x32768, .bf16⟩
  | .hbm, ⟨110, _⟩ => ⟨S32768x1024, .bf16⟩
  | .hbm, ⟨111, _⟩ => ⟨S640x32768, .bf16⟩
  | .hbm, ⟨112, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | .local _ .vmem, ⟨14, _⟩ => ⟨S32x512, .f32⟩
  | .local _ .vmem, ⟨15, _⟩ => ⟨S1024x1792, .bf16⟩
  | .local _ .vmem, ⟨16, _⟩ => ⟨S1x384, .f32⟩
  | .local _ .vmem, ⟨17, _⟩ => ⟨S1024x384, .bf16⟩
  | .local _ .vmem, ⟨18, _⟩ => ⟨S1x256, .f32⟩
  | .local _ .vmem, ⟨19, _⟩ => ⟨S256x1024, .bf16⟩
  | .local _ .vmem, ⟨20, _⟩ => ⟨S512x256, .bf16⟩
  | .local _ .vmem, ⟨21, _⟩ => ⟨S1x128, .f32⟩
  | .local _ .vmem, ⟨22, _⟩ => ⟨S4x128x128, .bf16⟩
  | .local _ .vmem, ⟨23, _⟩ => ⟨S128x512, .f32⟩
  | .local _ .vmem, ⟨24, _⟩ => ⟨S1024x512, .bf16⟩
  | .local _ .vmem, ⟨25, _⟩ => ⟨S1024x512, .bf16⟩
  | .local _ .vmem, ⟨26, _⟩ => ⟨S512x1024, .bf16⟩
  | .local _ .vmem, ⟨27, _⟩ => ⟨S512x1024, .bf16⟩
  | .local _ .vmem, ⟨28, _⟩ => ⟨S640x512, .bf16⟩
  | .local _ .vmem, ⟨29, _⟩ => ⟨S640x512, .bf16⟩
  | .local _ .vmem, ⟨30, _⟩ => ⟨S512x512, .bf16⟩
  | .local _ .vmem, ⟨31, _⟩ => ⟨S512x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_6 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_7 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88_0 : Ref sig .tc := ⟨.hbm, 109, rfl⟩
abbrev main_v88_1 : Ref sig .tc := ⟨.hbm, 110, rfl⟩
abbrev main_v88_2 : Ref sig .tc := ⟨.hbm, 111, rfl⟩
abbrev main_v88_3 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_7 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1792 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S640x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference6Ideal.lean ====
abbrev S2x16384x1024 : Shape := ⟨3, ![2, 16384, 1024]⟩
abbrev S1024 : Shape := ⟨1, ![1024]⟩
abbrev S2x1024 : Shape := ⟨2, ![2, 1024]⟩
abbrev S1024x1696 : Shape := ⟨2, ![1024, 1696]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S128 : Shape := ⟨1, ![128]⟩
abbrev S4x128x128 : Shape := ⟨3, ![4, 128, 128]⟩
abbrev S4x128 : Shape := ⟨2, ![4, 128]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x1x1024 : Shape := ⟨3, ![2, 1, 1024]⟩
abbrev S2x16384x1696 : Shape := ⟨3, ![2, 16384, 1696]⟩
abbrev S2x16384x384 : Shape := ⟨3, ![2, 16384, 384]⟩
abbrev S2x16384x256 : Shape := ⟨3, ![2, 16384, 256]⟩
abbrev S2x16384x32 : Shape := ⟨3, ![2, 16384, 32]⟩
abbrev S2x16384x512 : Shape := ⟨3, ![2, 16384, 512]⟩
abbrev S256x64 : Shape := ⟨2, ![256, 64]⟩
abbrev S16384 : Shape := ⟨1, ![16384]⟩
abbrev S64 : Shape := ⟨1, ![64]⟩
abbrev S1x64 : Shape := ⟨2, ![1, 64]⟩
abbrev S8 : Shape := ⟨1, ![8]⟩
abbrev S16384x1 : Shape := ⟨2, ![16384, 1]⟩
abbrev S1x8 : Shape := ⟨2, ![1, 8]⟩
abbrev S16384x8 : Shape := ⟨2, ![16384, 8]⟩
abbrev S16384x32 : Shape := ⟨2, ![16384, 32]⟩
abbrev S1x1x384 : Shape := ⟨3, ![1, 1, 384]⟩
abbrev S2x16384x768 : Shape := ⟨3, ![2, 16384, 768]⟩
abbrev S2x16384x8x96 : Shape := ⟨4, ![2, 16384, 8, 96]⟩
abbrev S2x16384x8x32 : Shape := ⟨4, ![2, 16384, 8, 32]⟩
abbrev S16384x1x32 : Shape := ⟨3, ![16384, 1, 32]⟩
abbrev S2x16384x8x8 : Shape := ⟨4, ![2, 16384, 8, 8]⟩
abbrev S1x16384x1x32 : Shape := ⟨4, ![1, 16384, 1, 32]⟩
abbrev S1x1x256 : Shape := ⟨3, ![1, 1, 256]⟩
abbrev S2x16384x8x128 : Shape := ⟨4, ![2, 16384, 8, 128]⟩
abbrev S2x16384x8 : Shape := ⟨3, ![2, 16384, 8]⟩
abbrev S1x16384x32 : Shape := ⟨3, ![1, 16384, 32]⟩
abbrev S2x16384x1x32 : Shape := ⟨4, ![2, 16384, 1, 32]⟩
abbrev S2x16384x8x64 : Shape := ⟨4, ![2, 16384, 8, 64]⟩
abbrev S32768x1024 : Shape := ⟨2, ![32768, 1024]⟩
abbrev S1024x32768 : Shape := ⟨2, ![1024, 32768]⟩
abbrev S2x16384x8x16 : Shape := ⟨4, ![2, 16384, 8, 16]⟩
abbrev S2x16384x8x80 : Shape := ⟨4, ![2, 16384, 8, 80]⟩
abbrev S32768x640 : Shape := ⟨2, ![32768, 640]⟩
abbrev S640x32768 : Shape := ⟨2, ![640, 32768]⟩
abbrev S256x128x4x128 : Shape := ⟨4, ![256, 128, 4, 128]⟩
abbrev S256x128x4 : Shape := ⟨3, ![256, 128, 4]⟩
abbrev S256x128x4x1 : Shape := ⟨4, ![256, 128, 4, 1]⟩
abbrev S1x1x1x128 : Shape := ⟨4, ![1, 1, 1, 128]⟩
abbrev S4x256x128x128 : Shape := ⟨4, ![4, 256, 128, 128]⟩
abbrev S128x4 : Shape := ⟨2, ![128, 4]⟩
abbrev S128x4x1 : Shape := ⟨3, ![128, 4, 1]⟩
abbrev S1x128x4x1 : Shape := ⟨4, ![1, 128, 4, 1]⟩
abbrev S32768x512 : Shape := ⟨2, ![32768, 512]⟩

abbrev nBuf : Space → Nat
  | .hbm => 232
  | .vmem => 0
  | .smem => 0
  | _ => 0

abbrev hbmTy0_0 (i : Nat) : BufTy := match i % 128 with
  | 0 => ⟨S2x16384x1024, .f32⟩
  | 1 => ⟨S1024, .f32⟩
  | 2 => ⟨S2x1024, .f32⟩
  | 3 => ⟨S2x1024, .f32⟩
  | 4 => ⟨S1024x1696, .f32⟩
  | 5 => ⟨S384, .f32⟩
  | 6 => ⟨S384x768, .f32⟩
  | 7 => ⟨S256, .f32⟩
  | 8 => ⟨S256x1024, .f32⟩
  | 9 => ⟨S128, .f32⟩
  | 10 => ⟨S4x128x128, .f32⟩
  | 11 => ⟨S4x128, .f32⟩
  | 12 => ⟨S2x16384x1024, .f32⟩
  | 13 => ⟨S_, .f32⟩
  | 14 => ⟨S2x16384, .f32⟩
  | 15 => ⟨S2x16384x1, .f32⟩
  | 16 => ⟨S_, .f32⟩
  | 17 => ⟨S2x16384x1, .f32⟩
  | 18 => ⟨S2x16384x1, .f32⟩
  | 19 => ⟨S_, .f32⟩
  | 20 => ⟨S2x16384x1, .f32⟩
  | 21 => ⟨S2x16384x1, .f32⟩
  | 22 => ⟨S2x16384x1, .f32⟩
  | 23 => ⟨S2x16384x1024, .f32⟩
  | 24 => ⟨S2x16384x1024, .f32⟩
  | 25 => ⟨S1x1x1024, .f32⟩
  | 26 => ⟨S2x16384x1024, .f32⟩
  | 27 => ⟨S2x16384x1024, .f32⟩
  | 28 => ⟨S2x1x1024, .f32⟩
  | 29 => ⟨S_, .f32⟩
  | 30 => ⟨S2x1x1024, .f32⟩
  | 31 => ⟨S2x1x1024, .f32⟩
  | 32 => ⟨S2x16384x1024, .f32⟩
  | 33 => ⟨S2x16384x1024, .f32⟩
  | 34 => ⟨S2x1x1024, .f32⟩
  | 35 => ⟨S2x16384x1024, .f32⟩
  | 36 => ⟨S2x16384x1024, .f32⟩
  | 37 => ⟨S2x16384x1696, .f32⟩
  | 38 => ⟨S2x16384x384, .f32⟩
  | 39 => ⟨S2x16384x256, .f32⟩
  | 40 => ⟨S2x16384x32, .f32⟩
  | 41 => ⟨S2x16384x512, .f32⟩
  | 42 => ⟨S2x16384x512, .f32⟩
  | 43 => ⟨S256, .f32⟩
  | 44 => ⟨S256x64, .f32⟩
  | 45 => ⟨S16384, .f32⟩
  | 46 => ⟨S64, .f32⟩
  | 47 => ⟨S1x64, .f32⟩
  | 48 => ⟨S256x64, .f32⟩
  | 49 => ⟨S16384, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S8, .f32⟩
  | 58 => ⟨S_, .f32⟩
  | 59 => ⟨S8, .f32⟩
  | 60 => ⟨S8, .f32⟩
  | 61 => ⟨S_, .f32⟩
  | 62 => ⟨S8, .f32⟩
  | 63 => ⟨S8, .f32⟩
  | 64 => ⟨S16384x1, .f32⟩
  | 65 => ⟨S1x8, .f32⟩
  | 66 => ⟨S16384x8, .f32⟩
  | 67 => ⟨S16384x8, .f32⟩
  | 68 => ⟨S16384x8, .f32⟩
  | 69 => ⟨S16384x1, .f32⟩
  | 70 => ⟨S1x8, .f32⟩
  | 71 => ⟨S16384x8, .f32⟩
  | 72 => ⟨S16384x8, .f32⟩
  | 73 => ⟨S16384x8, .f32⟩
  | 74 => ⟨S16384x32, .f32⟩
  | 75 => ⟨S16384x32, .f32⟩
  | 76 => ⟨S16384x32, .f32⟩
  | 77 => ⟨S2x16384x384, .f32⟩
  | 78 => ⟨S_, .f32⟩
  | 79 => ⟨S2x16384, .f32⟩
  | 80 => ⟨S2x16384x1, .f32⟩
  | 81 => ⟨S_, .f32⟩
  | 82 => ⟨S2x16384x1, .f32⟩
  | 83 => ⟨S2x16384x1, .f32⟩
  | 84 => ⟨S_, .f32⟩
  | 85 => ⟨S2x16384x1, .f32⟩
  | 86 => ⟨S2x16384x1, .f32⟩
  | 87 => ⟨S2x16384x1, .f32⟩
  | 88 => ⟨S2x16384x384, .f32⟩
  | 89 => ⟨S2x16384x384, .f32⟩
  | 90 => ⟨S1x1x384, .f32⟩
  | 91 => ⟨S2x16384x384, .f32⟩
  | 92 => ⟨S2x16384x384, .f32⟩
  | 93 => ⟨S2x16384x768, .f32⟩
  | 94 => ⟨S2x16384x8x96, .f32⟩
  | 95 => ⟨S2x16384x8x32, .f32⟩
  | 96 => ⟨S16384x1x32, .f32⟩
  | 97 => ⟨S16384x1x32, .f32⟩
  | 98 => ⟨S2x16384x8x8, .f32⟩
  | 99 => ⟨S2x16384x8x8, .f32⟩
  | 100 => ⟨S2x16384x8x8, .f32⟩
  | 101 => ⟨S2x16384x8x8, .f32⟩
  | 102 => ⟨S1x16384x1x32, .f32⟩
  | 103 => ⟨S2x16384x8x32, .f32⟩
  | 104 => ⟨S2x16384x8x32, .f32⟩
  | 105 => ⟨S2x16384x8x8, .f32⟩
  | 106 => ⟨S2x16384x8x8, .f32⟩
  | 107 => ⟨S2x16384x8x32, .f32⟩
  | 108 => ⟨S1x16384x1x32, .f32⟩
  | 109 => ⟨S2x16384x8x32, .f32⟩
  | 110 => ⟨S2x16384x8x32, .f32⟩
  | 111 => ⟨S2x16384x8x32, .f32⟩
  | 112 => ⟨S2x16384x256, .f32⟩
  | 113 => ⟨S_, .f32⟩
  | 114 => ⟨S2x16384, .f32⟩
  | 115 => ⟨S2x16384x1, .f32⟩
  | 116 => ⟨S_, .f32⟩
  | 117 => ⟨S2x16384x1, .f32⟩
  | 118 => ⟨S2x16384x1, .f32⟩
  | 119 => ⟨S_, .f32⟩
  | 120 => ⟨S2x16384x1, .f32⟩
  | 121 => ⟨S2x16384x1, .f32⟩
  | 122 => ⟨S2x16384x1, .f32⟩
  | 123 => ⟨S2x16384x256, .f32⟩
  | 124 => ⟨S2x16384x256, .f32⟩
  | 125 => ⟨S1x1x256, .f32⟩
  | 126 => ⟨S2x16384x256, .f32⟩
  | 127 => ⟨S2x16384x256, .f32⟩
  | _ => ⟨S2x16384x1024, .f32⟩

abbrev hbmTy0_1 (i : Nat) : BufTy := match i % 128 with
  | 0 => ⟨S2x16384x1024, .f32⟩
  | 1 => ⟨S2x16384x8x128, .f32⟩
  | 2 => ⟨S2x16384x8, .f32⟩
  | 3 => ⟨S2x16384x8, .f32⟩
  | 4 => ⟨S2x16384x8, .f32⟩
  | 5 => ⟨S2x16384x8, .f32⟩
  | 6 => ⟨S1x16384x32, .f32⟩
  | 7 => ⟨S2x16384x32, .f32⟩
  | 8 => ⟨S2x16384x32, .f32⟩
  | 9 => ⟨S2x16384x8, .f32⟩
  | 10 => ⟨S2x16384x8, .f32⟩
  | 11 => ⟨S2x16384x32, .f32⟩
  | 12 => ⟨S1x16384x32, .f32⟩
  | 13 => ⟨S2x16384x32, .f32⟩
  | 14 => ⟨S2x16384x32, .f32⟩
  | 15 => ⟨S2x16384x32, .f32⟩
  | 16 => ⟨S2x16384x1x32, .f32⟩
  | 17 => ⟨S2x16384x8x32, .f32⟩
  | 18 => ⟨S_, .f32⟩
  | 19 => ⟨S2x16384x8x32, .f32⟩
  | 20 => ⟨S2x16384x8x64, .f32⟩
  | 21 => ⟨S_, .f32⟩
  | 22 => ⟨S2x16384x8x64, .f32⟩
  | 23 => ⟨S2x16384x8x64, .f32⟩
  | 24 => ⟨S_, .f32⟩
  | 25 => ⟨S2x16384x8x32, .f32⟩
  | 26 => ⟨S2x16384x8x32, .f32⟩
  | 27 => ⟨S2x16384x8x128, .f32⟩
  | 28 => ⟨S32768x1024, .f32⟩
  | 29 => ⟨S1024x32768, .f32⟩
  | 30 => ⟨S1024x32768, .bf16⟩
  | 31 => ⟨S2x16384x8x64, .f32⟩
  | 32 => ⟨S2x16384x8x128, .f32⟩
  | 33 => ⟨S32768x1024, .f32⟩
  | 34 => ⟨S32768x1024, .bf16⟩
  | 35 => ⟨S2x16384x8x64, .f32⟩
  | 36 => ⟨S_, .f32⟩
  | 37 => ⟨S2x16384x8x16, .f32⟩
  | 38 => ⟨S2x16384x8x80, .f32⟩
  | 39 => ⟨S32768x640, .f32⟩
  | 40 => ⟨S640x32768, .f32⟩
  | 41 => ⟨S640x32768, .bf16⟩
  | 42 => ⟨S2x16384x512, .f32⟩
  | 43 => ⟨S2x16384x512, .f32⟩
  | 44 => ⟨S_, .f32⟩
  | 45 => ⟨S2x16384x512, .f32⟩
  | 46 => ⟨S2x16384x512, .f32⟩
  | 47 => ⟨S2x16384x512, .f32⟩
  | 48 => ⟨S_, .f32⟩
  | 49 => ⟨S2x16384x512, .f32⟩
  | 50 => ⟨S2x16384x512, .f32⟩
  | 51 => ⟨S2x16384x512, .f32⟩
  | 52 => ⟨S_, .f32⟩
  | 53 => ⟨S2x16384x512, .f32⟩
  | 54 => ⟨S2x16384x512, .f32⟩
  | 55 => ⟨S_, .f32⟩
  | 56 => ⟨S2x16384x512, .f32⟩
  | 57 => ⟨S2x16384x512, .f32⟩
  | 58 => ⟨S2x16384x512, .f32⟩
  | 59 => ⟨S256x128x4x128, .f32⟩
  | 60 => ⟨S256x128x4x128, .f32⟩
  | 61 => ⟨S_, .f32⟩
  | 62 => ⟨S256x128x4, .f32⟩
  | 63 => ⟨S256x128x4x1, .f32⟩
  | 64 => ⟨S_, .f32⟩
  | 65 => ⟨S256x128x4x1, .f32⟩
  | 66 => ⟨S256x128x4x1, .f32⟩
  | 67 => ⟨S_, .f32⟩
  | 68 => ⟨S256x128x4x1, .f32⟩
  | 69 => ⟨S256x128x4x1, .f32⟩
  | 70 => ⟨S256x128x4x1, .f32⟩
  | 71 => ⟨S256x128x4x128, .f32⟩
  | 72 => ⟨S256x128x4x128, .f32⟩
  | 73 => ⟨S1x1x1x128, .f32⟩
  | 74 => ⟨S256x128x4x128, .f32⟩
  | 75 => ⟨S256x128x4x128, .f32⟩
  | 76 => ⟨S4x256x128x128, .f32⟩
  | 77 => ⟨S256x128x4x128, .f32⟩
  | 78 => ⟨S128x4, .f32⟩
  | 79 => ⟨S128x4x1, .f32⟩
  | 80 => ⟨S1x128x4x1, .f32⟩
  | 81 => ⟨S256x128x4x128, .f32⟩
  | 82 => ⟨S256x128x4x128, .f32⟩
  | 83 => ⟨S2x16384x512, .f32⟩
  | 84 => ⟨S2x16384x512, .f32⟩
  | 85 => ⟨S_, .f32⟩
  | 86 => ⟨S2x16384x512, .f32⟩
  | 87 => ⟨S2x16384x512, .f32⟩
  | 88 => ⟨S2x16384x512, .f32⟩
  | 89 => ⟨S_, .f32⟩
  | 90 => ⟨S2x16384x512, .f32⟩
  | 91 => ⟨S2x16384x512, .f32⟩
  | 92 => ⟨S2x16384x512, .f32⟩
  | 93 => ⟨S_, .f32⟩
  | 94 => ⟨S2x16384x512, .f32⟩
  | 95 => ⟨S2x16384x512, .f32⟩
  | 96 => ⟨S_, .f32⟩
  | 97 => ⟨S2x16384x512, .f32⟩
  | 98 => ⟨S2x16384x512, .f32⟩
  | 99 => ⟨S2x16384x512, .f32⟩
  | 100 => ⟨S32768x512, .f32⟩
  | 101 => ⟨S32768x512, .f32⟩
  | 102 => ⟨S32768x512, .f32⟩
  | 103 => ⟨S32768x512, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_v59 : Ref sig .tc := ⟨.hbm, 80, rfl⟩
abbrev main_cst_8 : Ref sig .tc := ⟨.hbm, 81, rfl⟩
abbrev main_v60 : Ref sig .tc := ⟨.hbm, 82, rfl⟩
abbrev main_v61 : Ref sig .tc := ⟨.hbm, 83, rfl⟩
abbrev main_cst_9 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_10 : Ref sig .tc := ⟨.hbm, 113, rfl⟩
abbrev main_v90 : Ref sig .tc := ⟨.hbm, 114, rfl⟩
abbrev main_v91 : Ref sig .tc := ⟨.hbm, 115, rfl⟩
abbrev main_cst_11 : Ref sig .tc := ⟨.hbm, 116, rfl⟩
abbrev main_v92 : Ref sig .tc := ⟨.hbm, 117, rfl⟩
abbrev main_v93 : Ref sig .tc := ⟨.hbm, 118, rfl⟩
abbrev main_cst_12 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_cst_13 : Ref sig .tc := ⟨.hbm, 146, rfl⟩
abbrev main_v120 : Ref sig .tc := ⟨.hbm, 147, rfl⟩
abbrev main_v121 : Ref sig .tc := ⟨.hbm, 148, rfl⟩
abbrev main_cst_14 : Ref sig .tc := ⟨.hbm, 149, rfl⟩
abbrev main_v122 : Ref sig .tc := ⟨.hbm, 150, rfl⟩
abbrev main_v123 : Ref sig .tc := ⟨.hbm, 151, rfl⟩
abbrev main_cst_15 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_cst_16 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_cst_17 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_18 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_cst_19 : Ref sig .tc := ⟨.hbm, 180, rfl⟩
abbrev main_v148 : Ref sig .tc := ⟨.hbm, 181, rfl⟩
abbrev main_v149 : Ref sig .tc := ⟨.hbm, 182, rfl⟩
abbrev main_cst_20 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_cst_21 : Ref sig .tc := ⟨.hbm, 189, rfl⟩
abbrev main_v155 : Ref sig .tc := ⟨.hbm, 190, rfl⟩
abbrev main_v156 : Ref sig .tc := ⟨.hbm, 191, rfl⟩
abbrev main_cst_22 : Ref sig .tc := ⟨.hbm, 192, rfl⟩
abbrev main_v157 : Ref sig .tc := ⟨.hbm, 193, rfl⟩
abbrev main_v158 : Ref sig .tc := ⟨.hbm, 194, rfl⟩
abbrev main_cst_23 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_cst_24 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_cst_25 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_cst_26 : Ref sig .tc := ⟨.hbm, 221, rfl⟩
abbrev main_v182 : Ref sig .tc := ⟨.hbm, 222, rfl⟩
abbrev main_v183 : Ref sig .tc := ⟨.hbm, 223, rfl⟩
abbrev main_cst_27 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩

abbrev nD : Nat := 1
abbrev τ : Topo := Topo.v7x

variable {F : FTy → Type} [FloatOps F]
-- ==== Proof.Pre.lean ====
module

public import proofs.«01_k».proof.Pre_finite
public import proofs.«01_k».proof.Proof.Gen.Pre_finite
public import Idealize.ShloMosaic.Lib.ReduceAll
public import Idealize.ShloMosaic.Lib.Affine
public import Idealize.ShloMosaic.Lib.Pointwise
public import Idealize.ShloMosaic.Lib.IdealHost

@[expose] public section

set_option maxRecDepth 16384

noncomputable section

/-! What the precondition says: every query and key entry is a real. -/

namespace Cert.Pre_finite.Decode

open Cert.Pre_finite Idealize.ShloMosaic

/-- An extended real whose absolute value is less than infinity is a real. -/
theorem real_of_abs_lt (x : EReal) (h : Ideal.cmp .olt (max x (-x)) ⊤ = 1#1) : ∃ r : ℝ, x = (r : EReal) := by
  induction x with
  | bot => simp [Ideal.cmp] at h
  | top => simp [Ideal.cmp] at h
  | coe r => exact ⟨r, rfl⟩

instance : Subsingleton S_.Idx := ⟨fun _ _ => funext fun i => i.elim0⟩

/-- When all of an array's absolute values are less than infinity, its entries are reals. -/
theorem reals_of_all {s : Shape} {axes : List (Fin s.rank)} (x b : FVec Ideal s .f32) (hb : ∀ i, b i = (⊤ : EReal)) (init : IVec S_ 1)
    (h : s.ReducesTo axes S_) (hu : 0 < S_.numel) (j : S_.Idx) (e : Host.reduce IntOp.andi (cmpf .olt (Host.absf x) b) init h hu j = 1#1) :
    ∀ i, ∃ r : ℝ, (x i : EReal) = (r : EReal) := by
  intro i
  have h' : Ideal.cmp .olt (max (x i : EReal) (-(x i))) (b i) = 1#1 := Host.reduce_andi_all _ _ h hu j e i
  rw [hb] at h'
  exact real_of_abs_lt _ h'

/-- Two bits whose conjunction is one are both one. -/
theorem both (x y : IVec S_ 1) (j : S_.Idx) (h : andi x y j = 1#1) : x j = 1#1 ∧ y j = 1#1 := by
  have h' : x j &&& y j = 1#1 := h
  revert h'
  generalize x j = a
  generalize y j = b
  revert a b
  decide

/-- The precondition makes every query and key entry a real. -/
theorem reals [Facts] (a0 : FVec Ideal S2x16384x8x64 .f32) (a1 : FVec Ideal S2x16384x8x32 .f32) (a2 : FVec Ideal S2x16384x8x64 .f32) (a3 : FVec Ideal S2x16384x32 .f32)
    (a4 : FVec Ideal S2x16384x8x64 .f32) (a5 : FVec Ideal S2x256x8x64 .f32) (a6 : FVec Ideal S2x256x32 .f32) (a7 : FVec Ideal S2x256x8x64 .f32)
    (h : fn a0 a1 a2 a3 a4 a5 a6 a7 = fun _ => 1#1) :
    (∀ i, ∃ r : ℝ, (a0 i : EReal) = (r : EReal)) ∧ (∀ i, ∃ r : ℝ, (a1 i : EReal) = (r : EReal)) ∧ (∀ i, ∃ r : ℝ, (a2 i : EReal) = (r : EReal))
      ∧ (∀ i, ∃ r : ℝ, (a3 i : EReal) = (r : EReal)) ∧ (∀ i, ∃ r : ℝ, (a5 i : EReal) = (r : EReal)) ∧ (∀ i, ∃ r : ℝ, (a6 i : EReal) = (r : EReal)) := by
  have hb : Ideal.ofBits .f32 0x7F800000#32 = (⊤ : EReal) := by simp [Ideal.ofBits, Ideal.ieee]
  have h0 := congrFun h (fun i => i.elim0)
  dsimp only [fn, fn_part1] at h0
  obtain ⟨h0, h6⟩ := both _ _ _ h0
  obtain ⟨h0, h5⟩ := both _ _ _ h0
  obtain ⟨h0, h3⟩ := both _ _ _ h0
  obtain ⟨h0, h2⟩ := both _ _ _ h0
  obtain ⟨h0, h1⟩ := both _ _ _ h0
  exact ⟨reals_of_all _ _ (fun _ => hb) _ _ _ _ h0, reals_of_all _ _ (fun _ => hb) _ _ _ _ h1, reals_of_all _ _ (fun _ => hb) _ _ _ _ h2,
    reals_of_all _ _ (fun _ => hb) _ _ _ _ h3, reals_of_all _ _ (fun _ => hb) _ _ _ _ h5, reals_of_all _ _ (fun _ => hb) _ _ _ _ h6⟩

end Cert.Pre_finite.Decode
-- ==== Proof.RefValue.lean ====
module

public import proofs.«01_k».proof.Proof.Gen.ReferenceIdeal.Run
public import Idealize.ShloMosaic.Lib.Claim
public import Idealize.ShloMosaic.Lib.Pointwise
public import Idealize.ShloMosaic.Lib.IdealHost

@[expose] public section

set_option maxRecDepth 16384

noncomputable section

/-! The reference's result at an index. -/

namespace Cert.ReferenceIdeal.Attn

open Cert.ReferenceIdeal Cert.ReferenceIdeal.Gen Cert.ReferenceIdeal.Value Idealize.ShloMosaic Idealize.ShloMosaic.TcCoe

section Stages
variable {F : FTy → Type} [FloatOps F]

/-- The reference's scores. -/
def refScore (qn : FVec F S2x16384x8x64 .f32) (qr : FVec F S2x16384x8x32 .f32) (kn : FVec F S2x16384x8x64 .f32) (kr : FVec F S2x16384x32 .f32)
    (cn : FVec F S2x256x8x64 .f32) (cr : FVec F S2x256x32 .f32) : FVec F S2x8x16384x16640 .f32 :=
  Host.divf (addf (Host.dotGeneral dot_S2x16384x8x64_S2x16640x8x64_S2x8x16384x16640_3_3_1_1_02_02 none qn
        (concatenate S2x16640x8x64 1 [⟨S2x16384x8x64, kn⟩, ⟨S2x256x8x64, cn⟩] concatenates_S2x16384x8x64_S2x256x8x64_S2x16640x8x64_d1))
      (transpose S2x8x16384x16640 [0, 3, 2, 1] (Host.dotGeneral dot_S2x16640x32_S2x16384x8x32_S2x16640x16384x8_2_3_1_12_0_0 none
        (concatenate S2x16640x32 1 [⟨S2x16384x32, kr⟩, ⟨S2x256x32, cr⟩] concatenates_S2x16384x32_S2x256x32_S2x16640x32_d1) qr)
        transposes_S2x16640x16384x8_S2x8x16384x16640_0_3_2_1))
    (broadcastInDim S2x8x16384x16640 ![] bcast_S_S2x8x16384x16640 (Host.sqrt (constant S_ .f32 0x42C00000#32)))

/-- The greatest score of each query. -/
def refMax (s : FVec F S2x8x16384x16640 .f32) : FVec F S2x8x16384 .f32 :=
  maximumf (broadcastInDim S2x8x16384 ![] bcast_S_S2x8x16384 (constant S_ .f32 0xFF800000#32))
    (Host.reduce FloatOps.maximumf s (constant S_ .f32 0xFF800000#32) reducesTo_S2x8x16384x16640_S2x8x16384_d3 h_S_)

/-- A number per query, for each of its keys. -/
def spread (x : FVec F S2x8x16384 .f32) : FVec F S2x8x16384x16640 .f32 :=
  broadcastInDim S2x8x16384x16640 ![0, 1, 2, 3] bcast_S2x8x16384x1_S2x8x16384x16640_0_1_2_3
    (broadcastInDim S2x8x16384x1 ![0, 1, 2] bcast_S2x8x16384_S2x8x16384x1_0_1_2 x)

/-- The exponentials of the scores less the greatest. -/
def refExp (s : FVec F S2x8x16384x16640 .f32) : FVec F S2x8x16384x16640 .f32 := Host.exp (subf s (spread (refMax s)))

/-- The sum of a query's exponentials. -/
def refSum (e : FVec F S2x8x16384x16640 .f32) : FVec F S2x8x16384 .f32 :=
  Host.reduceAdd e (constant S_ .f32 0x00000000#32) reducesTo_S2x8x16384x16640_S2x8x16384_d3 h_S_

/-- The weighted values. -/
def refOut (vl : FVec F S2x16384x8x64 .f32) (vc : FVec F S2x256x8x64 .f32) (p : FVec F S2x8x16384x16640 .f32) : FVec F S32768x512 .bf16 :=
  truncf .bf16 (shapeCast S32768x512 (transpose S2x16384x8x64 [0, 3, 1, 2] (Host.dotGeneral dot_S2x16640x8x64_S2x8x16384x16640_S2x8x64x16384_1_3_3_2_02_01 none
    (concatenate S2x16640x8x64 1 [⟨S2x16384x8x64, vl⟩, ⟨S2x256x8x64, vc⟩] concatenates_S2x16384x8x64_S2x256x8x64_S2x16640x8x64_d1) p)
    transposes_S2x8x64x16384_S2x16384x8x64_0_3_1_2) shapeCasts_S2x16384x8x64_S32768x512) bitsLt_bf16_f32

end Stages

end Cert.ReferenceIdeal.Attn
-- ==== Proof.Pack.lean ====
module

public import proofs.«01_k».proof.Proof.Gen.KernelIdeal.Frame.Runs
public import Idealize.ShloMosaic.Lib.Claim
public import Idealize.ShloMosaic.Lib.StableHlo.RunRead
public import Idealize.ShloMosaic.Lib.Pointwise
public import Idealize.ShloMosaic.Lib.IdealHost

@[expose] public section

set_option maxRecDepth 16384

noncomputable section

/-! The arrays that the attention call reads: the queries, keys and values in the layout the host code packs them in. -/

namespace Cert.KernelIdeal.Attn

open Cert.KernelIdeal Cert.KernelIdeal.Gen Idealize.ShloMosaic Idealize.ShloMosaic.TcCoe

variable {F : FTy → Type} [FloatOps F]

/-- The packed queries: a slot of 128 rows per head, the position along the columns. -/
def packQ (a : FVec F S2x16384x8x64 .f32) (r : FVec F S2x16384x8x32 .f32) : FVec F S1024x32768 .bf16 :=
  truncf .bf16 (transpose S1024x32768 [1, 0] (shapeCast S32768x1024 (concatenate S2x16384x8x128 3
    [⟨S2x16384x8x96, Host.divf (concatenate S2x16384x8x96 3 [⟨S2x16384x8x64, a⟩, ⟨S2x16384x8x32, r⟩] concatenates_S2x16384x8x64_S2x16384x8x32_S2x16384x8x96_d3)
        (broadcastInDim S2x16384x8x96 ![] bcast_S_S2x16384x8x96 (mulf (Host.sqrt (constant S_ .f32 0x42C00000#32)) (Host.log (constant S_ .f32 0x40000000#32))))⟩,
      ⟨S2x16384x8x32, broadcastInDim S2x16384x8x32 ![] bcast_S_S2x16384x8x32 (constant S_ .f32 0x00000000#32)⟩]
    concatenates_S2x16384x8x96_S2x16384x8x32_S2x16384x8x128_d3) shapeCasts_S2x16384x8x128_S32768x1024) transposes_S32768x1024_S1024x32768_1_0) bitsLt_bf16_f32

/-- The packed latent keys: the position along the rows, a slot of 128 columns per head. -/
def packK (a : FVec F S2x16384x8x64 .f32) (r : FVec F S2x16384x32 .f32) : FVec F S32768x1024 .bf16 :=
  truncf .bf16 (shapeCast S32768x1024 (concatenate S2x16384x8x128 3 [⟨S2x16384x8x64, a⟩,
    ⟨S2x16384x8x32, broadcastInDim S2x16384x8x32 ![0, 1, 2, 3] bcast_S2x16384x1x32_S2x16384x8x32_0_1_2_3 (broadcastInDim S2x16384x1x32 ![0, 1, 3] bcast_S2x16384x32_S2x16384x1x32_0_1_3 r)⟩,
    ⟨S2x16384x8x32, broadcastInDim S2x16384x8x32 ![] bcast_S_S2x16384x8x32 (constant S_ .f32 0x00000000#32)⟩]
    concatenates_S2x16384x8x64_S2x16384x8x32_S2x16384x8x32_S2x16384x8x128_d3) shapeCasts_S2x16384x8x128_S32768x1024) bitsLt_bf16_f32

/-- The packed latent values: a slot of 80 rows per head, the position along the columns. -/
def packV (a : FVec F S2x16384x8x64 .f32) : FVec F S640x32768 .bf16 :=
  truncf .bf16 (transpose S640x32768 [1, 0] (shapeCast S32768x640 (concatenate S2x16384x8x80 3 [⟨S2x16384x8x64, a⟩,
    ⟨S2x16384x8x16, broadcastInDim S2x16384x8x16 ![] bcast_S_S2x16384x8x16 (constant S_ .f32 0x3F800000#32)⟩]
    concatenates_S2x16384x8x64_S2x16384x8x16_S2x16384x8x80_d3) shapeCasts_S2x16384x8x80_S32768x640) transposes_S32768x640_S640x32768_1_0) bitsLt_bf16_f32

/-- The packed context keys. -/
def packKc (a : FVec F S2x256x8x64 .f32) (r : FVec F S2x256x32 .f32) : FVec F S512x1024 .bf16 :=
  truncf .bf16 (shapeCast S512x1024 (concatenate S2x256x8x128 3 [⟨S2x256x8x64, a⟩,
    ⟨S2x256x8x32, broadcastInDim S2x256x8x32 ![0, 1, 2, 3] bcast_S2x256x1x32_S2x256x8x32_0_1_2_3 (broadcastInDim S2x256x1x32 ![0, 1, 3] bcast_S2x256x32_S2x256x1x32_0_1_3 r)⟩,
    ⟨S2x256x8x32, broadcastInDim S2x256x8x32 ![] bcast_S_S2x256x8x32 (constant S_ .f32 0x00000000#32)⟩]
    concatenates_S2x256x8x64_S2x256x8x32_S2x256x8x32_S2x256x8x128_d3) shapeCasts_S2x256x8x128_S512x1024) bitsLt_bf16_f32

/-- The packed context values. -/
def packVc (a : FVec F S2x256x8x64 .f32) : FVec F S640x512 .bf16 :=
  truncf .bf16 (transpose S640x512 [1, 0] (shapeCast S512x640 (concatenate S2x256x8x80 3 [⟨S2x256x8x64, a⟩,
    ⟨S2x256x8x16, broadcastInDim S2x256x8x16 ![] bcast_S_S2x256x8x16 (constant S_ .f32 0x3F800000#32)⟩]
    concatenates_S2x256x8x64_S2x256x8x16_S2x256x8x80_d3) shapeCasts_S2x256x8x80_S512x640) transposes_S512x640_S640x512_1_0) bitsLt_bf16_f32

end Cert.KernelIdeal.Attn

end
-- ==== Proof.PackV.lean ====
module

public import proofs.«01_k».proof.Proof.Pack

@[expose] public section

set_option maxRecDepth 16384

noncomputable section

/-! The operands of the call, from the arguments. -/

namespace Cert.KernelIdeal.Attn

open Cert.KernelIdeal Cert.KernelIdeal.Gen Idealize.ShloMosaic Idealize.ShloMosaic.TcCoe

variable {F : FTy → Type} [FloatOps F]

variable (m : (ℓ : Loc nD τ sig) → Buf (Elt F) ℓ) (c : Dev nD)

/-- The call's first operand holds the packed queries. -/
theorem V_q : V m c main_v10 = packQ (m ((c.tc : Thread nD τ).loc main_arg0)) (m ((c.tc : Thread nD τ).loc main_arg1)) := by
  unfold_abbrev_sides
  after_reads_simp
  rfl

/-- Its second holds the packed latent keys. -/
theorem V_k : V m c main_v16 = packK (m ((c.tc : Thread nD τ).loc main_arg2)) (m ((c.tc : Thread nD τ).loc main_arg3)) := by
  unfold_abbrev_sides
  after_reads_simp
  rfl

/-- Its third holds the packed latent values. -/
theorem V_v : V m c main_v21 = packV (m ((c.tc : Thread nD τ).loc main_arg4)) := by
  unfold_abbrev_sides
  after_reads_simp
  rfl

/-- Its fourth holds the packed context keys. -/
theorem V_kc : V m c main_v27 = packKc (m ((c.tc : Thread nD τ).loc main_arg5)) (m ((c.tc : Thread nD τ).loc main_arg6)) := by
  unfold_abbrev_sides
  after_reads_simp
  rfl

/-- Its fifth holds the packed context values. -/
theorem V_vc : V m c main_v32 = packVc (m ((c.tc : Thread nD τ).loc main_arg7)) := by
  unfold_abbrev_sides
  after_reads_simp
  rfl

end Cert.KernelIdeal.Attn

end
-- ==== Proof.PackAt.lean ====
module

public import proofs.«01_k».proof.Proof.Pack

@[expose] public section

set_option maxRecDepth 16384

noncomputable section

namespace Cert.KernelIdeal.Attn

open Cert.KernelIdeal Cert.KernelIdeal.Gen Idealize.ShloMosaic Idealize.ShloMosaic.TcCoe

/-- A head's slot of 128 entries: 64, then 32 rotary ones, then zeros. -/
def slot (x : Fin 64 → ℝ) (y : Fin 32 → ℝ) (e : Fin 128) : ℝ :=
  if h : e.val < 64 then x ⟨e.val, h⟩ else if h : e.val < 96 then y ⟨e.val - 64, by omega⟩ else 0

/-- The product of two slots is the product of their parts. -/
theorem slot_dot (x x' : Fin 64 → ℝ) (y y' : Fin 32 → ℝ) :
    ∑ e : Fin 128, slot x y e * slot x' y' e = (∑ d, x d * x' d) + ∑ d, y d * y' d := by
  have h := Fin.sum_univ_add (a := 64) (b := 64) fun e : Fin 128 => slot x y e * slot x' y' e
  have h' := Fin.sum_univ_add (a := 32) (b := 32) fun e : Fin 64 => slot x y (Fin.natAdd 64 e) * slot x' y' (Fin.natAdd 64 e)
  refine h.trans (congrArg₂ (· + ·) (Finset.sum_congr rfl fun d _ => ?_) (h'.trans ?_))
  · simp [slot]
  · rw [Finset.sum_eq_zero (s := Finset.univ (α := Fin 32)) (f := fun i : Fin 32 => slot x y (Fin.natAdd 64 (Fin.natAdd 32 i)) * slot x' y' (Fin.natAdd 64 (Fin.natAdd 32 i))), add_zero]
    · refine Finset.sum_congr rfl fun d _ => ?_
      have := d.isLt
      simp only [slot, Fin.val_natAdd, Fin.val_castAdd]
      rw [dif_neg (by omega), dif_pos (by omega), dif_neg (by omega), dif_pos (by omega)]
      simp
    · intro d _
      have := d.isLt
      simp only [slot, Fin.val_natAdd]
      rw [dif_neg (by omega), dif_neg (by omega), zero_mul]

/-- A packed query, of any entries. -/
theorem packQ_read (a : FVec Ideal S2x16384x8x64 .f32) (r : FVec Ideal S2x16384x8x32 .f32) (R : Fin 1024) (L : Fin 32768) :
    packQ a r (ix2 R L) = if h : R.val % 128 < 96 then
        Ideal.div (if h1 : R.val % 128 < 64 then a (ix4 ⟨L.val / 16384, by omega⟩ ⟨L.val % 16384, by omega⟩ ⟨R.val / 128, by omega⟩ ⟨R.val % 128, h1⟩)
          else r (ix4 ⟨L.val / 16384, by omega⟩ ⟨L.val % 16384, by omega⟩ ⟨R.val / 128, by omega⟩ ⟨R.val % 128 - 64, by omega⟩))
          (Ideal.sqrt (Ideal.ofBits .f32 0x42C00000#32) * Ideal.log (Ideal.ofBits .f32 0x40000000#32)) else 0 := by
  pointwise [packQ]

/-- The divisor of the queries, as a number. -/
theorem divisor : Ideal.sqrt (Ideal.ofBits .f32 0x42C00000#32) * Ideal.log (Ideal.ofBits .f32 0x40000000#32) = ((Real.sqrt 96 * Real.log 2 : ℝ) : EReal) := by
  have h96 : Ideal.ofBits .f32 0x42C00000#32 = ((96 : ℝ) : EReal) := by simp [Ideal.ofBits, Ideal.ieee, -EReal.coe_mul]; norm_num
  have h2 : Ideal.ofBits .f32 0x40000000#32 = ((2 : ℝ) : EReal) := by simp [Ideal.ofBits, Ideal.ieee, -EReal.coe_mul]; norm_num
  rw [h96, h2, Ideal.sqrt_coe, Ideal.log_coe, if_neg (by norm_num), if_neg (by norm_num), ← EReal.coe_mul]

/-- The packed queries hold each head's slot, over the square root of 96 and the logarithm of two. -/
theorem packQ_at (a : FVec Ideal S2x16384x8x64 .f32) (r : FVec Ideal S2x16384x8x32 .f32) (a' : S2x16384x8x64.Idx → ℝ) (r' : S2x16384x8x32.Idx → ℝ)
    (ha : ∀ i, a i = ((a' i : ℝ) : EReal)) (hr : ∀ i, r i = ((r' i : ℝ) : EReal)) (R : Fin 1024) (L : Fin 32768) :
    packQ a r (ix2 R L)
      = ((slot (fun d => a' (ix4 ⟨L.val / 16384, by omega⟩ ⟨L.val % 16384, by omega⟩ ⟨R.val / 128, by omega⟩ d))
          (fun d => r' (ix4 ⟨L.val / 16384, by omega⟩ ⟨L.val % 16384, by omega⟩ ⟨R.val / 128, by omega⟩ d)) ⟨R.val % 128, by omega⟩
          * (1 / (Real.sqrt 96 * Real.log 2)) : ℝ) : EReal) := by
  have hD : Real.sqrt 96 * Real.log 2 ≠ 0 := mul_ne_zero (Real.sqrt_pos.mpr (by norm_num)).ne' (Real.log_pos (by norm_num)).ne'
  rw [packQ_read, divisor]
  simp only [slot]
  by_cases h : R.val % 128 < 64
  · rw [dif_pos (by omega), dif_pos h, dif_pos h, ha, Ideal.div_coe hD, ← EReal.coe_mul]
  · rw [dif_neg h]
    by_cases h' : R.val % 128 < 96
    · rw [dif_pos h', dif_pos h', dif_neg h, hr, Ideal.div_coe hD, ← EReal.coe_mul]
    · rw [dif_neg h', dif_neg h', zero_mul, EReal.coe_zero]

/-- A packed latent key, of any entries. -/
theorem packK_read (a : FVec Ideal S2x16384x8x64 .f32) (r : FVec Ideal S2x16384x32 .f32) (R : Fin 1024) (L : Fin 32768) :
    packK a r (ix2 L R) = if h : R.val % 128 < 64 then a (ix4 ⟨L.val / 16384, by omega⟩ ⟨L.val % 16384, by omega⟩ ⟨R.val / 128, by omega⟩ ⟨R.val % 128, h⟩)
        else if h1 : R.val % 128 - 64 < 32 then r (ix3 ⟨L.val / 16384, by omega⟩ ⟨L.val % 16384, by omega⟩ ⟨R.val % 128 - 64, h1⟩) else 0 := by
  pointwise [packK]

/-- A packed latent key is its head's slot, the rotary part the same for each head. -/
theorem packK_at (a : FVec Ideal S2x16384x8x64 .f32) (r : FVec Ideal S2x16384x32 .f32) (a' : S2x16384x8x64.Idx → ℝ) (r' : S2x16384x32.Idx → ℝ)
    (ha : ∀ i, a i = ((a' i : ℝ) : EReal)) (hr : ∀ i, r i = ((r' i : ℝ) : EReal)) (R : Fin 1024) (L : Fin 32768) :
    packK a r (ix2 L R)
      = ((slot (fun d => a' (ix4 ⟨L.val / 16384, by omega⟩ ⟨L.val % 16384, by omega⟩ ⟨R.val / 128, by omega⟩ d))
          (fun d => r' (ix3 ⟨L.val / 16384, by omega⟩ ⟨L.val % 16384, by omega⟩ d)) ⟨R.val % 128, by omega⟩ : ℝ) : EReal) := by
  rw [packK_read]
  simp only [slot]
  by_cases h : R.val % 128 < 64
  · rw [dif_pos h, dif_pos h, ha]
  · rw [dif_neg h, dif_neg h]
    by_cases h' : R.val % 128 < 96
    · rw [dif_pos (by omega), dif_pos h', hr]
    · rw [dif_neg (by omega), dif_neg h', EReal.coe_zero]

/-- A packed context key, of any entries. -/
theorem packKc_read (a : FVec Ideal S2x256x8x64 .f32) (r : FVec Ideal S2x256x32 .f32) (R : Fin 1024) (L : Fin 512) :
    packKc a r (ix2 L R) = if h : R.val % 128 < 64 then a (ix4 ⟨L.val / 256, by omega⟩ ⟨L.val % 256, by omega⟩ ⟨R.val / 128, by omega⟩ ⟨R.val % 128, h⟩)
        else if h1 : R.val % 128 - 64 < 32 then r (ix3 ⟨L.val / 256, by omega⟩ ⟨L.val % 256, by omega⟩ ⟨R.val % 128 - 64, h1⟩) else 0 := by
  pointwise [packKc]

/-- A packed context key is its head's slot, the rotary part the same for each head. -/
theorem packKc_at (a : FVec Ideal S2x256x8x64 .f32) (r : FVec Ideal S2x256x32 .f32) (a' : S2x256x8x64.Idx → ℝ) (r' : S2x256x32.Idx → ℝ)
    (ha : ∀ i, a i = ((a' i : ℝ) : EReal)) (hr : ∀ i, r i = ((r' i : ℝ) : EReal)) (R : Fin 1024) (L : Fin 512) :
    packKc a r (ix2 L R)
      = ((slot (fun d => a' (ix4 ⟨L.val / 256, by omega⟩ ⟨L.val % 256, by omega⟩ ⟨R.val / 128, by omega⟩ d))
          (fun d => r' (ix3 ⟨L.val / 256, by omega⟩ ⟨L.val % 256, by omega⟩ d)) ⟨R.val % 128, by omega⟩ : ℝ) : EReal) := by
  rw [packKc_read]
  simp only [slot]
  by_cases h : R.val % 128 < 64
  · rw [dif_pos h, dif_pos h, ha]
  · rw [dif_neg h, dif_neg h]
    by_cases h' : R.val % 128 < 96
    · rw [dif_pos (by omega), dif_pos h', hr]
    · rw [dif_neg (by omega), dif_neg h', EReal.coe_zero]

/-- The packed values hold, for each head, 64 rows of values and then rows of ones. -/
theorem packV_at (a : FVec Ideal S2x16384x8x64 .f32) (R : Fin 640) (L : Fin 32768) :
    packV a (ix2 R L) = (if h : R.val % 80 < 64 then a (ix4 ⟨L.val / 16384, by omega⟩ ⟨L.val % 16384, by omega⟩ ⟨R.val / 80, by omega⟩ ⟨R.val % 80, h⟩) else (1 : EReal)) := by
  pointwise [packV]

/-- The packed context values likewise. -/
theorem packVc_at (a : FVec Ideal S2x256x8x64 .f32) (R : Fin 640) (L : Fin 512) :
    packVc a (ix2 R L) = (if h : R.val % 80 < 64 then a (ix4 ⟨L.val / 256, by omega⟩ ⟨L.val % 256, by omega⟩ ⟨R.val / 80, by omega⟩ ⟨R.val % 80, h⟩) else (1 : EReal)) := by
  pointwise [packVc]

end Cert.KernelIdeal.Attn

end
-- ==== Proof.Body.lean ====
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Attn

open Cert.KernelIdeal Cert.KernelIdeal.Gen Idealize.ShloMosaic Idealize.ShloMosaic.TcCoe

variable {F : FTy → Type} [FloatOps F]

/-! ## The block's arithmetic, tile by tile -/

/-- The transposed scores of one tile of keys. -/
def score (k : Vec F S256x128 .bf16) (q : Vec F S128x512 .bf16) : FVec F S256x512 .f32 :=
  matmul dot_S256x128_S128x512_S256x512_1_0_0_1_n_n none k q (constant S256x512 .f32 0x00000000#32)

/-- The greatest score of each query in one tile. -/
def tileMax (s : FVec F S256x512 .f32) : FVec F S1x512 .f32 :=
  shapeCast S1x512 (multiReduction .maximumf [0] S512 s 0xFF800000#32 reduces_S256x512_S512 (.inl rfl) rfl) shapeCasts_S512_S1x512

/-- The greatest score of each query over the first `t` tiles. -/
def runMax (K : ℕ → Vec F S256x128 .bf16) (q : Vec F S128x512 .bf16) : ℕ → FVec F S1x512 .f32
  | 0 => broadcast S1x512 (FloatOps.ofBits .f32 0xFF800000#32)
  | t + 1 => maximumf (runMax K q t) (tileMax (score (K t) q))

/-- The scores as the body spells them. -/
theorem score_fold (k : Vec F S256x128 .bf16) (q : Vec F S128x512 .bf16) :
    matmul dot_S256x128_S128x512_S256x512_1_0_0_1_n_n none k q (constant S256x512 .f32 0x00000000#32) = score k q := rfl

/-- The tile's greatest scores as the body spells them. -/
theorem tileMax_fold (s : FVec F S256x512 .f32) :
    shapeCast S1x512 (multiReduction .maximumf [0] S512 s 0xFF800000#32 reduces_S256x512_S512 (.inl rfl) rfl) shapeCasts_S512_S1x512 = tileMax s := rfl

/-- The weights of tile `t`, taken against the greatest score so far. -/
def weight (K : ℕ → Vec F S256x128 .bf16) (q : Vec F S128x512 .bf16) (t : ℕ) : FVec F S256x512 .bf16 :=
  truncf .bf16 (exp2 (subf (score (K t) q) (broadcastTo S256x512 (runMax K q (t + 1)) broadcasts_S1x512_S256x512))) bitsLt_bf16_f32

/-- The weighted values over the first `t` tiles: what was there, rescaled to the new greatest score, and tile `t`'s product. -/
def runAcc (K : ℕ → Vec F S256x128 .bf16) (V : ℕ → Vec F S80x256 .bf16) (q : Vec F S128x512 .bf16) : ℕ → FVec F S80x512 .f32
  | 0 => broadcast S80x512 (FloatOps.ofBits .f32 0x00000000#32)
  | t + 1 => addf (mulf (broadcastTo S80x512 (exp2 (subf (runMax K q t) (runMax K q (t + 1)))) broadcasts_S1x512_S80x512) (runAcc K V q t))
      (matmul dot_S80x256_S256x512_S80x512_1_0_0_1_n_n none (V t) (weight K q t) (constant S80x512 .f32 0x00000000#32))

/-- A head's output: the weighted values over the sum of the weights, which row 64 holds. -/
def headOut (a : FVec F S80x512 .f32) : FVec F S64x512 .f32 :=
  mulf (extractStridedSlice S64x512 ![0, 0] a slices_S80x512_o0_0_S64x512)
    (broadcastTo S64x512 (divf (broadcast S1x512 (Scalar.ofBits .f32 0x3F800000#32))
      (extractStridedSlice S1x512 ![64, 0] a slices_S80x512_o64_0_S1x512)) broadcasts_S1x512_S64x512)

/-- The block's output: the two heads side by side. -/
def blockOut (a b : FVec F S64x512 .f32) : FVec F S512x128 .bf16 :=
  truncf .bf16 (transpose S512x128 [1, 0] (concatenate S128x512 0 [⟨S64x512, a⟩, ⟨S64x512, b⟩] concatenates_S64x512_S64x512_S128x512_d0)
    transposes_S128x512_p1_0_S512x128) bitsLt_bf16_f32

/-- The box of `x` of extents `sz` at `off`. -/
def box {s : Shape} {α : Type} (x : s.Idx → α) (hp : ∀ a, 0 < s.size a) (off : Fin s.rank → ℕ) (t : Shape) (ht : t.rank = s.rank) : t.Idx → α :=
  fun j => x fun a => ⟨(off a + (j (a.cast ht.symm)).val) % s.size a, Nat.mod_lt _ (hp a)⟩

/-- A load of a box of a whole buffer is that box. -/
theorem ld_box {s : Shape} {e : EltTy} {Val : EltTy → Type} (x : s.Idx → Val e) (hp : ∀ a, 0 < s.size a) (off : Fin s.rank → ℕ) (sz : Fin s.rank → ℕ) (inb) :
    View.ld x (Rect.unit (s := s) off sz inb) = box x hp off ⟨s.rank, sz⟩ rfl := by
  funext j
  refine congrArg x (funext fun a => Fin.ext ?_)
  show _ = (off a + (j a).val) % s.size a
  rw [Nat.mod_eq_of_lt (lt_of_lt_of_le (Nat.add_lt_add_left (j a).isLt _) (inb a))]
  exact Rect.idx_unit_val ..

/-- Tile `t` of a head's keys: 64 tiles of the latent positions, then the context's. -/
def keyTile (x1 : Vec F S16384x256 .bf16) (x3 : Vec F S256x256 .bf16) (o t : ℕ) : Vec F S256x128 .bf16 :=
  if t < 64 then box x1 (by decide) ![256 * t, o] S256x128 rfl else box x3 (by decide) ![0, o] S256x128 rfl

/-- Tile `t` of a head's values. -/
def valTile (x2 : Vec F S160x16384 .bf16) (x4 : Vec F S160x256 .bf16) (o t : ℕ) : Vec F S80x256 .bf16 :=
  if t < 64 then box x2 (by decide) ![o, 256 * t] S80x256 rfl else box x4 (by decide) ![o, 0] S80x256 rfl

/-- A head's queries. -/
def qTile (x0 : Vec F S256x512 .bf16) (o : ℕ) : Vec F S128x512 .bf16 := box x0 (by decide) ![o, 0] S128x512 rfl

/-- A load of latent keys is a key tile. -/
theorem ld_key (x1 : Vec F S16384x256 .bf16) (x3 : Vec F S256x256 .bf16) (n o : ℕ) (inb) (h : n % 256 = 0) :
    View.ld x1 (Rect.unit (s := S16384x256) ![n, o] S256x128.size inb) = keyTile x1 x3 o (n / 256) := by
  have h0 := inb 0
  have hn : n / 256 < 64 := by
    change n + 256 ≤ 16384 at h0
    omega
  rw [ld_box x1 (by decide), keyTile, if_pos hn, Nat.mul_div_cancel' (Nat.dvd_of_mod_eq_zero h)]

/-- The load of the context's keys is the last key tile. -/
theorem ld_key_ctx (x1 : Vec F S16384x256 .bf16) (x3 : Vec F S256x256 .bf16) (o : ℕ) (inb) :
    View.ld x3 (Rect.unit (s := S256x256) ![0, o] S256x128.size inb) = keyTile x1 x3 o 64 := by
  rw [ld_box x3 (by decide), keyTile, if_neg (by decide)]

/-- A load of latent values is a value tile. -/
theorem ld_val (x2 : Vec F S160x16384 .bf16) (x4 : Vec F S160x256 .bf16) (n o : ℕ) (inb) (h : n % 256 = 0) :
    View.ld x2 (Rect.unit (s := S160x16384) ![o, n] S80x256.size inb) = valTile x2 x4 o (n / 256) := by
  have h0 := inb 1
  have hn : n / 256 < 64 := by
    change n + 256 ≤ 16384 at h0
    omega
  rw [ld_box x2 (by decide), valTile, if_pos hn, Nat.mul_div_cancel' (Nat.dvd_of_mod_eq_zero h)]

/-- The load of the context's values is the last value tile. -/
theorem ld_val_ctx (x2 : Vec F S160x16384 .bf16) (x4 : Vec F S160x256 .bf16) (o : ℕ) (inb) :
    View.ld x4 (Rect.unit (s := S160x256) ![o, 0] S80x256.size inb) = valTile x2 x4 o 64 := by
  rw [ld_box x4 (by decide), valTile, if_neg (by decide)]

/-- The load of a head's queries. -/
theorem ld_q (x0 : Vec F S256x512 .bf16) (o : ℕ) (inb) :
    View.ld x0 (Rect.unit (s := S256x512) ![o, 0] S128x512.size inb) = qTile x0 o := by
  rw [ld_box x0 (by decide)]
  rfl

section Fold
variable (x1 : Vec F S16384x256 .bf16) (x3 : Vec F S256x256 .bf16) (x2 : Vec F S160x16384 .bf16) (x4 : Vec F S160x256 .bf16)
  (o o' t : ℕ) (q : Vec F S128x512 .bf16)

/-- The first tile's maximum, from minus infinity. -/
theorem max_start : maximumf (broadcast S1x512 (FloatOps.ofBits .f32 0xFF800000#32)) (tileMax (score (keyTile x1 x3 o 0) q)) = runMax (keyTile x1 x3 o) q 1 := rfl

/-- A tile's maximum enters the running one. -/
theorem max_step : maximumf (runMax (keyTile x1 x3 o) q t) (tileMax (score (keyTile x1 x3 o t) q)) = runMax (keyTile x1 x3 o) q (t + 1) := rfl

/-- The weights of a tile, relative to the running maximum. -/
theorem weight_fold : truncf .bf16 (exp2 (subf (score (keyTile x1 x3 o t) q)
    (broadcastTo S256x512 (runMax (keyTile x1 x3 o) q (t + 1)) broadcasts_S1x512_S256x512))) bitsLt_bf16_f32 = weight (keyTile x1 x3 o) q t := rfl

/-- The first shift of the running maximum. -/
theorem shift_start : subf (broadcast S1x512 (FloatOps.ofBits .f32 0xFF800000#32)) (runMax (keyTile x1 x3 o) q 1)
    = subf (runMax (keyTile x1 x3 o) q 0) (runMax (keyTile x1 x3 o) q 1) := rfl

/-- The first tile enters the accumulator, which held zeros. -/
theorem acc_start : addf (mulf (broadcastTo S80x512 (exp2 (subf (runMax (keyTile x1 x3 o) q 0) (runMax (keyTile x1 x3 o) q 1))) broadcasts_S1x512_S80x512)
      (broadcast S80x512 (FloatOps.ofBits .f32 0x00000000#32)))
    (matmul dot_S80x256_S256x512_S80x512_1_0_0_1_n_n none (valTile x2 x4 o' 0) (weight (keyTile x1 x3 o) q 0) (constant S80x512 .f32 0x00000000#32))
    = runAcc (keyTile x1 x3 o) (valTile x2 x4 o') q 1 := rfl

/-- A tile enters the rescaled accumulator. -/
theorem acc_step : addf (mulf (broadcastTo S80x512 (exp2 (subf (runMax (keyTile x1 x3 o) q t) (runMax (keyTile x1 x3 o) q (t + 1)))) broadcasts_S1x512_S80x512)
      (runAcc (keyTile x1 x3 o) (valTile x2 x4 o') q t))
    (matmul dot_S80x256_S256x512_S80x512_1_0_0_1_n_n none (valTile x2 x4 o' t) (weight (keyTile x1 x3 o) q t) (constant S80x512 .f32 0x00000000#32))
    = runAcc (keyTile x1 x3 o) (valTile x2 x4 o') q (t + 1) := rfl

end Fold

/-- The first head's output as the body computes it. -/
theorem first_head (b : Vec F S1x80x512 .f32) : k0_pay521 b = headOut (shapeCast S80x512 b shapeCasts_S1x80x512_S80x512) := rfl

/-- The block's output as the body computes it. -/
theorem both_heads (a : FVec F S64x512 .f32) (b : Vec F S1x80x512 .f32) :
    k0_pay1021 a b = blockOut a (headOut (shapeCast S80x512 b shapeCasts_S1x80x512_S80x512)) := rfl

set_option maxHeartbeats 4000000 in
/-- The block that the body leaves: the pipelined run of all tiles is, for each head, the accumulator after 65 tiles, divided by its row of weights' sums. -/
theorem opened (c : Dev nD) (i : grid0.Coords) (arg3 : Memref sig .tc .vmem S256x512 .bf16) (harg3 : arg3.IsWhole) (arg4 : Memref sig .tc .vmem S16384x256 .bf16) (harg4 : arg4.IsWhole) (arg5 : Memref sig .tc .vmem S160x16384 .bf16) (harg5 : arg5.IsWhole) (arg6 : Memref sig .tc .vmem S256x256 .bf16) (harg6 : arg6.IsWhole) (arg7 : Memref sig .tc .vmem S160x256 .bf16) (harg7 : arg7.IsWhole) (arg8 : Memref sig .tc .vmem S512x128 .bf16) (harg8 : arg8.IsWhole) (arg9 : Memref sig .tc .vmem S2x3x256x512 .f32) (harg9 : arg9.IsWhole) (arg10 : Memref sig .tc .vmem S2x3x256x512 .bf16) (harg10 : arg10.IsWhole) (arg11 : Memref sig .tc .vmem S2x80x512 .f32) (harg11 : arg11.IsWhole)
    (x0 : Vec F S256x512 .bf16) (x1 : Vec F S16384x256 .bf16) (x2 : Vec F S160x16384 .bf16) (x3 : Vec F S256x256 .bf16) (x4 : Vec F S160x256 .bf16) :
    out0_A_5 c i arg3 harg3 arg4 harg4 arg5 harg5 arg6 harg6 arg7 harg7 arg8 harg8 arg9 harg9 arg10 harg10 arg11 harg11 x0 x1 x2 x3 x4 =
      blockOut (headOut (runAcc (keyTile x1 x3 0) (valTile x2 x4 0) (qTile x0 0) 65))
        (headOut (runAcc (keyTile x1 x3 128) (valTile x2 x4 80) (qTile x0 128) 65)) := by
  frame_open
  simp (disch := decide) only [↓ View.readCov_skip, ↓ View.readCov_cons_toLoadRect, View.read_writes_junk_eq_canon]
  simp only [View.readAt_eq_ld, Memref.IsWhole.read_unread]
  simp (disch := decide) only [ld_key x1 x3, ld_key_ctx x1 x3, ld_val x2 x4, ld_val_ctx x2 x4, ld_q x0, Nat.reduceDiv, View.canon_cons_unit_lit']
  simp only [first_head, both_heads]
  unfold_payloads
  simp only [shapeCast_self, shapeCast_shapeCast, score_fold, tileMax_fold (F := F), max_start x1 x3, max_step x1 x3, weight_fold x1 x3,
    shift_start x1 x3, acc_start x1 x3 x2 x4, acc_step x1 x3 x2 x4, Nat.reduceAdd]

end Cert.KernelIdeal.Attn
end
-- ==== Proof.Softmax.lean ====
module

public import Idealize.ShloMosaic.PureOps.Ideal

@[expose] public section

noncomputable section

/-! The softmax of real scores over the extended reals: taken tile by tile against a running maximum, and whole. -/

namespace Cert.Softmax

open Idealize.ShloMosaic

/-- A real that is not negative distributes over a finite sum of extended reals. -/
theorem mul_sum_of_nonneg {ι : Type*} (s : Finset ι) (f : ι → EReal) {a : ℝ} (ha : 0 ≤ a) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- A finite sum of reals, taken in the extended reals. -/
theorem sum_coe {ι : Type*} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- The greatest of finitely many reals is a real. -/
theorem fold_max_coe {ι : Type*} (s : Finset ι) (hs : s.Nonempty) (f : ι → ℝ) :
    ∃ m : ℝ, s.fold max ⊥ (fun i => (f i : EReal)) = m := by
  classical
  induction hs using Finset.Nonempty.cons_induction with
  | singleton a => exact ⟨f a, by simp⟩
  | cons a s ha hs ih =>
    obtain ⟨m, hm⟩ := ih
    exact ⟨max (f a) m, by rw [Finset.fold_cons, hm]; exact (EReal.coe_strictMono.monotone.map_max).symm⟩

/-- The weight of a score `s` against the maximum `m`, to base two. -/
def wt (s m : ℝ) : ℝ := Real.rpow 2 (s - m)

/-- The weight is what the exponential to base two gives. -/
theorem exp2_sub (s m : ℝ) : Ideal.exp2 ((s : EReal) - (m : EReal)) = (wt s m : EReal) := by
  rw [← EReal.coe_sub]; rfl

/-- A weight is positive. -/
theorem wt_pos (s m : ℝ) : 0 < wt s m := Real.rpow_pos_of_pos (by norm_num) _

/-- A weight against one maximum, rescaled to another. -/
theorem wt_mul (s m m' : ℝ) : wt m m' * wt s m = wt s m' := by
  show (2 : ℝ) ^ (m - m') * (2 : ℝ) ^ (s - m) = (2 : ℝ) ^ (s - m')
  rw [← Real.rpow_add (by norm_num)]
  congr 1
  ring

/-- The running maximum of tiles of real scores is real from the first tile on. -/
theorem running_real {n : ℕ} [NeZero n] (s : ℕ → Fin n → ℝ) (M : ℕ → EReal) (M0 : M 0 = ⊥)
    (MS : ∀ t, M (t + 1) = max (M t) (Finset.univ.fold max ⊥ fun j => (s t j : EReal))) (t : ℕ) :
    ∃ m : ℝ, M (t + 1) = m := by
  induction t with
  | zero =>
    obtain ⟨m, hm⟩ := fold_max_coe Finset.univ Finset.univ_nonempty (s 0)
    exact ⟨m, by rw [MS, M0, hm]; simp⟩
  | succ t ih =>
    obtain ⟨m, hm⟩ := ih
    obtain ⟨m', hm'⟩ := fold_max_coe Finset.univ Finset.univ_nonempty (s (t + 1))
    exact ⟨max m m', by rw [MS, hm, hm']; exact (EReal.coe_strictMono.monotone.map_max).symm⟩

/-- What the running sum holds after each tile: every tile's values, each times its weight against the maximum so far. -/
theorem running_sum {n : ℕ} [NeZero n] (s : ℕ → Fin n → ℝ) (v : ℕ → Fin n → EReal) (M A : ℕ → EReal) (M0 : M 0 = ⊥)
    (MS : ∀ t, M (t + 1) = max (M t) (Finset.univ.fold max ⊥ fun j => (s t j : EReal))) (A0 : A 0 = 0)
    (AS : ∀ t, A (t + 1) = Ideal.exp2 (M t - M (t + 1)) * A t + ∑ j, v t j * Ideal.exp2 ((s t j : EReal) - M (t + 1)))
    (t : ℕ) (m : ℝ) (hm : M (t + 1) = m) :
    A (t + 1) = ∑ u ∈ Finset.range (t + 1), ∑ j, v u j * (wt (s u j) m : EReal) := by
  induction t generalizing m with
  | zero =>
    rw [AS, A0, mul_zero, zero_add, hm]
    simp only [exp2_sub, zero_add, Finset.range_one, Finset.sum_singleton]
  | succ t ih =>
    obtain ⟨m', hm'⟩ := running_real s M M0 MS t
    rw [AS, ih m' hm', hm, hm', exp2_sub, Finset.sum_range_succ _ (t + 1), mul_sum_of_nonneg _ _ (wt_pos m' m).le]
    simp only [exp2_sub, mul_sum_of_nonneg _ _ (wt_pos m' m).le]
    congr 1
    refine Finset.sum_congr rfl fun u _ => Finset.sum_congr rfl fun j _ => ?_
    rw [mul_left_comm, ← EReal.coe_mul, wt_mul]

/-- The softmax does not depend on the base its scores are scaled to, nor on what is taken off them: the sum of weighted
    values times the reciprocal of the sum of weights is the sum of the values, each times its share. -/
theorem normalised {ι : Type*} [Fintype ι] [Nonempty ι] (z : ι → ℝ) (v : ι → EReal) (m c : ℝ) :
    (∑ i, v i * (wt (z i * (Real.log 2)⁻¹) m : EReal)) * Ideal.div 1 (∑ i, (1 : EReal) * (wt (z i * (Real.log 2)⁻¹) m : EReal))
      = ∑ i, Ideal.div (Ideal.exp ((z i : EReal) - (c : EReal))) (∑ k, Ideal.exp ((z k : EReal) - (c : EReal))) * v i := by
  have hw : ∀ x, wt (x * (Real.log 2)⁻¹) m = Real.exp (x - c) * Real.exp (c - m * Real.log 2) := fun x => by
    have h2 : Real.log 2 ≠ 0 := (Real.log_pos (by norm_num)).ne'
    show (2 : ℝ) ^ (x * (Real.log 2)⁻¹ - m) = _
    rw [Real.rpow_def_of_pos (by norm_num), ← Real.exp_add]
    congr 1
    field_simp
    ring
  have he : ∀ x : ℝ, Ideal.exp ((x : EReal) - (c : EReal)) = (Real.exp (x - c) : EReal) := fun x => by
    rw [← EReal.coe_sub]; rfl
  have hW : (0 : ℝ) < ∑ i, wt (z i * (Real.log 2)⁻¹) m := Finset.sum_pos (fun i _ => wt_pos _ _) Finset.univ_nonempty
  have hE : (0 : ℝ) < ∑ i, Real.exp (z i - c) := Finset.sum_pos (fun i _ => Real.exp_pos _) Finset.univ_nonempty
  simp only [one_mul, he, sum_coe, Ideal.div_coe hW.ne', Ideal.div_coe hE.ne']
  rw [mul_comm, mul_sum_of_nonneg _ _ (by positivity)]
  refine Finset.sum_congr rfl fun i _ => ?_
  rw [mul_left_comm, ← EReal.coe_mul, mul_comm, ← EReal.coe_mul]
  congr 2
  simp only [hw, ← Finset.sum_mul]
  field_simp

end Cert.Softmax

end
-- ==== Proof.Tile.lean ====
module

public import proofs.«01_k».proof.Proof.Body
public import proofs.«01_k».proof.Proof.Softmax
public import Idealize.ShloMosaic.Lib.Pointwise

@[expose] public section

set_option maxRecDepth 16384

noncomputable section

/-! What a grid point's tiles hold over the extended reals, entry by entry. -/

namespace Cert.KernelIdeal.Attn

open Cert.KernelIdeal Cert.KernelIdeal.Gen Idealize.ShloMosaic Idealize.ShloMosaic.TcCoe Cert.Softmax

/-- The pattern of minus infinity. -/
theorem ofBits_bot : Ideal.ofBits .f32 0xFF800000#32 = ⊥ := by simp [Ideal.ofBits, Ideal.ieee]

/-- The exponential to base two, as the extended reals' function. -/
theorem exp2_def (x : Ideal .f32) : FloatOps.exp2 x = Ideal.exp2 x := rfl

/-- A score is the sum of the products of a key's entries with a query's. -/
theorem score_at (k : Vec Ideal S256x128 .bf16) (q : Vec Ideal S128x512 .bf16) (a : Fin 256) (b : Fin 512) :
    score k q (ix2 a b) = ∑ d : Fin 128, k (ix2 a d) * q (ix2 d b) := by
  pointwise [score]

/-- A tile's greatest score for one query. -/
theorem tileMax_at (s : FVec Ideal S256x512 .f32) (b : Fin 512) :
    tileMax s (ix2 0 b) = Finset.univ.fold max ⊥ fun a : Fin 256 => s (ix2 a b) := by
  pointwise [tileMax, ofBits_bot]

/-- The running maximum starts at minus infinity. -/
theorem runMax_zero_at (K : ℕ → Vec Ideal S256x128 .bf16) (q : Vec Ideal S128x512 .bf16) (b : Fin 512) :
    runMax K q 0 (ix2 0 b) = (⊥ : EReal) := by
  pointwise [runMax, ofBits_bot]

/-- The running maximum takes in one more tile. -/
theorem runMax_succ_at (K : ℕ → Vec Ideal S256x128 .bf16) (q : Vec Ideal S128x512 .bf16) (t : ℕ) (b : Fin 512) :
    runMax K q (t + 1) (ix2 0 b) = max (runMax K q t (ix2 0 b) : EReal) (Finset.univ.fold max ⊥ fun a : Fin 256 => score (K t) q (ix2 a b)) := by
  rw [← tileMax_at]
  rfl

/-- The running sum starts at zero. -/
theorem runAcc_zero_at (K : ℕ → Vec Ideal S256x128 .bf16) (V : ℕ → Vec Ideal S80x256 .bf16) (q : Vec Ideal S128x512 .bf16) (r : Fin 80) (b : Fin 512) :
    runAcc K V q 0 (ix2 r b) = (0 : EReal) := by
  pointwise [runAcc]

/-- The running sum is rescaled and takes in one more tile. -/
theorem runAcc_succ_at (K : ℕ → Vec Ideal S256x128 .bf16) (V : ℕ → Vec Ideal S80x256 .bf16) (q : Vec Ideal S128x512 .bf16) (t : ℕ) (r : Fin 80) (b : Fin 512) :
    runAcc K V q (t + 1) (ix2 r b) = Ideal.exp2 ((runMax K q t (ix2 0 b) : EReal) - runMax K q (t + 1) (ix2 0 b)) * runAcc K V q t (ix2 r b)
      + ∑ j : Fin 256, V t (ix2 r j) * Ideal.exp2 ((score (K t) q (ix2 j b) : EReal) - runMax K q (t + 1) (ix2 0 b)) := by
  rw [runAcc]
  pointwise [weight, exp2_def]

/-- A head's output: each value row over the row of ones. -/
theorem headOut_at (a : FVec Ideal S80x512 .f32) (d : Fin 64) (b : Fin 512) :
    headOut a (ix2 d b) = (a (ix2 ⟨d.val, by omega⟩ b) : EReal) * Ideal.div 1 (a (ix2 64 b)) := by
  pointwise [headOut]

/-- The block's output: the first 64 columns are the first head's rows, the rest the second's. -/
theorem blockOut_at (a b : FVec Ideal S64x512 .f32) (l : Fin 512) (j : Fin 128) :
    blockOut a b (ix2 l j) = if h : j.val < 64 then (a (ix2 ⟨j.val, h⟩ l) : EReal) else b (ix2 ⟨j.val - 64, by omega⟩ l) := by
  pointwise [blockOut]

/-- A head's output is the softmax of its scores applied to its values, whatever real is taken off the scores. -/
theorem head_softmax (K : ℕ → Vec Ideal S256x128 .bf16) (V : ℕ → Vec Ideal S80x256 .bf16) (q : Vec Ideal S128x512 .bf16) (b : Fin 512)
    (z : ℕ → Fin 256 → ℝ) (hz : ∀ t j, score (K t) q (ix2 j b) = ((z t j * (Real.log 2)⁻¹ : ℝ) : EReal))
    (ones : ∀ t j, V t (ix2 64 j) = (1 : EReal)) (d : Fin 64) (c : ℝ) :
    headOut (runAcc K V q 65) (ix2 d b) = ∑ p : Fin 65 × Fin 256,
      Ideal.div (Ideal.exp ((z p.1 p.2 : EReal) - (c : EReal))) (∑ p' : Fin 65 × Fin 256, Ideal.exp ((z p'.1 p'.2 : EReal) - (c : EReal)))
        * V p.1 (ix2 ⟨d.val, by omega⟩ p.2) := by
  have M0 := runMax_zero_at K q b
  have MS : ∀ t, (runMax K q (t + 1) (ix2 0 b) : EReal) = max (runMax K q t (ix2 0 b) : EReal)
      (Finset.univ.fold max ⊥ fun j : Fin 256 => ((z t j * (Real.log 2)⁻¹ : ℝ) : EReal)) := fun t => by
    rw [runMax_succ_at]
    simp only [hz]
  obtain ⟨m, hm⟩ := running_real _ (fun t => (runMax K q t (ix2 0 b) : EReal)) M0 MS 64
  have AS := fun r => running_sum _ (fun t j => (V t (ix2 r j) : EReal)) (fun t => (runMax K q t (ix2 0 b) : EReal))
    (fun t => (runAcc K V q t (ix2 r b) : EReal)) M0 MS (runAcc_zero_at K V q r b)
    (fun t => by rw [runAcc_succ_at]; simp only [hz]) 64 m hm
  rw [headOut_at, AS, AS]
  simp only [ones, Finset.sum_range, ← Fintype.sum_prod_type' (f := fun (u : Fin 65) (j : Fin 256) => _)]
  exact normalised (fun p : Fin 65 × Fin 256 => z p.1 p.2) _ m c

end Cert.KernelIdeal.Attn

end
-- ==== Proof.Block.lean ====
module

public import proofs.«01_k».proof.Proof.PackV
public import proofs.«01_k».proof.Proof.PackAt
public import proofs.«01_k».proof.Proof.Tile
public import proofs.«01_k».proof.Proof.Gen.KernelIdeal.Value

@[expose] public section

set_option maxRecDepth 16384

noncomputable section

/-! What the call's grid point reads: a query, key or value of the arguments. -/

namespace Cert.KernelIdeal.Attn

open Cert.KernelIdeal Cert.KernelIdeal.Gen Idealize.ShloMosaic Idealize.ShloMosaic.TcCoe

/-- The block of each window at a grid point. -/
theorem places (t : Fin cfg0.N) :
    (cfg0.win 0).index t = ![(grid0.coords t 1).val, 32 * (grid0.coords t 0).val + (grid0.coords t 2).val]
    ∧ (cfg0.win 1).index t = ![(grid0.coords t 0).val, (grid0.coords t 1).val]
    ∧ (cfg0.win 2).index t = ![(grid0.coords t 1).val, (grid0.coords t 0).val]
    ∧ (cfg0.win 3).index t = ![(grid0.coords t 0).val, (grid0.coords t 1).val]
    ∧ (cfg0.win 4).index t = ![(grid0.coords t 1).val, (grid0.coords t 0).val]
    ∧ (cfg0.win 5).index t = ![32 * (grid0.coords t 0).val + (grid0.coords t 2).val, (grid0.coords t 1).val]
    ∧ (grid0.coords t 0).val < 2 ∧ (grid0.coords t 1).val < 4 ∧ (grid0.coords t 2).val < 32 := by
  revert t
  decide +kernel

variable (m : (ℓ : Loc nD τ sig) → Buf (Elt Ideal) ℓ) (c : Dev nD) (t : Fin cfg0.N)

/-- A block of the queries. -/
theorem blk_q (r : Fin 256) (l : Fin 512) (R : Fin 1024) (L : Fin 32768) (hR : R.val = 256 * (grid0.coords t 1).val + r.val)
    (hL : L.val = 512 * (32 * (grid0.coords t 0).val + (grid0.coords t 2).val) + l.val) :
    iblk m c 0 t (ix2 r l) = V m c main_v10 (ix2 R L) := by
  obtain ⟨h0, h1, h2, h3, h4, h5, hb, hp, hi⟩ := places t
  blk_ext [iblk, h0]

/-- A block of the latent keys. -/
theorem blk_k (r : Fin 16384) (l : Fin 256) (R : Fin 32768) (L : Fin 1024) (hR : R.val = 16384 * (grid0.coords t 0).val + r.val) (hL : L.val = 256 * (grid0.coords t 1).val + l.val) :
    iblk m c 1 t (ix2 r l) = V m c main_v16 (ix2 R L) := by
  obtain ⟨h0, h1, h2, h3, h4, h5, hb, hp, hi⟩ := places t
  blk_ext [iblk, h1]

/-- A block of the latent values. -/
theorem blk_v (r : Fin 160) (l : Fin 16384) (R : Fin 640) (L : Fin 32768) (hR : R.val = 160 * (grid0.coords t 1).val + r.val) (hL : L.val = 16384 * (grid0.coords t 0).val + l.val) :
    iblk m c 2 t (ix2 r l) = V m c main_v21 (ix2 R L) := by
  obtain ⟨h0, h1, h2, h3, h4, h5, hb, hp, hi⟩ := places t
  blk_ext [iblk, h2]

/-- A block of the context keys. -/
theorem blk_kc (r : Fin 256) (l : Fin 256) (R : Fin 512) (L : Fin 1024) (hR : R.val = 256 * (grid0.coords t 0).val + r.val) (hL : L.val = 256 * (grid0.coords t 1).val + l.val) :
    iblk m c 3 t (ix2 r l) = V m c main_v27 (ix2 R L) := by
  obtain ⟨h0, h1, h2, h3, h4, h5, hb, hp, hi⟩ := places t
  blk_ext [iblk, h3]

/-- A block of the context values. -/
theorem blk_vc (r : Fin 160) (l : Fin 256) (R : Fin 640) (L : Fin 512) (hR : R.val = 160 * (grid0.coords t 1).val + r.val) (hL : L.val = 256 * (grid0.coords t 0).val + l.val) :
    iblk m c 4 t (ix2 r l) = V m c main_v32 (ix2 R L) := by
  obtain ⟨h0, h1, h2, h3, h4, h5, hb, hp, hi⟩ := places t
  blk_ext [iblk, h4]

end Cert.KernelIdeal.Attn
-- ==== Proof.Point.lean ====
module

public import proofs.«01_k».proof.Proof.Block

@[expose] public section

set_option maxRecDepth 16384

noncomputable section

/-! What one grid point computes, from the arguments. -/

namespace Cert.KernelIdeal.Attn

open Cert.KernelIdeal Cert.KernelIdeal.Gen Idealize.ShloMosaic Idealize.ShloMosaic.TcCoe

/-- The score of a query and a key: their two products' sum, over the square root of 96. -/
def keyScore (k q : Fin 64 → ℝ) (k' q' : Fin 32 → ℝ) : ℝ := ((∑ d, q d * k d) + ∑ d, k' d * q' d) * (1 / Real.sqrt 96)

/-- All of a query's scores: the latent keys, then the context's. -/
def scores (qn : S2x16384x8x64.Idx → ℝ) (qr : S2x16384x8x32.Idx → ℝ) (kn : S2x16384x8x64.Idx → ℝ) (kr : S2x16384x32.Idx → ℝ)
    (cn : S2x256x8x64.Idx → ℝ) (cr : S2x256x32.Idx → ℝ) (b : Fin 2) (n : Fin 8) (l : Fin 16384) (k : Fin 16640) : ℝ :=
  if h : k.val < 16384 then
    keyScore (fun d => kn (ix4 b ⟨k.val, h⟩ n d)) (fun d => qn (ix4 b l n d)) (fun d => kr (ix3 b ⟨k.val, h⟩ d)) (fun d => qr (ix4 b l n d))
  else
    keyScore (fun d => cn (ix4 b ⟨k.val - 16384, by omega⟩ n d)) (fun d => qn (ix4 b l n d)) (fun d => cr (ix3 b ⟨k.val - 16384, by omega⟩ d)) (fun d => qr (ix4 b l n d))

/-- All of a head's values: the latent ones, then the context's. -/
def values (vl : FVec Ideal S2x16384x8x64 .f32) (vc : FVec Ideal S2x256x8x64 .f32) (b : Fin 2) (n : Fin 8) (d : Fin 64) (k : Fin 16640) : EReal :=
  if h : k.val < 16384 then vl (ix4 b ⟨k.val, h⟩ n d) else vc (ix4 b ⟨k.val - 16384, by omega⟩ n d)

variable (m : (ℓ : Loc nD τ sig) → Buf (Elt Ideal) ℓ) (c : Dev nD) (t : Fin cfg0.N)

/-- A packed key times a packed query is their score over the logarithm of two. -/
theorem slots_score (k q : Fin 64 → ℝ) (k' q' : Fin 32 → ℝ) :
    ∑ e : Fin 128, (slot k k' e : EReal) * ((slot q q' e * (1 / (Real.sqrt 96 * Real.log 2)) : ℝ) : EReal)
      = ((keyScore k q k' q' * (Real.log 2)⁻¹ : ℝ) : EReal) := by
  simp only [← EReal.coe_mul, Cert.Softmax.sum_coe]
  congr 1
  have h := slot_dot k q k' q'
  have e : ∀ e : Fin 128, slot k k' e * (slot q q' e * (1 / (Real.sqrt 96 * Real.log 2)))
      = (slot k k' e * slot q q' e) * (1 / (Real.sqrt 96 * Real.log 2)) := fun _ => (mul_assoc _ _ _).symm
  simp only [e]
  rw [← Finset.sum_mul, h, keyScore]
  have hs : Real.sqrt 96 ≠ 0 := (Real.sqrt_pos.mpr (by norm_num)).ne'
  have hl : Real.log 2 ≠ 0 := (Real.log_pos (by norm_num)).ne'
  rw [Finset.sum_congr rfl fun d _ => mul_comm (k d) (q d)]
  field_simp

/-- Products by one factor are equal where the other factors are. -/
theorem mul_eq {a b c : EReal} (h : b = c) : a * b = a * c := by rw [h]

/-- A box of a matrix, at an index. -/
theorem box_ix2 {M N P Q : ℕ} (x : (⟨2, ![M, N]⟩ : Shape).Idx → EReal) (hp) (o₀ o₁ : ℕ) (a : Fin P) (e : Fin Q) (A : Fin M) (E : Fin N)
    (h₀ : o₀ + a.val = A.val) (h₁ : o₁ + e.val = E.val) :
    box x hp ![o₀, o₁] ⟨2, ![P, Q]⟩ rfl (ix2 a e) = x (ix2 A E) := by
  refine congrArg x (funext fun i => ?_)
  match i with
  | 0 => exact Fin.ext ((congrArg (· % M) h₀).trans (Nat.mod_eq_of_lt A.isLt))
  | 1 => exact Fin.ext ((congrArg (· % N) h₁).trans (Nat.mod_eq_of_lt E.isLt))

section Args
variable (qn : S2x16384x8x64.Idx → ℝ) (qr : S2x16384x8x32.Idx → ℝ) (kn : S2x16384x8x64.Idx → ℝ) (kr : S2x16384x32.Idx → ℝ)
    (cn : S2x256x8x64.Idx → ℝ) (cr : S2x256x32.Idx → ℝ)
  (hqn : ∀ i, (m ((c.tc : Thread nD τ).loc main_arg0) i : EReal) = ((qn i : ℝ) : EReal)) (hqr : ∀ i, (m ((c.tc : Thread nD τ).loc main_arg1) i : EReal) = ((qr i : ℝ) : EReal))
  (hkn : ∀ i, (m ((c.tc : Thread nD τ).loc main_arg2) i : EReal) = ((kn i : ℝ) : EReal)) (hkr : ∀ i, (m ((c.tc : Thread nD τ).loc main_arg3) i : EReal) = ((kr i : ℝ) : EReal))
  (hcn : ∀ i, (m ((c.tc : Thread nD τ).loc main_arg5) i : EReal) = ((cn i : ℝ) : EReal)) (hcr : ∀ i, (m ((c.tc : Thread nD τ).loc main_arg6) i : EReal) = ((cr i : ℝ) : EReal))
  (h : Fin 2) (b : Fin 2) (n : Fin 8) (hb : b.val = (grid0.coords t 0).val) (hn : n.val = 2 * (grid0.coords t 1).val + h.val)

include hqn hqr hb hn in
/-- A query of the head's tile. -/
theorem q_at (e : Fin 128) (l : Fin 512) (L : Fin 16384) (hL : L.val = 512 * (grid0.coords t 2).val + l.val) :
    (qTile (iblk m c 0 t) (128 * h.val) (ix2 e l) : EReal)
      = ((slot (fun d => qn (ix4 b L n d)) (fun d => qr (ix4 b L n d)) e * (1 / (Real.sqrt 96 * Real.log 2)) : ℝ) : EReal) := by
  have hh := h.isLt
  have he := e.isLt
  have E : (qTile (iblk m c 0 t) (128 * h.val) (ix2 e l) : EReal) = iblk m c 0 t (ix2 ⟨128 * h.val + e.val, by omega⟩ l) := by
    rw [qTile]
    exact box_ix2 _ _ _ _ _ _ _ _ (by first | rfl | omega | (dsimp only; omega)) (by first | rfl | omega | (dsimp only; omega))
  rw [E, blk_q m c t _ l ⟨128 * n.val + e.val, by omega⟩ ⟨16384 * b.val + L.val, by omega⟩ (by dsimp only; omega) (by dsimp only; omega),
    V_q, packQ_at _ _ qn qr hqn hqr]
  congr 3
  all_goals first | (funext d; blk_ext []) | (apply Fin.ext; dsimp only; omega)

include hkn hkr hb hn in
/-- A latent key of the head. -/
theorem key_at (s : ℕ) (hs : s < 64) (j : Fin 256) (e : Fin 128) (K : Fin 16384) (hK : K.val = 256 * s + j.val) :
    (keyTile (iblk m c 1 t) (iblk m c 3 t) (128 * h.val) s (ix2 j e) : EReal)
      = ((slot (fun d => kn (ix4 b K n d)) (fun d => kr (ix3 b K d)) e : ℝ) : EReal) := by
  have hh := h.isLt
  have he := e.isLt
  have E : (keyTile (iblk m c 1 t) (iblk m c 3 t) (128 * h.val) s (ix2 j e) : EReal) = iblk m c 1 t (ix2 K ⟨128 * h.val + e.val, by omega⟩) := by
    rw [keyTile, if_pos hs]
    exact box_ix2 _ _ _ _ _ _ _ _ (by first | rfl | omega | (dsimp only; omega)) (by first | rfl | omega | (dsimp only; omega))
  rw [E, blk_k m c t _ _ ⟨16384 * b.val + K.val, by omega⟩ ⟨128 * n.val + e.val, by omega⟩ (by dsimp only; omega) (by dsimp only; omega),
    V_k, packK_at _ _ kn kr hkn hkr]
  congr 2
  all_goals first | (funext d; blk_ext []) | (apply Fin.ext; dsimp only; omega)

include hcn hcr hb hn in
/-- A context key of the head. -/
theorem ctx_key_at (s : ℕ) (hs : ¬ s < 64) (j : Fin 256) (e : Fin 128) :
    (keyTile (iblk m c 1 t) (iblk m c 3 t) (128 * h.val) s (ix2 j e) : EReal)
      = ((slot (fun d => cn (ix4 b j n d)) (fun d => cr (ix3 b j d)) e : ℝ) : EReal) := by
  have hh := h.isLt
  have he := e.isLt
  have E : (keyTile (iblk m c 1 t) (iblk m c 3 t) (128 * h.val) s (ix2 j e) : EReal) = iblk m c 3 t (ix2 j ⟨128 * h.val + e.val, by omega⟩) := by
    rw [keyTile, if_neg hs]
    exact box_ix2 _ _ _ _ _ _ _ _ (by first | rfl | omega | (dsimp only; omega)) (by first | rfl | omega | (dsimp only; omega))
  rw [E, blk_kc m c t _ _ ⟨256 * b.val + j.val, by omega⟩ ⟨128 * n.val + e.val, by omega⟩ (by dsimp only; omega) (by dsimp only; omega),
    V_kc, packKc_at _ _ cn cr hcn hcr]
  congr 2
  all_goals first | (funext d; blk_ext []) | (apply Fin.ext; dsimp only; omega)

include hb hn in
/-- A latent value of the head. -/
theorem val_at (s : ℕ) (hs : s < 64) (d : Fin 64) (j : Fin 256) (K : Fin 16384) (hK : K.val = 256 * s + j.val) :
    (valTile (iblk m c 2 t) (iblk m c 4 t) (80 * h.val) s (ix2 ⟨d.val, by omega⟩ j) : EReal) = m ((c.tc : Thread nD τ).loc main_arg4) (ix4 b K n d) := by
  have hh := h.isLt
  have hd := d.isLt
  have E : (valTile (iblk m c 2 t) (iblk m c 4 t) (80 * h.val) s (ix2 ⟨d.val, by omega⟩ j) : EReal) = iblk m c 2 t (ix2 ⟨80 * h.val + d.val, by omega⟩ K) := by
    rw [valTile, if_pos hs]
    exact box_ix2 _ _ _ _ _ _ _ _ (by first | rfl | omega | (dsimp only; omega)) (by first | rfl | omega | (dsimp only; omega))
  rw [E, blk_v m c t _ _ ⟨80 * n.val + d.val, by omega⟩ ⟨16384 * b.val + K.val, by omega⟩ (by dsimp only; omega) (by dsimp only; omega),
    V_v, packV_at, dif_pos (by dsimp only; omega)]
  blk_ext []

include hb hn in
/-- A context value of the head. -/
theorem ctx_val_at (s : ℕ) (hs : ¬ s < 64) (d : Fin 64) (j : Fin 256) :
    (valTile (iblk m c 2 t) (iblk m c 4 t) (80 * h.val) s (ix2 ⟨d.val, by omega⟩ j) : EReal) = m ((c.tc : Thread nD τ).loc main_arg7) (ix4 b j n d) := by
  have hh := h.isLt
  have hd := d.isLt
  have E : (valTile (iblk m c 2 t) (iblk m c 4 t) (80 * h.val) s (ix2 ⟨d.val, by omega⟩ j) : EReal) = iblk m c 4 t (ix2 ⟨80 * h.val + d.val, by omega⟩ j) := by
    rw [valTile, if_neg hs]
    exact box_ix2 _ _ _ _ _ _ _ _ (by first | rfl | omega | (dsimp only; omega)) (by first | rfl | omega | (dsimp only; omega))
  rw [E, blk_vc m c t _ _ ⟨80 * n.val + d.val, by omega⟩ ⟨256 * b.val + j.val, by omega⟩ (by dsimp only; omega) (by dsimp only; omega),
    V_vc, packVc_at, dif_pos (by dsimp only; omega)]
  blk_ext []

include hb hn in
/-- Row 64 of the head's values holds ones. -/
theorem one_at (s : ℕ) (j : Fin 256) :
    (valTile (iblk m c 2 t) (iblk m c 4 t) (80 * h.val) s (ix2 64 j) : EReal) = 1 := by
  have hh := h.isLt
  by_cases hs : s < 64
  · have E : (valTile (iblk m c 2 t) (iblk m c 4 t) (80 * h.val) s (ix2 64 j) : EReal) = iblk m c 2 t (ix2 ⟨80 * h.val + 64, by omega⟩ ⟨256 * s + j.val, by omega⟩) := by
      rw [valTile, if_pos hs]
      exact box_ix2 _ _ _ _ _ _ _ _ (by first | rfl | omega | (dsimp only; omega)) (by first | rfl | omega | (dsimp only; omega))
    rw [E, blk_v m c t _ _ ⟨80 * n.val + 64, by omega⟩ ⟨16384 * b.val + (256 * s + j.val), by omega⟩ (by dsimp only; omega) (by dsimp only; omega),
      V_v, packV_at, dif_neg (by dsimp only; omega)]
  · have E : (valTile (iblk m c 2 t) (iblk m c 4 t) (80 * h.val) s (ix2 64 j) : EReal) = iblk m c 4 t (ix2 ⟨80 * h.val + 64, by omega⟩ j) := by
      rw [valTile, if_neg hs]
      exact box_ix2 _ _ _ _ _ _ _ _ (by first | rfl | omega | (dsimp only; omega)) (by first | rfl | omega | (dsimp only; omega))
    rw [E, blk_vc m c t _ _ ⟨80 * n.val + 64, by omega⟩ ⟨256 * b.val + j.val, by omega⟩ (by dsimp only; omega) (by dsimp only; omega),
      V_vc, packVc_at, dif_neg (by dsimp only; omega)]

include hqn hqr hkn hkr hcn hcr hb hn in
/-- The head's output of a grid point: the softmax of all its scores, on all its values, whatever real is taken off the scores. -/
theorem head_at (d : Fin 64) (l : Fin 512) (L : Fin 16384) (hL : L.val = 512 * (grid0.coords t 2).val + l.val) (x : ℝ) :
    (headOut (runAcc (keyTile (iblk m c 1 t) (iblk m c 3 t) (128 * h.val)) (valTile (iblk m c 2 t) (iblk m c 4 t) (80 * h.val)) (qTile (iblk m c 0 t) (128 * h.val)) 65) (ix2 d l) : EReal)
      = ∑ k : Fin 16640, Ideal.div (Ideal.exp ((scores qn qr kn kr cn cr b n L k : EReal) - (x : EReal)))
          (∑ k' : Fin 16640, Ideal.exp ((scores qn qr kn kr cn cr b n L k' : EReal) - (x : EReal)))
        * values (m ((c.tc : Thread nD τ).loc main_arg4)) (m ((c.tc : Thread nD τ).loc main_arg7)) b n d k := by
  let f : Fin 65 × Fin 256 → Fin 16640 := fun p => ⟨p.1.val * 256 + p.2.val, by have := p.1.isLt; have := p.2.isLt; omega⟩
  have hf : Function.Bijective f := by
    constructor
    · intro p p' e
      have e' : p.1.val * 256 + p.2.val = p'.1.val * 256 + p'.2.val := congrArg Fin.val e
      have := p.2.isLt
      have := p'.2.isLt
      exact Prod.ext (Fin.ext (by omega)) (Fin.ext (by omega))
    · intro k
      have := k.isLt
      exact ⟨(⟨k.val / 256, by omega⟩, ⟨k.val % 256, by omega⟩), Fin.ext (by show k.val / 256 * 256 + k.val % 256 = k.val; omega)⟩
  let z : ℕ → Fin 256 → ℝ := fun s j => scores qn qr kn kr cn cr b n L ⟨min s 64 * 256 + j.val, by omega⟩
  have zf : ∀ p, z p.1.val p.2 = scores qn qr kn kr cn cr b n L (f p) := by
    intro p
    have := p.1.isLt
    show scores qn qr kn kr cn cr b n L _ = _
    congr 1
    apply Fin.ext
    show min p.1.val 64 * 256 + p.2.val = p.1.val * 256 + p.2.val
    omega
  have hz : ∀ s j, (score (keyTile (iblk m c 1 t) (iblk m c 3 t) (128 * h.val) s) (qTile (iblk m c 0 t) (128 * h.val)) (ix2 j l) : EReal)
      = ((z s j * (Real.log 2)⁻¹ : ℝ) : EReal) := by
    intro s j
    have hj := j.isLt
    rw [score_at]
    simp only [q_at m c t qn qr hqn hqr h b n hb hn _ l L hL]
    by_cases hs : s < 64
    · simp only [key_at m c t kn kr hkn hkr h b n hb hn s hs j _ ⟨256 * s + j.val, by omega⟩ rfl]
      rw [slots_score]
      have hk : min s 64 * 256 + j.val < 16384 := by omega
      simp only [z, scores, dif_pos hk]
      rw [show (⟨256 * s + j.val, by omega⟩ : Fin 16384) = ⟨min s 64 * 256 + j.val, hk⟩ from Fin.ext (by dsimp only; omega)]
    · simp only [ctx_key_at m c t cn cr hcn hcr h b n hb hn s hs j]
      rw [slots_score]
      have hk : ¬ min s 64 * 256 + j.val < 16384 := by omega
      simp only [z, scores, dif_neg hk]
      rw [show (⟨min s 64 * 256 + j.val - 16384, by omega⟩ : Fin 256) = j from Fin.ext (by dsimp only; omega)]
  rw [head_softmax _ _ _ l z hz (fun s j => one_at m c t h b n hb hn s j) d x]
  have den : (∑ p : Fin 65 × Fin 256, Ideal.exp ((z p.1.val p.2 : EReal) - (x : EReal))) = ∑ k' : Fin 16640, Ideal.exp ((scores qn qr kn kr cn cr b n L k' : EReal) - (x : EReal)) :=
    Fintype.sum_bijective f hf _ _ fun p => by rw [zf]
  rw [den]
  generalize (∑ k' : Fin 16640, Ideal.exp ((scores qn qr kn kr cn cr b n L k' : EReal) - (x : EReal))) = D
  refine Fintype.sum_bijective f hf _ _ fun p => ?_
  rw [zf]
  refine mul_eq ?_
  have hp := p.1.isLt
  have hj := p.2.isLt
  by_cases hs : p.1.val < 64
  · rw [val_at m c t h b n hb hn p.1.val hs d p.2 ⟨256 * p.1.val + p.2.val, by omega⟩ rfl]
    have hk : (f p).val < 16384 := by show p.1.val * 256 + p.2.val < 16384; omega
    rw [values, dif_pos hk]
    rw [show (⟨256 * p.1.val + p.2.val, by omega⟩ : Fin 16384) = ⟨(f p).val, hk⟩ from Fin.ext (by show 256 * p.1.val + p.2.val = p.1.val * 256 + p.2.val; omega)]
  · rw [ctx_val_at m c t h b n hb hn p.1.val hs d p.2]
    have hk : ¬ (f p).val < 16384 := by show ¬ p.1.val * 256 + p.2.val < 16384; omega
    rw [values, dif_neg hk]
    rw [show (⟨(f p).val - 16384, by omega⟩ : Fin 256) = p.2 from Fin.ext (by show p.1.val * 256 + p.2.val - 16384 = p.2.val; omega)]

end Args

end Cert.KernelIdeal.Attn
-- ==== Proof.RefAt.lean ====
module

public import proofs.«01_k».proof.Proof.RefValue
public import proofs.«01_k».proof.Proof.Point
public import Idealize.ShloMosaic.Lib.Claim
public import Idealize.ShloMosaic.Lib.Pointwise
public import Idealize.ShloMosaic.Lib.IdealHost

@[expose] public section

set_option maxRecDepth 16384

noncomputable section

/-! The reference's result at an index. -/

namespace Cert.ReferenceIdeal.Attn

open Cert.ReferenceIdeal Cert.ReferenceIdeal.Gen Cert.ReferenceIdeal.Value Idealize.ShloMosaic Idealize.ShloMosaic.TcCoe

/-- The reference's score of a query and a latent key, or a context key. -/
theorem refScore_at (qn : FVec Ideal S2x16384x8x64 .f32) (qr : FVec Ideal S2x16384x8x32 .f32) (kn : FVec Ideal S2x16384x8x64 .f32) (kr : FVec Ideal S2x16384x32 .f32)
    (cn : FVec Ideal S2x256x8x64 .f32) (cr : FVec Ideal S2x256x32 .f32) (b : Fin 2) (n : Fin 8) (l : Fin 16384) (k : Fin 16640) :
    (refScore qn qr kn kr cn cr (ix4 b n l k) : EReal) = Ideal.div
      ((∑ x, qn (ix4 b l n x) * if h : k.val < 16384 then kn (ix4 b ⟨k.val, h⟩ n x) else cn (ix4 b ⟨k.val - 16384, by omega⟩ n x)) +
        ∑ x, (if h : k.val < 16384 then kr (ix3 b ⟨k.val, h⟩ x) else cr (ix3 b ⟨k.val - 16384, by omega⟩ x)) * qr (ix4 b l n x))
      (Ideal.sqrt (Ideal.ofBits .f32 0x42C00000#32)) := by
  pointwise [refScore]

/-- The greater of two arrays, at an index. -/
theorem max_at (x y : FVec Ideal S2x8x16384 .f32) (j : S2x8x16384.Idx) : maximumf x y j = max (x j : EReal) (y j) := rfl

/-- The greatest of a query's scores, when they are all reals, is a real. -/
theorem refMax_real (s : FVec Ideal S2x8x16384x16640 .f32) (z : S2x8x16384x16640.Idx → ℝ) (hz : ∀ i, s i = ((z i : ℝ) : EReal)) (j : S2x8x16384.Idx) :
    ∃ x : ℝ, refMax s j = (x : EReal) := by
  have hb : Ideal.ofBits .f32 0xFF800000#32 = (⊥ : EReal) := by simp [Ideal.ofBits, Ideal.ieee]
  have h := Host.reduce_eq_fold (FloatOps.maximumf : Ideal .f32 → Ideal .f32 → Ideal .f32) s (constant S_ .f32 0xFF800000#32) reducesTo_S2x8x16384x16640_S2x8x16384_d3 h_S_ j
  rw [Shape.ReducesTo.fold_fiber_r4_a3] at h
  have e : refMax s j = _ := max_at _ _ j
  have g : broadcastInDim S2x8x16384 ![] bcast_S_S2x8x16384 (constant (F := Ideal) S_ .f32 0xFF800000#32) j = (⊥ : EReal) := hb
  have i : (constant (F := Ideal) S_ .f32 0xFF800000#32) (Shape.Idx.first h_S_) = (⊥ : EReal) := hb
  rw [e, h, i, g, bot_sup_eq]
  simp only [hz]
  exact Cert.Softmax.fold_max_coe Finset.univ Finset.univ_nonempty _

/-- An exponential. -/
theorem refExp_at (s : FVec Ideal S2x8x16384x16640 .f32) (b : Fin 2) (n : Fin 8) (l : Fin 16384) (k : Fin 16640) :
    (refExp s (ix4 b n l k) : EReal) = Ideal.exp ((s (ix4 b n l k) : EReal) - refMax s (ix3 b n l)) := by
  pointwise [refExp, spread]

/-- A quotient. -/
theorem divf_at (x y : FVec Ideal S2x8x16384x16640 .f32) (i : S2x8x16384x16640.Idx) : (Host.divf x y i : EReal) = Ideal.div (x i) (y i) := rfl

/-- A query's sum. -/
theorem refSum_at (e : FVec Ideal S2x8x16384x16640 .f32) (b : Fin 2) (n : Fin 8) (l : Fin 16384) :
    (refSum e (ix3 b n l) : EReal) = ∑ k : Fin 16640, (e (ix4 b n l k) : EReal) := by
  pointwise [refSum]

/-- A number per query, at a key. -/
theorem spread_at (x : FVec Ideal S2x8x16384 .f32) (b : Fin 2) (n : Fin 8) (l : Fin 16384) (k : Fin 16640) :
    (spread x (ix4 b n l k) : EReal) = x (ix3 b n l) := by
  pointwise [spread]

/-- The reference's result: the latent values' weighted sum, then the context's. -/
theorem refOut_at (vl : FVec Ideal S2x16384x8x64 .f32) (vc : FVec Ideal S2x256x8x64 .f32) (p : FVec Ideal S2x8x16384x16640 .f32) (R : Fin 32768) (C : Fin 512) :
    (refOut vl vc p (ix2 R C) : EReal)
      = (∑ x : Fin 16384, (vl (ix4 ⟨R.val / 16384, by omega⟩ x ⟨C.val / 64, by omega⟩ ⟨C.val % 64, by omega⟩) : EReal)
            * p (ix4 ⟨R.val / 16384, by omega⟩ ⟨C.val / 64, by omega⟩ ⟨R.val % 16384, by omega⟩ ⟨x.val, by omega⟩))
        + ∑ x : Fin 256, (vc (ix4 ⟨R.val / 16384, by omega⟩ x ⟨C.val / 64, by omega⟩ ⟨C.val % 64, by omega⟩) : EReal)
            * p (ix4 ⟨R.val / 16384, by omega⟩ ⟨C.val / 64, by omega⟩ ⟨R.val % 16384, by omega⟩ ⟨16384 + x.val, by omega⟩) := by
  pointwise [refOut]

/-- The reference's result, stage by stage. -/
theorem res_eq {F : FTy → Type} [FloatOps F] (m : (ℓ : Loc nD τ sig) → Buf (Elt F) ℓ) (c : Dev nD) (s : FVec F S2x8x16384x16640 .f32)
    (hs : s = refScore (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))) :
    res_main_v24 m c = refOut (m ((c.tc : Thread nD τ).loc main_arg4)) (m ((c.tc : Thread nD τ).loc main_arg7)) (Host.divf (refExp s) (spread (refSum (refExp s)))) := by
  subst hs
  unfold res_main_v24
  rfl

open Cert.KernelIdeal.Attn (keyScore scores values) in
/-- The reference's score is that of the real arrays. -/
theorem refScore_real (a0 : FVec Ideal S2x16384x8x64 .f32) (a1 : FVec Ideal S2x16384x8x32 .f32) (a2 : FVec Ideal S2x16384x8x64 .f32) (a3 : FVec Ideal S2x16384x32 .f32)
    (a5 : FVec Ideal S2x256x8x64 .f32) (a6 : FVec Ideal S2x256x32 .f32)
    (qn : S2x16384x8x64.Idx → ℝ) (qr : S2x16384x8x32.Idx → ℝ) (kn : S2x16384x8x64.Idx → ℝ) (kr : S2x16384x32.Idx → ℝ) (cn : S2x256x8x64.Idx → ℝ) (cr : S2x256x32.Idx → ℝ)
    (hqn : ∀ i, a0 i = ((qn i : ℝ) : EReal)) (hqr : ∀ i, a1 i = ((qr i : ℝ) : EReal)) (hkn : ∀ i, a2 i = ((kn i : ℝ) : EReal)) (hkr : ∀ i, a3 i = ((kr i : ℝ) : EReal))
    (hcn : ∀ i, a5 i = ((cn i : ℝ) : EReal)) (hcr : ∀ i, a6 i = ((cr i : ℝ) : EReal)) (b : Fin 2) (n : Fin 8) (l : Fin 16384) (k : Fin 16640) :
    (refScore a0 a1 a2 a3 a5 a6 (ix4 b n l k) : EReal) = ((scores qn qr kn kr cn cr b n l k : ℝ) : EReal) := by
  have h96 : Ideal.ofBits .f32 0x42C00000#32 = ((96 : ℝ) : EReal) := by simp [Ideal.ofBits, Ideal.ieee, -EReal.coe_mul]; norm_num
  have hD : Real.sqrt 96 ≠ 0 := (Real.sqrt_pos.mpr (by norm_num)).ne'
  rw [refScore_at, h96, Ideal.sqrt_coe, if_neg (by norm_num), Ideal.div_coe hD, scores]
  by_cases h : k.val < 16384
  · simp only [dif_pos h, hqn, hqr, hkn, hkr, ← EReal.coe_mul, Cert.Softmax.sum_coe, ← EReal.coe_add, keyScore]
  · simp only [dif_neg h, hqn, hqr, hcn, hcr, ← EReal.coe_mul, Cert.Softmax.sum_coe, ← EReal.coe_add, keyScore]

open Cert.KernelIdeal.Attn (keyScore scores values) in
/-- The reference's result at an index: the softmax of the head's scores, on the head's values. -/
theorem res_at (m : (ℓ : Loc nD τ sig) → Buf (Elt Ideal) ℓ) (c : Dev nD)
    (qn : S2x16384x8x64.Idx → ℝ) (qr : S2x16384x8x32.Idx → ℝ) (kn : S2x16384x8x64.Idx → ℝ) (kr : S2x16384x32.Idx → ℝ) (cn : S2x256x8x64.Idx → ℝ) (cr : S2x256x32.Idx → ℝ)
    (hqn : ∀ i, (m ((c.tc : Thread nD τ).loc main_arg0) i : EReal) = ((qn i : ℝ) : EReal)) (hqr : ∀ i, (m ((c.tc : Thread nD τ).loc main_arg1) i : EReal) = ((qr i : ℝ) : EReal))
    (hkn : ∀ i, (m ((c.tc : Thread nD τ).loc main_arg2) i : EReal) = ((kn i : ℝ) : EReal)) (hkr : ∀ i, (m ((c.tc : Thread nD τ).loc main_arg3) i : EReal) = ((kr i : ℝ) : EReal))
    (hcn : ∀ i, (m ((c.tc : Thread nD τ).loc main_arg5) i : EReal) = ((cn i : ℝ) : EReal)) (hcr : ∀ i, (m ((c.tc : Thread nD τ).loc main_arg6) i : EReal) = ((cr i : ℝ) : EReal))
    (b : Fin 2) (n : Fin 8) (l : Fin 16384) (d : Fin 64) (R : Fin 32768) (C : Fin 512) (hR : R.val = 16384 * b.val + l.val) (hC : C.val = 64 * n.val + d.val) :
    ∃ x : ℝ, (Value.res_main_v24 m c (ix2 R C) : EReal)
      = ∑ k : Fin 16640, Ideal.div (Ideal.exp ((scores qn qr kn kr cn cr b n l k : EReal) - (x : EReal)))
          (∑ k' : Fin 16640, Ideal.exp ((scores qn qr kn kr cn cr b n l k' : EReal) - (x : EReal)))
        * values (m ((c.tc : Thread nD τ).loc main_arg4)) (m ((c.tc : Thread nD τ).loc main_arg7)) b n d k := by
  obtain ⟨s, hS⟩ : ∃ s, s = refScore (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) := ⟨_, rfl⟩
  have hs := refScore_real (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) qn qr kn kr cn cr hqn hqr hkn hkr hcn hcr
  rw [← hS] at hs
  rw [res_eq m c s hS]
  have hi : ∀ i : S2x8x16384x16640.Idx, i = ix4 (i 0) (i 1) (i 2) (i 3) := fun i => by blk_ext []
  obtain ⟨x, hx⟩ := refMax_real s (fun i => scores qn qr kn kr cn cr (i 0) (i 1) (i 2) (i 3))
    (fun i => (congrArg s (hi i)).trans (hs (i 0) (i 1) (i 2) (i 3))) (ix3 b n l)
  refine ⟨x, ?_⟩
  have hp : ∀ k : Fin 16640, (Host.divf (refExp s) (spread (refSum (refExp s))) (ix4 b n l k) : EReal)
      = Ideal.div (Ideal.exp ((scores qn qr kn kr cn cr b n l k : EReal) - (x : EReal)))
          (∑ k' : Fin 16640, Ideal.exp ((scores qn qr kn kr cn cr b n l k' : EReal) - (x : EReal))) := by
    intro k
    have e : ∀ k, (refExp s (ix4 b n l k) : EReal) = Ideal.exp ((scores qn qr kn kr cn cr b n l k : EReal) - (x : EReal)) := by
      intro k
      rw [refExp_at, hs, hx]
    rw [divf_at, spread_at, refSum_at, e]
    simp only [e]
  generalize Host.divf (F := Ideal) _ _ = p at hp ⊢
  rw [refOut_at]
  have hRb : (⟨R.val / 16384, by omega⟩ : Fin 2) = b := Fin.ext (by dsimp only; omega)
  have hRl : (⟨R.val % 16384, by omega⟩ : Fin 16384) = l := Fin.ext (by dsimp only; omega)
  have hCn : (⟨C.val / 64, by omega⟩ : Fin 8) = n := Fin.ext (by dsimp only; omega)
  have hCd : (⟨C.val % 64, by omega⟩ : Fin 64) = d := Fin.ext (by dsimp only; omega)
  simp only [hRb, hRl, hCn, hCd, hp]
  generalize hw : (fun k : Fin 16640 => Ideal.div (Ideal.exp ((scores qn qr kn kr cn cr b n l k : EReal) - (x : EReal)))
          (∑ k' : Fin 16640, Ideal.exp ((scores qn qr kn kr cn cr b n l k' : EReal) - (x : EReal)))) = w
  have hw' : ∀ k, Ideal.div (Ideal.exp ((scores qn qr kn kr cn cr b n l k : EReal) - (x : EReal)))
          (∑ k' : Fin 16640, Ideal.exp ((scores qn qr kn kr cn cr b n l k' : EReal) - (x : EReal))) = w k := fun k => congrFun hw k
  simp only [hw']
  refine Eq.trans ?_ (Fin.sum_univ_add (a := 16384) (b := 256) fun k : Fin 16640 => w k * values (m ((c.tc : Thread nD τ).loc main_arg4)) (m ((c.tc : Thread nD τ).loc main_arg7)) b n d k).symm
  refine congrArg₂ (· + ·) (Finset.sum_congr rfl fun k _ => ?_) (Finset.sum_congr rfl fun k _ => ?_)
  · have hk : (Fin.castAdd 256 k : Fin 16640).val < 16384 := k.isLt
    rw [values, dif_pos hk, mul_comm]
    rfl
  · have hk : ¬ (Fin.natAdd 16384 k : Fin 16640).val < 16384 := by simp
    rw [values, dif_neg hk, mul_comm]
    rw [show (⟨(Fin.natAdd 16384 k : Fin 16640).val - 16384, by omega⟩ : Fin 256) = k from Fin.ext (by simp)]
    rfl

end Cert.ReferenceIdeal.Attn
-- ==== Proof.Whole.lean ====
module

public import proofs.«01_k».proof.Proof.RefAt

@[expose] public section

set_option maxRecDepth 16384

noncomputable section

/-! The call's whole result is the reference's. -/

namespace Cert.KernelIdeal.Attn

open Cert.KernelIdeal Cert.KernelIdeal.Gen Idealize.ShloMosaic Idealize.ShloMosaic.TcCoe

/-- The call's blocks cover its result. -/
theorem covers : (cfg0.win 5).Covers := by
  decide +kernel

/-- What a grid point leaves in its block of the result: each half the output of one head. -/
theorem block_at (m : (ℓ : Loc nD τ sig) → Buf (Elt Ideal) ℓ) (c : Dev nD) (t : Fin cfg0.N) (l : Fin 512) (j : Fin 128) (h : Fin 2) (d : Fin 64) (hj : j.val = 64 * h.val + d.val) :
    (outsAt0 m c t (ix2 l j) : EReal)
      = headOut (runAcc (keyTile (iblk m c 1 t) (iblk m c 3 t) (128 * h.val)) (valTile (iblk m c 2 t) (iblk m c 4 t) (80 * h.val)) (qTile (iblk m c 0 t) (128 * h.val)) 65) (ix2 d l) := by
  rw [outsAt0, opened, blockOut_at]
  have hd := d.isLt
  match h, hj with
  | 0, hj =>
    have hj' : j.val = d.val := by simpa using hj
    rw [dif_pos (by omega)]
    rw [show (⟨j.val, by omega⟩ : Fin 64) = d from Fin.ext hj']
    rfl
  | 1, hj =>
    have hj' : j.val = 64 + d.val := by simpa using hj
    rw [dif_neg (by omega)]
    rw [show (⟨j.val - 64, by omega⟩ : Fin 64) = d from Fin.ext (by dsimp only; omega)]
    rfl

end Cert.KernelIdeal.Attn
-- ==== Proof.Final.lean ====
module

public import proofs.«01_k».proof.Proof.Whole

@[expose] public section

set_option maxRecDepth 16384

noncomputable section

/-! The call's whole result is the reference's. -/

namespace Cert.KernelIdeal.Attn

open Cert.KernelIdeal Cert.KernelIdeal.Gen Idealize.ShloMosaic Idealize.ShloMosaic.TcCoe

/-- From arguments that agree, with real queries and keys, the call's result is the reference's. -/
theorem result_eq (m : (ℓ : Loc nD τ sig) → Buf (Elt Ideal) ℓ) (c : Dev nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (qn : S2x16384x8x64.Idx → ℝ) (r0 : ∀ i, (m ((c.tc : Thread nD τ).loc main_arg0) i : EReal) = ((qn i : ℝ) : EReal))
    (qr : S2x16384x8x32.Idx → ℝ) (r1 : ∀ i, (m ((c.tc : Thread nD τ).loc main_arg1) i : EReal) = ((qr i : ℝ) : EReal))
    (kn : S2x16384x8x64.Idx → ℝ) (r2 : ∀ i, (m ((c.tc : Thread nD τ).loc main_arg2) i : EReal) = ((kn i : ℝ) : EReal))
    (kr : S2x16384x32.Idx → ℝ) (r3 : ∀ i, (m ((c.tc : Thread nD τ).loc main_arg3) i : EReal) = ((kr i : ℝ) : EReal))
    (cn : S2x256x8x64.Idx → ℝ) (r5 : ∀ i, (m ((c.tc : Thread nD τ).loc main_arg5) i : EReal) = ((cn i : ℝ) : EReal))
    (cr : S2x256x32.Idx → ℝ) (r6 : ∀ i, (m ((c.tc : Thread nD τ).loc main_arg6) i : EReal) = ((cr i : ℝ) : EReal)) :
    (dats m 0 c).arrAt 5 cfg0.N = Cert.ReferenceIdeal.Value.res_main_v24 m' c := by
  refine (dats m 0 c).arrAt_eq_of_covers 5 _ covers fun t hf y => ?_
  blk_simp
  rw [after0_5]
  obtain ⟨p0, p1, p2, p3, p4, p5, hb, hp, hi⟩ := places t
  obtain ⟨l, j, rfl⟩ : ∃ (l : Fin 512) (j : Fin 128), y = ix2 l j := ⟨y 0, y 1, by blk_ext []⟩
  have hl := l.isLt
  have hj := j.isLt
  let h : Fin 2 := ⟨j.val / 64, by omega⟩
  let d : Fin 64 := ⟨j.val % 64, by omega⟩
  let b : Fin 2 := ⟨(grid0.coords t 0).val, hb⟩
  let n : Fin 8 := ⟨2 * (grid0.coords t 1).val + j.val / 64, by omega⟩
  let L : Fin 16384 := ⟨512 * (grid0.coords t 2).val + l.val, by omega⟩
  obtain ⟨R, hR⟩ : ∃ R : Fin 32768, R.val = 16384 * (grid0.coords t 0).val + (512 * (grid0.coords t 2).val + l.val) := ⟨⟨_, by omega⟩, rfl⟩
  obtain ⟨C, hC⟩ : ∃ C : Fin 512, C.val = 64 * (2 * (grid0.coords t 1).val + j.val / 64) + j.val % 64 := ⟨⟨_, by omega⟩, rfl⟩
  obtain ⟨x, hx⟩ := Cert.ReferenceIdeal.Attn.res_at m' c qn qr kn kr cn cr
    (fun i => (congrFun h0 i).trans (r0 i)) (fun i => (congrFun h1 i).trans (r1 i)) (fun i => (congrFun h2 i).trans (r2 i))
    (fun i => (congrFun h3 i).trans (r3 i)) (fun i => (congrFun h5 i).trans (r5 i)) (fun i => (congrFun h6 i).trans (r6 i))
    b n L d R C hR hC
  have he : (win0_5.blk t).view.emb (ix2 l j) = ix2 R C := by
    have q5 : win0_5.index t = ![32 * (grid0.coords t 0).val + (grid0.coords t 2).val, (grid0.coords t 1).val] := p5
    blk_ext [q5]
  rw [he]
  refine (block_at m c t l j h d ?_).trans ((head_at m c t qn qr kn kr cn cr r0 r1 r2 r3 r5 r6 h b n rfl rfl d l L rfl x).trans ?_)
  · show j.val = 64 * (j.val / 64) + j.val % 64
    omega
  · rw [h4, h7] at hx
    exact hx.symm

end Cert.KernelIdeal.Attn
-- ==== Proof.Row.lean ====
module

public import Idealize.ShloMosaic.Lib.Claim
public import Idealize.ShloMosaic.Lib.Pointwise
public import Idealize.ShloMosaic.Lib.IdealHost

@[expose] public section

noncomputable section

/-! The feed-forward half of a layer on one row of tokens, over the extended reals. -/

namespace Cert.Post

open Idealize.ShloMosaic

/-- The constant under the root. -/
def eps : EReal := Ideal.ofBits .f32 0x358637BD#32

/-- A row divided by the root of its mean square, and scaled. -/
def rms {n : ℕ} (len : EReal) (x g : Fin n → EReal) (j : Fin n) : EReal :=
  x j * Ideal.rsqrt (Ideal.div (∑ k, x k * x k) len + eps) * g j

/-- A row times a matrix. -/
def times {n k : ℕ} (v : Fin n → EReal) (w : Fin n → Fin k → EReal) (j : Fin k) : EReal := ∑ i, v i * w i j

/-- The gated linear attention's two scans, normalised over each head's 256 columns and gated. -/
def gated (f b r : Fin 1024 → EReal) (g : Fin 256 → EReal) (k : Fin 1024) : EReal :=
  rms (Ideal.ofBits .f32 0x43800000#32) (fun v : Fin 256 => f ⟨256 * (k.val / 256) + v.val, by omega⟩ + b ⟨256 * (k.val / 256) + v.val, by omega⟩) g ⟨k.val % 256, by omega⟩
    * (r k * Ideal.logistic (r k))

/-- A row with a gated addition. -/
def resid (x gate y : Fin 1024 → EReal) (j : Fin 1024) : EReal := x j + gate j * y j

/-- The modulated norm of a row. -/
def normed (x g scale shift : Fin 1024 → EReal) (j : Fin 1024) : EReal :=
  rms (Ideal.ofBits .f32 0x44800000#32) x g j * (1 + scale j) + shift j

/-- The squared positive part. -/
def square (z : EReal) : EReal := max z 0 * max z 0

/-- What a layer's second half makes of a row and its mixer's output. -/
def layer (x y gm g2 scale shift gf : Fin 1024 → EReal) (w1 : Fin 1024 → Fin 4096 → EReal) (w2 : Fin 4096 → Fin 1024 → EReal) (j : Fin 1024) : EReal :=
  resid (resid x gm y) gf (times (fun f => square (times (normed (resid x gm y) g2 scale shift) w1 f)) w2) j

/-- The gated mixer's output, in one head. -/
theorem gated_head (f b r : Fin 1024 → EReal) (g : Fin 256 → EReal) (h : ℕ) (k : Fin 1024) (i : Fin 256) (hk : k.val = 256 * h + i.val) (hh : h < 4) :
    gated f b r g k = rms (Ideal.ofBits .f32 0x43800000#32) (fun v : Fin 256 => f ⟨256 * h + v.val, by omega⟩ + b ⟨256 * h + v.val, by omega⟩) g i * (r k * Ideal.logistic (r k)) := by
  have h1 : k.val / 256 = h := by omega
  have h2 : (⟨k.val % 256, by omega⟩ : Fin 256) = i := Fin.ext (by dsimp only; omega)
  simp only [gated, h1, h2]

/-- A load of a box of a matrix, at an index. -/
theorem ld_ix2 {M N P Q : ℕ} {e : EltTy} {Val : EltTy → Type} (x : (⟨2, ![M, N]⟩ : Shape).Idx → Val e) (o₀ o₁ : ℕ) (inb) (a : Fin P) (b : Fin Q) (A : Fin M) (B : Fin N)
    (h₀ : o₀ + a.val = A.val) (h₁ : o₁ + b.val = B.val) :
    View.ld x (Rect.unit (s := ⟨2, ![M, N]⟩) ![o₀, o₁] ![P, Q] inb) (ix2 a b) = x (ix2 A B) := by
  refine congrArg x (funext fun i => ?_)
  match i with
  | 0 => exact Fin.ext ((congrArg (o₀ + ·) (Nat.one_mul _)).trans h₀)
  | 1 => exact Fin.ext ((congrArg (o₁ + ·) (Nat.one_mul _)).trans h₁)

/-- A sum over four blocks. -/
theorem sum_four {N : ℕ} (n : ℕ) (hN : N = 4 * n) (f : Fin N → EReal) :
    ∑ k, f k = (((∑ i : Fin n, f ⟨i.val, by omega⟩) + ∑ i : Fin n, f ⟨n + i.val, by omega⟩) + ∑ i : Fin n, f ⟨2 * n + i.val, by omega⟩)
      + ∑ i : Fin n, f ⟨3 * n + i.val, by omega⟩ := by
  subst hN
  rw [← (finProdFinEquiv (m := 4) (n := n)).sum_comp, Fintype.sum_prod_type, Fin.sum_univ_four]
  congr 1
  · congr 1
    · congr 1
      exact Fintype.sum_congr _ _ fun i => congrArg f (Fin.ext (by simp [finProdFinEquiv, Nat.add_comm]))
    · exact Fintype.sum_congr _ _ fun i => congrArg f (Fin.ext (by simp [finProdFinEquiv]; ring))
  · exact Fintype.sum_congr _ _ fun i => congrArg f (Fin.ext (by simp [finProdFinEquiv]; ring))

end Cert.Post

end
-- ==== Proof.PostBlock.lean ====
module

public import proofs.«01_k».proof.Proof.Row
public import proofs.«01_k».proof.Proof.Gen.Kernel2Ideal.Frame
public import Idealize.ShloMosaic.Lib.Pointwise
public import Idealize.ShloMosaic.Lib.Pipeline.ValueKit
public import Idealize.ShloMosaic.Lib.Pipeline.ReadBack

@[expose] public section

set_option maxRecDepth 16384

noncomputable section

/-! What one grid point of the last layer's second half leaves in its block, entry by entry. -/

namespace Cert.Kernel2Ideal.Post

open Cert.Kernel2Ideal Cert.Kernel2Ideal.Gen Idealize.ShloMosaic Idealize.ShloMosaic.TcCoe Cert.Post

section Fold
variable {F : FTy → Type} [FloatOps F]

/-- A chunk of the feed-forward part: 1024 of its 4096 columns. -/
def chunk (h : FVec F S512x1024 .bf16) (w1 w2 : Vec F S1024x1024 .bf16) : FVec F S512x1024 .f32 :=
  have z : FVec F S512x1024 .f32 := maximumf (matmul dot_S512x1024_S1024x1024_S512x1024_1_0_0_1_n_n none h (shapeCast S1024x1024 w1 shapeCasts_S1024x1024_S1024x1024) (constant S512x1024 .f32 0x00000000#32)) (broadcast S512x1024 (Scalar.ofBits .f32 0x00000000#32))
  matmul dot_S512x1024_S1024x1024_S512x1024_1_0_0_1_n_n none (truncf .bf16 (mulf z z) bitsLt_bf16_f32) (shapeCast S1024x1024 w2 shapeCasts_S1024x1024_S1024x1024) (constant S512x1024 .f32 0x00000000#32)

/-- The second head joins the first. -/
theorem head_two (a : FVec F S512x1024 .f32) (r b f : Vec F S512x256 .f32) (g : Vec F S1x256 .f32) (w : Vec F S256x1024 .bf16) :
    k0_pay6 a (k0_pay3 r) (k0_pay4 b f) (k0_pay5 g) w = addf a (k0_pay2 r b f g w) := rfl

/-- The third and the fourth head join them. -/
theorem head_three (a : FVec F S512x1024 .f32) (r b f : Vec F S512x256 .f32) (g : Vec F S1x256 .f32) (w : Vec F S256x1024 .bf16)
    (r' b' f' : Vec F S512x256 .f32) (g' : Vec F S1x256 .f32) (w' : Vec F S256x1024 .bf16) :
    k0_pay9 a (k0_pay7 b f g) (k0_pay8 r) w r' b' f' g' w' = addf (addf a (k0_pay2 r b f g w)) (k0_pay2 r' b' f' g' w') := rfl

/-- The first chunk. -/
theorem chunk_one (y x : FVec F S512x1024 .f32) (gm : Vec F S1x1x1024 .f32) (g2 : Vec F S1x1024 .f32) (sc sh : Vec F S1x1x1024 .f32) (w1 w2 : Vec F S1024x1024 .bf16) :
    k0_pay14 y x gm g2 sc sh w1 w2 = chunk (k0_pay12 y x gm g2 sc sh) w1 w2 := rfl

/-- The other chunks join it. -/
theorem chunk_four (h : FVec F S512x1024 .bf16) (z a : FVec F S512x1024 .f32) (u1 u2 v1 v2 w1 w2 : Vec F S1024x1024 .bf16) :
    k0_pay15 h z a u1 u2 v1 v2 w1 w2 = addf (addf (addf (addf z a) (chunk h u1 u2)) (chunk h v1 v2)) (chunk h w1 w2) := rfl

end Fold

/-- A head's part of the mixer's output. -/
theorem head_at (r b f : Vec Ideal S512x256 .f32) (g : Vec Ideal S1x256 .f32) (w : Vec Ideal S256x1024 .bf16) (l : Fin 512) (j : Fin 1024) :
    (k0_pay2 r b f g w (ix2 l j) : EReal)
      = ∑ k : Fin 256, rms (Ideal.ofBits .f32 0x43800000#32) (fun v : Fin 256 => (f (ix2 l v) : EReal) + b (ix2 l v)) (fun v => g (ix2 0 v)) k
          * (r (ix2 l k) * Ideal.logistic (r (ix2 l k))) * w (ix2 k j) := by
  pointwise [k0_pay2]
  simp only [rms, eps, fun v => add_comm (f (ix2 l v) : EReal) (b (ix2 l v))]

/-- A chunk, at an index. -/
theorem chunk_at (h : FVec Ideal S512x1024 .bf16) (w1 w2 : Vec Ideal S1024x1024 .bf16) (l : Fin 512) (j : Fin 1024) :
    (chunk h w1 w2 (ix2 l j) : EReal) = ∑ k : Fin 1024, square (∑ i : Fin 1024, h (ix2 l i) * w1 (ix2 i k)) * w2 (ix2 k j) := by
  pointwise [chunk, square]

/-- The row with the mixer's output, at an index. -/
theorem resid_at (y x : FVec Ideal S512x1024 .f32) (gm : Vec Ideal S1x1x1024 .f32) (l : Fin 512) (j : Fin 1024) :
    (k0_pay11 y x gm (ix2 l j) : EReal) = resid (fun j => x (ix2 l j)) (fun j => gm (ix3 0 0 j)) (fun j => y (ix2 l j)) j := by
  pointwise [k0_pay11, resid]

/-- The modulated norm, at an index. -/
theorem normed_at (y x : FVec Ideal S512x1024 .f32) (gm : Vec Ideal S1x1x1024 .f32) (g2 : Vec Ideal S1x1024 .f32) (sc sh : Vec Ideal S1x1x1024 .f32) (l : Fin 512) (j : Fin 1024) :
    (k0_pay12 y x gm g2 sc sh (ix2 l j) : EReal)
      = normed (fun j => k0_pay11 y x gm (ix2 l j)) (fun j => g2 (ix2 0 j)) (fun j => sc (ix3 0 0 j)) (fun j => sh (ix3 0 0 j)) j := by
  pointwise [k0_pay12, normed, rms, eps]

/-- The last residual and norm, at an index. -/
theorem last_at (x a : FVec Ideal S512x1024 .f32) (gf : Vec Ideal S1x1x1024 .f32) (fg : Vec Ideal S1x1024 .f32) (l : Fin 512) (j : Fin 1024) :
    (k0_pay1 x a (k0_pay16 gf) fg (ix2 l j) : EReal)
      = rms (Ideal.ofBits .f32 0x44800000#32) (resid (fun j => x (ix2 l j)) (fun j => gf (ix3 0 0 j)) (fun j => a (ix2 l j))) (fun j => fg (ix2 0 j)) j := by
  pointwise [k0_pay1, k0_pay16, rms, eps, resid]

/-- A sum of arrays, at an index. -/
theorem addf_at {s : Shape} (x y : FVec Ideal s .f32) (i : s.Idx) : (addf x y i : EReal) = x i + y i := rfl

/-- A head's part of the mixer's output, from the whole rows. -/
theorem head_part (r b f : Vec Ideal S512x256 .f32) (g : Vec Ideal S1x256 .f32) (w : Vec Ideal S256x1024 .bf16) (x1 x2 x3 : Vec Ideal S512x1024 .f32) (x10 : Vec Ideal S1024x1024 .bf16)
    (l : Fin 512) (j : Fin 1024) (h : ℕ) (hh : h < 4) (o : Fin 256 → Fin 1024) (ho : ∀ i, (o i).val = 256 * h + i.val)
    (hr : ∀ i, r (ix2 l i) = x3 (ix2 l (o i))) (hb : ∀ i, b (ix2 l i) = x2 (ix2 l (o i))) (hf : ∀ i, f (ix2 l i) = x1 (ix2 l (o i))) (hw : ∀ i, w (ix2 i j) = x10 (ix2 (o i) j)) :
    (k0_pay2 r b f g w (ix2 l j) : EReal)
      = ∑ i : Fin 256, gated (fun k => x1 (ix2 l k)) (fun k => x2 (ix2 l k)) (fun k => x3 (ix2 l k)) (fun v => g (ix2 0 v)) (o i) * x10 (ix2 (o i) j) := by
  rw [head_at]
  refine Fintype.sum_congr _ _ fun i => ?_
  have e : ∀ v : Fin 256, o v = ⟨256 * h + v.val, by omega⟩ := fun v => Fin.ext (ho v)
  rw [gated_head _ _ _ _ h (o i) i (ho i) hh, hw, hr]
  simp only [hf, hb, ← e]

/-- The mixer's output of a block. -/
theorem mixer_at (x0 x1 x2 x3 : Vec Ideal S512x1024 .f32) (x4 : Vec Ideal S1x256 .f32) (x5 : Vec Ideal S1x1x1024 .f32) (x6 : Vec Ideal S1x1024 .f32) (x7 x8 x9 : Vec Ideal S1x1x1024 .f32)
    (x10 : Vec Ideal S1024x1024 .bf16) (x11 : Vec Ideal S1024x4096 .bf16) (x12 : Vec Ideal S4096x1024 .bf16) (x13 : Vec Ideal S1x1024 .f32) (l : Fin 512) (j : Fin 1024) :
    (k0_pay17 x0 x1 x2 x3 x4 x5 x6 x7 x8 x9 x10 x11 x12 x13 (ix2 l j) : EReal)
      = times (gated (fun k => x1 (ix2 l k)) (fun k => x2 (ix2 l k)) (fun k => x3 (ix2 l k)) (fun v => x4 (ix2 0 v))) (fun k j => x10 (ix2 k j)) j := by
  rw [k0_pay17, head_two, head_three, times, sum_four 256 rfl, addf_at, addf_at, addf_at]
  have g4 : View.ld x4 r0_1 = x4 := View.ld_unit_lit' _ _ (by decide)
  rw [g4]
  congr 1
  · congr 1
    · congr 1
      · exact head_part _ _ _ _ _ x1 x2 x3 x10 l j 0 (by decide) _ (fun i => (by simp)) (fun i => ld_ix2 _ _ _ _ _ _ _ _ (by simp) (by simp)) (fun i => ld_ix2 _ _ _ _ _ _ _ _ (by simp) (by simp)) (fun i => ld_ix2 _ _ _ _ _ _ _ _ (by simp) (by simp)) (fun i => ld_ix2 _ _ _ _ _ _ _ _ (by simp) (by simp))
      · exact head_part _ _ _ _ _ x1 x2 x3 x10 l j 1 (by decide) _ (fun i => (by simp)) (fun i => ld_ix2 _ _ _ _ _ _ _ _ (by simp) (by simp)) (fun i => ld_ix2 _ _ _ _ _ _ _ _ (by simp) (by simp)) (fun i => ld_ix2 _ _ _ _ _ _ _ _ (by simp) (by simp)) (fun i => ld_ix2 _ _ _ _ _ _ _ _ (by simp) (by simp))
    · exact head_part _ _ _ _ _ x1 x2 x3 x10 l j 2 (by decide) _ (fun i => (by simp)) (fun i => ld_ix2 _ _ _ _ _ _ _ _ (by simp) (by simp)) (fun i => ld_ix2 _ _ _ _ _ _ _ _ (by simp) (by simp)) (fun i => ld_ix2 _ _ _ _ _ _ _ _ (by simp) (by simp)) (fun i => ld_ix2 _ _ _ _ _ _ _ _ (by simp) (by simp))
  · exact head_part _ _ _ _ _ x1 x2 x3 x10 l j 3 (by decide) _ (fun i => (by simp)) (fun i => ld_ix2 _ _ _ _ _ _ _ _ (by simp) (by simp)) (fun i => ld_ix2 _ _ _ _ _ _ _ _ (by simp) (by simp)) (fun i => ld_ix2 _ _ _ _ _ _ _ _ (by simp) (by simp)) (fun i => ld_ix2 _ _ _ _ _ _ _ _ (by simp) (by simp))

/-- A chunk, from the whole weights. -/
theorem chunk_part (h : FVec Ideal S512x1024 .bf16) (w1 w2 : Vec Ideal S1024x1024 .bf16) (x11 : Vec Ideal S1024x4096 .bf16) (x12 : Vec Ideal S4096x1024 .bf16) (l : Fin 512) (j : Fin 1024) (o : Fin 1024 → Fin 4096)
    (h1 : ∀ i k, w1 (ix2 i k) = x11 (ix2 i (o k))) (h2 : ∀ k, w2 (ix2 k j) = x12 (ix2 (o k) j)) :
    (chunk h w1 w2 (ix2 l j) : EReal)
      = ∑ k : Fin 1024, square (times (fun i => h (ix2 l i)) (fun i f => x11 (ix2 i f)) (o k)) * x12 (ix2 (o k) j) := by
  rw [chunk_at]
  simp only [h1, h2, times]

/-- The start of the chunks' sum is zero. -/
theorem start_at (l : Fin 512) (j : Fin 1024) : ((k0_pay13 (F := Ideal)) (ix2 l j) : EReal) = 0 := by
  pointwise [k0_pay13]

/-- The feed-forward part of a block. -/
theorem ffn_at (h : FVec Ideal S512x1024 .bf16) (x11 : Vec Ideal S1024x4096 .bf16) (x12 : Vec Ideal S4096x1024 .bf16) (l : Fin 512) (j : Fin 1024) :
    (k0_pay15 h (k0_pay13 (F := Ideal)) (chunk h (View.ld x11 r0_12) (View.ld x12 r0_13)) (View.ld x11 r0_14) (View.ld x12 r0_15) (View.ld x11 r0_16) (View.ld x12 r0_17) (View.ld x11 r0_18) (View.ld x12 r0_19) (ix2 l j) : EReal)
      = times (fun f => square (times (fun i => h (ix2 l i)) (fun i f => x11 (ix2 i f)) f)) (fun f j => x12 (ix2 f j)) j := by
  rw [chunk_four, addf_at, addf_at, addf_at, addf_at, start_at, zero_add, times, sum_four 1024 rfl]
  congr 1
  · congr 1
    · congr 1
      · exact chunk_part h _ _ x11 x12 l j _ (fun i k => ld_ix2 _ _ _ _ _ _ _ _ (by simp) (by simp)) (fun k => ld_ix2 _ _ _ _ _ _ _ _ (by simp) (by simp))
      · exact chunk_part h _ _ x11 x12 l j _ (fun i k => ld_ix2 _ _ _ _ _ _ _ _ (by simp) (by simp)) (fun k => ld_ix2 _ _ _ _ _ _ _ _ (by simp) (by simp))
    · exact chunk_part h _ _ x11 x12 l j _ (fun i k => ld_ix2 _ _ _ _ _ _ _ _ (by simp) (by simp)) (fun k => ld_ix2 _ _ _ _ _ _ _ _ (by simp) (by simp))
  · exact chunk_part h _ _ x11 x12 l j _ (fun i k => ld_ix2 _ _ _ _ _ _ _ _ (by simp) (by simp)) (fun k => ld_ix2 _ _ _ _ _ _ _ _ (by simp) (by simp))

/-- The rows a block adds to. -/
theorem base_at (x0 x1 x2 x3 : Vec Ideal S512x1024 .f32) (x4 : Vec Ideal S1x256 .f32) (x5 : Vec Ideal S1x1x1024 .f32) (x6 : Vec Ideal S1x1024 .f32) (x7 x8 x9 : Vec Ideal S1x1x1024 .f32)
    (x10 : Vec Ideal S1024x1024 .bf16) (x11 : Vec Ideal S1024x4096 .bf16) (x12 : Vec Ideal S4096x1024 .bf16) (x13 : Vec Ideal S1x1024 .f32) (l : Fin 512) (j : Fin 1024) :
    (k0_pay18 x0 x1 x2 x3 x4 x5 x6 x7 x8 x9 x10 x11 x12 x13 (ix2 l j) : EReal) = x0 (ix2 l j) := by
  have g : View.ld x0 r0_9 = x0 := View.ld_unit_lit' _ _ (by decide)
  rw [k0_pay18, g]
  pointwise [k0_pay10]

/-- What a grid point leaves in its block. -/
theorem block_at (x0 x1 x2 x3 : Vec Ideal S512x1024 .f32) (x4 : Vec Ideal S1x256 .f32) (x5 : Vec Ideal S1x1x1024 .f32) (x6 : Vec Ideal S1x1024 .f32) (x7 x8 x9 : Vec Ideal S1x1x1024 .f32)
    (x10 : Vec Ideal S1024x1024 .bf16) (x11 : Vec Ideal S1024x4096 .bf16) (x12 : Vec Ideal S4096x1024 .bf16) (x13 : Vec Ideal S1x1024 .f32) (l : Fin 512) (j : Fin 1024) :
    (out0_14 x0 x1 x2 x3 x4 x5 x6 x7 x8 x9 x10 x11 x12 x13 (ix2 l j) : EReal)
      = rms (Ideal.ofBits .f32 0x44800000#32)
          (layer (fun k => x0 (ix2 l k)) (times (gated (fun k => x1 (ix2 l k)) (fun k => x2 (ix2 l k)) (fun k => x3 (ix2 l k)) (fun v => x4 (ix2 0 v))) (fun k j => x10 (ix2 k j)))
            (fun k => x5 (ix3 0 0 k)) (fun k => x6 (ix2 0 k)) (fun k => x8 (ix3 0 0 k)) (fun k => x7 (ix3 0 0 k)) (fun k => x9 (ix3 0 0 k)) (fun i f => x11 (ix2 i f)) (fun f j => x12 (ix2 f j)))
          (fun k => x13 (ix2 0 k)) j := by
  have g5 : View.ld x5 r0_10 = x5 := View.ld_unit_lit' _ _ (by decide)
  have g6 : View.ld x6 r0_11 = x6 := View.ld_unit_lit' _ _ (by decide)
  have g7 : View.ld x7 r0_10 = x7 := View.ld_unit_lit' _ _ (by decide)
  have g8 : View.ld x8 r0_10 = x8 := View.ld_unit_lit' _ _ (by decide)
  have g9 : View.ld x9 r0_10 = x9 := View.ld_unit_lit' _ _ (by decide)
  have g13 : View.ld x13 r0_11 = x13 := View.ld_unit_lit' _ _ (by decide)
  have hx : ∀ j, _ := base_at x0 x1 x2 x3 x4 x5 x6 x7 x8 x9 x10 x11 x12 x13 l
  have hy : ∀ j, _ := mixer_at x0 x1 x2 x3 x4 x5 x6 x7 x8 x9 x10 x11 x12 x13 l
  rw [out0_14, View.canon_cons_unit_lit' _ _ _ (by decide), g5, g6, g7, g8, g9, g13, chunk_one, last_at]
  generalize k0_pay18 x0 x1 x2 x3 x4 x5 x6 x7 x8 x9 x10 x11 x12 x13 = x at hx ⊢
  generalize k0_pay17 x0 x1 x2 x3 x4 x5 x6 x7 x8 x9 x10 x11 x12 x13 = y at hy ⊢
  have hr : (fun j => (k0_pay11 y x x5 (ix2 l j) : EReal)) = resid (fun k => x0 (ix2 l k)) (fun k => x5 (ix3 0 0 k)) (times (gated (fun k => x1 (ix2 l k)) (fun k => x2 (ix2 l k)) (fun k => x3 (ix2 l k)) (fun v => x4 (ix2 0 v))) (fun k j => x10 (ix2 k j))) := by
    funext j
    rw [resid_at]
    simp only [hx, hy]
  have hh : (fun j => (k0_pay12 y x x5 x6 x8 x7 (ix2 l j) : EReal)) = normed (fun j => k0_pay11 y x x5 (ix2 l j)) (fun k => x6 (ix2 0 k)) (fun k => x8 (ix3 0 0 k)) (fun k => x7 (ix3 0 0 k)) :=
    funext fun j => normed_at y x x5 x6 x8 x7 l j
  refine congrArg (fun v => rms (Ideal.ofBits .f32 0x44800000#32) v (fun k => x13 (ix2 0 k)) j) (funext fun j => ?_)
  rw [hr]
  unfold layer
  have hf := fun j => ffn_at (k0_pay12 y x x5 x6 x8 x7) x11 x12 l j
  rw [hh, hr] at hf
  simp only [hf]

end Cert.Kernel2Ideal.Post
-- ==== Proof.PostPoint.lean ====
module

public import proofs.«01_k».proof.Proof.PostBlock
public import Idealize.ShloMosaic.Lib.StableHlo.RunRead
public import Idealize.ShloMosaic.Lib.Pointwise

@[expose] public section

set_option maxRecDepth 16384

noncomputable section

/-! The blocks that a grid point of the last layer's second half reads, from the arguments. -/

namespace Cert.Kernel2Ideal.Post

open Cert.Kernel2Ideal Cert.Kernel2Ideal.Gen Idealize.ShloMosaic Idealize.ShloMosaic.TcCoe Cert.Post

/-- The block of each window at a grid point. -/
theorem places (t : Fin cfg0.N) :
    (cfg0.win 0).index t = ![(grid0.coords t 0).val, 0] ∧ (cfg0.win 1).index t = ![(grid0.coords t 0).val, 0]
    ∧ (cfg0.win 2).index t = ![(grid0.coords t 0).val, 0] ∧ (cfg0.win 3).index t = ![(grid0.coords t 0).val, 0]
    ∧ (cfg0.win 4).index t = ![0, 0] ∧ (cfg0.win 5).index t = ![(grid0.coords t 0).val / 32, 0, 0]
    ∧ (cfg0.win 6).index t = ![0, 0] ∧ (cfg0.win 7).index t = ![(grid0.coords t 0).val / 32, 0, 0]
    ∧ (cfg0.win 8).index t = ![(grid0.coords t 0).val / 32, 0, 0] ∧ (cfg0.win 9).index t = ![(grid0.coords t 0).val / 32, 0, 0]
    ∧ (cfg0.win 10).index t = ![0, 0] ∧ (cfg0.win 11).index t = ![0, 0] ∧ (cfg0.win 12).index t = ![0, 0]
    ∧ (cfg0.win 13).index t = ![0, 0] ∧ (cfg0.win 14).index t = ![(grid0.coords t 0).val, 0] ∧ (grid0.coords t 0).val < 64 := by
  revert t
  decide +kernel

/-- The call's blocks cover its result. -/
theorem covers : (cfg0.win 14).Covers := by
  decide +kernel

/-- The flattened rows, at an index. -/
theorem flat_at (x : FVec Ideal S2x16384x1024 .f32) (R : Fin 32768) (j : Fin 1024) (B : Fin 2) (L : Fin 16384) (hR : 16384 * B.val + L.val = R.val) :
    (shapeCast S32768x1024 x shapeCasts_S2x16384x1024_S32768x1024 (ix2 R j) : EReal) = x (ix3 B L j) := by
  have hL := L.isLt
  have e₀ : (⟨R.val / 16384, by omega⟩ : Fin 2) = B := Fin.ext (by dsimp only; omega)
  have e₁ : (⟨R.val % 16384, by omega⟩ : Fin 16384) = L := Fin.ext (by dsimp only; omega)
  pointwise []
  rw [e₀, e₁]

variable (m : (ℓ : Loc nD τ sig) → Buf (Elt Ideal) ℓ) (c : Dev nD) (t : Fin cfg0.N)

/-- What operand 0 of the call holds. -/
theorem V_0 : V m c main_v0 = shapeCast S32768x1024 (m ((c.tc : Thread nD τ).loc main_arg0)) shapeCasts_S2x16384x1024_S32768x1024 := by
  unfold_abbrev_sides
  after_reads_simp
  rfl

/-- A block of operand 0. -/
theorem blk_0 (l : Fin 512) (j : Fin 1024) (B : Fin 2) (L : Fin 16384) (hL : 16384 * B.val + L.val = 512 * (grid0.coords t 0).val + l.val) :
    (iblk m c 0 t (ix2 l j) : EReal) = m ((c.tc : Thread nD τ).loc main_arg0) (ix3 B L j) := by
  obtain ⟨h0, h1, h2, h3, h4, h5, h6, h7, h8, h9, h10, h11, h12, h13, h14, ht⟩ := places t
  obtain ⟨R, hR⟩ : ∃ R : Fin 32768, R.val = 512 * (grid0.coords t 0).val + l.val := ⟨⟨_, by omega⟩, rfl⟩
  have e : iblk m c 0 t (ix2 l j) = V m c main_v0 (ix2 R j) := by
    blk_ext [iblk, h0]
  rw [e, V_0]
  exact flat_at _ R j B L (hL.trans hR.symm)

/-- What operand 1 of the call holds. -/
theorem V_1 : V m c main_v1 = shapeCast S32768x1024 (m ((c.tc : Thread nD τ).loc main_arg1)) shapeCasts_S2x16384x1024_S32768x1024 := by
  unfold_abbrev_sides
  after_reads_simp
  rfl

/-- A block of operand 1. -/
theorem blk_1 (l : Fin 512) (j : Fin 1024) (B : Fin 2) (L : Fin 16384) (hL : 16384 * B.val + L.val = 512 * (grid0.coords t 0).val + l.val) :
    (iblk m c 1 t (ix2 l j) : EReal) = m ((c.tc : Thread nD τ).loc main_arg1) (ix3 B L j) := by
  obtain ⟨h0, h1, h2, h3, h4, h5, h6, h7, h8, h9, h10, h11, h12, h13, h14, ht⟩ := places t
  obtain ⟨R, hR⟩ : ∃ R : Fin 32768, R.val = 512 * (grid0.coords t 0).val + l.val := ⟨⟨_, by omega⟩, rfl⟩
  have e : iblk m c 1 t (ix2 l j) = V m c main_v1 (ix2 R j) := by
    blk_ext [iblk, h1]
  rw [e, V_1]
  exact flat_at _ R j B L (hL.trans hR.symm)

/-- What operand 2 of the call holds. -/
theorem V_2 : V m c main_v2 = shapeCast S32768x1024 (m ((c.tc : Thread nD τ).loc main_arg2)) shapeCasts_S2x16384x1024_S32768x1024 := by
  unfold_abbrev_sides
  after_reads_simp
  rfl

/-- A block of operand 2. -/
theorem blk_2 (l : Fin 512) (j : Fin 1024) (B : Fin 2) (L : Fin 16384) (hL : 16384 * B.val + L.val = 512 * (grid0.coords t 0).val + l.val) :
    (iblk m c 2 t (ix2 l j) : EReal) = m ((c.tc : Thread nD τ).loc main_arg2) (ix3 B L j) := by
  obtain ⟨h0, h1, h2, h3, h4, h5, h6, h7, h8, h9, h10, h11, h12, h13, h14, ht⟩ := places t
  obtain ⟨R, hR⟩ : ∃ R : Fin 32768, R.val = 512 * (grid0.coords t 0).val + l.val := ⟨⟨_, by omega⟩, rfl⟩
  have e : iblk m c 2 t (ix2 l j) = V m c main_v2 (ix2 R j) := by
    blk_ext [iblk, h2]
  rw [e, V_2]
  exact flat_at _ R j B L (hL.trans hR.symm)

/-- What operand 3 of the call holds. -/
theorem V_3 : V m c main_v3 = shapeCast S32768x1024 (m ((c.tc : Thread nD τ).loc main_arg3)) shapeCasts_S2x16384x1024_S32768x1024 := by
  unfold_abbrev_sides
  after_reads_simp
  rfl

/-- A block of operand 3. -/
theorem blk_3 (l : Fin 512) (j : Fin 1024) (B : Fin 2) (L : Fin 16384) (hL : 16384 * B.val + L.val = 512 * (grid0.coords t 0).val + l.val) :
    (iblk m c 3 t (ix2 l j) : EReal) = m ((c.tc : Thread nD τ).loc main_arg3) (ix3 B L j) := by
  obtain ⟨h0, h1, h2, h3, h4, h5, h6, h7, h8, h9, h10, h11, h12, h13, h14, ht⟩ := places t
  obtain ⟨R, hR⟩ : ∃ R : Fin 32768, R.val = 512 * (grid0.coords t 0).val + l.val := ⟨⟨_, by omega⟩, rfl⟩
  have e : iblk m c 3 t (ix2 l j) = V m c main_v3 (ix2 R j) := by
    blk_ext [iblk, h3]
  rw [e, V_3]
  exact flat_at _ R j B L (hL.trans hR.symm)

/-- What operand 4 of the call holds. -/
theorem V_4 : V m c main_v4 = broadcastInDim S1x256 ![1] bcast_S256_S1x256_1 (m ((c.tc : Thread nD τ).loc main_arg4)) := by
  unfold_abbrev_sides
  after_reads_simp

/-- A block of operand 4. -/
theorem blk_4 (j : Fin 256) :
    (iblk m c 4 t (ix2 0 j) : EReal) = m ((c.tc : Thread nD τ).loc main_arg4) (ix1 j) := by
  obtain ⟨h0, h1, h2, h3, h4, h5, h6, h7, h8, h9, h10, h11, h12, h13, h14, ht⟩ := places t
  have e : iblk m c 4 t (ix2 0 j) = V m c main_v4 (ix2 0 j) := by
    blk_ext [iblk, h4]
  rw [e, V_4]
  pointwise []

/-- What operand 5 of the call holds. -/
theorem V_5 : V m c main_v5 = broadcastInDim S2x1x1024 ![0, 2] bcast_S2x1024_S2x1x1024_0_2 (m ((c.tc : Thread nD τ).loc main_arg5)) := by
  unfold_abbrev_sides
  after_reads_simp

/-- A block of operand 5. -/
theorem blk_5 (j : Fin 1024) (B : Fin 2) (hB : B.val = (grid0.coords t 0).val / 32) :
    (iblk m c 5 t (ix3 0 0 j) : EReal) = m ((c.tc : Thread nD τ).loc main_arg5) (ix2 B j) := by
  obtain ⟨h0, h1, h2, h3, h4, h5, h6, h7, h8, h9, h10, h11, h12, h13, h14, ht⟩ := places t
  have e : iblk m c 5 t (ix3 0 0 j) = V m c main_v5 (ix3 B 0 j) := by
    blk_ext [iblk, h5]
  rw [e, V_5]
  pointwise []

/-- What operand 6 of the call holds. -/
theorem V_6 : V m c main_v6 = broadcastInDim S1x1024 ![1] bcast_S1024_S1x1024_1 (m ((c.tc : Thread nD τ).loc main_arg9)) := by
  unfold_abbrev_sides
  after_reads_simp

/-- A block of operand 6. -/
theorem blk_6 (j : Fin 1024) :
    (iblk m c 6 t (ix2 0 j) : EReal) = m ((c.tc : Thread nD τ).loc main_arg9) (ix1 j) := by
  obtain ⟨h0, h1, h2, h3, h4, h5, h6, h7, h8, h9, h10, h11, h12, h13, h14, ht⟩ := places t
  have e : iblk m c 6 t (ix2 0 j) = V m c main_v6 (ix2 0 j) := by
    blk_ext [iblk, h6]
  rw [e, V_6]
  pointwise []

/-- What operand 7 of the call holds. -/
theorem V_7 : V m c main_v7 = broadcastInDim S2x1x1024 ![0, 2] bcast_S2x1024_S2x1x1024_0_2 (m ((c.tc : Thread nD τ).loc main_arg6)) := by
  unfold_abbrev_sides
  after_reads_simp

/-- A block of operand 7. -/
theorem blk_7 (j : Fin 1024) (B : Fin 2) (hB : B.val = (grid0.coords t 0).val / 32) :
    (iblk m c 7 t (ix3 0 0 j) : EReal) = m ((c.tc : Thread nD τ).loc main_arg6) (ix2 B j) := by
  obtain ⟨h0, h1, h2, h3, h4, h5, h6, h7, h8, h9, h10, h11, h12, h13, h14, ht⟩ := places t
  have e : iblk m c 7 t (ix3 0 0 j) = V m c main_v7 (ix3 B 0 j) := by
    blk_ext [iblk, h7]
  rw [e, V_7]
  pointwise []

/-- What operand 8 of the call holds. -/
theorem V_8 : V m c main_v8 = broadcastInDim S2x1x1024 ![0, 2] bcast_S2x1024_S2x1x1024_0_2 (m ((c.tc : Thread nD τ).loc main_arg7)) := by
  unfold_abbrev_sides
  after_reads_simp

/-- A block of operand 8. -/
theorem blk_8 (j : Fin 1024) (B : Fin 2) (hB : B.val = (grid0.coords t 0).val / 32) :
    (iblk m c 8 t (ix3 0 0 j) : EReal) = m ((c.tc : Thread nD τ).loc main_arg7) (ix2 B j) := by
  obtain ⟨h0, h1, h2, h3, h4, h5, h6, h7, h8, h9, h10, h11, h12, h13, h14, ht⟩ := places t
  have e : iblk m c 8 t (ix3 0 0 j) = V m c main_v8 (ix3 B 0 j) := by
    blk_ext [iblk, h8]
  rw [e, V_8]
  pointwise []

/-- What operand 9 of the call holds. -/
theorem V_9 : V m c main_v9 = broadcastInDim S2x1x1024 ![0, 2] bcast_S2x1024_S2x1x1024_0_2 (m ((c.tc : Thread nD τ).loc main_arg8)) := by
  unfold_abbrev_sides
  after_reads_simp

/-- A block of operand 9. -/
theorem blk_9 (j : Fin 1024) (B : Fin 2) (hB : B.val = (grid0.coords t 0).val / 32) :
    (iblk m c 9 t (ix3 0 0 j) : EReal) = m ((c.tc : Thread nD τ).loc main_arg8) (ix2 B j) := by
  obtain ⟨h0, h1, h2, h3, h4, h5, h6, h7, h8, h9, h10, h11, h12, h13, h14, ht⟩ := places t
  have e : iblk m c 9 t (ix3 0 0 j) = V m c main_v9 (ix3 B 0 j) := by
    blk_ext [iblk, h9]
  rw [e, V_9]
  pointwise []

/-- What operand 10 of the call holds. -/
theorem V_10 : V m c main_v10 = (truncf .bf16 (m ((c.tc : Thread nD τ).loc main_arg10) : FVec Ideal S1024x1024 .f32) bitsLt_bf16_f32 : FVec Ideal S1024x1024 .bf16) := by
  unfold_abbrev_sides
  after_reads_simp

/-- A block of operand 10. -/
theorem blk_10 (k : Fin 1024) (j : Fin 1024) :
    (iblk m c 10 t (ix2 k j) : EReal) = m ((c.tc : Thread nD τ).loc main_arg10) (ix2 k j) := by
  obtain ⟨h0, h1, h2, h3, h4, h5, h6, h7, h8, h9, h10, h11, h12, h13, h14, ht⟩ := places t
  have e : iblk m c 10 t (ix2 k j) = V m c main_v10 (ix2 k j) := by
    blk_ext [iblk, h10]
  rw [e, V_10]
  pointwise []

/-- What operand 11 of the call holds. -/
theorem V_11 : V m c main_v11 = (truncf .bf16 (m ((c.tc : Thread nD τ).loc main_arg11) : FVec Ideal S1024x4096 .f32) bitsLt_bf16_f32 : FVec Ideal S1024x4096 .bf16) := by
  unfold_abbrev_sides
  after_reads_simp

/-- A block of operand 11. -/
theorem blk_11 (k : Fin 1024) (j : Fin 4096) :
    (iblk m c 11 t (ix2 k j) : EReal) = m ((c.tc : Thread nD τ).loc main_arg11) (ix2 k j) := by
  obtain ⟨h0, h1, h2, h3, h4, h5, h6, h7, h8, h9, h10, h11, h12, h13, h14, ht⟩ := places t
  have e : iblk m c 11 t (ix2 k j) = V m c main_v11 (ix2 k j) := by
    blk_ext [iblk, h11]
  rw [e, V_11]
  pointwise []

/-- What operand 12 of the call holds. -/
theorem V_12 : V m c main_v12 = (truncf .bf16 (m ((c.tc : Thread nD τ).loc main_arg12) : FVec Ideal S4096x1024 .f32) bitsLt_bf16_f32 : FVec Ideal S4096x1024 .bf16) := by
  unfold_abbrev_sides
  after_reads_simp

/-- A block of operand 12. -/
theorem blk_12 (k : Fin 4096) (j : Fin 1024) :
    (iblk m c 12 t (ix2 k j) : EReal) = m ((c.tc : Thread nD τ).loc main_arg12) (ix2 k j) := by
  obtain ⟨h0, h1, h2, h3, h4, h5, h6, h7, h8, h9, h10, h11, h12, h13, h14, ht⟩ := places t
  have e : iblk m c 12 t (ix2 k j) = V m c main_v12 (ix2 k j) := by
    blk_ext [iblk, h12]
  rw [e, V_12]
  pointwise []

/-- What operand 13 of the call holds. -/
theorem V_13 : V m c main_v13 = broadcastInDim S1x1024 ![1] bcast_S1024_S1x1024_1 (m ((c.tc : Thread nD τ).loc main_arg13)) := by
  unfold_abbrev_sides
  after_reads_simp

/-- A block of operand 13. -/
theorem blk_13 (j : Fin 1024) :
    (iblk m c 13 t (ix2 0 j) : EReal) = m ((c.tc : Thread nD τ).loc main_arg13) (ix1 j) := by
  obtain ⟨h0, h1, h2, h3, h4, h5, h6, h7, h8, h9, h10, h11, h12, h13, h14, ht⟩ := places t
  have e : iblk m c 13 t (ix2 0 j) = V m c main_v13 (ix2 0 j) := by
    blk_ext [iblk, h13]
  rw [e, V_13]
  pointwise []

end Cert.Kernel2Ideal.Post
-- ==== Proof.PostRef.lean ====
module

public import proofs.«01_k».proof.Proof.Row
public import proofs.«01_k».proof.Proof.Gen.Reference2Ideal.Run
public import Idealize.ShloMosaic.Lib.Pointwise

@[expose] public section

set_option maxRecDepth 16384

noncomputable section

/-! The reference of the last layer's second half, entry by entry. -/

namespace Cert.Reference2Ideal.Post

open Cert.Reference2Ideal Cert.Reference2Ideal.Gen Cert.Reference2Ideal.Value Idealize.ShloMosaic Idealize.ShloMosaic.TcCoe Cert.Post

section Stages
variable {F : FTy → Type} [FloatOps F]

/-- The normalised and gated scans. -/
def refGated (f b r : FVec F S2x16384x1024 .f32) (g : FVec F S256 .f32) : FVec F S2x16384x1024 .f32 :=
  have s : FVec F S2x16384x4x256 .f32 := shapeCast _ (addf f b) shapeCasts_S2x16384x1024_S2x16384x4x256
  shapeCast _ (mulf (mulf (mulf s
      (broadcastInDim S2x16384x4x256 ![0, 1, 2, 3] bcast_S2x16384x4x1_S2x16384x4x256_0_1_2_3 (Host.rsqrt (addf (Host.divf
        (broadcastInDim S2x16384x4x1 ![0, 1, 2] bcast_S2x16384x4_S2x16384x4x1_0_1_2 (Host.reduceAdd (mulf s s) (constant S_ .f32 0x00000000#32) reducesTo_S2x16384x4x256_S2x16384x4_d3 h_S_))
        (broadcastInDim S2x16384x4x1 ![] bcast_S_S2x16384x4x1 (constant S_ .f32 0x43800000#32))) (broadcastInDim S2x16384x4x1 ![] bcast_S_S2x16384x4x1 (constant S_ .f32 0x358637BD#32))))))
      (broadcastInDim S2x16384x4x256 ![0, 1, 2, 3] bcast_S1x1x1x256_S2x16384x4x256_0_1_2_3 (broadcastInDim S1x1x1x256 ![3] bcast_S256_S1x1x1x256_3 g)))
    (shapeCast _ (mulf r (Host.divf (broadcastInDim S2x16384x1024 ![] bcast_S_S2x16384x1024 (constant S_ .f32 0x3F800000#32))
      (addf (broadcastInDim S2x16384x1024 ![] bcast_S_S2x16384x1024 (constant S_ .f32 0x3F800000#32)) (Host.exp (Host.negf r))))) shapeCasts_S2x16384x1024_S2x16384x4x256))
    shapeCasts_S2x16384x4x256_S2x16384x1024

/-- A row with a gated addition. -/
def refResid (x : FVec F S2x16384x1024 .f32) (g : FVec F S2x1024 .f32) (y : FVec F S2x16384x1024 .f32) : FVec F S2x16384x1024 .f32 :=
  addf x (mulf (broadcastInDim S2x16384x1024 ![0, 1, 2] bcast_S2x1x1024_S2x16384x1024_0_1_2 (broadcastInDim S2x1x1024 ![0, 2] bcast_S2x1024_S2x1x1024_0_2 g)) y)

/-- The mixer's output. -/
def refMix (v : FVec F S2x16384x1024 .f32) (w : FVec F S1024x1024 .f32) : FVec F S2x16384x1024 .f32 :=
  Host.dotGeneral dot_S2x16384x1024_S1024x1024_S2x16384x1024_2_0_01_1_n_n none v w

/-- The norm of each row. -/
def refNorm (x : FVec F S2x16384x1024 .f32) (g : FVec F S1024 .f32) : FVec F S2x16384x1024 .f32 :=
  mulf (mulf x (broadcastInDim S2x16384x1024 ![0, 1, 2] bcast_S2x16384x1_S2x16384x1024_0_1_2 (Host.rsqrt (addf (Host.divf
      (broadcastInDim S2x16384x1 ![0, 1] bcast_S2x16384_S2x16384x1_0_1 (Host.reduceAdd (mulf x x) (constant S_ .f32 0x00000000#32) reducesTo_S2x16384x1024_S2x16384_d2 h_S_))
      (broadcastInDim S2x16384x1 ![] bcast_S_S2x16384x1 (constant S_ .f32 0x44800000#32))) (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- The modulated norm. -/
def refModulate (x : FVec F S2x16384x1024 .f32) (sc sh : FVec F S2x1024 .f32) : FVec F S2x16384x1024 .f32 :=
  addf (mulf x (broadcastInDim S2x16384x1024 ![0, 1, 2] bcast_S2x1x1024_S2x16384x1024_0_1_2 (addf (broadcastInDim S2x1x1024 ![] bcast_S_S2x1x1024 (constant S_ .f32 0x3F800000#32)) (broadcastInDim S2x1x1024 ![0, 2] bcast_S2x1024_S2x1x1024_0_2 sc))))
    (broadcastInDim S2x16384x1024 ![0, 1, 2] bcast_S2x1x1024_S2x16384x1024_0_1_2 (broadcastInDim S2x1x1024 ![0, 2] bcast_S2x1024_S2x1x1024_0_2 sh))

/-- The hidden columns. -/
def refHidden (h : FVec F S2x16384x1024 .f32) (w1 : FVec F S1024x4096 .f32) : FVec F S2x16384x4096 .f32 :=
  have z : FVec F S2x16384x4096 .f32 := maximumf (Host.dotGeneral dot_S2x16384x1024_S1024x4096_S2x16384x4096_2_0_01_1_n_n none h w1) (broadcastInDim S2x16384x4096 ![] bcast_S_S2x16384x4096 (constant S_ .f32 0x00000000#32))
  mulf z z

/-- The feed-forward part. -/
def refOut (z : FVec F S2x16384x4096 .f32) (w2 : FVec F S4096x1024 .f32) : FVec F S2x16384x1024 .f32 :=
  Host.dotGeneral dot_S2x16384x4096_S4096x1024_S2x16384x1024_2_0_01_1_n_n none z w2

/-- The batches' rows one after another. -/
def refFlat (x : FVec F S2x16384x1024 .f32) : FVec F S32768x1024 .f32 := shapeCast _ x shapeCasts_S2x16384x1024_S32768x1024

/-- The reference's result, stage by stage. -/
theorem res_eq (m : (ℓ : Loc nD τ sig) → Buf (Elt F) ℓ) (c : Dev nD) (x : FVec F S2x16384x1024 .f32)
    (hx : x = refResid (m ((c.tc : Thread nD τ).loc main_arg0)) (m ((c.tc : Thread nD τ).loc main_arg5))
      (refMix (refGated (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg10)))) :
    res_main_v66 m c = refFlat (refNorm (refResid x (m ((c.tc : Thread nD τ).loc main_arg8))
      (refOut (refHidden (refModulate (refNorm x (m ((c.tc : Thread nD τ).loc main_arg9))) (m ((c.tc : Thread nD τ).loc main_arg7)) (m ((c.tc : Thread nD τ).loc main_arg6))) (m ((c.tc : Thread nD τ).loc main_arg11))) (m ((c.tc : Thread nD τ).loc main_arg12))))
      (m ((c.tc : Thread nD τ).loc main_arg13))) := by
  subst hx
  unfold res_main_v66
  rfl

end Stages

/-- The gated scans, at an index. -/
theorem refGated_at (f b r : FVec Ideal S2x16384x1024 .f32) (g : FVec Ideal S256 .f32) (B : Fin 2) (l : Fin 16384) (k : Fin 1024) :
    (refGated f b r g (ix3 B l k) : EReal) = gated (fun k => f (ix3 B l k)) (fun k => b (ix3 B l k)) (fun k => r (ix3 B l k)) (fun v => g (ix1 v)) k := by
  have hk : (⟨256 * (k.val / 256) + k.val % 256, by omega⟩ : Fin 1024) = k := Fin.ext (Nat.div_add_mod _ _)
  pointwise [refGated, gated, rms, eps, Ideal.logistic]
  simp only [Nat.mul_comm (k.val / 256) 256, hk]

/-- The gated addition, at an index. -/
theorem refResid_at (x : FVec Ideal S2x16384x1024 .f32) (g : FVec Ideal S2x1024 .f32) (y : FVec Ideal S2x16384x1024 .f32) (B : Fin 2) (l : Fin 16384) (j : Fin 1024) :
    (refResid x g y (ix3 B l j) : EReal) = resid (fun j => x (ix3 B l j)) (fun j => g (ix2 B j)) (fun j => y (ix3 B l j)) j := by
  pointwise [refResid, resid]

/-- The mixer's output, at an index. -/
theorem refMix_at (v : FVec Ideal S2x16384x1024 .f32) (w : FVec Ideal S1024x1024 .f32) (B : Fin 2) (l : Fin 16384) (j : Fin 1024) :
    (refMix v w (ix3 B l j) : EReal) = times (fun k => v (ix3 B l k)) (fun k j => w (ix2 k j)) j := by
  pointwise [refMix, times]

/-- The norm, at an index. -/
theorem refNorm_at (x : FVec Ideal S2x16384x1024 .f32) (g : FVec Ideal S1024 .f32) (B : Fin 2) (l : Fin 16384) (j : Fin 1024) :
    (refNorm x g (ix3 B l j) : EReal) = rms (Ideal.ofBits .f32 0x44800000#32) (fun j => x (ix3 B l j)) (fun j => g (ix1 j)) j := by
  pointwise [refNorm, rms, eps]

/-- The modulation, at an index. -/
theorem refModulate_at (x : FVec Ideal S2x16384x1024 .f32) (sc sh : FVec Ideal S2x1024 .f32) (B : Fin 2) (l : Fin 16384) (j : Fin 1024) :
    (refModulate x sc sh (ix3 B l j) : EReal) = x (ix3 B l j) * (1 + sc (ix2 B j)) + sh (ix2 B j) := by
  pointwise [refModulate]

/-- The hidden columns, at an index. -/
theorem refHidden_at (h : FVec Ideal S2x16384x1024 .f32) (w1 : FVec Ideal S1024x4096 .f32) (B : Fin 2) (l : Fin 16384) (f : Fin 4096) :
    (refHidden h w1 (ix3 B l f) : EReal) = square (times (fun k => h (ix3 B l k)) (fun k f => w1 (ix2 k f)) f) := by
  pointwise [refHidden, square, times]

/-- The feed-forward part, at an index. -/
theorem refOut_at (z : FVec Ideal S2x16384x4096 .f32) (w2 : FVec Ideal S4096x1024 .f32) (B : Fin 2) (l : Fin 16384) (j : Fin 1024) :
    (refOut z w2 (ix3 B l j) : EReal) = times (fun f => z (ix3 B l f)) (fun f j => w2 (ix2 f j)) j := by
  pointwise [refOut, times]

/-- A row of the result. -/
theorem refFlat_at (x : FVec Ideal S2x16384x1024 .f32) (B : Fin 2) (l : Fin 16384) (j : Fin 1024) (R : Fin 32768) (hR : R.val = 16384 * B.val + l.val) :
    (refFlat x (ix2 R j) : EReal) = x (ix3 B l j) := by
  have hl := l.isLt
  have e : (⟨R.val / 16384, by omega⟩ : Fin 2) = B := Fin.ext (by dsimp only; omega)
  have g : (⟨R.val % 16384, by omega⟩ : Fin 16384) = l := Fin.ext (by dsimp only; omega)
  pointwise [refFlat]
  rw [e, g]

/-- The reference's result, at an index. -/
theorem res_at (m : (ℓ : Loc nD τ sig) → Buf (Elt Ideal) ℓ) (c : Dev nD) (B : Fin 2) (l : Fin 16384) (j : Fin 1024) (R : Fin 32768) (hR : R.val = 16384 * B.val + l.val) :
    (res_main_v66 m c (ix2 R j) : EReal)
      = rms (Ideal.ofBits .f32 0x44800000#32)
          (layer (fun k => m ((c.tc : Thread nD τ).loc main_arg0) (ix3 B l k)) (times (gated (fun k => m ((c.tc : Thread nD τ).loc main_arg1) (ix3 B l k)) (fun k => m ((c.tc : Thread nD τ).loc main_arg2) (ix3 B l k)) (fun k => m ((c.tc : Thread nD τ).loc main_arg3) (ix3 B l k)) (fun k => m ((c.tc : Thread nD τ).loc main_arg4) (ix1 k))) (fun k j => m ((c.tc : Thread nD τ).loc main_arg10) (ix2 k j)))
            (fun k => m ((c.tc : Thread nD τ).loc main_arg5) (ix2 B k)) (fun k => m ((c.tc : Thread nD τ).loc main_arg9) (ix1 k)) (fun k => m ((c.tc : Thread nD τ).loc main_arg7) (ix2 B k)) (fun k => m ((c.tc : Thread nD τ).loc main_arg6) (ix2 B k)) (fun k => m ((c.tc : Thread nD τ).loc main_arg8) (ix2 B k)) (fun k j => m ((c.tc : Thread nD τ).loc main_arg11) (ix2 k j)) (fun k j => m ((c.tc : Thread nD τ).loc main_arg12) (ix2 k j)))
          (fun k => m ((c.tc : Thread nD τ).loc main_arg13) (ix1 k)) j := by
  obtain ⟨x, hX⟩ : ∃ x, x = refResid (F := Ideal) (m ((c.tc : Thread nD τ).loc main_arg0)) (m ((c.tc : Thread nD τ).loc main_arg5)) (refMix (refGated (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg10))) := ⟨_, rfl⟩
  have hx : (fun k => (x (ix3 B l k) : EReal)) = resid (fun k => m ((c.tc : Thread nD τ).loc main_arg0) (ix3 B l k)) (fun k => m ((c.tc : Thread nD τ).loc main_arg5) (ix2 B k)) (times (gated (fun k => m ((c.tc : Thread nD τ).loc main_arg1) (ix3 B l k)) (fun k => m ((c.tc : Thread nD τ).loc main_arg2) (ix3 B l k)) (fun k => m ((c.tc : Thread nD τ).loc main_arg3) (ix3 B l k)) (fun k => m ((c.tc : Thread nD τ).loc main_arg4) (ix1 k))) (fun k j => m ((c.tc : Thread nD τ).loc main_arg10) (ix2 k j))) := by
    funext k
    rw [hX, refResid_at]
    simp only [refMix_at, refGated_at]
  rw [res_eq m c x hX, refFlat_at _ B l j R hR, refNorm_at]
  simp only [refResid_at, refOut_at, refHidden_at, refModulate_at, refNorm_at, hx]
  rfl

end Cert.Reference2Ideal.Post
-- ==== Proof.PostFinal.lean ====
module

public import proofs.«01_k».proof.Proof.PostPoint
public import proofs.«01_k».proof.Proof.PostRef

@[expose] public section

set_option maxRecDepth 16384

noncomputable section

/-! The last layer's second half: the call's whole result is the reference's. -/

namespace Cert.Kernel2Ideal.Post

open Cert.Kernel2Ideal Cert.Kernel2Ideal.Gen Idealize.ShloMosaic Idealize.ShloMosaic.TcCoe Cert.Post

/-- From arguments that agree, the call's result is the reference's. -/
theorem result_eq (m : (ℓ : Loc nD τ sig) → Buf (Elt Ideal) ℓ) (c : Dev nD)
    (m' : (ℓ : Loc Cert.Reference2Ideal.nD Cert.Reference2Ideal.τ Cert.Reference2Ideal.sig) → Buf (Elt Ideal) ℓ)
    (h0 : m' ((c.tc : Thread Cert.Reference2Ideal.nD Cert.Reference2Ideal.τ).loc Cert.Reference2Ideal.main_arg0) = m ((c.tc : Thread nD τ).loc main_arg0))
    (h1 : m' ((c.tc : Thread Cert.Reference2Ideal.nD Cert.Reference2Ideal.τ).loc Cert.Reference2Ideal.main_arg1) = m ((c.tc : Thread nD τ).loc main_arg1))
    (h2 : m' ((c.tc : Thread Cert.Reference2Ideal.nD Cert.Reference2Ideal.τ).loc Cert.Reference2Ideal.main_arg2) = m ((c.tc : Thread nD τ).loc main_arg2))
    (h3 : m' ((c.tc : Thread Cert.Reference2Ideal.nD Cert.Reference2Ideal.τ).loc Cert.Reference2Ideal.main_arg3) = m ((c.tc : Thread nD τ).loc main_arg3))
    (h4 : m' ((c.tc : Thread Cert.Reference2Ideal.nD Cert.Reference2Ideal.τ).loc Cert.Reference2Ideal.main_arg4) = m ((c.tc : Thread nD τ).loc main_arg4))
    (h5 : m' ((c.tc : Thread Cert.Reference2Ideal.nD Cert.Reference2Ideal.τ).loc Cert.Reference2Ideal.main_arg5) = m ((c.tc : Thread nD τ).loc main_arg5))
    (h6 : m' ((c.tc : Thread Cert.Reference2Ideal.nD Cert.Reference2Ideal.τ).loc Cert.Reference2Ideal.main_arg6) = m ((c.tc : Thread nD τ).loc main_arg6))
    (h7 : m' ((c.tc : Thread Cert.Reference2Ideal.nD Cert.Reference2Ideal.τ).loc Cert.Reference2Ideal.main_arg7) = m ((c.tc : Thread nD τ).loc main_arg7))
    (h8 : m' ((c.tc : Thread Cert.Reference2Ideal.nD Cert.Reference2Ideal.τ).loc Cert.Reference2Ideal.main_arg8) = m ((c.tc : Thread nD τ).loc main_arg8))
    (h9 : m' ((c.tc : Thread Cert.Reference2Ideal.nD Cert.Reference2Ideal.τ).loc Cert.Reference2Ideal.main_arg9) = m ((c.tc : Thread nD τ).loc main_arg9))
    (h10 : m' ((c.tc : Thread Cert.Reference2Ideal.nD Cert.Reference2Ideal.τ).loc Cert.Reference2Ideal.main_arg10) = m ((c.tc : Thread nD τ).loc main_arg10))
    (h11 : m' ((c.tc : Thread Cert.Reference2Ideal.nD Cert.Reference2Ideal.τ).loc Cert.Reference2Ideal.main_arg11) = m ((c.tc : Thread nD τ).loc main_arg11))
    (h12 : m' ((c.tc : Thread Cert.Reference2Ideal.nD Cert.Reference2Ideal.τ).loc Cert.Reference2Ideal.main_arg12) = m ((c.tc : Thread nD τ).loc main_arg12))
    (h13 : m' ((c.tc : Thread Cert.Reference2Ideal.nD Cert.Reference2Ideal.τ).loc Cert.Reference2Ideal.main_arg13) = m ((c.tc : Thread nD τ).loc main_arg13)) :
    (dats m 0 c).arrAt 14 cfg0.N = Cert.Reference2Ideal.Value.res_main_v66 m' c := by
  refine (dats m 0 c).arrAt_eq_of_covers 14 _ covers fun t hf y => ?_
  blk_simp
  rw [after0_14]
  obtain ⟨p0, p1, p2, p3, p4, p5, p6, p7, p8, p9, p10, p11, p12, p13, p14, ht⟩ := places t
  obtain ⟨l, j, rfl⟩ : ∃ (l : Fin 512) (j : Fin 1024), y = ix2 l j := ⟨y 0, y 1, by blk_ext []⟩
  have hl := l.isLt
  obtain ⟨B, hB⟩ : ∃ B : Fin 2, B.val = (grid0.coords t 0).val / 32 := ⟨⟨_, by omega⟩, rfl⟩
  obtain ⟨L, hL⟩ : ∃ L : Fin 16384, L.val = 512 * ((grid0.coords t 0).val % 32) + l.val := ⟨⟨_, by omega⟩, rfl⟩
  obtain ⟨R, hR⟩ : ∃ R : Fin 32768, R.val = 512 * (grid0.coords t 0).val + l.val := ⟨⟨_, by omega⟩, rfl⟩
  have hRL : R.val = 16384 * B.val + L.val := by omega
  have hs : 16384 * B.val + L.val = 512 * (grid0.coords t 0).val + l.val := by omega
  have he : (win0_14.blk t).view.emb (ix2 l j) = ix2 R j := by
    have q : win0_14.index t = ![(grid0.coords t 0).val, 0] := p14
    blk_ext [q]
  rw [he, Cert.Reference2Ideal.Post.res_at m' c B L j R hRL, h0, h1, h2, h3, h4, h5, h6, h7, h8, h9, h10, h11, h12, h13]
  refine (block_at _ _ _ _ _ _ _ _ _ _ _ _ _ _ l j).trans ?_
  simp only [blk_0 m c t l _ B L hs, blk_1 m c t l _ B L hs, blk_2 m c t l _ B L hs, blk_3 m c t l _ B L hs, blk_5 m c t _ B hB, blk_7 m c t _ B hB, blk_8 m c t _ B hB, blk_9 m c t _ B hB, blk_4 m c t, blk_6 m c t, blk_10 m c t, blk_11 m c t, blk_12 m c t, blk_13 m c t]

end Cert.Kernel2Ideal.Post
-- ==== Proof.Join.lean ====
module

public import proofs.«01_k».proof.Proof.Row

@[expose] public section

noncomputable section

/-! The even layers' mixer: two halves side by side. -/

namespace Cert.Post

open Idealize.ShloMosaic

/-- Two half rows side by side. -/
def joined (a b : Fin 512 → EReal) (k : Fin 1024) : EReal := if h : k.val < 512 then a ⟨k.val, h⟩ else b ⟨k.val - 512, by omega⟩

/-- The joined row times a matrix is the sum of each half times its half of the matrix. -/
theorem joined_times (a b : Fin 512 → EReal) (w : Fin 1024 → Fin 1024 → EReal) (j : Fin 1024) :
    times (joined a b) w j = ∑ i : Fin 512, a i * w ⟨i.val, by omega⟩ j + ∑ i : Fin 512, b i * w ⟨512 + i.val, by omega⟩ j := by
  have e := Fin.sum_univ_add (a := 512) (b := 512) (fun k : Fin (512 + 512) => joined a b k * w k j)
  refine (show times (joined a b) w j = _ from e).trans ?_
  refine congrArg₂ (· + ·) (Fintype.sum_congr _ _ fun i => ?_) (Fintype.sum_congr _ _ fun i => ?_)
  · have h : (Fin.castAdd 512 i).val < 512 := i.isLt
    exact congrArg (· * w (Fin.castAdd 512 i) j) (dif_pos h)
  · have h : ¬ (Fin.natAdd 512 i).val < 512 := by simp
    refine congrArg (· * w (Fin.natAdd 512 i) j) ((dif_neg h).trans (congrArg b (Fin.ext ?_)))
    simp

end Cert.Post
-- ==== Proof.EvenBlock.lean ====
module

public import proofs.«01_k».proof.Proof.Join
public import proofs.«01_k».proof.Proof.Gen.Kernel3Ideal.Frame
public import Idealize.ShloMosaic.Lib.Pointwise
public import Idealize.ShloMosaic.Lib.Pipeline.ValueKit
public import Idealize.ShloMosaic.Lib.Pipeline.ReadBack

@[expose] public section

set_option maxRecDepth 16384

noncomputable section

/-! What one grid point of an even layer's second half leaves in its block, entry by entry. -/

namespace Cert.Kernel3Ideal.Post

open Cert.Kernel3Ideal Cert.Kernel3Ideal.Gen Idealize.ShloMosaic Idealize.ShloMosaic.TcCoe Cert.Post

section Fold
variable {F : FTy → Type} [FloatOps F]

/-- A chunk of the feed-forward part: 1024 of its 4096 columns. -/
def chunk (h : FVec F S512x1024 .bf16) (w1 w2 : Vec F S1024x1024 .bf16) : FVec F S512x1024 .f32 :=
  have z : FVec F S512x1024 .f32 := maximumf (matmul dot_S512x1024_S1024x1024_S512x1024_1_0_0_1_n_n none h (shapeCast S1024x1024 w1 shapeCasts_S1024x1024_S1024x1024) (constant S512x1024 .f32 0x00000000#32)) (broadcast S512x1024 (Scalar.ofBits .f32 0x00000000#32))
  matmul dot_S512x1024_S1024x1024_S512x1024_1_0_0_1_n_n none (truncf .bf16 (mulf z z) bitsLt_bf16_f32) (shapeCast S1024x1024 w2 shapeCasts_S1024x1024_S1024x1024) (constant S512x1024 .f32 0x00000000#32)

/-- The start of the chunks' sum. -/
def start : FVec F S512x1024 .f32 := broadcast S512x1024 (Scalar.ofBits .f32 0x00000000#32)

/-- A gated addition. -/
def gate (x : FVec F S512x1024 .f32) (g : Vec F S1x1x1024 .f32) (y : FVec F S512x1024 .f32) : FVec F S512x1024 .f32 :=
  addf x (mulf (broadcastTo S512x1024 (shapeCast S1x1024 g shapeCasts_S1x1x1024_S1x1024) broadcasts_S1x1024_S512x1024) y)

/-- The block's last step gates the sum of the chunks. -/
theorem fold (x n : FVec F S512x1024 .f32) (s o : FVec F S1x1024 .f32) (sh : Vec F S1x1x1024 .f32) (u1 u2 v1 v2 w1 w2 z1 z2 : Vec F S1024x1024 .bf16) (gf : Vec F S1x1x1024 .f32) :
    k0_pay1 x (k0_pay6 n s o sh) (k0_pay7 n s o sh u1 u2 v1 v2) (k0_pay8 n s o sh w1) w2 z1 z2 gf
      = gate x gf (addf (addf (addf (addf start (chunk (k0_pay6 n s o sh) u1 u2)) (chunk (k0_pay6 n s o sh) v1 v2)) (chunk (k0_pay6 n s o sh) w1 w2)) (chunk (k0_pay6 n s o sh) z1 z2)) := rfl

end Fold

/-- A chunk, at an index. -/
theorem chunk_at (h : FVec Ideal S512x1024 .bf16) (w1 w2 : Vec Ideal S1024x1024 .bf16) (l : Fin 512) (j : Fin 1024) :
    (chunk h w1 w2 (ix2 l j) : EReal) = ∑ k : Fin 1024, square (∑ i : Fin 1024, h (ix2 l i) * w1 (ix2 i k)) * w2 (ix2 k j) := by
  pointwise [chunk, square]

/-- The row with the mixer's output, at an index. -/
theorem base_at (a b : Vec Ideal S512x512 .bf16) (u v : Vec Ideal S512x1024 .bf16) (x : Vec Ideal S512x1024 .f32) (gm : Vec Ideal S1x1x1024 .f32) (l : Fin 512) (j : Fin 1024) :
    (k0_pay2 a u b v x gm (ix2 l j) : EReal)
      = resid (fun j => x (ix2 l j)) (fun j => gm (ix3 0 0 j)) (fun j => ∑ i : Fin 512, a (ix2 l i) * u (ix2 i j) + ∑ i : Fin 512, b (ix2 l i) * v (ix2 i j)) j := by
  pointwise [k0_pay2, resid]

/-- The modulated norm, at an index. -/
theorem normed_at (a b : Vec Ideal S512x512 .bf16) (u v : Vec Ideal S512x1024 .bf16) (x : Vec Ideal S512x1024 .f32) (gm : Vec Ideal S1x1x1024 .f32) (g2 : Vec Ideal S1x1024 .f32) (sc sh : Vec Ideal S1x1x1024 .f32)
    (l : Fin 512) (j : Fin 1024) :
    (k0_pay6 (k0_pay3 a u b v x gm g2) (k0_pay4 sc) (k0_pay5 (F := Ideal)) sh (ix2 l j) : EReal)
      = normed (fun j => k0_pay2 a u b v x gm (ix2 l j)) (fun j => g2 (ix2 0 j)) (fun j => sc (ix3 0 0 j)) (fun j => sh (ix3 0 0 j)) j := by
  pointwise [k0_pay6, k0_pay3, k0_pay4, k0_pay5, normed, rms, eps]

/-- The last addition, at an index. -/
theorem gate_at (x a : FVec Ideal S512x1024 .f32) (gf : Vec Ideal S1x1x1024 .f32) (l : Fin 512) (j : Fin 1024) :
    (gate x gf a (ix2 l j) : EReal) = resid (fun j => x (ix2 l j)) (fun j => gf (ix3 0 0 j)) (fun j => a (ix2 l j)) j := by
  pointwise [gate, resid]

/-- A sum of arrays, at an index. -/
theorem addf_at {s : Shape} (x y : FVec Ideal s .f32) (i : s.Idx) : (addf x y i : EReal) = x i + y i := rfl

/-- A chunk, from the whole weights. -/
theorem chunk_part (h : FVec Ideal S512x1024 .bf16) (w1 w2 : Vec Ideal S1024x1024 .bf16) (x9 : Vec Ideal S1024x4096 .bf16) (x10 : Vec Ideal S4096x1024 .bf16) (l : Fin 512) (j : Fin 1024) (o : Fin 1024 → Fin 4096)
    (h1 : ∀ i k, w1 (ix2 i k) = x9 (ix2 i (o k))) (h2 : ∀ k, w2 (ix2 k j) = x10 (ix2 (o k) j)) :
    (chunk h w1 w2 (ix2 l j) : EReal)
      = ∑ k : Fin 1024, square (times (fun i => h (ix2 l i)) (fun i f => x9 (ix2 i f)) (o k)) * x10 (ix2 (o k) j) := by
  rw [chunk_at]
  simp only [h1, h2, times]

/-- The start of the chunks' sum is zero. -/
theorem start_at (l : Fin 512) (j : Fin 1024) : ((start (F := Ideal)) (ix2 l j) : EReal) = 0 := by
  pointwise [start]

/-- The feed-forward part of a block. -/
theorem ffn_at (h : FVec Ideal S512x1024 .bf16) (x9 : Vec Ideal S1024x4096 .bf16) (x10 : Vec Ideal S4096x1024 .bf16) (l : Fin 512) (j : Fin 1024) :
    (addf (addf (addf (addf (start (F := Ideal)) (chunk h (View.ld x9 r0_6) (View.ld x10 r0_7))) (chunk h (View.ld x9 r0_8) (View.ld x10 r0_9))) (chunk h (View.ld x9 r0_10) (View.ld x10 r0_11))) (chunk h (View.ld x9 r0_12) (View.ld x10 r0_13)) (ix2 l j) : EReal)
      = times (fun f => square (times (fun i => h (ix2 l i)) (fun i f => x9 (ix2 i f)) f)) (fun f j => x10 (ix2 f j)) j := by
  rw [addf_at, addf_at, addf_at, addf_at, start_at, zero_add, times, sum_four 1024 rfl]
  congr 1
  · congr 1
    · congr 1
      · exact chunk_part h _ _ x9 x10 l j _ (fun i k => ld_ix2 _ _ _ _ _ _ _ _ (by simp) (by simp)) (fun k => ld_ix2 _ _ _ _ _ _ _ _ (by simp) (by simp))
      · exact chunk_part h _ _ x9 x10 l j _ (fun i k => ld_ix2 _ _ _ _ _ _ _ _ (by simp) (by simp)) (fun k => ld_ix2 _ _ _ _ _ _ _ _ (by simp) (by simp))
    · exact chunk_part h _ _ x9 x10 l j _ (fun i k => ld_ix2 _ _ _ _ _ _ _ _ (by simp) (by simp)) (fun k => ld_ix2 _ _ _ _ _ _ _ _ (by simp) (by simp))
  · exact chunk_part h _ _ x9 x10 l j _ (fun i k => ld_ix2 _ _ _ _ _ _ _ _ (by simp) (by simp)) (fun k => ld_ix2 _ _ _ _ _ _ _ _ (by simp) (by simp))

/-- What a grid point leaves in its block. -/
theorem block_at (x0 : Vec Ideal S512x1024 .f32) (x1 x2 : Vec Ideal S512x512 .bf16) (x3 : Vec Ideal S1x1x1024 .f32) (x4 : Vec Ideal S1x1024 .f32) (x5 x6 x7 : Vec Ideal S1x1x1024 .f32)
    (x8 : Vec Ideal S1024x1024 .bf16) (x9 : Vec Ideal S1024x4096 .bf16) (x10 : Vec Ideal S4096x1024 .bf16) (x11 : Vec Ideal S1x1024 .f32) (l : Fin 512) (j : Fin 1024) :
    (out0_12 x0 x1 x2 x3 x4 x5 x6 x7 x8 x9 x10 x11 (ix2 l j) : EReal)
      = layer (fun k => x0 (ix2 l k)) (times (joined (fun k => x1 (ix2 l k)) (fun k => x2 (ix2 l k))) (fun k j => x8 (ix2 k j)))
            (fun k => x3 (ix3 0 0 k)) (fun k => x4 (ix2 0 k)) (fun k => x6 (ix3 0 0 k)) (fun k => x5 (ix3 0 0 k)) (fun k => x7 (ix3 0 0 k)) (fun i f => x9 (ix2 i f)) (fun f j => x10 (ix2 f j)) j := by
  have g0 : View.ld x0 r0_3 = x0 := View.ld_unit_lit' _ _ (by decide)
  have g1 : View.ld x1 r0_0 = x1 := View.ld_unit_lit' _ _ (by decide)
  have g2 : View.ld x2 r0_0 = x2 := View.ld_unit_lit' _ _ (by decide)
  have g3 : View.ld x3 r0_4 = x3 := View.ld_unit_lit' _ _ (by decide)
  have g4 : View.ld x4 r0_5 = x4 := View.ld_unit_lit' _ _ (by decide)
  have g5 : View.ld x5 r0_4 = x5 := View.ld_unit_lit' _ _ (by decide)
  have g6 : View.ld x6 r0_4 = x6 := View.ld_unit_lit' _ _ (by decide)
  have g7 : View.ld x7 r0_4 = x7 := View.ld_unit_lit' _ _ (by decide)
  have hu : ∀ (i : Fin 512) (j : Fin 1024), View.ld x8 r0_1 (ix2 i j) = x8 (ix2 ⟨i.val, by omega⟩ j) := fun i j => ld_ix2 _ _ _ _ _ _ _ _ (by simp) (by simp)
  have hv : ∀ (i : Fin 512) (j : Fin 1024), View.ld x8 r0_2 (ix2 i j) = x8 (ix2 ⟨512 + i.val, by omega⟩ j) := fun i j => ld_ix2 _ _ _ _ _ _ _ _ (by simp) (by simp)
  rw [out0_12, View.canon_cons_unit_lit' _ _ _ (by decide), k0_pay9, k0_pay10, k0_pay11, g0, g1, g2, g3, g4, g5, g6, g7, fold, gate_at]
  generalize View.ld x8 r0_1 = u at hu ⊢
  generalize View.ld x8 r0_2 = v at hv ⊢
  have hr : (fun j => (k0_pay2 x1 u x2 v x0 x3 (ix2 l j) : EReal)) = resid (fun k => x0 (ix2 l k)) (fun k => x3 (ix3 0 0 k)) (times (joined (fun k => x1 (ix2 l k)) (fun k => x2 (ix2 l k))) (fun k j => x8 (ix2 k j))) := by
    funext j
    rw [base_at]
    simp only [hu, hv, ← joined_times (fun k => x1 (ix2 l k)) (fun k => x2 (ix2 l k)) (fun k j => x8 (ix2 k j))]
  have hh := funext fun j => normed_at x1 x2 u v x0 x3 x4 x6 x5 l j
  have hf := fun j => ffn_at (k0_pay6 (k0_pay3 x1 u x2 v x0 x3 x4) (k0_pay4 x6) (k0_pay5 (F := Ideal)) x5) x9 x10 l j
  rw [hh, hr] at hf
  rw [hr]
  unfold layer
  simp only [hf]

end Cert.Kernel3Ideal.Post
-- ==== Proof.EvenPoint.lean ====
module

public import proofs.«01_k».proof.Proof.EvenBlock
public import Idealize.ShloMosaic.Lib.StableHlo.RunRead
public import Idealize.ShloMosaic.Lib.Pointwise

@[expose] public section

set_option maxRecDepth 16384

noncomputable section

/-! The blocks that a grid point of an even layer's second half reads, from the arguments. -/

namespace Cert.Kernel3Ideal.Post

open Cert.Kernel3Ideal Cert.Kernel3Ideal.Gen Idealize.ShloMosaic Idealize.ShloMosaic.TcCoe Cert.Post

/-- The block of each window at a grid point. -/
theorem places (t : Fin cfg0.N) :
    (cfg0.win 0).index t = ![(grid0.coords t 0).val, 0] ∧ (cfg0.win 1).index t = ![(grid0.coords t 0).val, 0] ∧ (cfg0.win 2).index t = ![(grid0.coords t 0).val, 0]
    ∧ (cfg0.win 3).index t = ![(grid0.coords t 0).val / 32, 0, 0] ∧ (cfg0.win 4).index t = ![0, 0] ∧ (cfg0.win 5).index t = ![(grid0.coords t 0).val / 32, 0, 0]
    ∧ (cfg0.win 6).index t = ![(grid0.coords t 0).val / 32, 0, 0] ∧ (cfg0.win 7).index t = ![(grid0.coords t 0).val / 32, 0, 0]
    ∧ (cfg0.win 8).index t = ![0, 0] ∧ (cfg0.win 9).index t = ![0, 0] ∧ (cfg0.win 10).index t = ![0, 0]
    ∧ (cfg0.win 12).index t = ![(grid0.coords t 0).val, 0] ∧ (grid0.coords t 0).val < 64 := by
  revert t
  decide +kernel

/-- The call's blocks cover its result. -/
theorem covers : (cfg0.win 12).Covers := by
  decide +kernel

/-- The flattened rows, at an index. -/
theorem flat_at (x : FVec Ideal S2x16384x1024 .f32) (R : Fin 32768) (j : Fin 1024) (B : Fin 2) (L : Fin 16384) (hR : 16384 * B.val + L.val = R.val) :
    (shapeCast S32768x1024 x shapeCasts_S2x16384x1024_S32768x1024 (ix2 R j) : EReal) = x (ix3 B L j) := by
  have hL := L.isLt
  have e₀ : (⟨R.val / 16384, by omega⟩ : Fin 2) = B := Fin.ext (by dsimp only; omega)
  have e₁ : (⟨R.val % 16384, by omega⟩ : Fin 16384) = L := Fin.ext (by dsimp only; omega)
  pointwise []
  rw [e₀, e₁]

/-- The flattened rows, at an index. -/
theorem flat_half_at (x : FVec Ideal S2x16384x512 .bf16) (R : Fin 32768) (j : Fin 512) (B : Fin 2) (L : Fin 16384) (hR : 16384 * B.val + L.val = R.val) :
    (shapeCast S32768x512 x shapeCasts_S2x16384x512_S32768x512 (ix2 R j) : EReal) = x (ix3 B L j) := by
  have hL := L.isLt
  have e₀ : (⟨R.val / 16384, by omega⟩ : Fin 2) = B := Fin.ext (by dsimp only; omega)
  have e₁ : (⟨R.val % 16384, by omega⟩ : Fin 16384) = L := Fin.ext (by dsimp only; omega)
  pointwise []
  rw [e₀, e₁]

variable (m : (ℓ : Loc nD τ sig) → Buf (Elt Ideal) ℓ) (c : Dev nD) (t : Fin cfg0.N)

/-- What operand 0 of the call holds. -/
theorem V_0 : V m c main_v0 = shapeCast S32768x1024 (m ((c.tc : Thread nD τ).loc main_arg0) : FVec Ideal S2x16384x1024 .f32) shapeCasts_S2x16384x1024_S32768x1024 := by
  unfold_abbrev_sides
  after_reads_simp
  rfl

/-- A block of operand 0. -/
theorem blk_0 (l : Fin 512) (j : Fin 1024) (B : Fin 2) (L : Fin 16384) (hL : 16384 * B.val + L.val = 512 * (grid0.coords t 0).val + l.val) :
    (iblk m c 0 t (ix2 l j) : EReal) = m ((c.tc : Thread nD τ).loc main_arg0) (ix3 B L j) := by
  obtain ⟨h0, h1, h2, h3, h4, h5, h6, h7, h8, h9, h10, h12, ht⟩ := places t
  obtain ⟨R, hR⟩ : ∃ R : Fin 32768, R.val = 512 * (grid0.coords t 0).val + l.val := ⟨⟨_, by omega⟩, rfl⟩
  have e : iblk m c 0 t (ix2 l j) = V m c main_v0 (ix2 R j) := by
    blk_ext [iblk, h0]
  rw [e, V_0]
  exact flat_at _ R j B L (hL.trans hR.symm)

/-- What operand 1 of the call holds. -/
theorem V_1 : V m c main_v1 = shapeCast S32768x512 (m ((c.tc : Thread nD τ).loc main_arg1) : FVec Ideal S2x16384x512 .bf16) shapeCasts_S2x16384x512_S32768x512 := by
  unfold_abbrev_sides
  after_reads_simp
  rfl

/-- A block of operand 1. -/
theorem blk_1 (l : Fin 512) (j : Fin 512) (B : Fin 2) (L : Fin 16384) (hL : 16384 * B.val + L.val = 512 * (grid0.coords t 0).val + l.val) :
    (iblk m c 1 t (ix2 l j) : EReal) = m ((c.tc : Thread nD τ).loc main_arg1) (ix3 B L j) := by
  obtain ⟨h0, h1, h2, h3, h4, h5, h6, h7, h8, h9, h10, h12, ht⟩ := places t
  obtain ⟨R, hR⟩ : ∃ R : Fin 32768, R.val = 512 * (grid0.coords t 0).val + l.val := ⟨⟨_, by omega⟩, rfl⟩
  have e : iblk m c 1 t (ix2 l j) = V m c main_v1 (ix2 R j) := by
    blk_ext [iblk, h1]
  rw [e, V_1]
  exact flat_half_at _ R j B L (hL.trans hR.symm)

/-- What operand 2 of the call holds. -/
theorem V_2 : V m c main_v2 = shapeCast S32768x512 (m ((c.tc : Thread nD τ).loc main_arg2) : FVec Ideal S2x16384x512 .bf16) shapeCasts_S2x16384x512_S32768x512 := by
  unfold_abbrev_sides
  after_reads_simp
  rfl

/-- A block of operand 2. -/
theorem blk_2 (l : Fin 512) (j : Fin 512) (B : Fin 2) (L : Fin 16384) (hL : 16384 * B.val + L.val = 512 * (grid0.coords t 0).val + l.val) :
    (iblk m c 2 t (ix2 l j) : EReal) = m ((c.tc : Thread nD τ).loc main_arg2) (ix3 B L j) := by
  obtain ⟨h0, h1, h2, h3, h4, h5, h6, h7, h8, h9, h10, h12, ht⟩ := places t
  obtain ⟨R, hR⟩ : ∃ R : Fin 32768, R.val = 512 * (grid0.coords t 0).val + l.val := ⟨⟨_, by omega⟩, rfl⟩
  have e : iblk m c 2 t (ix2 l j) = V m c main_v2 (ix2 R j) := by
    blk_ext [iblk, h2]
  rw [e, V_2]
  exact flat_half_at _ R j B L (hL.trans hR.symm)

/-- What operand 3 of the call holds. -/
theorem V_3 : V m c main_v3 = broadcastInDim S2x1x1024 ![0, 2] bcast_S2x1024_S2x1x1024_0_2 (m ((c.tc : Thread nD τ).loc main_arg3)) := by
  unfold_abbrev_sides
  after_reads_simp

/-- A block of operand 3. -/
theorem blk_3 (j : Fin 1024) (B : Fin 2) (hB : B.val = (grid0.coords t 0).val / 32) :
    (iblk m c 3 t (ix3 0 0 j) : EReal) = m ((c.tc : Thread nD τ).loc main_arg3) (ix2 B j) := by
  obtain ⟨h0, h1, h2, h3, h4, h5, h6, h7, h8, h9, h10, h12, ht⟩ := places t
  have e : iblk m c 3 t (ix3 0 0 j) = V m c main_v3 (ix3 B 0 j) := by
    blk_ext [iblk, h3]
  rw [e, V_3]
  pointwise []

/-- What operand 4 of the call holds. -/
theorem V_4 : V m c main_v4 = broadcastInDim S1x1024 ![1] bcast_S1024_S1x1024_1 (m ((c.tc : Thread nD τ).loc main_arg7)) := by
  unfold_abbrev_sides
  after_reads_simp

/-- A block of operand 4. -/
theorem blk_4 (j : Fin 1024) :
    (iblk m c 4 t (ix2 0 j) : EReal) = m ((c.tc : Thread nD τ).loc main_arg7) (ix1 j) := by
  obtain ⟨h0, h1, h2, h3, h4, h5, h6, h7, h8, h9, h10, h12, ht⟩ := places t
  have e : iblk m c 4 t (ix2 0 j) = V m c main_v4 (ix2 0 j) := by
    blk_ext [iblk, h4]
  rw [e, V_4]
  pointwise []

/-- What operand 5 of the call holds. -/
theorem V_5 : V m c main_v5 = broadcastInDim S2x1x1024 ![0, 2] bcast_S2x1024_S2x1x1024_0_2 (m ((c.tc : Thread nD τ).loc main_arg4)) := by
  unfold_abbrev_sides
  after_reads_simp

/-- A block of operand 5. -/
theorem blk_5 (j : Fin 1024) (B : Fin 2) (hB : B.val = (grid0.coords t 0).val / 32) :
    (iblk m c 5 t (ix3 0 0 j) : EReal) = m ((c.tc : Thread nD τ).loc main_arg4) (ix2 B j) := by
  obtain ⟨h0, h1, h2, h3, h4, h5, h6, h7, h8, h9, h10, h12, ht⟩ := places t
  have e : iblk m c 5 t (ix3 0 0 j) = V m c main_v5 (ix3 B 0 j) := by
    blk_ext [iblk, h5]
  rw [e, V_5]
  pointwise []

/-- What operand 6 of the call holds. -/
theorem V_6 : V m c main_v6 = broadcastInDim S2x1x1024 ![0, 2] bcast_S2x1024_S2x1x1024_0_2 (m ((c.tc : Thread nD τ).loc main_arg5)) := by
  unfold_abbrev_sides
  after_reads_simp

/-- A block of operand 6. -/
theorem blk_6 (j : Fin 1024) (B : Fin 2) (hB : B.val = (grid0.coords t 0).val / 32) :
    (iblk m c 6 t (ix3 0 0 j) : EReal) = m ((c.tc : Thread nD τ).loc main_arg5) (ix2 B j) := by
  obtain ⟨h0, h1, h2, h3, h4, h5, h6, h7, h8, h9, h10, h12, ht⟩ := places t
  have e : iblk m c 6 t (ix3 0 0 j) = V m c main_v6 (ix3 B 0 j) := by
    blk_ext [iblk, h6]
  rw [e, V_6]
  pointwise []

/-- What operand 7 of the call holds. -/
theorem V_7 : V m c main_v7 = broadcastInDim S2x1x1024 ![0, 2] bcast_S2x1024_S2x1x1024_0_2 (m ((c.tc : Thread nD τ).loc main_arg6)) := by
  unfold_abbrev_sides
  after_reads_simp

/-- A block of operand 7. -/
theorem blk_7 (j : Fin 1024) (B : Fin 2) (hB : B.val = (grid0.coords t 0).val / 32) :
    (iblk m c 7 t (ix3 0 0 j) : EReal) = m ((c.tc : Thread nD τ).loc main_arg6) (ix2 B j) := by
  obtain ⟨h0, h1, h2, h3, h4, h5, h6, h7, h8, h9, h10, h12, ht⟩ := places t
  have e : iblk m c 7 t (ix3 0 0 j) = V m c main_v7 (ix3 B 0 j) := by
    blk_ext [iblk, h7]
  rw [e, V_7]
  pointwise []

/-- What operand 8 of the call holds. -/
theorem V_8 : V m c main_v8 = (truncf .bf16 (m ((c.tc : Thread nD τ).loc main_arg8) : FVec Ideal S1024x1024 .f32) bitsLt_bf16_f32 : FVec Ideal S1024x1024 .bf16) := by
  unfold_abbrev_sides
  after_reads_simp

/-- A block of operand 8. -/
theorem blk_8 (k : Fin 1024) (j : Fin 1024) :
    (iblk m c 8 t (ix2 k j) : EReal) = m ((c.tc : Thread nD τ).loc main_arg8) (ix2 k j) := by
  obtain ⟨h0, h1, h2, h3, h4, h5, h6, h7, h8, h9, h10, h12, ht⟩ := places t
  have e : iblk m c 8 t (ix2 k j) = V m c main_v8 (ix2 k j) := by
    blk_ext [iblk, h8]
  rw [e, V_8]
  pointwise []

/-- What operand 9 of the call holds. -/
theorem V_9 : V m c main_v9 = (truncf .bf16 (m ((c.tc : Thread nD τ).loc main_arg9) : FVec Ideal S1024x4096 .f32) bitsLt_bf16_f32 : FVec Ideal S1024x4096 .bf16) := by
  unfold_abbrev_sides
  after_reads_simp

/-- A block of operand 9. -/
theorem blk_9 (k : Fin 1024) (j : Fin 4096) :
    (iblk m c 9 t (ix2 k j) : EReal) = m ((c.tc : Thread nD τ).loc main_arg9) (ix2 k j) := by
  obtain ⟨h0, h1, h2, h3, h4, h5, h6, h7, h8, h9, h10, h12, ht⟩ := places t
  have e : iblk m c 9 t (ix2 k j) = V m c main_v9 (ix2 k j) := by
    blk_ext [iblk, h9]
  rw [e, V_9]
  pointwise []

/-- What operand 10 of the call holds. -/
theorem V_10 : V m c main_v10 = (truncf .bf16 (m ((c.tc : Thread nD τ).loc main_arg10) : FVec Ideal S4096x1024 .f32) bitsLt_bf16_f32 : FVec Ideal S4096x1024 .bf16) := by
  unfold_abbrev_sides
  after_reads_simp

/-- A block of operand 10. -/
theorem blk_10 (k : Fin 4096) (j : Fin 1024) :
    (iblk m c 10 t (ix2 k j) : EReal) = m ((c.tc : Thread nD τ).loc main_arg10) (ix2 k j) := by
  obtain ⟨h0, h1, h2, h3, h4, h5, h6, h7, h8, h9, h10, h12, ht⟩ := places t
  have e : iblk m c 10 t (ix2 k j) = V m c main_v10 (ix2 k j) := by
    blk_ext [iblk, h10]
  rw [e, V_10]
  pointwise []

end Cert.Kernel3Ideal.Post
-- ==== Proof.EvenRef.lean ====
module

public import proofs.«01_k».proof.Proof.Join
public import proofs.«01_k».proof.Proof.Gen.Reference3Ideal.Run
public import Idealize.ShloMosaic.Lib.Pointwise

@[expose] public section

set_option maxRecDepth 16384

noncomputable section

/-! The reference of an even layer's second half, entry by entry. -/

namespace Cert.Reference3Ideal.Post

open Cert.Reference3Ideal Cert.Reference3Ideal.Gen Cert.Reference3Ideal.Value Idealize.ShloMosaic Idealize.ShloMosaic.TcCoe Cert.Post

section Stages
variable {F : FTy → Type} [FloatOps F]

/-- The two halves of the mixer side by side. -/
def refJoin (a b : FVec F S2x16384x512 .bf16) : FVec F S2x16384x1024 .f32 :=
  extf .f32 (concatenate S2x16384x1024 2 [⟨S2x16384x512, a⟩, ⟨S2x16384x512, b⟩] concatenates_S2x16384x512_S2x16384x512_S2x16384x1024_d2) bitsLt_bf16_f32

/-- A row with a gated addition. -/
def refResid (x : FVec F S2x16384x1024 .f32) (g : FVec F S2x1024 .f32) (y : FVec F S2x16384x1024 .f32) : FVec F S2x16384x1024 .f32 :=
  addf x (mulf (broadcastInDim S2x16384x1024 ![0, 1, 2] bcast_S2x1x1024_S2x16384x1024_0_1_2 (broadcastInDim S2x1x1024 ![0, 2] bcast_S2x1024_S2x1x1024_0_2 g)) y)

/-- The mixer's output. -/
def refMix (v : FVec F S2x16384x1024 .f32) (w : FVec F S1024x1024 .f32) : FVec F S2x16384x1024 .f32 :=
  Host.dotGeneral dot_S2x16384x1024_S1024x1024_S2x16384x1024_2_0_01_1_n_n none v w

/-- The norm of each row. -/
def refNorm (x : FVec F S2x16384x1024 .f32) (g : FVec F S1024 .f32) : FVec F S2x16384x1024 .f32 :=
  mulf (mulf x (broadcastInDim S2x16384x1024 ![0, 1, 2] bcast_S2x16384x1_S2x16384x1024_0_1_2 (Host.rsqrt (addf (Host.divf
      (broadcastInDim S2x16384x1 ![0, 1] bcast_S2x16384_S2x16384x1_0_1 (Host.reduceAdd (mulf x x) (constant S_ .f32 0x00000000#32) reducesTo_S2x16384x1024_S2x16384_d2 h_S_))
      (broadcastInDim S2x16384x1 ![] bcast_S_S2x16384x1 (constant S_ .f32 0x44800000#32))) (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- The modulated norm. -/
def refModulate (x : FVec F S2x16384x1024 .f32) (sc sh : FVec F S2x1024 .f32) : FVec F S2x16384x1024 .f32 :=
  addf (mulf x (broadcastInDim S2x16384x1024 ![0, 1, 2] bcast_S2x1x1024_S2x16384x1024_0_1_2 (addf (broadcastInDim S2x1x1024 ![] bcast_S_S2x1x1024 (constant S_ .f32 0x3F800000#32)) (broadcastInDim S2x1x1024 ![0, 2] bcast_S2x1024_S2x1x1024_0_2 sc))))
    (broadcastInDim S2x16384x1024 ![0, 1, 2] bcast_S2x1x1024_S2x16384x1024_0_1_2 (broadcastInDim S2x1x1024 ![0, 2] bcast_S2x1024_S2x1x1024_0_2 sh))

/-- The hidden columns. -/
def refHidden (h : FVec F S2x16384x1024 .f32) (w1 : FVec F S1024x4096 .f32) : FVec F S2x16384x4096 .f32 :=
  have z : FVec F S2x16384x4096 .f32 := maximumf (Host.dotGeneral dot_S2x16384x1024_S1024x4096_S2x16384x4096_2_0_01_1_n_n none h w1) (broadcastInDim S2x16384x4096 ![] bcast_S_S2x16384x4096 (constant S_ .f32 0x00000000#32))
  mulf z z

/-- The feed-forward part. -/
def refOut (z : FVec F S2x16384x4096 .f32) (w2 : FVec F S4096x1024 .f32) : FVec F S2x16384x1024 .f32 :=
  Host.dotGeneral dot_S2x16384x4096_S4096x1024_S2x16384x1024_2_0_01_1_n_n none z w2

/-- The batches' rows one after another. -/
def refFlat (x : FVec F S2x16384x1024 .f32) : FVec F S32768x1024 .f32 := shapeCast _ x shapeCasts_S2x16384x1024_S32768x1024

/-- The reference's result, stage by stage. -/
theorem res_eq (m : (ℓ : Loc nD τ sig) → Buf (Elt F) ℓ) (c : Dev nD) (x : FVec F S2x16384x1024 .f32)
    (hx : x = refResid (m ((c.tc : Thread nD τ).loc main_arg0)) (m ((c.tc : Thread nD τ).loc main_arg3)) (refMix (refJoin (m ((c.tc : Thread nD τ).loc main_arg1)) (m ((c.tc : Thread nD τ).loc main_arg2))) (m ((c.tc : Thread nD τ).loc main_arg8)))) :
    res_main_v36 m c = refFlat (refResid x (m ((c.tc : Thread nD τ).loc main_arg6)) (refOut (refHidden (refModulate (refNorm x (m ((c.tc : Thread nD τ).loc main_arg7))) (m ((c.tc : Thread nD τ).loc main_arg5)) (m ((c.tc : Thread nD τ).loc main_arg4))) (m ((c.tc : Thread nD τ).loc main_arg9))) (m ((c.tc : Thread nD τ).loc main_arg10)))) := by
  subst hx
  unfold res_main_v36
  rfl

end Stages

/-- The joined halves, at an index. -/
theorem refJoin_at (a b : FVec Ideal S2x16384x512 .bf16) (B : Fin 2) (l : Fin 16384) (k : Fin 1024) :
    (refJoin a b (ix3 B l k) : EReal) = joined (fun k => a (ix3 B l k)) (fun k => b (ix3 B l k)) k := by
  pointwise [refJoin, joined]

/-- The gated addition, at an index. -/
theorem refResid_at (x : FVec Ideal S2x16384x1024 .f32) (g : FVec Ideal S2x1024 .f32) (y : FVec Ideal S2x16384x1024 .f32) (B : Fin 2) (l : Fin 16384) (j : Fin 1024) :
    (refResid x g y (ix3 B l j) : EReal) = resid (fun j => x (ix3 B l j)) (fun j => g (ix2 B j)) (fun j => y (ix3 B l j)) j := by
  pointwise [refResid, resid]

/-- The mixer's output, at an index. -/
theorem refMix_at (v : FVec Ideal S2x16384x1024 .f32) (w : FVec Ideal S1024x1024 .f32) (B : Fin 2) (l : Fin 16384) (j : Fin 1024) :
    (refMix v w (ix3 B l j) : EReal) = times (fun k => v (ix3 B l k)) (fun k j => w (ix2 k j)) j := by
  pointwise [refMix, times]

/-- The norm, at an index. -/
theorem refNorm_at (x : FVec Ideal S2x16384x1024 .f32) (g : FVec Ideal S1024 .f32) (B : Fin 2) (l : Fin 16384) (j : Fin 1024) :
    (refNorm x g (ix3 B l j) : EReal) = rms (Ideal.ofBits .f32 0x44800000#32) (fun j => x (ix3 B l j)) (fun j => g (ix1 j)) j := by
  pointwise [refNorm, rms, eps]

/-- The modulation, at an index. -/
theorem refModulate_at (x : FVec Ideal S2x16384x1024 .f32) (sc sh : FVec Ideal S2x1024 .f32) (B : Fin 2) (l : Fin 16384) (j : Fin 1024) :
    (refModulate x sc sh (ix3 B l j) : EReal) = x (ix3 B l j) * (1 + sc (ix2 B j)) + sh (ix2 B j) := by
  pointwise [refModulate]

/-- The hidden columns, at an index. -/
theorem refHidden_at (h : FVec Ideal S2x16384x1024 .f32) (w1 : FVec Ideal S1024x4096 .f32) (B : Fin 2) (l : Fin 16384) (f : Fin 4096) :
    (refHidden h w1 (ix3 B l f) : EReal) = square (times (fun k => h (ix3 B l k)) (fun k f => w1 (ix2 k f)) f) := by
  pointwise [refHidden, square, times]

/-- The feed-forward part, at an index. -/
theorem refOut_at (z : FVec Ideal S2x16384x4096 .f32) (w2 : FVec Ideal S4096x1024 .f32) (B : Fin 2) (l : Fin 16384) (j : Fin 1024) :
    (refOut z w2 (ix3 B l j) : EReal) = times (fun f => z (ix3 B l f)) (fun f j => w2 (ix2 f j)) j := by
  pointwise [refOut, times]

/-- A row of the result. -/
theorem refFlat_at (x : FVec Ideal S2x16384x1024 .f32) (B : Fin 2) (l : Fin 16384) (j : Fin 1024) (R : Fin 32768) (hR : R.val = 16384 * B.val + l.val) :
    (refFlat x (ix2 R j) : EReal) = x (ix3 B l j) := by
  have hl := l.isLt
  have e : (⟨R.val / 16384, by omega⟩ : Fin 2) = B := Fin.ext (by dsimp only; omega)
  have g : (⟨R.val % 16384, by omega⟩ : Fin 16384) = l := Fin.ext (by dsimp only; omega)
  pointwise [refFlat]
  rw [e, g]

/-- The reference's result, at an index. -/
theorem res_at (m : (ℓ : Loc nD τ sig) → Buf (Elt Ideal) ℓ) (c : Dev nD) (B : Fin 2) (l : Fin 16384) (j : Fin 1024) (R : Fin 32768) (hR : R.val = 16384 * B.val + l.val) :
    (res_main_v36 m c (ix2 R j) : EReal)
      = layer (fun k => m ((c.tc : Thread nD τ).loc main_arg0) (ix3 B l k)) (times (joined (fun k => m ((c.tc : Thread nD τ).loc main_arg1) (ix3 B l k)) (fun k => m ((c.tc : Thread nD τ).loc main_arg2) (ix3 B l k))) (fun k j => m ((c.tc : Thread nD τ).loc main_arg8) (ix2 k j)))
            (fun k => m ((c.tc : Thread nD τ).loc main_arg3) (ix2 B k)) (fun k => m ((c.tc : Thread nD τ).loc main_arg7) (ix1 k)) (fun k => m ((c.tc : Thread nD τ).loc main_arg5) (ix2 B k)) (fun k => m ((c.tc : Thread nD τ).loc main_arg4) (ix2 B k)) (fun k => m ((c.tc : Thread nD τ).loc main_arg6) (ix2 B k)) (fun k j => m ((c.tc : Thread nD τ).loc main_arg9) (ix2 k j)) (fun k j => m ((c.tc : Thread nD τ).loc main_arg10) (ix2 k j)) j := by
  obtain ⟨x, hX⟩ : ∃ x, x = refResid (F := Ideal) (m ((c.tc : Thread nD τ).loc main_arg0)) (m ((c.tc : Thread nD τ).loc main_arg3)) (refMix (refJoin (m ((c.tc : Thread nD τ).loc main_arg1)) (m ((c.tc : Thread nD τ).loc main_arg2))) (m ((c.tc : Thread nD τ).loc main_arg8))) := ⟨_, rfl⟩
  have hx : (fun k => (x (ix3 B l k) : EReal)) = resid (fun k => m ((c.tc : Thread nD τ).loc main_arg0) (ix3 B l k)) (fun k => m ((c.tc : Thread nD τ).loc main_arg3) (ix2 B k)) (times (joined (fun k => m ((c.tc : Thread nD τ).loc main_arg1) (ix3 B l k)) (fun k => m ((c.tc : Thread nD τ).loc main_arg2) (ix3 B l k))) (fun k j => m ((c.tc : Thread nD τ).loc main_arg8) (ix2 k j))) := by
    funext k
    rw [hX, refResid_at]
    simp only [refMix_at, refJoin_at]
  rw [res_eq m c x hX, refFlat_at _ B l j R hR]
  simp only [refResid_at, refOut_at, refHidden_at, refModulate_at, refNorm_at, hx]
  rfl

end Cert.Reference3Ideal.Post
-- ==== Proof.EvenFinal.lean ====
module

public import proofs.«01_k».proof.Proof.EvenPoint
public import proofs.«01_k».proof.Proof.EvenRef

@[expose] public section

set_option maxRecDepth 16384

noncomputable section

/-! An even layer's second half: the call's whole result is the reference's. -/

namespace Cert.Kernel3Ideal.Post

open Cert.Kernel3Ideal Cert.Kernel3Ideal.Gen Idealize.ShloMosaic Idealize.ShloMosaic.TcCoe Cert.Post

/-- From arguments that agree, the call's result is the reference's. -/
theorem result_eq (m : (ℓ : Loc nD τ sig) → Buf (Elt Ideal) ℓ) (c : Dev nD)
    (m' : (ℓ : Loc Cert.Reference3Ideal.nD Cert.Reference3Ideal.τ Cert.Reference3Ideal.sig) → Buf (Elt Ideal) ℓ)
    (h0 : m' ((c.tc : Thread Cert.Reference3Ideal.nD Cert.Reference3Ideal.τ).loc Cert.Reference3Ideal.main_arg0) = m ((c.tc : Thread nD τ).loc main_arg0))
    (h1 : m' ((c.tc : Thread Cert.Reference3Ideal.nD Cert.Reference3Ideal.τ).loc Cert.Reference3Ideal.main_arg1) = m ((c.tc : Thread nD τ).loc main_arg1))
    (h2 : m' ((c.tc : Thread Cert.Reference3Ideal.nD Cert.Reference3Ideal.τ).loc Cert.Reference3Ideal.main_arg2) = m ((c.tc : Thread nD τ).loc main_arg2))
    (h3 : m' ((c.tc : Thread Cert.Reference3Ideal.nD Cert.Reference3Ideal.τ).loc Cert.Reference3Ideal.main_arg3) = m ((c.tc : Thread nD τ).loc main_arg3))
    (h4 : m' ((c.tc : Thread Cert.Reference3Ideal.nD Cert.Reference3Ideal.τ).loc Cert.Reference3Ideal.main_arg4) = m ((c.tc : Thread nD τ).loc main_arg4))
    (h5 : m' ((c.tc : Thread Cert.Reference3Ideal.nD Cert.Reference3Ideal.τ).loc Cert.Reference3Ideal.main_arg5) = m ((c.tc : Thread nD τ).loc main_arg5))
    (h6 : m' ((c.tc : Thread Cert.Reference3Ideal.nD Cert.Reference3Ideal.τ).loc Cert.Reference3Ideal.main_arg6) = m ((c.tc : Thread nD τ).loc main_arg6))
    (h7 : m' ((c.tc : Thread Cert.Reference3Ideal.nD Cert.Reference3Ideal.τ).loc Cert.Reference3Ideal.main_arg7) = m ((c.tc : Thread nD τ).loc main_arg7))
    (h8 : m' ((c.tc : Thread Cert.Reference3Ideal.nD Cert.Reference3Ideal.τ).loc Cert.Reference3Ideal.main_arg8) = m ((c.tc : Thread nD τ).loc main_arg8))
    (h9 : m' ((c.tc : Thread Cert.Reference3Ideal.nD Cert.Reference3Ideal.τ).loc Cert.Reference3Ideal.main_arg9) = m ((c.tc : Thread nD τ).loc main_arg9))
    (h10 : m' ((c.tc : Thread Cert.Reference3Ideal.nD Cert.Reference3Ideal.τ).loc Cert.Reference3Ideal.main_arg10) = m ((c.tc : Thread nD τ).loc main_arg10))
    (h11 : m' ((c.tc : Thread Cert.Reference3Ideal.nD Cert.Reference3Ideal.τ).loc Cert.Reference3Ideal.main_arg11) = m ((c.tc : Thread nD τ).loc main_arg11)) :
    (dats m 0 c).arrAt 12 cfg0.N = Cert.Reference3Ideal.Value.res_main_v36 m' c := by
  refine (dats m 0 c).arrAt_eq_of_covers 12 _ covers fun t hf y => ?_
  blk_simp
  rw [after0_12]
  obtain ⟨p0, p1, p2, p3, p4, p5, p6, p7, p8, p9, p10, p12, ht⟩ := places t
  obtain ⟨l, j, rfl⟩ : ∃ (l : Fin 512) (j : Fin 1024), y = ix2 l j := ⟨y 0, y 1, by blk_ext []⟩
  have hl := l.isLt
  obtain ⟨B, hB⟩ : ∃ B : Fin 2, B.val = (grid0.coords t 0).val / 32 := ⟨⟨_, by omega⟩, rfl⟩
  obtain ⟨L, hL⟩ : ∃ L : Fin 16384, L.val = 512 * ((grid0.coords t 0).val % 32) + l.val := ⟨⟨_, by omega⟩, rfl⟩
  obtain ⟨R, hR⟩ : ∃ R : Fin 32768, R.val = 512 * (grid0.coords t 0).val + l.val := ⟨⟨_, by omega⟩, rfl⟩
  have hRL : R.val = 16384 * B.val + L.val := by omega
  have hs : 16384 * B.val + L.val = 512 * (grid0.coords t 0).val + l.val := by omega
  have he : (win0_12.blk t).view.emb (ix2 l j) = ix2 R j := by
    have q : win0_12.index t = ![(grid0.coords t 0).val, 0] := p12
    blk_ext [q]
  rw [he, Cert.Reference3Ideal.Post.res_at m' c B L j R hRL, h0, h1, h2, h3, h4, h5, h6, h7, h8, h9, h10]
  refine (block_at _ _ _ _ _ _ _ _ _ _ _ _ l j).trans ?_
  simp only [blk_0 m c t l _ B L hs, blk_1 m c t l _ B L hs, blk_2 m c t l _ B L hs, blk_3 m c t _ B hB, blk_5 m c t _ B hB, blk_6 m c t _ B hB, blk_7 m c t _ B hB, blk_4 m c t, blk_8 m c t, blk_9 m c t, blk_10 m c t]

end Cert.Kernel3Ideal.Post
-- ==== Proof.MidBlock.lean ====
module

public import proofs.«01_k».proof.Proof.Row
public import proofs.«01_k».proof.Proof.Gen.Kernel4Ideal.Frame
public import Idealize.ShloMosaic.Lib.Pointwise
public import Idealize.ShloMosaic.Lib.Pipeline.ValueKit
public import Idealize.ShloMosaic.Lib.Pipeline.ReadBack

@[expose] public section

set_option maxRecDepth 16384

noncomputable section

/-! What one grid point of a gated layer's second half leaves in its block, entry by entry. -/

namespace Cert.Kernel4Ideal.Post

open Cert.Kernel4Ideal Cert.Kernel4Ideal.Gen Idealize.ShloMosaic Idealize.ShloMosaic.TcCoe Cert.Post

section Fold
variable {F : FTy → Type} [FloatOps F]

/-- A chunk of the feed-forward part: 1024 of its 4096 columns. -/
def chunk (h : FVec F S512x1024 .bf16) (w1 w2 : Vec F S1024x1024 .bf16) : FVec F S512x1024 .f32 :=
  have z : FVec F S512x1024 .f32 := maximumf (matmul dot_S512x1024_S1024x1024_S512x1024_1_0_0_1_n_n none h (shapeCast S1024x1024 w1 shapeCasts_S1024x1024_S1024x1024) (constant S512x1024 .f32 0x00000000#32)) (broadcast S512x1024 (Scalar.ofBits .f32 0x00000000#32))
  matmul dot_S512x1024_S1024x1024_S512x1024_1_0_0_1_n_n none (truncf .bf16 (mulf z z) bitsLt_bf16_f32) (shapeCast S1024x1024 w2 shapeCasts_S1024x1024_S1024x1024) (constant S512x1024 .f32 0x00000000#32)

/-- The second head joins the first. -/
theorem head_two (a : FVec F S512x1024 .f32) (r b f : Vec F S512x256 .f32) (g : Vec F S1x256 .f32) (w : Vec F S256x1024 .bf16) :
    k0_pay6 a (k0_pay3 r) (k0_pay4 b f) (k0_pay5 g) w = addf a (k0_pay2 r b f g w) := rfl

/-- The third and the fourth head join them. -/
theorem head_three (a : FVec F S512x1024 .f32) (r b f : Vec F S512x256 .f32) (g : Vec F S1x256 .f32) (w : Vec F S256x1024 .bf16)
    (r' b' f' : Vec F S512x256 .f32) (g' : Vec F S1x256 .f32) (w' : Vec F S256x1024 .bf16) :
    k0_pay9 a (k0_pay7 b f g) (k0_pay8 r) w r' b' f' g' w' = addf (addf a (k0_pay2 r b f g w)) (k0_pay2 r' b' f' g' w') := rfl

/-- The first chunk. -/
theorem chunk_one (y x : FVec F S512x1024 .f32) (gm : Vec F S1x1x1024 .f32) (g2 : Vec F S1x1024 .f32) (sc sh : Vec F S1x1x1024 .f32) (w1 w2 : Vec F S1024x1024 .bf16) :
    k0_pay14 y x gm g2 sc sh w1 w2 = chunk (k0_pay12 y x gm g2 sc sh) w1 w2 := rfl

/-- The other chunks join it. -/
theorem chunk_four (h : FVec F S512x1024 .bf16) (z a : FVec F S512x1024 .f32) (u1 u2 v1 v2 w1 w2 : Vec F S1024x1024 .bf16) :
    k0_pay15 h z a u1 u2 v1 v2 w1 w2 = addf (addf (addf (addf z a) (chunk h u1 u2)) (chunk h v1 v2)) (chunk h w1 w2) := rfl

end Fold

/-- A head's part of the mixer's output. -/
theorem head_at (r b f : Vec Ideal S512x256 .f32) (g : Vec Ideal S1x256 .f32) (w : Vec Ideal S256x1024 .bf16) (l : Fin 512) (j : Fin 1024) :
    (k0_pay2 r b f g w (ix2 l j) : EReal)
      = ∑ k : Fin 256, rms (Ideal.ofBits .f32 0x43800000#32) (fun v : Fin 256 => (f (ix2 l v) : EReal) + b (ix2 l v)) (fun v => g (ix2 0 v)) k
          * (r (ix2 l k) * Ideal.logistic (r (ix2 l k))) * w (ix2 k j) := by
  pointwise [k0_pay2]
  simp only [rms, eps, fun v => add_comm (f (ix2 l v) : EReal) (b (ix2 l v))]

/-- A chunk, at an index. -/
theorem chunk_at (h : FVec Ideal S512x1024 .bf16) (w1 w2 : Vec Ideal S1024x1024 .bf16) (l : Fin 512) (j : Fin 1024) :
    (chunk h w1 w2 (ix2 l j) : EReal) = ∑ k : Fin 1024, square (∑ i : Fin 1024, h (ix2 l i) * w1 (ix2 i k)) * w2 (ix2 k j) := by
  pointwise [chunk, square]

/-- The row with the mixer's output, at an index. -/
theorem resid_at (y x : FVec Ideal S512x1024 .f32) (gm : Vec Ideal S1x1x1024 .f32) (l : Fin 512) (j : Fin 1024) :
    (k0_pay11 y x gm (ix2 l j) : EReal) = resid (fun j => x (ix2 l j)) (fun j => gm (ix3 0 0 j)) (fun j => y (ix2 l j)) j := by
  pointwise [k0_pay11, resid]

/-- The modulated norm, at an index. -/
theorem normed_at (y x : FVec Ideal S512x1024 .f32) (gm : Vec Ideal S1x1x1024 .f32) (g2 : Vec Ideal S1x1024 .f32) (sc sh : Vec Ideal S1x1x1024 .f32) (l : Fin 512) (j : Fin 1024) :
    (k0_pay12 y x gm g2 sc sh (ix2 l j) : EReal)
      = normed (fun j => k0_pay11 y x gm (ix2 l j)) (fun j => g2 (ix2 0 j)) (fun j => sc (ix3 0 0 j)) (fun j => sh (ix3 0 0 j)) j := by
  pointwise [k0_pay12, normed, rms, eps]

/-- The last residual, at an index. -/
theorem last_at (x a : FVec Ideal S512x1024 .f32) (gf : Vec Ideal S1x1x1024 .f32) (l : Fin 512) (j : Fin 1024) :
    (k0_pay1 x a (k0_pay16 gf) (ix2 l j) : EReal)
      = resid (fun j => x (ix2 l j)) (fun j => gf (ix3 0 0 j)) (fun j => a (ix2 l j)) j := by
  pointwise [k0_pay1, k0_pay16, resid]

/-- A sum of arrays, at an index. -/
theorem addf_at {s : Shape} (x y : FVec Ideal s .f32) (i : s.Idx) : (addf x y i : EReal) = x i + y i := rfl

/-- A head's part of the mixer's output, from the whole rows. -/
theorem head_part (r b f : Vec Ideal S512x256 .f32) (g : Vec Ideal S1x256 .f32) (w : Vec Ideal S256x1024 .bf16) (x1 x2 x3 : Vec Ideal S512x1024 .f32) (x10 : Vec Ideal S1024x1024 .bf16)
    (l : Fin 512) (j : Fin 1024) (h : ℕ) (hh : h < 4) (o : Fin 256 → Fin 1024) (ho : ∀ i, (o i).val = 256 * h + i.val)
    (hr : ∀ i, r (ix2 l i) = x3 (ix2 l (o i))) (hb : ∀ i, b (ix2 l i) = x2 (ix2 l (o i))) (hf : ∀ i, f (ix2 l i) = x1 (ix2 l (o i))) (hw : ∀ i, w (ix2 i j) = x10 (ix2 (o i) j)) :
    (k0_pay2 r b f g w (ix2 l j) : EReal)
      = ∑ i : Fin 256, gated (fun k => x1 (ix2 l k)) (fun k => x2 (ix2 l k)) (fun k => x3 (ix2 l k)) (fun v => g (ix2 0 v)) (o i) * x10 (ix2 (o i) j) := by
  rw [head_at]
  refine Fintype.sum_congr _ _ fun i => ?_
  have e : ∀ v : Fin 256, o v = ⟨256 * h + v.val, by omega⟩ := fun v => Fin.ext (ho v)
  rw [gated_head _ _ _ _ h (o i) i (ho i) hh, hw, hr]
  simp only [hf, hb, ← e]

/-- The mixer's output of a block. -/
theorem mixer_at (x0 x1 x2 x3 : Vec Ideal S512x1024 .f32) (x4 : Vec Ideal S1x256 .f32) (x5 : Vec Ideal S1x1x1024 .f32) (x6 : Vec Ideal S1x1024 .f32) (x7 x8 x9 : Vec Ideal S1x1x1024 .f32)
    (x10 : Vec Ideal S1024x1024 .bf16) (x11 : Vec Ideal S1024x4096 .bf16) (x12 : Vec Ideal S4096x1024 .bf16) (x13 : Vec Ideal S1x1024 .f32) (l : Fin 512) (j : Fin 1024) :
    (k0_pay17 x0 x1 x2 x3 x4 x5 x6 x7 x8 x9 x10 x11 x12 x13 (ix2 l j) : EReal)
      = times (gated (fun k => x1 (ix2 l k)) (fun k => x2 (ix2 l k)) (fun k => x3 (ix2 l k)) (fun v => x4 (ix2 0 v))) (fun k j => x10 (ix2 k j)) j := by
  rw [k0_pay17, head_two, head_three, times, sum_four 256 rfl, addf_at, addf_at, addf_at]
  have g4 : View.ld x4 r0_1 = x4 := View.ld_unit_lit' _ _ (by decide)
  rw [g4]
  congr 1
  · congr 1
    · congr 1
      · exact head_part _ _ _ _ _ x1 x2 x3 x10 l j 0 (by decide) _ (fun i => (by simp)) (fun i => ld_ix2 _ _ _ _ _ _ _ _ (by simp) (by simp)) (fun i => ld_ix2 _ _ _ _ _ _ _ _ (by simp) (by simp)) (fun i => ld_ix2 _ _ _ _ _ _ _ _ (by simp) (by simp)) (fun i => ld_ix2 _ _ _ _ _ _ _ _ (by simp) (by simp))
      · exact head_part _ _ _ _ _ x1 x2 x3 x10 l j 1 (by decide) _ (fun i => (by simp)) (fun i => ld_ix2 _ _ _ _ _ _ _ _ (by simp) (by simp)) (fun i => ld_ix2 _ _ _ _ _ _ _ _ (by simp) (by simp)) (fun i => ld_ix2 _ _ _ _ _ _ _ _ (by simp) (by simp)) (fun i => ld_ix2 _ _ _ _ _ _ _ _ (by simp) (by simp))
    · exact head_part _ _ _ _ _ x1 x2 x3 x10 l j 2 (by decide) _ (fun i => (by simp)) (fun i => ld_ix2 _ _ _ _ _ _ _ _ (by simp) (by simp)) (fun i => ld_ix2 _ _ _ _ _ _ _ _ (by simp) (by simp)) (fun i => ld_ix2 _ _ _ _ _ _ _ _ (by simp) (by simp)) (fun i => ld_ix2 _ _ _ _ _ _ _ _ (by simp) (by simp))
  · exact head_part _ _ _ _ _ x1 x2 x3 x10 l j 3 (by decide) _ (fun i => (by simp)) (fun i => ld_ix2 _ _ _ _ _ _ _ _ (by simp) (by simp)) (fun i => ld_ix2 _ _ _ _ _ _ _ _ (by simp) (by simp)) (fun i => ld_ix2 _ _ _ _ _ _ _ _ (by simp) (by simp)) (fun i => ld_ix2 _ _ _ _ _ _ _ _ (by simp) (by simp))

/-- A chunk, from the whole weights. -/
theorem chunk_part (h : FVec Ideal S512x1024 .bf16) (w1 w2 : Vec Ideal S1024x1024 .bf16) (x11 : Vec Ideal S1024x4096 .bf16) (x12 : Vec Ideal S4096x1024 .bf16) (l : Fin 512) (j : Fin 1024) (o : Fin 1024 → Fin 4096)
    (h1 : ∀ i k, w1 (ix2 i k) = x11 (ix2 i (o k))) (h2 : ∀ k, w2 (ix2 k j) = x12 (ix2 (o k) j)) :
    (chunk h w1 w2 (ix2 l j) : EReal)
      = ∑ k : Fin 1024, square (times (fun i => h (ix2 l i)) (fun i f => x11 (ix2 i f)) (o k)) * x12 (ix2 (o k) j) := by
  rw [chunk_at]
  simp only [h1, h2, times]

/-- The start of the chunks' sum is zero. -/
theorem start_at (l : Fin 512) (j : Fin 1024) : ((k0_pay13 (F := Ideal)) (ix2 l j) : EReal) = 0 := by
  pointwise [k0_pay13]

/-- The feed-forward part of a block. -/
theorem ffn_at (h : FVec Ideal S512x1024 .bf16) (x11 : Vec Ideal S1024x4096 .bf16) (x12 : Vec Ideal S4096x1024 .bf16) (l : Fin 512) (j : Fin 1024) :
    (k0_pay15 h (k0_pay13 (F := Ideal)) (chunk h (View.ld x11 r0_12) (View.ld x12 r0_13)) (View.ld x11 r0_14) (View.ld x12 r0_15) (View.ld x11 r0_16) (View.ld x12 r0_17) (View.ld x11 r0_18) (View.ld x12 r0_19) (ix2 l j) : EReal)
      = times (fun f => square (times (fun i => h (ix2 l i)) (fun i f => x11 (ix2 i f)) f)) (fun f j => x12 (ix2 f j)) j := by
  rw [chunk_four, addf_at, addf_at, addf_at, addf_at, start_at, zero_add, times, sum_four 1024 rfl]
  congr 1
  · congr 1
    · congr 1
      · exact chunk_part h _ _ x11 x12 l j _ (fun i k => ld_ix2 _ _ _ _ _ _ _ _ (by simp) (by simp)) (fun k => ld_ix2 _ _ _ _ _ _ _ _ (by simp) (by simp))
      · exact chunk_part h _ _ x11 x12 l j _ (fun i k => ld_ix2 _ _ _ _ _ _ _ _ (by simp) (by simp)) (fun k => ld_ix2 _ _ _ _ _ _ _ _ (by simp) (by simp))
    · exact chunk_part h _ _ x11 x12 l j _ (fun i k => ld_ix2 _ _ _ _ _ _ _ _ (by simp) (by simp)) (fun k => ld_ix2 _ _ _ _ _ _ _ _ (by simp) (by simp))
  · exact chunk_part h _ _ x11 x12 l j _ (fun i k => ld_ix2 _ _ _ _ _ _ _ _ (by simp) (by simp)) (fun k => ld_ix2 _ _ _ _ _ _ _ _ (by simp) (by simp))

/-- The rows a block adds to. -/
theorem base_at (x0 x1 x2 x3 : Vec Ideal S512x1024 .f32) (x4 : Vec Ideal S1x256 .f32) (x5 : Vec Ideal S1x1x1024 .f32) (x6 : Vec Ideal S1x1024 .f32) (x7 x8 x9 : Vec Ideal S1x1x1024 .f32)
    (x10 : Vec Ideal S1024x1024 .bf16) (x11 : Vec Ideal S1024x4096 .bf16) (x12 : Vec Ideal S4096x1024 .bf16) (x13 : Vec Ideal S1x1024 .f32) (l : Fin 512) (j : Fin 1024) :
    (k0_pay18 x0 x1 x2 x3 x4 x5 x6 x7 x8 x9 x10 x11 x12 x13 (ix2 l j) : EReal) = x0 (ix2 l j) := by
  have g : View.ld x0 r0_9 = x0 := View.ld_unit_lit' _ _ (by decide)
  rw [k0_pay18, g]
  pointwise [k0_pay10]

/-- What a grid point leaves in its block. -/
theorem block_at (x0 x1 x2 x3 : Vec Ideal S512x1024 .f32) (x4 : Vec Ideal S1x256 .f32) (x5 : Vec Ideal S1x1x1024 .f32) (x6 : Vec Ideal S1x1024 .f32) (x7 x8 x9 : Vec Ideal S1x1x1024 .f32)
    (x10 : Vec Ideal S1024x1024 .bf16) (x11 : Vec Ideal S1024x4096 .bf16) (x12 : Vec Ideal S4096x1024 .bf16) (x13 : Vec Ideal S1x1024 .f32) (l : Fin 512) (j : Fin 1024) :
    (out0_14 x0 x1 x2 x3 x4 x5 x6 x7 x8 x9 x10 x11 x12 x13 (ix2 l j) : EReal)
      = layer (fun k => x0 (ix2 l k)) (times (gated (fun k => x1 (ix2 l k)) (fun k => x2 (ix2 l k)) (fun k => x3 (ix2 l k)) (fun v => x4 (ix2 0 v))) (fun k j => x10 (ix2 k j)))
            (fun k => x5 (ix3 0 0 k)) (fun k => x6 (ix2 0 k)) (fun k => x8 (ix3 0 0 k)) (fun k => x7 (ix3 0 0 k)) (fun k => x9 (ix3 0 0 k)) (fun i f => x11 (ix2 i f)) (fun f j => x12 (ix2 f j)) j := by
  have g5 : View.ld x5 r0_10 = x5 := View.ld_unit_lit' _ _ (by decide)
  have g6 : View.ld x6 r0_11 = x6 := View.ld_unit_lit' _ _ (by decide)
  have g7 : View.ld x7 r0_10 = x7 := View.ld_unit_lit' _ _ (by decide)
  have g8 : View.ld x8 r0_10 = x8 := View.ld_unit_lit' _ _ (by decide)
  have g9 : View.ld x9 r0_10 = x9 := View.ld_unit_lit' _ _ (by decide)
  have hx : ∀ j, _ := base_at x0 x1 x2 x3 x4 x5 x6 x7 x8 x9 x10 x11 x12 x13 l
  have hy : ∀ j, _ := mixer_at x0 x1 x2 x3 x4 x5 x6 x7 x8 x9 x10 x11 x12 x13 l
  rw [out0_14, View.canon_cons_unit_lit' _ _ _ (by decide), g5, g6, g7, g8, g9, chunk_one, last_at]
  generalize k0_pay18 x0 x1 x2 x3 x4 x5 x6 x7 x8 x9 x10 x11 x12 x13 = x at hx ⊢
  generalize k0_pay17 x0 x1 x2 x3 x4 x5 x6 x7 x8 x9 x10 x11 x12 x13 = y at hy ⊢
  have hr : (fun j => (k0_pay11 y x x5 (ix2 l j) : EReal)) = resid (fun k => x0 (ix2 l k)) (fun k => x5 (ix3 0 0 k)) (times (gated (fun k => x1 (ix2 l k)) (fun k => x2 (ix2 l k)) (fun k => x3 (ix2 l k)) (fun v => x4 (ix2 0 v))) (fun k j => x10 (ix2 k j))) := by
    funext j
    rw [resid_at]
    simp only [hx, hy]
  have hh : (fun j => (k0_pay12 y x x5 x6 x8 x7 (ix2 l j) : EReal)) = normed (fun j => k0_pay11 y x x5 (ix2 l j)) (fun k => x6 (ix2 0 k)) (fun k => x8 (ix3 0 0 k)) (fun k => x7 (ix3 0 0 k)) :=
    funext fun j => normed_at y x x5 x6 x8 x7 l j
  rw [hr]
  unfold layer
  have hf := fun j => ffn_at (k0_pay12 y x x5 x6 x8 x7) x11 x12 l j
  rw [hh, hr] at hf
  simp only [hf]

end Cert.Kernel4Ideal.Post
-- ==== Proof.MidPoint.lean ====
module

public import proofs.«01_k».proof.Proof.MidBlock
public import Idealize.ShloMosaic.Lib.StableHlo.RunRead
public import Idealize.ShloMosaic.Lib.Pointwise

@[expose] public section

set_option maxRecDepth 16384

noncomputable section

/-! The blocks that a grid point of a gated layer's second half reads, from the arguments. -/

namespace Cert.Kernel4Ideal.Post

open Cert.Kernel4Ideal Cert.Kernel4Ideal.Gen Idealize.ShloMosaic Idealize.ShloMosaic.TcCoe Cert.Post

/-- The block of each window at a grid point. -/
theorem places (t : Fin cfg0.N) :
    (cfg0.win 0).index t = ![(grid0.coords t 0).val, 0] ∧ (cfg0.win 1).index t = ![(grid0.coords t 0).val, 0]
    ∧ (cfg0.win 2).index t = ![(grid0.coords t 0).val, 0] ∧ (cfg0.win 3).index t = ![(grid0.coords t 0).val, 0]
    ∧ (cfg0.win 4).index t = ![0, 0] ∧ (cfg0.win 5).index t = ![(grid0.coords t 0).val / 32, 0, 0]
    ∧ (cfg0.win 6).index t = ![0, 0] ∧ (cfg0.win 7).index t = ![(grid0.coords t 0).val / 32, 0, 0]
    ∧ (cfg0.win 8).index t = ![(grid0.coords t 0).val / 32, 0, 0] ∧ (cfg0.win 9).index t = ![(grid0.coords t 0).val / 32, 0, 0]
    ∧ (cfg0.win 10).index t = ![0, 0] ∧ (cfg0.win 11).index t = ![0, 0] ∧ (cfg0.win 12).index t = ![0, 0]
    ∧ (cfg0.win 13).index t = ![0, 0] ∧ (cfg0.win 14).index t = ![(grid0.coords t 0).val, 0] ∧ (grid0.coords t 0).val < 64 := by
  revert t
  decide +kernel

/-- The call's blocks cover its result. -/
theorem covers : (cfg0.win 14).Covers := by
  decide +kernel

/-- The flattened rows, at an index. -/
theorem flat_at (x : FVec Ideal S2x16384x1024 .f32) (R : Fin 32768) (j : Fin 1024) (B : Fin 2) (L : Fin 16384) (hR : 16384 * B.val + L.val = R.val) :
    (shapeCast S32768x1024 x shapeCasts_S2x16384x1024_S32768x1024 (ix2 R j) : EReal) = x (ix3 B L j) := by
  have hL := L.isLt
  have e₀ : (⟨R.val / 16384, by omega⟩ : Fin 2) = B := Fin.ext (by dsimp only; omega)
  have e₁ : (⟨R.val % 16384, by omega⟩ : Fin 16384) = L := Fin.ext (by dsimp only; omega)
  pointwise []
  rw [e₀, e₁]

variable (m : (ℓ : Loc nD τ sig) → Buf (Elt Ideal) ℓ) (c : Dev nD) (t : Fin cfg0.N)

/-- What operand 0 of the call holds. -/
theorem V_0 : V m c main_v0 = shapeCast S32768x1024 (m ((c.tc : Thread nD τ).loc main_arg0)) shapeCasts_S2x16384x1024_S32768x1024 := by
  unfold_abbrev_sides
  after_reads_simp
  rfl

/-- A block of operand 0. -/
theorem blk_0 (l : Fin 512) (j : Fin 1024) (B : Fin 2) (L : Fin 16384) (hL : 16384 * B.val + L.val = 512 * (grid0.coords t 0).val + l.val) :
    (iblk m c 0 t (ix2 l j) : EReal) = m ((c.tc : Thread nD τ).loc main_arg0) (ix3 B L j) := by
  obtain ⟨h0, h1, h2, h3, h4, h5, h6, h7, h8, h9, h10, h11, h12, h13, h14, ht⟩ := places t
  obtain ⟨R, hR⟩ : ∃ R : Fin 32768, R.val = 512 * (grid0.coords t 0).val + l.val := ⟨⟨_, by omega⟩, rfl⟩
  have e : iblk m c 0 t (ix2 l j) = V m c main_v0 (ix2 R j) := by
    blk_ext [iblk, h0]
  rw [e, V_0]
  exact flat_at _ R j B L (hL.trans hR.symm)

/-- What operand 1 of the call holds. -/
theorem V_1 : V m c main_v1 = shapeCast S32768x1024 (m ((c.tc : Thread nD τ).loc main_arg1)) shapeCasts_S2x16384x1024_S32768x1024 := by
  unfold_abbrev_sides
  after_reads_simp
  rfl

/-- A block of operand 1. -/
theorem blk_1 (l : Fin 512) (j : Fin 1024) (B : Fin 2) (L : Fin 16384) (hL : 16384 * B.val + L.val = 512 * (grid0.coords t 0).val + l.val) :
    (iblk m c 1 t (ix2 l j) : EReal) = m ((c.tc : Thread nD τ).loc main_arg1) (ix3 B L j) := by
  obtain ⟨h0, h1, h2, h3, h4, h5, h6, h7, h8, h9, h10, h11, h12, h13, h14, ht⟩ := places t
  obtain ⟨R, hR⟩ : ∃ R : Fin 32768, R.val = 512 * (grid0.coords t 0).val + l.val := ⟨⟨_, by omega⟩, rfl⟩
  have e : iblk m c 1 t (ix2 l j) = V m c main_v1 (ix2 R j) := by
    blk_ext [iblk, h1]
  rw [e, V_1]
  exact flat_at _ R j B L (hL.trans hR.symm)

/-- What operand 2 of the call holds. -/
theorem V_2 : V m c main_v2 = shapeCast S32768x1024 (m ((c.tc : Thread nD τ).loc main_arg2)) shapeCasts_S2x16384x1024_S32768x1024 := by
  unfold_abbrev_sides
  after_reads_simp
  rfl

/-- A block of operand 2. -/
theorem blk_2 (l : Fin 512) (j : Fin 1024) (B : Fin 2) (L : Fin 16384) (hL : 16384 * B.val + L.val = 512 * (grid0.coords t 0).val + l.val) :
    (iblk m c 2 t (ix2 l j) : EReal) = m ((c.tc : Thread nD τ).loc main_arg2) (ix3 B L j) := by
  obtain ⟨h0, h1, h2, h3, h4, h5, h6, h7, h8, h9, h10, h11, h12, h13, h14, ht⟩ := places t
  obtain ⟨R, hR⟩ : ∃ R : Fin 32768, R.val = 512 * (grid0.coords t 0).val + l.val := ⟨⟨_, by omega⟩, rfl⟩
  have e : iblk m c 2 t (ix2 l j) = V m c main_v2 (ix2 R j) := by
    blk_ext [iblk, h2]
  rw [e, V_2]
  exact flat_at _ R j B L (hL.trans hR.symm)

/-- What operand 3 of the call holds. -/
theorem V_3 : V m c main_v3 = shapeCast S32768x1024 (m ((c.tc : Thread nD τ).loc main_arg3)) shapeCasts_S2x16384x1024_S32768x1024 := by
  unfold_abbrev_sides
  after_reads_simp
  rfl

/-- A block of operand 3. -/
theorem blk_3 (l : Fin 512) (j : Fin 1024) (B : Fin 2) (L : Fin 16384) (hL : 16384 * B.val + L.val = 512 * (grid0.coords t 0).val + l.val) :
    (iblk m c 3 t (ix2 l j) : EReal) = m ((c.tc : Thread nD τ).loc main_arg3) (ix3 B L j) := by
  obtain ⟨h0, h1, h2, h3, h4, h5, h6, h7, h8, h9, h10, h11, h12, h13, h14, ht⟩ := places t
  obtain ⟨R, hR⟩ : ∃ R : Fin 32768, R.val = 512 * (grid0.coords t 0).val + l.val := ⟨⟨_, by omega⟩, rfl⟩
  have e : iblk m c 3 t (ix2 l j) = V m c main_v3 (ix2 R j) := by
    blk_ext [iblk, h3]
  rw [e, V_3]
  exact flat_at _ R j B L (hL.trans hR.symm)

/-- What operand 4 of the call holds. -/
theorem V_4 : V m c main_v4 = broadcastInDim S1x256 ![1] bcast_S256_S1x256_1 (m ((c.tc : Thread nD τ).loc main_arg4)) := by
  unfold_abbrev_sides
  after_reads_simp

/-- A block of operand 4. -/
theorem blk_4 (j : Fin 256) :
    (iblk m c 4 t (ix2 0 j) : EReal) = m ((c.tc : Thread nD τ).loc main_arg4) (ix1 j) := by
  obtain ⟨h0, h1, h2, h3, h4, h5, h6, h7, h8, h9, h10, h11, h12, h13, h14, ht⟩ := places t
  have e : iblk m c 4 t (ix2 0 j) = V m c main_v4 (ix2 0 j) := by
    blk_ext [iblk, h4]
  rw [e, V_4]
  pointwise []

/-- What operand 5 of the call holds. -/
theorem V_5 : V m c main_v5 = broadcastInDim S2x1x1024 ![0, 2] bcast_S2x1024_S2x1x1024_0_2 (m ((c.tc : Thread nD τ).loc main_arg5)) := by
  unfold_abbrev_sides
  after_reads_simp

/-- A block of operand 5. -/
theorem blk_5 (j : Fin 1024) (B : Fin 2) (hB : B.val = (grid0.coords t 0).val / 32) :
    (iblk m c 5 t (ix3 0 0 j) : EReal) = m ((c.tc : Thread nD τ).loc main_arg5) (ix2 B j) := by
  obtain ⟨h0, h1, h2, h3, h4, h5, h6, h7, h8, h9, h10, h11, h12, h13, h14, ht⟩ := places t
  have e : iblk m c 5 t (ix3 0 0 j) = V m c main_v5 (ix3 B 0 j) := by
    blk_ext [iblk, h5]
  rw [e, V_5]
  pointwise []

/-- What operand 6 of the call holds. -/
theorem V_6 : V m c main_v6 = broadcastInDim S1x1024 ![1] bcast_S1024_S1x1024_1 (m ((c.tc : Thread nD τ).loc main_arg9)) := by
  unfold_abbrev_sides
  after_reads_simp

/-- A block of operand 6. -/
theorem blk_6 (j : Fin 1024) :
    (iblk m c 6 t (ix2 0 j) : EReal) = m ((c.tc : Thread nD τ).loc main_arg9) (ix1 j) := by
  obtain ⟨h0, h1, h2, h3, h4, h5, h6, h7, h8, h9, h10, h11, h12, h13, h14, ht⟩ := places t
  have e : iblk m c 6 t (ix2 0 j) = V m c main_v6 (ix2 0 j) := by
    blk_ext [iblk, h6]
  rw [e, V_6]
  pointwise []

/-- What operand 7 of the call holds. -/
theorem V_7 : V m c main_v7 = broadcastInDim S2x1x1024 ![0, 2] bcast_S2x1024_S2x1x1024_0_2 (m ((c.tc : Thread nD τ).loc main_arg6)) := by
  unfold_abbrev_sides
  after_reads_simp

/-- A block of operand 7. -/
theorem blk_7 (j : Fin 1024) (B : Fin 2) (hB : B.val = (grid0.coords t 0).val / 32) :
    (iblk m c 7 t (ix3 0 0 j) : EReal) = m ((c.tc : Thread nD τ).loc main_arg6) (ix2 B j) := by
  obtain ⟨h0, h1, h2, h3, h4, h5, h6, h7, h8, h9, h10, h11, h12, h13, h14, ht⟩ := places t
  have e : iblk m c 7 t (ix3 0 0 j) = V m c main_v7 (ix3 B 0 j) := by
    blk_ext [iblk, h7]
  rw [e, V_7]
  pointwise []

/-- What operand 8 of the call holds. -/
theorem V_8 : V m c main_v8 = broadcastInDim S2x1x1024 ![0, 2] bcast_S2x1024_S2x1x1024_0_2 (m ((c.tc : Thread nD τ).loc main_arg7)) := by
  unfold_abbrev_sides
  after_reads_simp

/-- A block of operand 8. -/
theorem blk_8 (j : Fin 1024) (B : Fin 2) (hB : B.val = (grid0.coords t 0).val / 32) :
    (iblk m c 8 t (ix3 0 0 j) : EReal) = m ((c.tc : Thread nD τ).loc main_arg7) (ix2 B j) := by
  obtain ⟨h0, h1, h2, h3, h4, h5, h6, h7, h8, h9, h10, h11, h12, h13, h14, ht⟩ := places t
  have e : iblk m c 8 t (ix3 0 0 j) = V m c main_v8 (ix3 B 0 j) := by
    blk_ext [iblk, h8]
  rw [e, V_8]
  pointwise []

/-- What operand 9 of the call holds. -/
theorem V_9 : V m c main_v9 = broadcastInDim S2x1x1024 ![0, 2] bcast_S2x1024_S2x1x1024_0_2 (m ((c.tc : Thread nD τ).loc main_arg8)) := by
  unfold_abbrev_sides
  after_reads_simp

/-- A block of operand 9. -/
theorem blk_9 (j : Fin 1024) (B : Fin 2) (hB : B.val = (grid0.coords t 0).val / 32) :
    (iblk m c 9 t (ix3 0 0 j) : EReal) = m ((c.tc : Thread nD τ).loc main_arg8) (ix2 B j) := by
  obtain ⟨h0, h1, h2, h3, h4, h5, h6, h7, h8, h9, h10, h11, h12, h13, h14, ht⟩ := places t
  have e : iblk m c 9 t (ix3 0 0 j) = V m c main_v9 (ix3 B 0 j) := by
    blk_ext [iblk, h9]
  rw [e, V_9]
  pointwise []

/-- What operand 10 of the call holds. -/
theorem V_10 : V m c main_v10 = (truncf .bf16 (m ((c.tc : Thread nD τ).loc main_arg10) : FVec Ideal S1024x1024 .f32) bitsLt_bf16_f32 : FVec Ideal S1024x1024 .bf16) := by
  unfold_abbrev_sides
  after_reads_simp

/-- A block of operand 10. -/
theorem blk_10 (k : Fin 1024) (j : Fin 1024) :
    (iblk m c 10 t (ix2 k j) : EReal) = m ((c.tc : Thread nD τ).loc main_arg10) (ix2 k j) := by
  obtain ⟨h0, h1, h2, h3, h4, h5, h6, h7, h8, h9, h10, h11, h12, h13, h14, ht⟩ := places t
  have e : iblk m c 10 t (ix2 k j) = V m c main_v10 (ix2 k j) := by
    blk_ext [iblk, h10]
  rw [e, V_10]
  pointwise []

/-- What operand 11 of the call holds. -/
theorem V_11 : V m c main_v11 = (truncf .bf16 (m ((c.tc : Thread nD τ).loc main_arg11) : FVec Ideal S1024x4096 .f32) bitsLt_bf16_f32 : FVec Ideal S1024x4096 .bf16) := by
  unfold_abbrev_sides
  after_reads_simp

/-- A block of operand 11. -/
theorem blk_11 (k : Fin 1024) (j : Fin 4096) :
    (iblk m c 11 t (ix2 k j) : EReal) = m ((c.tc : Thread nD τ).loc main_arg11) (ix2 k j) := by
  obtain ⟨h0, h1, h2, h3, h4, h5, h6, h7, h8, h9, h10, h11, h12, h13, h14, ht⟩ := places t
  have e : iblk m c 11 t (ix2 k j) = V m c main_v11 (ix2 k j) := by
    blk_ext [iblk, h11]
  rw [e, V_11]
  pointwise []

/-- What operand 12 of the call holds. -/
theorem V_12 : V m c main_v12 = (truncf .bf16 (m ((c.tc : Thread nD τ).loc main_arg12) : FVec Ideal S4096x1024 .f32) bitsLt_bf16_f32 : FVec Ideal S4096x1024 .bf16) := by
  unfold_abbrev_sides
  after_reads_simp

/-- A block of operand 12. -/
theorem blk_12 (k : Fin 4096) (j : Fin 1024) :
    (iblk m c 12 t (ix2 k j) : EReal) = m ((c.tc : Thread nD τ).loc main_arg12) (ix2 k j) := by
  obtain ⟨h0, h1, h2, h3, h4, h5, h6, h7, h8, h9, h10, h11, h12, h13, h14, ht⟩ := places t
  have e : iblk m c 12 t (ix2 k j) = V m c main_v12 (ix2 k j) := by
    blk_ext [iblk, h12]
  rw [e, V_12]
  pointwise []

/-- What operand 13 of the call holds. -/
theorem V_13 : V m c main_v13 = broadcastInDim S1x1024 ![1] bcast_S1024_S1x1024_1 (m ((c.tc : Thread nD τ).loc main_arg13)) := by
  unfold_abbrev_sides
  after_reads_simp

/-- A block of operand 13. -/
theorem blk_13 (j : Fin 1024) :
    (iblk m c 13 t (ix2 0 j) : EReal) = m ((c.tc : Thread nD τ).loc main_arg13) (ix1 j) := by
  obtain ⟨h0, h1, h2, h3, h4, h5, h6, h7, h8, h9, h10, h11, h12, h13, h14, ht⟩ := places t
  have e : iblk m c 13 t (ix2 0 j) = V m c main_v13 (ix2 0 j) := by
    blk_ext [iblk, h13]
  rw [e, V_13]
  pointwise []

end Cert.Kernel4Ideal.Post
-- ==== Proof.MidRef.lean ====
module

public import proofs.«01_k».proof.Proof.Row
public import proofs.«01_k».proof.Proof.Gen.Reference4Ideal.Run
public import Idealize.ShloMosaic.Lib.Pointwise

@[expose] public section

set_option maxRecDepth 16384

noncomputable section

/-! The reference of a gated layer's second half, entry by entry. -/

namespace Cert.Reference4Ideal.Post

open Cert.Reference4Ideal Cert.Reference4Ideal.Gen Cert.Reference4Ideal.Value Idealize.ShloMosaic Idealize.ShloMosaic.TcCoe Cert.Post

section Stages
variable {F : FTy → Type} [FloatOps F]

/-- The normalised and gated scans. -/
def refGated (f b r : FVec F S2x16384x1024 .f32) (g : FVec F S256 .f32) : FVec F S2x16384x1024 .f32 :=
  have s : FVec F S2x16384x4x256 .f32 := shapeCast _ (addf f b) shapeCasts_S2x16384x1024_S2x16384x4x256
  shapeCast _ (mulf (mulf (mulf s
      (broadcastInDim S2x16384x4x256 ![0, 1, 2, 3] bcast_S2x16384x4x1_S2x16384x4x256_0_1_2_3 (Host.rsqrt (addf (Host.divf
        (broadcastInDim S2x16384x4x1 ![0, 1, 2] bcast_S2x16384x4_S2x16384x4x1_0_1_2 (Host.reduceAdd (mulf s s) (constant S_ .f32 0x00000000#32) reducesTo_S2x16384x4x256_S2x16384x4_d3 h_S_))
        (broadcastInDim S2x16384x4x1 ![] bcast_S_S2x16384x4x1 (constant S_ .f32 0x43800000#32))) (broadcastInDim S2x16384x4x1 ![] bcast_S_S2x16384x4x1 (constant S_ .f32 0x358637BD#32))))))
      (broadcastInDim S2x16384x4x256 ![0, 1, 2, 3] bcast_S1x1x1x256_S2x16384x4x256_0_1_2_3 (broadcastInDim S1x1x1x256 ![3] bcast_S256_S1x1x1x256_3 g)))
    (shapeCast _ (mulf r (Host.divf (broadcastInDim S2x16384x1024 ![] bcast_S_S2x16384x1024 (constant S_ .f32 0x3F800000#32))
      (addf (broadcastInDim S2x16384x1024 ![] bcast_S_S2x16384x1024 (constant S_ .f32 0x3F800000#32)) (Host.exp (Host.negf r))))) shapeCasts_S2x16384x1024_S2x16384x4x256))
    shapeCasts_S2x16384x4x256_S2x16384x1024

/-- A row with a gated addition. -/
def refResid (x : FVec F S2x16384x1024 .f32) (g : FVec F S2x1024 .f32) (y : FVec F S2x16384x1024 .f32) : FVec F S2x16384x1024 .f32 :=
  addf x (mulf (broadcastInDim S2x16384x1024 ![0, 1, 2] bcast_S2x1x1024_S2x16384x1024_0_1_2 (broadcastInDim S2x1x1024 ![0, 2] bcast_S2x1024_S2x1x1024_0_2 g)) y)

/-- The mixer's output. -/
def refMix (v : FVec F S2x16384x1024 .f32) (w : FVec F S1024x1024 .f32) : FVec F S2x16384x1024 .f32 :=
  Host.dotGeneral dot_S2x16384x1024_S1024x1024_S2x16384x1024_2_0_01_1_n_n none v w

/-- The norm of each row. -/
def refNorm (x : FVec F S2x16384x1024 .f32) (g : FVec F S1024 .f32) : FVec F S2x16384x1024 .f32 :=
  mulf (mulf x (broadcastInDim S2x16384x1024 ![0, 1, 2] bcast_S2x16384x1_S2x16384x1024_0_1_2 (Host.rsqrt (addf (Host.divf
      (broadcastInDim S2x16384x1 ![0, 1] bcast_S2x16384_S2x16384x1_0_1 (Host.reduceAdd (mulf x x) (constant S_ .f32 0x00000000#32) reducesTo_S2x16384x1024_S2x16384_d2 h_S_))
      (broadcastInDim S2x16384x1 ![] bcast_S_S2x16384x1 (constant S_ .f32 0x44800000#32))) (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- The modulated norm. -/
def refModulate (x : FVec F S2x16384x1024 .f32) (sc sh : FVec F S2x1024 .f32) : FVec F S2x16384x1024 .f32 :=
  addf (mulf x (broadcastInDim S2x16384x1024 ![0, 1, 2] bcast_S2x1x1024_S2x16384x1024_0_1_2 (addf (broadcastInDim S2x1x1024 ![] bcast_S_S2x1x1024 (constant S_ .f32 0x3F800000#32)) (broadcastInDim S2x1x1024 ![0, 2] bcast_S2x1024_S2x1x1024_0_2 sc))))
    (broadcastInDim S2x16384x1024 ![0, 1, 2] bcast_S2x1x1024_S2x16384x1024_0_1_2 (broadcastInDim S2x1x1024 ![0, 2] bcast_S2x1024_S2x1x1024_0_2 sh))

/-- The hidden columns. -/
def refHidden (h : FVec F S2x16384x1024 .f32) (w1 : FVec F S1024x4096 .f32) : FVec F S2x16384x4096 .f32 :=
  have z : FVec F S2x16384x4096 .f32 := maximumf (Host.dotGeneral dot_S2x16384x1024_S1024x4096_S2x16384x4096_2_0_01_1_n_n none h w1) (broadcastInDim S2x16384x4096 ![] bcast_S_S2x16384x4096 (constant S_ .f32 0x00000000#32))
  mulf z z

/-- The feed-forward part. -/
def refOut (z : FVec F S2x16384x4096 .f32) (w2 : FVec F S4096x1024 .f32) : FVec F S2x16384x1024 .f32 :=
  Host.dotGeneral dot_S2x16384x4096_S4096x1024_S2x16384x1024_2_0_01_1_n_n none z w2

/-- The batches' rows one after another. -/
def refFlat (x : FVec F S2x16384x1024 .f32) : FVec F S32768x1024 .f32 := shapeCast _ x shapeCasts_S2x16384x1024_S32768x1024

/-- The reference's result, stage by stage. -/
theorem res_eq (m : (ℓ : Loc nD τ sig) → Buf (Elt F) ℓ) (c : Dev nD) (x : FVec F S2x16384x1024 .f32)
    (hx : x = refResid (m ((c.tc : Thread nD τ).loc main_arg0)) (m ((c.tc : Thread nD τ).loc main_arg5))
      (refMix (refGated (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg10)))) :
    res_main_v53 m c = refFlat (refResid x (m ((c.tc : Thread nD τ).loc main_arg8))
      (refOut (refHidden (refModulate (refNorm x (m ((c.tc : Thread nD τ).loc main_arg9))) (m ((c.tc : Thread nD τ).loc main_arg7)) (m ((c.tc : Thread nD τ).loc main_arg6))) (m ((c.tc : Thread nD τ).loc main_arg11))) (m ((c.tc : Thread nD τ).loc main_arg12)))) := by
  subst hx
  unfold res_main_v53
  rfl

end Stages

/-- The gated scans, at an index. -/
theorem refGated_at (f b r : FVec Ideal S2x16384x1024 .f32) (g : FVec Ideal S256 .f32) (B : Fin 2) (l : Fin 16384) (k : Fin 1024) :
    (refGated f b r g (ix3 B l k) : EReal) = gated (fun k => f (ix3 B l k)) (fun k => b (ix3 B l k)) (fun k => r (ix3 B l k)) (fun v => g (ix1 v)) k := by
  have hk : (⟨256 * (k.val / 256) + k.val % 256, by omega⟩ : Fin 1024) = k := Fin.ext (Nat.div_add_mod _ _)
  pointwise [refGated, gated, rms, eps, Ideal.logistic]
  simp only [Nat.mul_comm (k.val / 256) 256, hk]

/-- The gated addition, at an index. -/
theorem refResid_at (x : FVec Ideal S2x16384x1024 .f32) (g : FVec Ideal S2x1024 .f32) (y : FVec Ideal S2x16384x1024 .f32) (B : Fin 2) (l : Fin 16384) (j : Fin 1024) :
    (refResid x g y (ix3 B l j) : EReal) = resid (fun j => x (ix3 B l j)) (fun j => g (ix2 B j)) (fun j => y (ix3 B l j)) j := by
  pointwise [refResid, resid]

/-- The mixer's output, at an index. -/
theorem refMix_at (v : FVec Ideal S2x16384x1024 .f32) (w : FVec Ideal S1024x1024 .f32) (B : Fin 2) (l : Fin 16384) (j : Fin 1024) :
    (refMix v w (ix3 B l j) : EReal) = times (fun k => v (ix3 B l k)) (fun k j => w (ix2 k j)) j := by
  pointwise [refMix, times]

/-- The norm, at an index. -/
theorem refNorm_at (x : FVec Ideal S2x16384x1024 .f32) (g : FVec Ideal S1024 .f32) (B : Fin 2) (l : Fin 16384) (j : Fin 1024) :
    (refNorm x g (ix3 B l j) : EReal) = rms (Ideal.ofBits .f32 0x44800000#32) (fun j => x (ix3 B l j)) (fun j => g (ix1 j)) j := by
  pointwise [refNorm, rms, eps]

/-- The modulation, at an index. -/
theorem refModulate_at (x : FVec Ideal S2x16384x1024 .f32) (sc sh : FVec Ideal S2x1024 .f32) (B : Fin 2) (l : Fin 16384) (j : Fin 1024) :
    (refModulate x sc sh (ix3 B l j) : EReal) = x (ix3 B l j) * (1 + sc (ix2 B j)) + sh (ix2 B j) := by
  pointwise [refModulate]

/-- The hidden columns, at an index. -/
theorem refHidden_at (h : FVec Ideal S2x16384x1024 .f32) (w1 : FVec Ideal S1024x4096 .f32) (B : Fin 2) (l : Fin 16384) (f : Fin 4096) :
    (refHidden h w1 (ix3 B l f) : EReal) = square (times (fun k => h (ix3 B l k)) (fun k f => w1 (ix2 k f)) f) := by
  pointwise [refHidden, square, times]

/-- The feed-forward part, at an index. -/
theorem refOut_at (z : FVec Ideal S2x16384x4096 .f32) (w2 : FVec Ideal S4096x1024 .f32) (B : Fin 2) (l : Fin 16384) (j : Fin 1024) :
    (refOut z w2 (ix3 B l j) : EReal) = times (fun f => z (ix3 B l f)) (fun f j => w2 (ix2 f j)) j := by
  pointwise [refOut, times]

/-- A row of the result. -/
theorem refFlat_at (x : FVec Ideal S2x16384x1024 .f32) (B : Fin 2) (l : Fin 16384) (j : Fin 1024) (R : Fin 32768) (hR : R.val = 16384 * B.val + l.val) :
    (refFlat x (ix2 R j) : EReal) = x (ix3 B l j) := by
  have hl := l.isLt
  have e : (⟨R.val / 16384, by omega⟩ : Fin 2) = B := Fin.ext (by dsimp only; omega)
  have g : (⟨R.val % 16384, by omega⟩ : Fin 16384) = l := Fin.ext (by dsimp only; omega)
  pointwise [refFlat]
  rw [e, g]

/-- The reference's result, at an index. -/
theorem res_at (m : (ℓ : Loc nD τ sig) → Buf (Elt Ideal) ℓ) (c : Dev nD) (B : Fin 2) (l : Fin 16384) (j : Fin 1024) (R : Fin 32768) (hR : R.val = 16384 * B.val + l.val) :
    (res_main_v53 m c (ix2 R j) : EReal)
      = layer (fun k => m ((c.tc : Thread nD τ).loc main_arg0) (ix3 B l k)) (times (gated (fun k => m ((c.tc : Thread nD τ).loc main_arg1) (ix3 B l k)) (fun k => m ((c.tc : Thread nD τ).loc main_arg2) (ix3 B l k)) (fun k => m ((c.tc : Thread nD τ).loc main_arg3) (ix3 B l k)) (fun k => m ((c.tc : Thread nD τ).loc main_arg4) (ix1 k))) (fun k j => m ((c.tc : Thread nD τ).loc main_arg10) (ix2 k j)))
            (fun k => m ((c.tc : Thread nD τ).loc main_arg5) (ix2 B k)) (fun k => m ((c.tc : Thread nD τ).loc main_arg9) (ix1 k)) (fun k => m ((c.tc : Thread nD τ).loc main_arg7) (ix2 B k)) (fun k => m ((c.tc : Thread nD τ).loc main_arg6) (ix2 B k)) (fun k => m ((c.tc : Thread nD τ).loc main_arg8) (ix2 B k)) (fun k j => m ((c.tc : Thread nD τ).loc main_arg11) (ix2 k j)) (fun k j => m ((c.tc : Thread nD τ).loc main_arg12) (ix2 k j)) j := by
  obtain ⟨x, hX⟩ : ∃ x, x = refResid (F := Ideal) (m ((c.tc : Thread nD τ).loc main_arg0)) (m ((c.tc : Thread nD τ).loc main_arg5)) (refMix (refGated (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg10))) := ⟨_, rfl⟩
  have hx : (fun k => (x (ix3 B l k) : EReal)) = resid (fun k => m ((c.tc : Thread nD τ).loc main_arg0) (ix3 B l k)) (fun k => m ((c.tc : Thread nD τ).loc main_arg5) (ix2 B k)) (times (gated (fun k => m ((c.tc : Thread nD τ).loc main_arg1) (ix3 B l k)) (fun k => m ((c.tc : Thread nD τ).loc main_arg2) (ix3 B l k)) (fun k => m ((c.tc : Thread nD τ).loc main_arg3) (ix3 B l k)) (fun k => m ((c.tc : Thread nD τ).loc main_arg4) (ix1 k))) (fun k j => m ((c.tc : Thread nD τ).loc main_arg10) (ix2 k j))) := by
    funext k
    rw [hX, refResid_at]
    simp only [refMix_at, refGated_at]
  rw [res_eq m c x hX, refFlat_at _ B l j R hR]
  simp only [refResid_at, refOut_at, refHidden_at, refModulate_at, refNorm_at, hx]
  rfl

end Cert.Reference4Ideal.Post
-- ==== Proof.MidFinal.lean ====
module

public import proofs.«01_k».proof.Proof.MidPoint
public import proofs.«01_k».proof.Proof.MidRef

@[expose] public section

set_option maxRecDepth 16384

noncomputable section

/-! A gated layer's second half: the call's whole result is the reference's. -/

namespace Cert.Kernel4Ideal.Post

open Cert.Kernel4Ideal Cert.Kernel4Ideal.Gen Idealize.ShloMosaic Idealize.ShloMosaic.TcCoe Cert.Post

/-- From arguments that agree, the call's result is the reference's. -/
theorem result_eq (m : (ℓ : Loc nD τ sig) → Buf (Elt Ideal) ℓ) (c : Dev nD)
    (m' : (ℓ : Loc Cert.Reference4Ideal.nD Cert.Reference4Ideal.τ Cert.Reference4Ideal.sig) → Buf (Elt Ideal) ℓ)
    (h0 : m' ((c.tc : Thread Cert.Reference4Ideal.nD Cert.Reference4Ideal.τ).loc Cert.Reference4Ideal.main_arg0) = m ((c.tc : Thread nD τ).loc main_arg0))
    (h1 : m' ((c.tc : Thread Cert.Reference4Ideal.nD Cert.Reference4Ideal.τ).loc Cert.Reference4Ideal.main_arg1) = m ((c.tc : Thread nD τ).loc main_arg1))
    (h2 : m' ((c.tc : Thread Cert.Reference4Ideal.nD Cert.Reference4Ideal.τ).loc Cert.Reference4Ideal.main_arg2) = m ((c.tc : Thread nD τ).loc main_arg2))
    (h3 : m' ((c.tc : Thread Cert.Reference4Ideal.nD Cert.Reference4Ideal.τ).loc Cert.Reference4Ideal.main_arg3) = m ((c.tc : Thread nD τ).loc main_arg3))
    (h4 : m' ((c.tc : Thread Cert.Reference4Ideal.nD Cert.Reference4Ideal.τ).loc Cert.Reference4Ideal.main_arg4) = m ((c.tc : Thread nD τ).loc main_arg4))
    (h5 : m' ((c.tc : Thread Cert.Reference4Ideal.nD Cert.Reference4Ideal.τ).loc Cert.Reference4Ideal.main_arg5) = m ((c.tc : Thread nD τ).loc main_arg5))
    (h6 : m' ((c.tc : Thread Cert.Reference4Ideal.nD Cert.Reference4Ideal.τ).loc Cert.Reference4Ideal.main_arg6) = m ((c.tc : Thread nD τ).loc main_arg6))
    (h7 : m' ((c.tc : Thread Cert.Reference4Ideal.nD Cert.Reference4Ideal.τ).loc Cert.Reference4Ideal.main_arg7) = m ((c.tc : Thread nD τ).loc main_arg7))
    (h8 : m' ((c.tc : Thread Cert.Reference4Ideal.nD Cert.Reference4Ideal.τ).loc Cert.Reference4Ideal.main_arg8) = m ((c.tc : Thread nD τ).loc main_arg8))
    (h9 : m' ((c.tc : Thread Cert.Reference4Ideal.nD Cert.Reference4Ideal.τ).loc Cert.Reference4Ideal.main_arg9) = m ((c.tc : Thread nD τ).loc main_arg9))
    (h10 : m' ((c.tc : Thread Cert.Reference4Ideal.nD Cert.Reference4Ideal.τ).loc Cert.Reference4Ideal.main_arg10) = m ((c.tc : Thread nD τ).loc main_arg10))
    (h11 : m' ((c.tc : Thread Cert.Reference4Ideal.nD Cert.Reference4Ideal.τ).loc Cert.Reference4Ideal.main_arg11) = m ((c.tc : Thread nD τ).loc main_arg11))
    (h12 : m' ((c.tc : Thread Cert.Reference4Ideal.nD Cert.Reference4Ideal.τ).loc Cert.Reference4Ideal.main_arg12) = m ((c.tc : Thread nD τ).loc main_arg12))
    (h13 : m' ((c.tc : Thread Cert.Reference4Ideal.nD Cert.Reference4Ideal.τ).loc Cert.Reference4Ideal.main_arg13) = m ((c.tc : Thread nD τ).loc main_arg13)) :
    (dats m 0 c).arrAt 14 cfg0.N = Cert.Reference4Ideal.Value.res_main_v53 m' c := by
  refine (dats m 0 c).arrAt_eq_of_covers 14 _ covers fun t hf y => ?_
  blk_simp
  rw [after0_14]
  obtain ⟨p0, p1, p2, p3, p4, p5, p6, p7, p8, p9, p10, p11, p12, p13, p14, ht⟩ := places t
  obtain ⟨l, j, rfl⟩ : ∃ (l : Fin 512) (j : Fin 1024), y = ix2 l j := ⟨y 0, y 1, by blk_ext []⟩
  have hl := l.isLt
  obtain ⟨B, hB⟩ : ∃ B : Fin 2, B.val = (grid0.coords t 0).val / 32 := ⟨⟨_, by omega⟩, rfl⟩
  obtain ⟨L, hL⟩ : ∃ L : Fin 16384, L.val = 512 * ((grid0.coords t 0).val % 32) + l.val := ⟨⟨_, by omega⟩, rfl⟩
  obtain ⟨R, hR⟩ : ∃ R : Fin 32768, R.val = 512 * (grid0.coords t 0).val + l.val := ⟨⟨_, by omega⟩, rfl⟩
  have hRL : R.val = 16384 * B.val + L.val := by omega
  have hs : 16384 * B.val + L.val = 512 * (grid0.coords t 0).val + l.val := by omega
  have he : (win0_14.blk t).view.emb (ix2 l j) = ix2 R j := by
    have q : win0_14.index t = ![(grid0.coords t 0).val, 0] := p14
    blk_ext [q]
  rw [he, Cert.Reference4Ideal.Post.res_at m' c B L j R hRL, h0, h1, h2, h3, h4, h5, h6, h7, h8, h9, h10, h11, h12]
  refine (block_at _ _ _ _ _ _ _ _ _ _ _ _ _ _ l j).trans ?_
  simp only [blk_0 m c t l _ B L hs, blk_1 m c t l _ B L hs, blk_2 m c t l _ B L hs, blk_3 m c t l _ B L hs, blk_5 m c t _ B hB, blk_7 m c t _ B hB, blk_8 m c t _ B hB, blk_9 m c t _ B hB, blk_4 m c t, blk_6 m c t, blk_10 m c t, blk_11 m c t, blk_12 m c t, blk_13 m c t]

end Cert.Kernel4Ideal.Post
-- ==== Proof.Odd.lean ====
module

public import proofs.«01_k».proof.Proof.Row

@[expose] public section

noncomputable section

/-! An odd layer's log decays and their running sums, over the extended reals. -/

namespace Cert.Odd

open Idealize.ShloMosaic Cert.Post

/-- The log decay of a gate: a sixteenth of the gate's log sigmoid. -/
def decay (g : EReal) : EReal := (min g 0 - Ideal.log1p (Ideal.exp (0 - max g (-g)))) * Ideal.ofBits .f32 0x3D800000#32

/-- The log decays of a row: two small projections, a bias, and the log sigmoid. -/
def gate (h : Fin 1024 → EReal) (w : Fin 1024 → Fin 16 → EReal) (up : Fin 16 → Fin 512 → EReal) (b : Fin 512 → EReal) (c : Fin 512) : EReal :=
  decay (times (times h w) up c + b c)

/-- The sum of a chunk up to a position. -/
def before (x : Fin 64 → EReal) (q : Fin 64) : EReal := ∑ s : Fin 64, if s.val ≤ q.val then x s else 0

/-- The sum of a chunk from a position on. -/
def after (x : Fin 64 → EReal) (q : Fin 64) : EReal := ∑ s : Fin 64, if q.val ≤ s.val then x s else 0

/-- The exponential is never negative. -/
theorem exp_nonneg (x : EReal) : 0 ≤ Ideal.exp x := by
  induction x with
  | bot => exact le_rfl
  | top => exact le_top
  | coe r => exact EReal.coe_nonneg.mpr (Real.exp_pos r).le

/-- The log of one plus something that is not negative is not negative. -/
theorem log1p_nonneg {x : EReal} (hx : 0 ≤ x) : 0 ≤ Ideal.log1p x := by
  unfold Ideal.log1p
  induction x with
  | bot => exact absurd hx (by simp)
  | top =>
    have h : (1 + ⊤ : EReal) = ⊤ := EReal.add_top_of_ne_bot (EReal.coe_ne_bot 1)
    rw [h]
    exact le_top
  | coe r =>
    have hr : 0 ≤ r := EReal.coe_nonneg.mp hx
    have h : (1 + (r : EReal)) = ((1 + r : ℝ) : EReal) := by rw [EReal.coe_add, EReal.coe_one]
    rw [h]
    show (0 : EReal) ≤ if 1 + r ≤ 0 then ⊥ else (Real.log (1 + r) : EReal)
    rw [if_neg (by linarith)]
    exact EReal.coe_nonneg.mpr (Real.log_nonneg (by linarith))

/-- The decay's factor is a sixteenth. -/
theorem factor : Ideal.ofBits .f32 0x3D800000#32 = ((1 / 16 : ℝ) : EReal) := by
  simp [Ideal.ofBits, Ideal.ieee, -EReal.coe_mul]; norm_num

/-- The decay's divisor is sixteen. -/
theorem divisor : Ideal.ofBits .f32 0x41800000#32 = ((16 : ℝ) : EReal) := by
  simp [Ideal.ofBits, Ideal.ieee, -EReal.coe_mul]; norm_num

/-- A log decay is never the top element. -/
theorem decay_ne_top (g : EReal) : decay g ≠ ⊤ := by
  have hL := log1p_nonneg (exp_nonneg (0 - max g (-g)))
  have h : min g 0 - Ideal.log1p (Ideal.exp (0 - max g (-g))) ≤ 0 := by
    refine (EReal.sub_le_sub (min_le_right g 0) hL).trans ?_
    simp
  intro e
  unfold decay at e
  rw [factor] at e
  have h' := mul_le_mul_of_nonneg_right h (EReal.coe_nonneg.mpr (by norm_num : (0 : ℝ) ≤ 1 / 16))
  rw [e, zero_mul] at h'
  exact absurd h' (by simp)

/-- The reference's form of a log decay. -/
theorem decay_ref (g : EReal) :
    Ideal.div (-(max (-g) 0 + Ideal.log1p (Ideal.exp (-max (-g - 0) (-(-g - 0)))))) (Ideal.ofBits .f32 0x41800000#32) = decay g := by
  have hL := log1p_nonneg (exp_nonneg (0 - max g (-g)))
  have e₀ : -g - 0 = -g := by simp
  have e₁ : -max (-g) g = 0 - max g (-g) := by rw [max_comm, zero_sub]
  have e₂ : -max (-g) 0 = min g 0 := by
    rcases le_total g 0 with h | h
    · rw [min_eq_left h, max_eq_left (by simpa using EReal.neg_le_neg_iff.mpr h), neg_neg]
    · rw [min_eq_right h, max_eq_right (by simpa using EReal.neg_le_neg_iff.mpr h), neg_zero]
  have hb : Ideal.log1p (Ideal.exp (0 - max g (-g))) ≠ ⊥ := fun e => absurd (e ▸ hL) (by simp)
  have hm : max (-g) 0 ≠ ⊥ := fun e => absurd (e ▸ le_max_right (-g) 0) (by simp)
  rw [e₀, neg_neg, e₁, EReal.neg_add (.inl hm) (.inr hb), e₂]
  unfold decay
  have e₃ : ((16 : ℝ) : EReal) ≠ 0 := by norm_num
  rw [factor, divisor, Ideal.div, if_neg e₃, ← EReal.coe_inv, one_div]

/-- A sum with a term at the bottom is at the bottom. -/
theorem sum_bot {n : ℕ} (f : Fin n → EReal) (s : Fin n) (h : f s = ⊥) : ∑ i, f i = ⊥ := by
  rw [← Finset.add_sum_erase _ _ (Finset.mem_univ s), h, EReal.bot_add]

/-- A masked sum in three parts, the later two the remainders of the first. -/
theorem parts {n : ℕ} (t x : Fin n → EReal) (ht : ∀ s, t s = 0 ∨ t s = 1) (hx : ∀ s, x s ≠ ⊤) :
    ∑ s, t s * x s + ∑ s, t s * (x s - x s) + ∑ s, t s * (x s - x s - (x s - x s)) = ∑ s, t s * x s := by
  by_cases h : ∃ s, t s = 1 ∧ x s = ⊥
  · obtain ⟨s, h1, h2⟩ := h
    rw [sum_bot (fun s => t s * x s) s (by rw [h1, h2, one_mul]), EReal.bot_add, EReal.bot_add]
  · have h0 : ∀ s, t s * (x s - x s) = 0 ∧ t s * (x s - x s - (x s - x s)) = 0 := fun s => by
      rcases ht s with e | e
      · rw [e, zero_mul, zero_mul]; exact ⟨rfl, rfl⟩
      · have hb : x s ≠ ⊥ := fun hb => h ⟨s, e, hb⟩
        rw [e, EReal.sub_self (hx s) hb]
        simp
    rw [Finset.sum_eq_zero fun s _ => (h0 s).1, Finset.sum_eq_zero fun s _ => (h0 s).2, add_zero, add_zero]

/-- A sum over two blocks of 64. -/
theorem sum_two (f : Fin 128 → EReal) : ∑ s, f s = ∑ q : Fin 64, f ⟨q.val, by omega⟩ + ∑ q : Fin 64, f ⟨64 + q.val, by omega⟩ := by
  rw [← (finProdFinEquiv (m := 2) (n := 64)).sum_comp, Fintype.sum_prod_type, Fin.sum_univ_two]
  congr 1 <;> exact Fintype.sum_congr _ _ fun i => congrArg f (Fin.ext (by simp [finProdFinEquiv, Nat.add_comm]))

/-- The masked sum of two chunks, up to a position. -/
theorem mask_before (t x : Fin 128 → EReal) (a : Fin 128) (ht : ∀ s : Fin 128, t s = if s.val / 64 = a.val / 64 ∧ s.val ≤ a.val then 1 else 0) :
    ∑ s, t s * x s = before (fun q => x ⟨64 * (a.val / 64) + q.val, by omega⟩) ⟨a.val % 64, by omega⟩ := by
  have ha := a.isLt
  rw [sum_two, before]
  simp only [ht]
  rcases (by omega : a.val / 64 = 0 ∨ a.val / 64 = 1) with e | e
  · rw [Finset.sum_eq_zero (f := fun q : Fin 64 => (if (64 + q.val) / 64 = a.val / 64 ∧ 64 + q.val ≤ a.val then (1 : EReal) else 0) * _) fun q _ => by
      rw [if_neg (by omega), zero_mul], add_zero]
    refine Fintype.sum_congr _ _ fun q => ?_
    have e1 : (⟨64 * (a.val / 64) + q.val, by omega⟩ : Fin 128) = ⟨q.val, by omega⟩ := Fin.ext (by dsimp only; omega)
    rw [e1]
    by_cases h : q.val ≤ a.val % 64
    · rw [if_pos (by omega), if_pos h, one_mul]
    · rw [if_neg (by omega), if_neg h, zero_mul]
  · rw [Finset.sum_eq_zero (f := fun q : Fin 64 => (if q.val / 64 = a.val / 64 ∧ q.val ≤ a.val then (1 : EReal) else 0) * _) fun q _ => by
      rw [if_neg (by omega), zero_mul], zero_add]
    refine Fintype.sum_congr _ _ fun q => ?_
    have e1 : (⟨64 * (a.val / 64) + q.val, by omega⟩ : Fin 128) = ⟨64 + q.val, by omega⟩ := Fin.ext (by dsimp only; omega)
    rw [e1]
    by_cases h : q.val ≤ a.val % 64
    · rw [if_pos (by omega), if_pos h, one_mul]
    · rw [if_neg (by omega), if_neg h, zero_mul]

/-- The masked sum of two chunks, from a position on. -/
theorem mask_after (t x : Fin 128 → EReal) (a : Fin 128) (ht : ∀ s : Fin 128, t s = if s.val / 64 = a.val / 64 ∧ a.val ≤ s.val then 1 else 0) :
    ∑ s, t s * x s = after (fun q => x ⟨64 * (a.val / 64) + q.val, by omega⟩) ⟨a.val % 64, by omega⟩ := by
  have ha := a.isLt
  rw [sum_two, after]
  simp only [ht]
  rcases (by omega : a.val / 64 = 0 ∨ a.val / 64 = 1) with e | e
  · rw [Finset.sum_eq_zero (f := fun q : Fin 64 => (if (64 + q.val) / 64 = a.val / 64 ∧ a.val ≤ 64 + q.val then (1 : EReal) else 0) * _) fun q _ => by
      rw [if_neg (by omega), zero_mul], add_zero]
    refine Fintype.sum_congr _ _ fun q => ?_
    have e1 : (⟨64 * (a.val / 64) + q.val, by omega⟩ : Fin 128) = ⟨q.val, by omega⟩ := Fin.ext (by dsimp only; omega)
    rw [e1]
    by_cases h : a.val % 64 ≤ q.val
    · rw [if_pos (by omega), if_pos h, one_mul]
    · rw [if_neg (by omega), if_neg h, zero_mul]
  · rw [Finset.sum_eq_zero (f := fun q : Fin 64 => (if q.val / 64 = a.val / 64 ∧ a.val ≤ q.val then (1 : EReal) else 0) * _) fun q _ => by
      rw [if_neg (by omega), zero_mul], zero_add]
    refine Fintype.sum_congr _ _ fun q => ?_
    have e1 : (⟨64 * (a.val / 64) + q.val, by omega⟩ : Fin 128) = ⟨64 + q.val, by omega⟩ := Fin.ext (by dsimp only; omega)
    rw [e1]
    by_cases h : a.val % 64 ≤ q.val
    · rw [if_pos (by omega), if_pos h, one_mul]
    · rw [if_neg (by omega), if_neg h, zero_mul]

/-- A sum whose terms vanish outside sixteen places. -/
theorem sum_part (o : ℕ) (ho : o + 16 ≤ 128) (f : Fin 128 → EReal) (hf : ∀ i : Fin 128, i.val < o ∨ o + 16 ≤ i.val → f i = 0) :
    ∑ i, f i = ∑ i : Fin 16, f ⟨o + i.val, by omega⟩ := by
  symm
  refine Finset.sum_of_injOn (fun i : Fin 16 => (⟨o + i.val, by omega⟩ : Fin 128)) (fun a _ b _ h => Fin.ext (by simpa using h)) (fun _ _ => Finset.mem_coe.mpr (Finset.mem_univ _)) (fun i _ hi => ?_) (fun _ _ => rfl)
  refine hf i ?_
  by_contra h
  exact hi ⟨⟨i.val - o, by omega⟩, by simp, Fin.ext (by dsimp only; omega)⟩

end Cert.Odd

end
-- ==== Proof.OddBlock.lean ====
module

public import proofs.«01_k».proof.Proof.Odd
public import proofs.«01_k».proof.Proof.Gen.Kernel5Ideal.Frame
public import Idealize.ShloMosaic.Lib.Pointwise
public import Idealize.ShloMosaic.Lib.Pipeline.ValueKit
public import Idealize.ShloMosaic.Lib.Pipeline.ReadBack

@[expose] public section

set_option maxRecDepth 16384

noncomputable section

/-! What one grid point of an odd layer's projections leaves in its blocks, entry by entry. -/

namespace Cert.Kernel5Ideal.Odd

open Cert.Kernel5Ideal Cert.Kernel5Ideal.Gen Idealize.ShloMosaic Idealize.ShloMosaic.TcCoe Cert.Post Cert.Odd

/-- The chunk of a position, as the program's words compute it. -/
theorem word (a : Fin 128) : Scalar.select
      (IntOp.andi
        (IntOp.cmpi CmpIPredicate.ne
          (IntOp.subi (BitVec.setWidth 32 (IntOp.cmpi CmpIPredicate.sgt (BitVec.ofNat 32 a.val) 0#32))
            (BitVec.setWidth 32 (IntOp.cmpi CmpIPredicate.slt (BitVec.ofNat 32 a.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 a.val) 64#32) 0#32))
      (IntOp.subi (IntOp.divsi ArithUnit.vector (BitVec.ofNat 32 a.val) 64#32) 1#32)
      (IntOp.divsi ArithUnit.vector (BitVec.ofNat 32 a.val) 64#32) = BitVec.ofNat 32 (a.val / 64) := by
  revert a
  decide +kernel

/-- The chunk of a row's position. -/
theorem row_chunk (a s : Fin 128) : k0_pay1 (ix2 a s) = BitVec.ofNat 32 (a.val / 64) := by
  pointwise [k0_pay1]
  exact word a

/-- The chunk of a column's position. -/
theorem col_chunk (a s : Fin 128) : Scalar.select (IntOp.andi (k0_pay3 (ix2 a s)) (k0_pay4 (ix2 a s))) (IntOp.subi (k0_pay2 (ix2 a s)) 1#32) (k0_pay2 (ix2 a s)) = BitVec.ofNat 32 (s.val / 64) := by
  pointwise [k0_pay3, k0_pay2, k0_pay4]
  exact word s

/-- Same chunk and not later, as a word. -/
theorem word_before : ∀ a s : Fin 128, (IntOp.andi (IntOp.cmpi CmpIPredicate.eq (BitVec.ofNat 32 (a.val / 64)) (BitVec.ofNat 32 (s.val / 64))) (IntOp.cmpi CmpIPredicate.sge (BitVec.ofNat 32 a.val) (BitVec.ofNat 32 s.val)))
    = if s.val / 64 = a.val / 64 ∧ s.val ≤ a.val then 1#1 else 0#1 := by
  decide +kernel

/-- Same chunk and not earlier, as a word. -/
theorem word_after : ∀ a s : Fin 128, (IntOp.andi (IntOp.cmpi CmpIPredicate.eq (BitVec.ofNat 32 (a.val / 64)) (BitVec.ofNat 32 (s.val / 64))) (IntOp.cmpi CmpIPredicate.sle (BitVec.ofNat 32 a.val) (BitVec.ofNat 32 s.val)))
    = if s.val / 64 = a.val / 64 ∧ a.val ≤ s.val then 1#1 else 0#1 := by
  decide +kernel

/-- The word one, as a number. -/
theorem word_one : (FloatOps.sitofp (F := Ideal) FTy.f32 (BitVec.setWidth 32 1#1) : EReal) = 1 := by
  show (((BitVec.setWidth 32 1#1).toInt : ℝ) : EReal) = 1
  norm_num

/-- The word zero, as a number. -/
theorem word_zero : (FloatOps.sitofp (F := Ideal) FTy.f32 (BitVec.setWidth 32 0#1) : EReal) = 0 := by
  show (((BitVec.setWidth 32 0#1).toInt : ℝ) : EReal) = 0
  norm_num

/-- The mask of the sums up to a position. -/
def fwd : FVec Ideal S128x128 .bf16 := k0_pay6 (F := Ideal) (iota .tc S128x128 32 [0] iota_S128x128_d0_w32) (iota .tc S128x128 32 [1] iota_S128x128_d1_w32) k0_pay1 k0_pay2 k0_pay3 k0_pay4

/-- The mask of the sums from a position on. -/
def bwd : FVec Ideal S128x128 .bf16 := k0_pay7 (F := Ideal) (iota .tc S128x128 32 [0] iota_S128x128_d0_w32) (iota .tc S128x128 32 [1] iota_S128x128_d1_w32) k0_pay1 k0_pay2 k0_pay3 k0_pay4

/-- The mask of the sums up to a position, at an index. -/
theorem fwd_at (a s : Fin 128) : (fwd (ix2 a s) : EReal) = if s.val / 64 = a.val / 64 ∧ s.val ≤ a.val then 1 else 0 := by
  pointwise [fwd, k0_pay6, k0_pay5]
  rw [row_chunk, col_chunk, word_before]
  split
  · exact word_one
  · exact word_zero

/-- The mask of the sums from a position on, at an index. -/
theorem bwd_at (a s : Fin 128) : (bwd (ix2 a s) : EReal) = if s.val / 64 = a.val / 64 ∧ a.val ≤ s.val then 1 else 0 := by
  pointwise [bwd, k0_pay7, k0_pay5]
  rw [row_chunk, col_chunk, word_after]
  split
  · exact word_one
  · exact word_zero

/-- The sums up to a position, in the first 128 rows. -/
theorem fwd_0 (x : FVec Ideal S512x512 .f32) (hx : ∀ l c, (x (ix2 l c) : EReal) ≠ ⊤) (a : Fin 128) (c : Fin 512) :
    (k0_pay19 fwd x (ix2 a c) : EReal) = before (fun q => x (ix2 ⟨0 + (64 * (a.val / 64) + q.val), by omega⟩ c)) ⟨a.val % 64, by omega⟩ := by
  have h := parts (fun s => (fwd (ix2 a s) : EReal)) (fun s : Fin 128 => x (ix2 ⟨0 + s.val, by omega⟩ c)) (fun s => by rw [fwd_at]; split <;> simp) (fun s => hx _ _)
  have h' := mask_before (fun s => (fwd (ix2 a s) : EReal)) (fun s : Fin 128 => x (ix2 ⟨0 + s.val, by omega⟩ c)) a (fun s => fwd_at a s)
  rw [← h', ← h]
  pointwise [k0_pay19]

/-- The sums up to a position, in the second 128 rows. -/
theorem fwd_1 (x : FVec Ideal S512x512 .f32) (hx : ∀ l c, (x (ix2 l c) : EReal) ≠ ⊤) (a : Fin 128) (c : Fin 512) :
    (k0_pay22 fwd (k0_pay21 x) (ix2 a c) : EReal) = before (fun q => x (ix2 ⟨128 + (64 * (a.val / 64) + q.val), by omega⟩ c)) ⟨a.val % 64, by omega⟩ := by
  have h := parts (fun s => (fwd (ix2 a s) : EReal)) (fun s : Fin 128 => x (ix2 ⟨128 + s.val, by omega⟩ c)) (fun s => by rw [fwd_at]; split <;> simp) (fun s => hx _ _)
  have h' := mask_before (fun s => (fwd (ix2 a s) : EReal)) (fun s : Fin 128 => x (ix2 ⟨128 + s.val, by omega⟩ c)) a (fun s => fwd_at a s)
  rw [← h', ← h]
  pointwise [k0_pay22, k0_pay21]

/-- The sums up to a position, in the third 128 rows. -/
theorem fwd_2 (x : FVec Ideal S512x512 .f32) (hx : ∀ l c, (x (ix2 l c) : EReal) ≠ ⊤) (a : Fin 128) (c : Fin 512) :
    (k0_pay24 fwd x (ix2 a c) : EReal) = before (fun q => x (ix2 ⟨256 + (64 * (a.val / 64) + q.val), by omega⟩ c)) ⟨a.val % 64, by omega⟩ := by
  have h := parts (fun s => (fwd (ix2 a s) : EReal)) (fun s : Fin 128 => x (ix2 ⟨256 + s.val, by omega⟩ c)) (fun s => by rw [fwd_at]; split <;> simp) (fun s => hx _ _)
  have h' := mask_before (fun s => (fwd (ix2 a s) : EReal)) (fun s : Fin 128 => x (ix2 ⟨256 + s.val, by omega⟩ c)) a (fun s => fwd_at a s)
  rw [← h', ← h]
  pointwise [k0_pay24]

/-- The sums up to a position, in the fourth 128 rows. -/
theorem fwd_3 (x : FVec Ideal S512x512 .f32) (hx : ∀ l c, (x (ix2 l c) : EReal) ≠ ⊤) (a : Fin 128) (c : Fin 512) :
    (k0_pay27 fwd x (ix2 a c) : EReal) = before (fun q => x (ix2 ⟨384 + (64 * (a.val / 64) + q.val), by omega⟩ c)) ⟨a.val % 64, by omega⟩ := by
  have h := parts (fun s => (fwd (ix2 a s) : EReal)) (fun s : Fin 128 => x (ix2 ⟨384 + s.val, by omega⟩ c)) (fun s => by rw [fwd_at]; split <;> simp) (fun s => hx _ _)
  have h' := mask_before (fun s => (fwd (ix2 a s) : EReal)) (fun s : Fin 128 => x (ix2 ⟨384 + s.val, by omega⟩ c)) a (fun s => fwd_at a s)
  rw [← h', ← h]
  pointwise [k0_pay27]

/-- The sums from a position on, in the first 128 rows. -/
theorem bwd_0 (y : FVec Ideal S512x512 .f32) (b : Vec Ideal S1x512 .f32) (hx : ∀ l c, (k0_pay18 y b (ix2 l c) : EReal) ≠ ⊤) (a : Fin 128) (c : Fin 512) :
    (k0_pay20 bwd y b (ix2 a c) : EReal) = after (fun q => k0_pay18 y b (ix2 ⟨0 + (64 * (a.val / 64) + q.val), by omega⟩ c)) ⟨a.val % 64, by omega⟩ := by
  have h := parts (fun s => (bwd (ix2 a s) : EReal)) (fun s : Fin 128 => k0_pay18 y b (ix2 ⟨0 + s.val, by omega⟩ c)) (fun s => by rw [bwd_at]; split <;> simp) (fun s => hx _ _)
  have h' := mask_after (fun s => (bwd (ix2 a s) : EReal)) (fun s : Fin 128 => k0_pay18 y b (ix2 ⟨0 + s.val, by omega⟩ c)) a (fun s => bwd_at a s)
  rw [← h', ← h]
  pointwise [k0_pay20, k0_pay18]

/-- The sums from a position on, in the second 128 rows. -/
theorem bwd_1 (x : FVec Ideal S512x512 .f32) (hx : ∀ l c, (x (ix2 l c) : EReal) ≠ ⊤) (a : Fin 128) (c : Fin 512) :
    (k0_pay23 bwd x (ix2 a c) : EReal) = after (fun q => x (ix2 ⟨128 + (64 * (a.val / 64) + q.val), by omega⟩ c)) ⟨a.val % 64, by omega⟩ := by
  have h := parts (fun s => (bwd (ix2 a s) : EReal)) (fun s : Fin 128 => x (ix2 ⟨128 + s.val, by omega⟩ c)) (fun s => by rw [bwd_at]; split <;> simp) (fun s => hx _ _)
  have h' := mask_after (fun s => (bwd (ix2 a s) : EReal)) (fun s : Fin 128 => x (ix2 ⟨128 + s.val, by omega⟩ c)) a (fun s => bwd_at a s)
  rw [← h', ← h]
  pointwise [k0_pay23]

/-- The sums from a position on, in the third 128 rows. -/
theorem bwd_2 (x : FVec Ideal S512x512 .f32) (hx : ∀ l c, (x (ix2 l c) : EReal) ≠ ⊤) (a : Fin 128) (c : Fin 512) :
    (k0_pay26 bwd (k0_pay25 x) (ix2 a c) : EReal) = after (fun q => x (ix2 ⟨256 + (64 * (a.val / 64) + q.val), by omega⟩ c)) ⟨a.val % 64, by omega⟩ := by
  have h := parts (fun s => (bwd (ix2 a s) : EReal)) (fun s : Fin 128 => x (ix2 ⟨256 + s.val, by omega⟩ c)) (fun s => by rw [bwd_at]; split <;> simp) (fun s => hx _ _)
  have h' := mask_after (fun s => (bwd (ix2 a s) : EReal)) (fun s : Fin 128 => x (ix2 ⟨256 + s.val, by omega⟩ c)) a (fun s => bwd_at a s)
  rw [← h', ← h]
  pointwise [k0_pay26, k0_pay25]

/-- The sums from a position on, in the fourth 128 rows. -/
theorem bwd_3 (x : FVec Ideal S512x512 .f32) (hx : ∀ l c, (x (ix2 l c) : EReal) ≠ ⊤) (a : Fin 128) (c : Fin 512) :
    (k0_pay28 bwd x (ix2 a c) : EReal) = after (fun q => x (ix2 ⟨384 + (64 * (a.val / 64) + q.val), by omega⟩ c)) ⟨a.val % 64, by omega⟩ := by
  have h := parts (fun s => (bwd (ix2 a s) : EReal)) (fun s : Fin 128 => x (ix2 ⟨384 + s.val, by omega⟩ c)) (fun s => by rw [bwd_at]; split <;> simp) (fun s => hx _ _)
  have h' := mask_after (fun s => (bwd (ix2 a s) : EReal)) (fun s : Fin 128 => x (ix2 ⟨384 + s.val, by omega⟩ c)) a (fun s => bwd_at a s)
  rw [← h', ← h]
  pointwise [k0_pay28]

/-- The modulated norm, at an index. -/
theorem normed_at (x : Vec Ideal S512x1024 .f32) (g : Vec Ideal S1x1024 .f32) (sc sh : Vec Ideal S1x1x1024 .f32) (l : Fin 512) (j : Fin 1024) :
    (k0_pay8 x g sc sh (ix2 l j) : EReal)
      = normed (fun j => x (ix2 l j)) (fun j => g (ix2 0 j)) (fun j => sc (ix3 0 0 j)) (fun j => sh (ix3 0 0 j)) j := by
  pointwise [k0_pay8, normed, rms, eps]

/-- The projection's columns that are kept as they are. -/
theorem k_at (h : FVec Ideal S512x1024 .f32) (w : Vec Ideal S1024x3200 .bf16) (l c : Fin 512) :
    (k0_pay11 h (k0_pay9 w) (ix2 l c) : EReal) = times (fun k => h (ix2 l k)) (fun k j => w (ix2 k j)) ⟨1664 + c.val, by omega⟩ := by
  pointwise [k0_pay11, k0_pay10, k0_pay9, times]

/-- The values' columns of the projection. -/
theorem v_at (h : FVec Ideal S512x1024 .f32) (w : Vec Ideal S1024x3200 .bf16) (l : Fin 512) (c : Fin 1024) :
    (k0_pay12 h (k0_pay9 w) (ix2 l c) : EReal) = times (fun k => h (ix2 l k)) (fun k j => w (ix2 k j)) ⟨2176 + c.val, by omega⟩ := by
  pointwise [k0_pay12, k0_pay10, k0_pay9, times]

/-- The queries' columns of the projection, scaled. -/
theorem q_at (h : FVec Ideal S512x1024 .f32) (w : Vec Ideal S1024x3200 .bf16) (l c : Fin 512) :
    (k0_pay13 h (k0_pay9 w) (ix2 l c) : EReal) = times (fun k => h (ix2 l k)) (fun k j => w (ix2 k j)) ⟨1152 + c.val, by omega⟩ * Ideal.ofBits .f32 0x3DB504F3#32 := by
  pointwise [k0_pay13, k0_pay10, k0_pay9, times]

/-- The output gate's columns of the projection. -/
theorem r_at (h : FVec Ideal S512x1024 .f32) (w : Vec Ideal S1024x3200 .bf16) (l : Fin 512) (c : Fin 1024) :
    (k0_pay14 h (k0_pay9 w) (ix2 l c) : EReal) = times (fun k => h (ix2 l k)) (fun k j => w (ix2 k j)) ⟨128 + c.val, by omega⟩ := by
  pointwise [k0_pay14, k0_pay10, k0_pay9, times]

/-- The log decays of a block's rows, one way. -/
theorem gf_at (h : FVec Ideal S512x1024 .f32) (w : Vec Ideal S1024x3200 .bf16) (up : Vec Ideal S128x512 .bf16) (b : Vec Ideal S1x512 .f32) (l c : Fin 512) :
    (k0_pay16 h (k0_pay9 w) up b (ix2 l c) : EReal) = decay (∑ i : Fin 128, times (fun k => h (ix2 l k)) (fun k j => w (ix2 k j)) ⟨i.val, by omega⟩ * up (ix2 i c) + b (ix2 0 c)) := by
  pointwise [k0_pay16, k0_pay15, k0_pay10, k0_pay9, times, decay]
  rfl

/-- The log decays of a block's rows, the other way. -/
theorem gb_at (h : FVec Ideal S512x1024 .f32) (w : Vec Ideal S1024x3200 .bf16) (up : Vec Ideal S128x512 .bf16) (b : Vec Ideal S1x512 .f32) (l c : Fin 512) :
    (k0_pay18 (k0_pay17 h (k0_pay9 w) up) b (ix2 l c) : EReal) = decay (∑ i : Fin 128, times (fun k => h (ix2 l k)) (fun k j => w (ix2 k j)) ⟨i.val, by omega⟩ * up (ix2 i c) + b (ix2 0 c)) := by
  pointwise [k0_pay18, k0_pay17, k0_pay15, k0_pay10, k0_pay9, times, decay]
  rfl

section Blocks
variable (x0 : Vec Ideal S512x1024 .f32) (x1 : Vec Ideal S1x1024 .f32) (x2 x3 : Vec Ideal S1x1x1024 .f32) (x4 : Vec Ideal S1024x3200 .bf16) (x5 : Vec Ideal S128x512 .bf16) (x6 : Vec Ideal S1x512 .f32)
  (x7 : Vec Ideal S128x512 .bf16) (x8 : Vec Ideal S1x512 .f32)

/-- The modulated norm of a block's row. -/
def row (l : Fin 512) : Fin 1024 → EReal := normed (fun j => x0 (ix2 l j)) (fun j => x1 (ix2 0 j)) (fun j => x3 (ix3 0 0 j)) (fun j => x2 (ix3 0 0 j))

/-- The log decays of a block's row, from the padded weights. -/
def gates (up : Vec Ideal S128x512 .bf16) (b : Vec Ideal S1x512 .f32) (l c : Fin 512) : EReal :=
  decay (∑ i : Fin 128, times (row x0 x1 x2 x3 l) (fun k j => x4 (ix2 k j)) ⟨i.val, by omega⟩ * up (ix2 i c) + b (ix2 0 c))

/-- The whole loads of a grid point's inputs. -/
theorem norm_eq : k0_pay37 x0 x1 x2 x3 x4 x5 x6 x7 x8 = k0_pay8 x0 x1 x3 x2 := by
  have g0 : View.ld x0 r0_0 = x0 := View.ld_unit_lit' _ _ (by decide)
  have g1 : View.ld x1 r0_1 = x1 := View.ld_unit_lit' _ _ (by decide)
  have g2 : View.ld x2 r0_2 = x2 := View.ld_unit_lit' _ _ (by decide)
  have g3 : View.ld x3 r0_2 = x3 := View.ld_unit_lit' _ _ (by decide)
  rw [k0_pay37, g0, g1, g2, g3]

/-- The row that a grid point projects. -/
theorem row_eq (l : Fin 512) : (fun k => (k0_pay8 x0 x1 x3 x2 (ix2 l k) : EReal)) = row x0 x1 x2 x3 l :=
  funext fun k => normed_at x0 x1 x3 x2 l k

/-- The weights that a grid point loads. -/
theorem weights_eq : k0_pay38 x0 x1 x2 x3 x4 x5 x6 x7 x8 = k0_pay9 x4 := by
  have g4 : View.ld x4 r0_3 = x4 := View.ld_unit_lit' _ _ (by decide)
  rw [k0_pay38, g4]

/-- The keys that a grid point leaves. -/
theorem block_9 (l : Fin 512) (c : Fin 512) :
    (out0_9 x0 x1 x2 x3 x4 x5 x6 x7 x8 (ix2 l c) : EReal) = times (row x0 x1 x2 x3 l) (fun k j => x4 (ix2 k j)) ⟨1664 + c.val, by omega⟩ := by
  rw [out0_9, View.canon_cons_unit_lit' _ _ _ (by decide), norm_eq, weights_eq, k_at, row_eq]

/-- The values that a grid point leaves. -/
theorem block_10 (l : Fin 512) (c : Fin 1024) :
    (out0_10 x0 x1 x2 x3 x4 x5 x6 x7 x8 (ix2 l c) : EReal) = times (row x0 x1 x2 x3 l) (fun k j => x4 (ix2 k j)) ⟨2176 + c.val, by omega⟩ := by
  rw [out0_10, View.canon_cons_unit_lit' _ _ _ (by decide), norm_eq, weights_eq, v_at, row_eq]

/-- The queries that a grid point leaves. -/
theorem block_11 (l : Fin 512) (c : Fin 512) :
    (out0_11 x0 x1 x2 x3 x4 x5 x6 x7 x8 (ix2 l c) : EReal) = times (row x0 x1 x2 x3 l) (fun k j => x4 (ix2 k j)) ⟨1152 + c.val, by omega⟩ * Ideal.ofBits .f32 0x3DB504F3#32 := by
  rw [out0_11, View.canon_cons_unit_lit' _ _ _ (by decide), norm_eq, weights_eq, q_at, row_eq]

/-- The output gate's entries that a grid point leaves. -/
theorem block_12 (l : Fin 512) (c : Fin 1024) :
    (out0_12 x0 x1 x2 x3 x4 x5 x6 x7 x8 (ix2 l c) : EReal) = times (row x0 x1 x2 x3 l) (fun k j => x4 (ix2 k j)) ⟨128 + c.val, by omega⟩ := by
  rw [out0_12, View.canon_cons_unit_lit' _ _ _ (by decide), norm_eq, weights_eq, r_at, row_eq]

/-- The log decays of a grid point's rows, one way. -/
theorem gates_f (l c : Fin 512) : (k0_pay39 x0 x1 x2 x3 x4 x5 x6 x7 x8 (ix2 l c) : EReal) = gates x0 x1 x2 x3 x4 x5 x6 l c := by
  have g5 : View.ld x5 r0_5 = x5 := View.ld_unit_lit' _ _ (by decide)
  have g6 : View.ld x6 r0_6 = x6 := View.ld_unit_lit' _ _ (by decide)
  rw [k0_pay39, norm_eq, weights_eq, g5, g6, gf_at, row_eq, gates]

/-- The log decays of a grid point's rows, the other way. -/
theorem gates_b (l c : Fin 512) : (k0_pay41 x0 x1 x2 x3 x4 x5 x6 x7 x8 (ix2 l c) : EReal) = gates x0 x1 x2 x3 x4 x7 x8 l c := by
  have g7 : View.ld x7 r0_5 = x7 := View.ld_unit_lit' _ _ (by decide)
  have g8 : View.ld x8 r0_6 = x8 := View.ld_unit_lit' _ _ (by decide)
  rw [k0_pay41, k0_pay40, norm_eq, weights_eq, g7, g8, gb_at, row_eq, gates]

/-- The pieces of the sums up to each position. -/
theorem pieces_fwd (x : FVec Ideal S512x512 .f32) (hx : ∀ l c, (x (ix2 l c) : EReal) ≠ ⊤) :
    View.PiecesOf (s := S512x512) (Val := Elt Ideal) (e := .f32)
      (fun y => before (fun q => x (ix2 ⟨64 * ((y 0).val / 64) + q.val, by have h : (y 0).val < 512 := (y 0).isLt; omega⟩ (y 1))) ⟨(y 0).val % 64, by omega⟩)
      [⟨r0_10, k0_pay27 fwd x⟩, ⟨r0_9, k0_pay24 fwd x⟩, ⟨r0_8, k0_pay22 fwd (k0_pay21 x)⟩, ⟨r0_7, k0_pay19 fwd x⟩] := by
  refine ⟨?_, ?_, ?_, ?_, trivial⟩
  · intro y
    obtain ⟨a, c, rfl⟩ : ∃ (a : Fin 128) (c : Fin 512), y = ix2 a c := ⟨y 0, y 1, by blk_ext []⟩
    have e : r0_10.emb (ix2 a c) = ix2 (⟨384 + a.val, by omega⟩ : Fin 512) c := by
      blk_ext []
    refine (fwd_3 x hx a c).trans ?_
    show _ = before _ _
    rw [e]
    exact congr (congrArg before (funext fun q => congrArg x (congrArg (ix2 · c) (Fin.ext (by show 384 + (64 * (a.val / 64) + q.val) = 64 * ((384 + a.val) / 64) + q.val; omega)))))
      (Fin.ext (by show a.val % 64 = (384 + a.val) % 64; omega))
  · intro y
    obtain ⟨a, c, rfl⟩ : ∃ (a : Fin 128) (c : Fin 512), y = ix2 a c := ⟨y 0, y 1, by blk_ext []⟩
    have e : r0_9.emb (ix2 a c) = ix2 (⟨256 + a.val, by omega⟩ : Fin 512) c := by
      blk_ext []
    refine (fwd_2 x hx a c).trans ?_
    show _ = before _ _
    rw [e]
    exact congr (congrArg before (funext fun q => congrArg x (congrArg (ix2 · c) (Fin.ext (by show 256 + (64 * (a.val / 64) + q.val) = 64 * ((256 + a.val) / 64) + q.val; omega)))))
      (Fin.ext (by show a.val % 64 = (256 + a.val) % 64; omega))
  · intro y
    obtain ⟨a, c, rfl⟩ : ∃ (a : Fin 128) (c : Fin 512), y = ix2 a c := ⟨y 0, y 1, by blk_ext []⟩
    have e : r0_8.emb (ix2 a c) = ix2 (⟨128 + a.val, by omega⟩ : Fin 512) c := by
      blk_ext []
    refine (fwd_1 x hx a c).trans ?_
    show _ = before _ _
    rw [e]
    exact congr (congrArg before (funext fun q => congrArg x (congrArg (ix2 · c) (Fin.ext (by show 128 + (64 * (a.val / 64) + q.val) = 64 * ((128 + a.val) / 64) + q.val; omega)))))
      (Fin.ext (by show a.val % 64 = (128 + a.val) % 64; omega))
  · intro y
    obtain ⟨a, c, rfl⟩ : ∃ (a : Fin 128) (c : Fin 512), y = ix2 a c := ⟨y 0, y 1, by blk_ext []⟩
    have e : r0_7.emb (ix2 a c) = ix2 (⟨0 + a.val, by omega⟩ : Fin 512) c := by
      blk_ext []
    refine (fwd_0 x hx a c).trans ?_
    show _ = before _ _
    rw [e]
    exact congr (congrArg before (funext fun q => congrArg x (congrArg (ix2 · c) (Fin.ext (by show 0 + (64 * (a.val / 64) + q.val) = 64 * ((0 + a.val) / 64) + q.val; omega)))))
      (Fin.ext (by show a.val % 64 = (0 + a.val) % 64; omega))

/-- The sums up to each position that a grid point leaves. -/
theorem block_13 (l c : Fin 512) :
    (out0_13 x0 x1 x2 x3 x4 x5 x6 x7 x8 (ix2 l c) : EReal) = before (fun q => gates x0 x1 x2 x3 x4 x5 x6 ⟨64 * (l.val / 64) + q.val, by omega⟩ c) ⟨l.val % 64, by omega⟩ := by
  have hx : ∀ l c, (k0_pay39 x0 x1 x2 x3 x4 x5 x6 x7 x8 (ix2 l c) : EReal) ≠ ⊤ := fun l c => by
    rw [gates_f, gates]
    exact decay_ne_top _
  have h := View.canon_append_of_piecesOf _ [] _ (pieces_fwd (k0_pay39 x0 x1 x2 x3 x4 x5 x6 x7 x8) hx) (ix2 l c) (cover0_13 _ _ _ _ _)
  refine Eq.trans ?_ (h.trans ?_)
  · rfl
  · show before _ _ = _
    exact congrArg (before · _) (funext fun q => gates_f x0 x1 x2 x3 x4 x5 x6 x7 x8 _ _)

/-- The pieces of the sums from each position on. -/
theorem pieces_bwd (y : FVec Ideal S512x512 .f32) (b : Vec Ideal S1x512 .f32) (hx : ∀ l c, (k0_pay18 y b (ix2 l c) : EReal) ≠ ⊤) :
    View.PiecesOf (s := S512x512) (Val := Elt Ideal) (e := .f32)
      (fun z => after (fun q => k0_pay18 y b (ix2 ⟨64 * ((z 0).val / 64) + q.val, by have h : (z 0).val < 512 := (z 0).isLt; omega⟩ (z 1))) ⟨(z 0).val % 64, by omega⟩)
      [⟨r0_10, k0_pay28 bwd (k0_pay18 y b)⟩, ⟨r0_9, k0_pay26 bwd (k0_pay25 (k0_pay18 y b))⟩, ⟨r0_8, k0_pay23 bwd (k0_pay18 y b)⟩, ⟨r0_7, k0_pay20 bwd y b⟩] := by
  refine ⟨?_, ?_, ?_, ?_, trivial⟩
  · intro z
    obtain ⟨a, c, rfl⟩ : ∃ (a : Fin 128) (c : Fin 512), z = ix2 a c := ⟨z 0, z 1, by blk_ext []⟩
    have e : r0_10.emb (ix2 a c) = ix2 (⟨384 + a.val, by omega⟩ : Fin 512) c := by
      blk_ext []
    refine (bwd_3 _ hx a c).trans ?_
    show _ = after _ _
    rw [e]
    exact congr (congrArg after (funext fun q => congrArg (k0_pay18 y b) (congrArg (ix2 · c) (Fin.ext (by show 384 + (64 * (a.val / 64) + q.val) = 64 * ((384 + a.val) / 64) + q.val; omega)))))
      (Fin.ext (by show a.val % 64 = (384 + a.val) % 64; omega))
  · intro z
    obtain ⟨a, c, rfl⟩ : ∃ (a : Fin 128) (c : Fin 512), z = ix2 a c := ⟨z 0, z 1, by blk_ext []⟩
    have e : r0_9.emb (ix2 a c) = ix2 (⟨256 + a.val, by omega⟩ : Fin 512) c := by
      blk_ext []
    refine (bwd_2 _ hx a c).trans ?_
    show _ = after _ _
    rw [e]
    exact congr (congrArg after (funext fun q => congrArg (k0_pay18 y b) (congrArg (ix2 · c) (Fin.ext (by show 256 + (64 * (a.val / 64) + q.val) = 64 * ((256 + a.val) / 64) + q.val; omega)))))
      (Fin.ext (by show a.val % 64 = (256 + a.val) % 64; omega))
  · intro z
    obtain ⟨a, c, rfl⟩ : ∃ (a : Fin 128) (c : Fin 512), z = ix2 a c := ⟨z 0, z 1, by blk_ext []⟩
    have e : r0_8.emb (ix2 a c) = ix2 (⟨128 + a.val, by omega⟩ : Fin 512) c := by
      blk_ext []
    refine (bwd_1 _ hx a c).trans ?_
    show _ = after _ _
    rw [e]
    exact congr (congrArg after (funext fun q => congrArg (k0_pay18 y b) (congrArg (ix2 · c) (Fin.ext (by show 128 + (64 * (a.val / 64) + q.val) = 64 * ((128 + a.val) / 64) + q.val; omega)))))
      (Fin.ext (by show a.val % 64 = (128 + a.val) % 64; omega))
  · intro z
    obtain ⟨a, c, rfl⟩ : ∃ (a : Fin 128) (c : Fin 512), z = ix2 a c := ⟨z 0, z 1, by blk_ext []⟩
    have e : r0_7.emb (ix2 a c) = ix2 (⟨0 + a.val, by omega⟩ : Fin 512) c := by
      blk_ext []
    refine (bwd_0 y b hx a c).trans ?_
    show _ = after _ _
    rw [e]
    exact congr (congrArg after (funext fun q => congrArg (k0_pay18 y b) (congrArg (ix2 · c) (Fin.ext (by show 0 + (64 * (a.val / 64) + q.val) = 64 * ((0 + a.val) / 64) + q.val; omega)))))
      (Fin.ext (by show a.val % 64 = (0 + a.val) % 64; omega))

/-- The sums from each position on that a grid point leaves. -/
theorem block_14 (l c : Fin 512) :
    (out0_14 x0 x1 x2 x3 x4 x5 x6 x7 x8 (ix2 l c) : EReal) = after (fun q => gates x0 x1 x2 x3 x4 x7 x8 ⟨64 * (l.val / 64) + q.val, by omega⟩ c) ⟨l.val % 64, by omega⟩ := by
  have hx : ∀ l c, (k0_pay41 x0 x1 x2 x3 x4 x5 x6 x7 x8 (ix2 l c) : EReal) ≠ ⊤ := fun l c => by
    rw [gates_b, gates]
    exact decay_ne_top _
  have h := View.canon_append_of_piecesOf _ [] _ (pieces_bwd (k0_pay40 x0 x1 x2 x3 x4 x5 x6 x7 x8) (View.ld x8 r0_6) hx) (ix2 l c) (cover0_14 _ _ _ _ _)
  refine Eq.trans ?_ (h.trans ?_)
  · rfl
  · show after _ _ = _
    exact congrArg (after · _) (funext fun q => gates_b x0 x1 x2 x3 x4 x5 x6 x7 x8 _ _)

end Blocks

end Cert.Kernel5Ideal.Odd
-- ==== Proof.OddPoint.lean ====
module

public import proofs.«01_k».proof.Proof.OddBlock
public import Idealize.ShloMosaic.Lib.StableHlo.RunRead
public import Idealize.ShloMosaic.Lib.Pointwise
public import Idealize.ShloMosaic.Lib.Routing.OpsSet

@[expose] public section

set_option maxRecDepth 16384

noncomputable section

/-! The blocks that a grid point of an odd layer's projections reads, from the arguments. -/

namespace Cert.Kernel5Ideal.Odd

open Cert.Kernel5Ideal Cert.Kernel5Ideal.Gen Idealize.ShloMosaic Idealize.ShloMosaic.TcCoe Cert.Post Cert.Odd

/-- The program's weights, side by side. -/
def wall (w : FVec Ideal S1024x3104 .f32) : FVec Ideal S1024x3200 .bf16 :=
  truncf .bf16 (concatenate S1024x3200 1 [⟨S1024x32, extractStridedSlice S1024x32 ![0, 1536] w slices_S1024x3104_S1024x32_0_1536⟩, ⟨S1024x96, broadcastInDim S1024x96 ![] bcast_S_S1024x96 (constant (F := Ideal) S_ .f32 0x00000000#32)⟩,
    ⟨S1024x1024, extractStridedSlice S1024x1024 ![0, 2080] w slices_S1024x3104_S1024x1024_0_2080⟩, ⟨S1024x512, extractStridedSlice S1024x512 ![0, 1568] w slices_S1024x3104_S1024x512_0_1568⟩,
    ⟨S1024x1536, extractStridedSlice S1024x1536 ![0, 0] w slices_S1024x3104_S1024x1536_0_0⟩] concatenates_S1024x32_S1024x96_S1024x1024_S1024x512_S1024x1536_S1024x3200_d1 : FVec Ideal S1024x3200 .f32) bitsLt_bf16_f32

/-- The weights' columns of the two gates' small projections. -/
theorem wall_z (w : FVec Ideal S1024x3104 .f32) (k : Fin 1024) (c : Fin 3200) (hc : c.val < 32) : (wall w (ix2 k c) : EReal) = w (ix2 k ⟨1536 + c.val, by omega⟩) := by
  pointwise [wall]
  rw [dif_pos (by omega)]

/-- The weights' columns of the output gate. -/
theorem wall_r (w : FVec Ideal S1024x3104 .f32) (k : Fin 1024) (c : Fin 3200) (hc : 128 ≤ c.val ∧ c.val < 1152) : (wall w (ix2 k c) : EReal) = w (ix2 k ⟨1952 + c.val, by omega⟩) := by
  pointwise [wall]
  rw [dif_neg (by omega)]
  rw [dif_neg (by omega)]
  rw [dif_pos (by omega)]
  exact congrArg (fun j => w (ix2 k j)) (Fin.ext (by dsimp only; omega))

/-- The weights' columns of the queries. -/
theorem wall_q (w : FVec Ideal S1024x3104 .f32) (k : Fin 1024) (c : Fin 3200) (hc : 1152 ≤ c.val ∧ c.val < 1664) : (wall w (ix2 k c) : EReal) = w (ix2 k ⟨416 + c.val, by omega⟩) := by
  pointwise [wall]
  rw [dif_neg (by omega)]
  rw [dif_neg (by omega)]
  rw [dif_neg (by omega)]
  rw [dif_pos (by omega)]
  exact congrArg (fun j => w (ix2 k j)) (Fin.ext (by dsimp only; omega))

/-- The weights' columns of the keys and the values. -/
theorem wall_kv (w : FVec Ideal S1024x3104 .f32) (k : Fin 1024) (c : Fin 3200) (hc : 1664 ≤ c.val) : (wall w (ix2 k c) : EReal) = w (ix2 k ⟨c.val - 1664, by omega⟩) := by
  pointwise [wall]
  rw [dif_neg (by omega)]
  rw [dif_neg (by omega)]
  rw [dif_neg (by omega)]
  rw [dif_neg (by omega)]
  exact congrArg (fun j => w (ix2 k j)) (Fin.ext (by dsimp only; omega))

/-- A small weight in a matrix of zeros. -/
def padded (n : BitVec 32) (w : FVec Ideal S16x512 .f32) : FVec Ideal S128x512 .f32 :=
  Host.scatter scatter_S128x512_S1_S16x512_01_n_0_0 (fun _ b => b) (broadcastInDim S128x512 ![] bcast_S_S128x512 (constant (F := Ideal) S_ .f32 0x00000000#32)) (broadcastInDim S1 ![] bcast_S_S1 (constantI S_ 32 n)) w

/-- Where a small weight's entry lands. -/
theorem lands (n : BitVec 32) (o : ℕ) (hn : n.toInt = o) (a : Fin 16) (b : Fin 512) (r : Fin 128) (c : Fin 512) :
    scatter_S128x512_S1_S16x512_01_n_0_0.resultIdx? (ix2 a b) (broadcastInDim S1 ![] bcast_S_S1 (constantI S_ 32 n)) = some (ix2 r c) ↔ o + a.val = r.val ∧ b.val = c.val := by
  have hs0 : scatter_S128x512_S1_S16x512_01_n_0_0.start (ix2 a b) (broadcastInDim S1 ![] bcast_S_S1 (constantI S_ 32 n)) 0 = o := by
    rw [← hn]; rfl
  have hs1 : scatter_S128x512_S1_S16x512_01_n_0_0.start (ix2 a b) (broadcastInDim S1 ![] bcast_S_S1 (constantI S_ 32 n)) 1 = 0 := by
    rfl
  have hw0 : scatter_S128x512_S1_S16x512_01_n_0_0.window (ix2 a b) 0 = a.val := by
    rfl
  have hw1 : scatter_S128x512_S1_S16x512_01_n_0_0.window (ix2 a b) 1 = b.val := by
    rfl
  refine (Routing.resultIdx?_ix2 _ _ _ r c).trans ?_
  rw [hs0, hs1, hw0, hw1]
  omega

/-- The matrix of zeros, where the small weight lies. -/
theorem padded_hit (n : BitVec 32) (o : ℕ) (hn : n.toInt = o) (w : FVec Ideal S16x512 .f32) (a : Fin 16) (r : Fin 128) (c : Fin 512) (hr : r.val = o + a.val) :
    (padded n w (ix2 r c) : EReal) = w (ix2 a c) := by
  refine Routing.scatter_set_hit _ _ _ _ _ _ (fun k hk => ?_) (ix2 a c) ((lands n o hn a c r c).mpr ⟨hr.symm, rfl⟩)
  obtain ⟨a', b', rfl⟩ : ∃ (a : Fin 16) (b : Fin 512), k = ix2 a b := ⟨k 0, k 1, by blk_ext []⟩
  obtain ⟨h1, h2⟩ := (lands n o hn a' b' r c).mp hk
  rw [show a' = a from Fin.ext (by omega), show b' = c from Fin.ext h2]

/-- The matrix of zeros, elsewhere. -/
theorem padded_miss (n : BitVec 32) (o : ℕ) (hn : n.toInt = o) (w : FVec Ideal S16x512 .f32) (r : Fin 128) (c : Fin 512) (hr : r.val < o ∨ o + 16 ≤ r.val) :
    (padded n w (ix2 r c) : EReal) = 0 := by
  refine (Routing.scatter_set_miss _ _ _ _ _ (fun k hk => ?_)).trans ?_
  · obtain ⟨a', b', rfl⟩ : ∃ (a : Fin 16) (b : Fin 512), k = ix2 a b := ⟨k 0, k 1, by blk_ext []⟩
    obtain ⟨h1, h2⟩ := (lands n o hn a' b' r c).mp hk
    omega
  · pointwise []

/-- The block of each window at a grid point. -/
theorem places (t : Fin cfg0.N) :
    (cfg0.win 0).index t = ![(grid0.coords t 0).val, 0] ∧ (cfg0.win 1).index t = ![0, 0] ∧ (cfg0.win 2).index t = ![(grid0.coords t 0).val / 32, 0, 0] ∧ (cfg0.win 3).index t = ![(grid0.coords t 0).val / 32, 0, 0]
    ∧ (cfg0.win 4).index t = ![0, 0] ∧ (cfg0.win 5).index t = ![0, 0] ∧ (cfg0.win 6).index t = ![0, 0] ∧ (cfg0.win 7).index t = ![0, 0] ∧ (cfg0.win 8).index t = ![0, 0]
    ∧ (cfg0.win 9).index t = ![(grid0.coords t 0).val, 0] ∧ (cfg0.win 10).index t = ![(grid0.coords t 0).val, 0] ∧ (cfg0.win 11).index t = ![(grid0.coords t 0).val, 0] ∧ (cfg0.win 12).index t = ![(grid0.coords t 0).val, 0] ∧ (cfg0.win 13).index t = ![(grid0.coords t 0).val, 0] ∧ (cfg0.win 14).index t = ![(grid0.coords t 0).val, 0]
    ∧ (grid0.coords t 0).val < 64 := by
  revert t
  decide +kernel

/-- The call's blocks cover the keys. -/
theorem covers_9 : (cfg0.win 9).Covers := by
  decide +kernel

/-- The call's blocks cover the values. -/
theorem covers_10 : (cfg0.win 10).Covers := by
  decide +kernel

/-- The call's blocks cover the queries. -/
theorem covers_11 : (cfg0.win 11).Covers := by
  decide +kernel

/-- The call's blocks cover the output gate's entries. -/
theorem covers_12 : (cfg0.win 12).Covers := by
  decide +kernel

/-- The call's blocks cover the sums up to each position. -/
theorem covers_13 : (cfg0.win 13).Covers := by
  decide +kernel

/-- The call's blocks cover the sums from each position on. -/
theorem covers_14 : (cfg0.win 14).Covers := by
  decide +kernel

/-- The flattened rows, at an index. -/
theorem flat_at (x : FVec Ideal S2x16384x1024 .f32) (R : Fin 32768) (j : Fin 1024) (B : Fin 2) (L : Fin 16384) (hR : 16384 * B.val + L.val = R.val) :
    (shapeCast S32768x1024 x shapeCasts_S2x16384x1024_S32768x1024 (ix2 R j) : EReal) = x (ix3 B L j) := by
  have hL := L.isLt
  have e₀ : (⟨R.val / 16384, by omega⟩ : Fin 2) = B := Fin.ext (by dsimp only; omega)
  have e₁ : (⟨R.val % 16384, by omega⟩ : Fin 16384) = L := Fin.ext (by dsimp only; omega)
  pointwise []
  rw [e₀, e₁]

/-- A matrix at half its width, at an index. -/
theorem half_at (x : FVec Ideal S128x512 .f32) (k : Fin 128) (j : Fin 512) : ((truncf .bf16 x bitsLt_bf16_f32 : FVec Ideal S128x512 .bf16) (ix2 k j) : EReal) = x (ix2 k j) := by
  pointwise []

variable (m : (ℓ : Loc nD τ sig) → Buf (Elt Ideal) ℓ) (c : Dev nD) (t : Fin cfg0.N)

/-- What operand 0 of the call holds. -/
theorem V_0 : V m c main_v0 = shapeCast S32768x1024 (m ((c.tc : Thread nD τ).loc main_arg0) : FVec Ideal S2x16384x1024 .f32) shapeCasts_S2x16384x1024_S32768x1024 := by
  unfold_abbrev_sides
  after_reads_simp
  rfl

/-- A block of operand 0. -/
theorem blk_0 (l : Fin 512) (j : Fin 1024) (B : Fin 2) (L : Fin 16384) (hL : 16384 * B.val + L.val = 512 * (grid0.coords t 0).val + l.val) :
    (iblk m c 0 t (ix2 l j) : EReal) = m ((c.tc : Thread nD τ).loc main_arg0) (ix3 B L j) := by
  obtain ⟨h0, h1, h2, h3, h4, h5, h6, h7, h8, h9, h10, h11, h12, h13, h14, ht⟩ := places t
  obtain ⟨R, hR⟩ : ∃ R : Fin 32768, R.val = 512 * (grid0.coords t 0).val + l.val := ⟨⟨_, by omega⟩, rfl⟩
  have e : iblk m c 0 t (ix2 l j) = V m c main_v0 (ix2 R j) := by
    blk_ext [iblk, h0]
  rw [e, V_0]
  exact flat_at _ R j B L (hL.trans hR.symm)

/-- What operand 1 of the call holds. -/
theorem V_1 : V m c main_v1 = broadcastInDim S1x1024 ![1] bcast_S1024_S1x1024_1 (m ((c.tc : Thread nD τ).loc main_arg1)) := by
  unfold_abbrev_sides
  after_reads_simp

/-- A block of operand 1. -/
theorem blk_1 (j : Fin 1024) :
    (iblk m c 1 t (ix2 0 j) : EReal) = m ((c.tc : Thread nD τ).loc main_arg1) (ix1 j) := by
  obtain ⟨h0, h1, h2, h3, h4, h5, h6, h7, h8, h9, h10, h11, h12, h13, h14, ht⟩ := places t
  have e : iblk m c 1 t (ix2 0 j) = V m c main_v1 (ix2 0 j) := by
    blk_ext [iblk, h1]
  rw [e, V_1]
  pointwise []

/-- What operand 6 of the call holds. -/
theorem V_6 : V m c main_v19 = broadcastInDim S1x512 ![1] bcast_S512_S1x512_1 (m ((c.tc : Thread nD τ).loc main_arg6)) := by
  unfold_abbrev_sides
  after_reads_simp

/-- A block of operand 6. -/
theorem blk_6 (j : Fin 512) :
    (iblk m c 6 t (ix2 0 j) : EReal) = m ((c.tc : Thread nD τ).loc main_arg6) (ix1 j) := by
  obtain ⟨h0, h1, h2, h3, h4, h5, h6, h7, h8, h9, h10, h11, h12, h13, h14, ht⟩ := places t
  have e : iblk m c 6 t (ix2 0 j) = V m c main_v19 (ix2 0 j) := by
    blk_ext [iblk, h6]
  rw [e, V_6]
  pointwise []

/-- What operand 8 of the call holds. -/
theorem V_8 : V m c main_v20 = broadcastInDim S1x512 ![1] bcast_S512_S1x512_1 (m ((c.tc : Thread nD τ).loc main_arg8)) := by
  unfold_abbrev_sides
  after_reads_simp

/-- A block of operand 8. -/
theorem blk_8 (j : Fin 512) :
    (iblk m c 8 t (ix2 0 j) : EReal) = m ((c.tc : Thread nD τ).loc main_arg8) (ix1 j) := by
  obtain ⟨h0, h1, h2, h3, h4, h5, h6, h7, h8, h9, h10, h11, h12, h13, h14, ht⟩ := places t
  have e : iblk m c 8 t (ix2 0 j) = V m c main_v20 (ix2 0 j) := by
    blk_ext [iblk, h8]
  rw [e, V_8]
  pointwise []

/-- What operand 2 of the call holds. -/
theorem V_2 : V m c main_v2 = broadcastInDim S2x1x1024 ![0, 2] bcast_S2x1024_S2x1x1024_0_2 (m ((c.tc : Thread nD τ).loc main_arg2)) := by
  unfold_abbrev_sides
  after_reads_simp

/-- A block of operand 2. -/
theorem blk_2 (j : Fin 1024) (B : Fin 2) (hB : B.val = (grid0.coords t 0).val / 32) :
    (iblk m c 2 t (ix3 0 0 j) : EReal) = m ((c.tc : Thread nD τ).loc main_arg2) (ix2 B j) := by
  obtain ⟨h0, h1, h2, h3, h4, h5, h6, h7, h8, h9, h10, h11, h12, h13, h14, ht⟩ := places t
  have e : iblk m c 2 t (ix3 0 0 j) = V m c main_v2 (ix3 B 0 j) := by
    blk_ext [iblk, h2]
  rw [e, V_2]
  pointwise []

/-- What operand 3 of the call holds. -/
theorem V_3 : V m c main_v3 = broadcastInDim S2x1x1024 ![0, 2] bcast_S2x1024_S2x1x1024_0_2 (m ((c.tc : Thread nD τ).loc main_arg3)) := by
  unfold_abbrev_sides
  after_reads_simp

/-- A block of operand 3. -/
theorem blk_3 (j : Fin 1024) (B : Fin 2) (hB : B.val = (grid0.coords t 0).val / 32) :
    (iblk m c 3 t (ix3 0 0 j) : EReal) = m ((c.tc : Thread nD τ).loc main_arg3) (ix2 B j) := by
  obtain ⟨h0, h1, h2, h3, h4, h5, h6, h7, h8, h9, h10, h11, h12, h13, h14, ht⟩ := places t
  have e : iblk m c 3 t (ix3 0 0 j) = V m c main_v3 (ix3 B 0 j) := by
    blk_ext [iblk, h3]
  rw [e, V_3]
  pointwise []

/-- What operand 4 of the call holds. -/
theorem V_4 : V m c main_v10 = wall (m ((c.tc : Thread nD τ).loc main_arg4)) := by
  unfold_abbrev_sides
  after_reads_simp
  rfl

/-- A block of operand 4. -/
theorem blk_4 (k : Fin 1024) (j : Fin 3200) :
    (iblk m c 4 t (ix2 k j) : EReal) = wall (m ((c.tc : Thread nD τ).loc main_arg4)) (ix2 k j) := by
  obtain ⟨h0, h1, h2, h3, h4, h5, h6, h7, h8, h9, h10, h11, h12, h13, h14, ht⟩ := places t
  have e : iblk m c 4 t (ix2 k j) = V m c main_v10 (ix2 k j) := by
    blk_ext [iblk, h4]
  rw [e, V_4]

/-- What operand 5 of the call holds. -/
theorem V_5 : V m c main_v14 = (truncf .bf16 (padded 0#32 (m ((c.tc : Thread nD τ).loc main_arg5)) : FVec Ideal S128x512 .f32) bitsLt_bf16_f32 : FVec Ideal S128x512 .bf16) := by
  unfold_abbrev_sides
  after_reads_simp
  rfl

/-- A block of operand 5. -/
theorem blk_5 (k : Fin 128) (j : Fin 512) :
    (iblk m c 5 t (ix2 k j) : EReal) = padded 0#32 (m ((c.tc : Thread nD τ).loc main_arg5)) (ix2 k j) := by
  obtain ⟨h0, h1, h2, h3, h4, h5, h6, h7, h8, h9, h10, h11, h12, h13, h14, ht⟩ := places t
  have e : iblk m c 5 t (ix2 k j) = V m c main_v14 (ix2 k j) := by
    blk_ext [iblk, h5]
  rw [e, V_5]
  exact half_at _ k j

/-- What operand 7 of the call holds. -/
theorem V_7 : V m c main_v18 = (truncf .bf16 (padded 16#32 (m ((c.tc : Thread nD τ).loc main_arg7)) : FVec Ideal S128x512 .f32) bitsLt_bf16_f32 : FVec Ideal S128x512 .bf16) := by
  unfold_abbrev_sides
  after_reads_simp
  rfl

/-- A block of operand 7. -/
theorem blk_7 (k : Fin 128) (j : Fin 512) :
    (iblk m c 7 t (ix2 k j) : EReal) = padded 16#32 (m ((c.tc : Thread nD τ).loc main_arg7)) (ix2 k j) := by
  obtain ⟨h0, h1, h2, h3, h4, h5, h6, h7, h8, h9, h10, h11, h12, h13, h14, ht⟩ := places t
  have e : iblk m c 7 t (ix2 k j) = V m c main_v18 (ix2 k j) := by
    blk_ext [iblk, h7]
  rw [e, V_7]
  exact half_at _ k j

/-- The modulated norm of a row of the arguments. -/
def argRow (B : Fin 2) (L : Fin 16384) : Fin 1024 → EReal :=
  normed (fun j => m ((c.tc : Thread nD τ).loc main_arg0) (ix3 B L j)) (fun j => m ((c.tc : Thread nD τ).loc main_arg1) (ix1 j)) (fun j => m ((c.tc : Thread nD τ).loc main_arg3) (ix2 B j)) (fun j => m ((c.tc : Thread nD τ).loc main_arg2) (ix2 B j))

/-- A block's row, from the arguments. -/
theorem row_arg (l : Fin 512) (B : Fin 2) (L : Fin 16384) (hB : B.val = (grid0.coords t 0).val / 32) (hL : 16384 * B.val + L.val = 512 * (grid0.coords t 0).val + l.val) :
    row (iblk m c 0 t) (iblk m c 1 t) (iblk m c 2 t) (iblk m c 3 t) l = argRow m c B L := by
  unfold row argRow
  simp only [blk_0 m c t l _ B L hL, blk_1 m c t, blk_2 m c t _ B hB, blk_3 m c t _ B hB]

/-- A block's log decays, one way, from the arguments. -/
theorem gates_arg_f (l d : Fin 512) (B : Fin 2) (L : Fin 16384) (hB : B.val = (grid0.coords t 0).val / 32) (hL : 16384 * B.val + L.val = 512 * (grid0.coords t 0).val + l.val) :
    gates (iblk m c 0 t) (iblk m c 1 t) (iblk m c 2 t) (iblk m c 3 t) (iblk m c 4 t) (iblk m c 5 t) (iblk m c 6 t) l d
      = gate (argRow m c B L) (fun k i => m ((c.tc : Thread nD τ).loc main_arg4) (ix2 k ⟨1536 + i.val, by omega⟩)) (fun i d => m ((c.tc : Thread nD τ).loc main_arg5) (ix2 i d)) (fun d => m ((c.tc : Thread nD τ).loc main_arg6) (ix1 d)) d := by
  unfold gates gate
  rw [row_arg m c t l B L hB hL, blk_6 m c t]
  refine congrArg (fun s => decay (s + _)) ?_
  refine (sum_part 0 (by omega) _ fun i hi => ?_).trans ?_
  · rw [blk_5 m c t, padded_miss 0#32 0 rfl _ i d hi, mul_zero]
  · unfold times
    refine Fintype.sum_congr _ _ fun i => ?_
    rw [blk_5 m c t, padded_hit 0#32 0 rfl _ i _ d rfl]
    refine congrArg (· * _) (Fintype.sum_congr _ _ fun k => ?_)
    dsimp only
    rw [blk_4 m c t, wall_z _ _ _ (by dsimp only; omega)]
    exact congrArg (fun j => argRow m c B L k * m ((c.tc : Thread nD τ).loc main_arg4) (ix2 k j)) (Fin.ext (by dsimp only; omega))

/-- A block's log decays, the other way, from the arguments. -/
theorem gates_arg_b (l d : Fin 512) (B : Fin 2) (L : Fin 16384) (hB : B.val = (grid0.coords t 0).val / 32) (hL : 16384 * B.val + L.val = 512 * (grid0.coords t 0).val + l.val) :
    gates (iblk m c 0 t) (iblk m c 1 t) (iblk m c 2 t) (iblk m c 3 t) (iblk m c 4 t) (iblk m c 7 t) (iblk m c 8 t) l d
      = gate (argRow m c B L) (fun k i => m ((c.tc : Thread nD τ).loc main_arg4) (ix2 k ⟨1552 + i.val, by omega⟩)) (fun i d => m ((c.tc : Thread nD τ).loc main_arg7) (ix2 i d)) (fun d => m ((c.tc : Thread nD τ).loc main_arg8) (ix1 d)) d := by
  unfold gates gate
  rw [row_arg m c t l B L hB hL, blk_8 m c t]
  refine congrArg (fun s => decay (s + _)) ?_
  refine (sum_part 16 (by omega) _ fun i hi => ?_).trans ?_
  · rw [blk_7 m c t, padded_miss 16#32 16 rfl _ i d hi, mul_zero]
  · unfold times
    refine Fintype.sum_congr _ _ fun i => ?_
    rw [blk_7 m c t, padded_hit 16#32 16 rfl _ i _ d rfl]
    refine congrArg (· * _) (Fintype.sum_congr _ _ fun k => ?_)
    dsimp only
    rw [blk_4 m c t, wall_z _ _ _ (by dsimp only; omega)]
    exact congrArg (fun j => argRow m c B L k * m ((c.tc : Thread nD τ).loc main_arg4) (ix2 k j)) (Fin.ext (by dsimp only; omega))

end Cert.Kernel5Ideal.Odd
-- ==== Proof.OddRef.lean ====
module

public import proofs.«01_k».proof.Proof.Odd
public import proofs.«01_k».proof.Proof.Gen.Reference5Ideal.Run
public import Idealize.ShloMosaic.Lib.Pointwise

@[expose] public section

set_option maxRecDepth 16384

noncomputable section

/-! The reference of an odd layer's projections, entry by entry. -/

namespace Cert.Reference5Ideal.Odd

open Cert.Reference5Ideal Cert.Reference5Ideal.Gen Cert.Reference5Ideal.Value Idealize.ShloMosaic Idealize.ShloMosaic.TcCoe Cert.Post Cert.Odd

section Stages
variable {F : FTy → Type} [FloatOps F]

/-- The norm of each row. -/
def refNorm (x : FVec F S2x16384x1024 .f32) (g : FVec F S1024 .f32) : FVec F S2x16384x1024 .f32 :=
  mulf (mulf x (broadcastInDim S2x16384x1024 ![0, 1, 2] bcast_S2x16384x1_S2x16384x1024_0_1_2 (Host.rsqrt (addf (Host.divf
      (broadcastInDim S2x16384x1 ![0, 1] bcast_S2x16384_S2x16384x1_0_1 (Host.reduceAdd (mulf x x) (constant S_ .f32 0x00000000#32) reducesTo_S2x16384x1024_S2x16384_d2 h_S_))
      (broadcastInDim S2x16384x1 ![] bcast_S_S2x16384x1 (constant S_ .f32 0x44800000#32))) (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- The modulated norm. -/
def refModulate (x : FVec F S2x16384x1024 .f32) (sc sh : FVec F S2x1024 .f32) : FVec F S2x16384x1024 .f32 :=
  addf (mulf x (broadcastInDim S2x16384x1024 ![0, 1, 2] bcast_S2x1x1024_S2x16384x1024_0_1_2 (addf (broadcastInDim S2x1x1024 ![] bcast_S_S2x1x1024 (constant S_ .f32 0x3F800000#32)) (broadcastInDim S2x1x1024 ![0, 2] bcast_S2x1024_S2x1x1024_0_2 sc))))
    (broadcastInDim S2x16384x1024 ![0, 1, 2] bcast_S2x1x1024_S2x16384x1024_0_1_2 (broadcastInDim S2x1x1024 ![0, 2] bcast_S2x1024_S2x1x1024_0_2 sh))

/-- The projection. -/
def refProj (h : FVec F S2x16384x1024 .f32) (w : FVec F S1024x3104 .f32) : FVec F S2x16384x3104 .f32 :=
  Host.dotGeneral dot_S2x16384x1024_S1024x3104_S2x16384x3104_2_0_01_1_n_n none h w

/-- A gate before its log sigmoid. -/
def refGate (z : FVec F S2x16384x16 .f32) (up : FVec F S16x512 .f32) (b : FVec F S512 .f32) : FVec F S2x16384x512 .f32 :=
  addf (Host.dotGeneral dot_S2x16384x16_S16x512_S2x16384x512_2_0_01_1_n_n none z up) (broadcastInDim S2x16384x512 ![0, 1, 2] bcast_S1x1x512_S2x16384x512_0_1_2 (broadcastInDim S1x1x512 ![2] bcast_S512_S1x1x512_2 b))

/-- The zero that the log sigmoid compares with. -/
def refZero : FVec F S2x16384x512 .f32 := broadcastInDim S2x16384x512 ![] bcast_S_S2x16384x512 (constant S_ .f32 0x00000000#32)

/-- The log decay. -/
def refDecay (g : FVec F S2x16384x512 .f32) : FVec F S2x16384x512 .f32 :=
  Host.divf (Host.negf (select (cmpf .une (subf (Host.negf g) refZero) (subf (Host.negf g) refZero)) (addf (Host.negf g) refZero)
    (addf (maximumf (Host.negf g) refZero) (Host.log1p (Host.exp (Host.negf (Host.absf (subf (Host.negf g) refZero)))))))) (broadcastInDim S2x16384x512 ![] bcast_S_S2x16384x512 (constant S_ .f32 0x41800000#32))

/-- The chunks of the rows. -/
def refChunks (x : FVec F S2x16384x512 .f32) : FVec F S2x256x64x512 .f32 := shapeCast _ x shapeCasts_S2x16384x512_S2x256x64x512

/-- The running sums of each chunk. -/
def refSums (x : FVec F S2x256x64x512 .f32) : FVec F S2x256x64x512 .f32 :=
  Host.reduceWindowAdd ![1, 1, 64, 1] ![1, 1, 1, 1] ![0, 0, 63, 0] ![0, 0, 0, 0] x (broadcastInDim S_ ![] bcast_S_S_ (constant S_ .f32 0x00000000#32))
    reduceWindows_S2x256x64x512_S2x256x64x512_w1s1p0_0_w1s1p0_0_w64s1p63_0_w1s1p0_0 h_S_

/-- Each chunk from its end to its start. -/
def refTurn (x : FVec F S2x256x64x512 .f32) : FVec F S2x256x64x512 .f32 := Host.reverse [2] x

/-- The chunks' rows one after another. -/
def refRows (x : FVec F S2x256x64x512 .f32) : FVec F S32768x512 .f32 := shapeCast _ x shapeCasts_S2x256x64x512_S32768x512

/-- The batches' rows one after another. -/
def refFlat (x : FVec F S2x16384x512 .f32) : FVec F S32768x512 .f32 := shapeCast _ x shapeCasts_S2x16384x512_S32768x512

/-- The batches' wide rows one after another. -/
def refFlatWide (x : FVec F S2x16384x1024 .f32) : FVec F S32768x1024 .f32 := shapeCast _ x shapeCasts_S2x16384x1024_S32768x1024

/-- The projection of the arguments. -/
def refP (m : (ℓ : Loc nD τ sig) → Buf (Elt F) ℓ) (c : Dev nD) : FVec F S2x16384x3104 .f32 :=
  refProj (refModulate (refNorm (m ((c.tc : Thread nD τ).loc main_arg0)) (m ((c.tc : Thread nD τ).loc main_arg1))) (m ((c.tc : Thread nD τ).loc main_arg3)) (m ((c.tc : Thread nD τ).loc main_arg2))) (m ((c.tc : Thread nD τ).loc main_arg4))

/-- The keys. -/
def refK (m : (ℓ : Loc nD τ sig) → Buf (Elt F) ℓ) (c : Dev nD) : FVec F S32768x512 .f32 :=
  refFlat (extractStridedSlice S2x16384x512 ![0, 0, 0] (refP m c) slices_S2x16384x3104_S2x16384x512_0_0_0)

/-- The values. -/
def refV (m : (ℓ : Loc nD τ sig) → Buf (Elt F) ℓ) (c : Dev nD) : FVec F S32768x1024 .bf16 :=
  truncf .bf16 (refFlatWide (extractStridedSlice S2x16384x1024 ![0, 0, 512] (refP m c) slices_S2x16384x3104_S2x16384x1024_0_0_512)) bitsLt_bf16_f32

/-- The queries. -/
def refQ (m : (ℓ : Loc nD τ sig) → Buf (Elt F) ℓ) (c : Dev nD) : FVec F S32768x512 .f32 :=
  refFlat (mulf (extractStridedSlice S2x16384x512 ![0, 0, 1568] (refP m c) slices_S2x16384x3104_S2x16384x512_0_0_1568) (broadcastInDim S2x16384x512 ![] bcast_S_S2x16384x512 (constant S_ .f32 0x3DB504F3#32)))

/-- The output gate's entries. -/
def refR (m : (ℓ : Loc nD τ sig) → Buf (Elt F) ℓ) (c : Dev nD) : FVec F S32768x1024 .f32 :=
  refFlatWide (extractStridedSlice S2x16384x1024 ![0, 0, 2080] (refP m c) slices_S2x16384x3104_S2x16384x1024_0_0_2080)

/-- The reference's sums up to each position, stage by stage. -/
theorem res_before (m : (ℓ : Loc nD τ sig) → Buf (Elt F) ℓ) (c : Dev nD) :
    res_main_v55 m c = refRows (refSums (refChunks (refDecay (refGate (extractStridedSlice S2x16384x16 ![0, 0, 1536] (refP m c) slices_S2x16384x3104_S2x16384x16_0_0_1536) (m ((c.tc : Thread nD τ).loc main_arg5)) (m ((c.tc : Thread nD τ).loc main_arg6)))))) := by
  unfold res_main_v55
  rfl

/-- The reference's sums from each position on, stage by stage. -/
theorem res_after (m : (ℓ : Loc nD τ sig) → Buf (Elt F) ℓ) (c : Dev nD) :
    res_main_v56 m c = refRows (refTurn (refSums (refTurn (refChunks (refDecay (refGate (extractStridedSlice S2x16384x16 ![0, 0, 1552] (refP m c) slices_S2x16384x3104_S2x16384x16_0_0_1552) (m ((c.tc : Thread nD τ).loc main_arg7)) (m ((c.tc : Thread nD τ).loc main_arg8)))))))) := by
  unfold res_main_v56
  rfl

end Stages

/-- The norm, at an index. -/
theorem refNorm_at (x : FVec Ideal S2x16384x1024 .f32) (g : FVec Ideal S1024 .f32) (B : Fin 2) (l : Fin 16384) (j : Fin 1024) :
    (refNorm x g (ix3 B l j) : EReal) = rms (Ideal.ofBits .f32 0x44800000#32) (fun j => x (ix3 B l j)) (fun j => g (ix1 j)) j := by
  pointwise [refNorm, rms, eps]

/-- The modulation, at an index. -/
theorem refModulate_at (x : FVec Ideal S2x16384x1024 .f32) (sc sh : FVec Ideal S2x1024 .f32) (B : Fin 2) (l : Fin 16384) (j : Fin 1024) :
    (refModulate x sc sh (ix3 B l j) : EReal) = x (ix3 B l j) * (1 + sc (ix2 B j)) + sh (ix2 B j) := by
  pointwise [refModulate]

/-- The projection, at an index. -/
theorem refProj_at (h : FVec Ideal S2x16384x1024 .f32) (w : FVec Ideal S1024x3104 .f32) (B : Fin 2) (l : Fin 16384) (j : Fin 3104) :
    (refProj h w (ix3 B l j) : EReal) = times (fun k => h (ix3 B l k)) (fun k j => w (ix2 k j)) j := by
  pointwise [refProj, times]

/-- The gate, at an index. -/
theorem refGate_at (z : FVec Ideal S2x16384x16 .f32) (up : FVec Ideal S16x512 .f32) (b : FVec Ideal S512 .f32) (B : Fin 2) (l : Fin 16384) (j : Fin 512) :
    (refGate z up b (ix3 B l j) : EReal) = times (fun i => z (ix3 B l i)) (fun i j => up (ix2 i j)) j + b (ix1 j) := by
  pointwise [refGate, times]

/-- The log decay, at an index. -/
theorem refDecay_at (g : FVec Ideal S2x16384x512 .f32) (B : Fin 2) (l : Fin 16384) (j : Fin 512) :
    (refDecay g (ix3 B l j) : EReal) = decay (g (ix3 B l j)) := by
  have e₀ : -g (ix3 B l j) - 0 = -g (ix3 B l j) := by simp
  rw [← decay_ref, e₀]
  pointwise [refDecay, refZero]
  rw [if_neg (fun h => h rfl)]
  rfl

/-- The chunks, at an index. -/
theorem refChunks_at (x : FVec Ideal S2x16384x512 .f32) (B : Fin 2) (n : Fin 256) (s : Fin 64) (j : Fin 512) :
    (refChunks x (ix4 B n s j) : EReal) = x (ix3 B ⟨64 * n.val + s.val, by omega⟩ j) := by
  have e : (⟨64 * n.val + s.val, by omega⟩ : Fin 16384) = ⟨n.val * 64 + s.val, by omega⟩ := Fin.ext (by dsimp only; omega)
  rw [e]
  pointwise [refChunks]

/-- The turned chunks, at an index. -/
theorem refTurn_at (x : FVec Ideal S2x256x64x512 .f32) (B : Fin 2) (n : Fin 256) (s : Fin 64) (j : Fin 512) :
    (refTurn x (ix4 B n s j) : EReal) = x (ix4 B n ⟨63 - s.val, by omega⟩ j) := by
  have e : (⟨63 - s.val, by omega⟩ : Fin 64) = s.rev := Fin.ext (by rw [Fin.val_rev]; dsimp only; omega)
  rw [e]
  pointwise [refTurn]
  refine congrArg x (funext fun a => ?_)
  match a with
  | ⟨0, _⟩ => rfl
  | ⟨1, _⟩ => rfl
  | ⟨2, _⟩ => rfl
  | ⟨3, _⟩ => rfl

/-- The chunks' rows, at an index. -/
theorem refRows_at (x : FVec Ideal S2x256x64x512 .f32) (B : Fin 2) (l : Fin 16384) (j : Fin 512) (R : Fin 32768) (hR : R.val = 16384 * B.val + l.val) :
    (refRows x (ix2 R j) : EReal) = x (ix4 B ⟨l.val / 64, by omega⟩ ⟨l.val % 64, by omega⟩ j) := by
  have hl := l.isLt
  have e₀ : (⟨R.val / 16384, by omega⟩ : Fin 2) = B := Fin.ext (by dsimp only; omega)
  have e₁ : (⟨R.val / 64 % 256, by omega⟩ : Fin 256) = ⟨l.val / 64, by omega⟩ := Fin.ext (by dsimp only; omega)
  have e₂ : (⟨R.val % 64, by omega⟩ : Fin 64) = ⟨l.val % 64, by omega⟩ := Fin.ext (by dsimp only; omega)
  pointwise [refRows]
  rw [e₀, e₁, e₂]

/-- A fold of sums. -/
theorem fold_sum {n : ℕ} (f : Fin n → EReal) (v : EReal) : (List.finRange n).foldl (fun r i => r + f i) v = v + ∑ i, f i := by
  rw [Fin.sum_univ_def]
  generalize List.finRange n = L
  induction L generalizing v with
  | nil => simp
  | cons a L ih => rw [List.foldl_cons, ih, List.map_cons, List.sum_cons, add_assoc]

/-- A window's fold is a sum. -/
theorem window_sum {s t u : Shape} (window strides lo hi : Fin s.rank → ℕ) (x : s.Idx → EReal) (init : u.Idx → EReal) (h : s.ReduceWindows window strides lo hi t) (hu : 0 < u.numel) (j : t.Idx)
    (hv : init (Shape.Idx.first hu) = 0) :
    Host.reduceWindow (· + ·) window strides lo hi x init h hu j
      = ∑ p : (⟨s.rank, window⟩ : Shape).Idx, if hin : ∀ a, lo a ≤ (j (a.cast h.1.symm)).val * strides a + (p a).val ∧ (j (a.cast h.1.symm)).val * strides a + (p a).val - lo a < s.size a
          then x (fun a => ⟨(j (a.cast h.1.symm)).val * strides a + (p a).val - lo a, (hin a).2⟩) else 0 := by
  unfold Host.reduceWindow
  dsimp only
  rw [hv]
  refine (fold_sum _ _).trans ?_
  rw [zero_add]
  refine (Fintype.sum_congr _ _ fun p => ?_).trans (Equiv.sum_comp (⟨s.rank, window⟩ : Shape).rowMajor.symm (fun p => if hin : ∀ a, lo a ≤ (j (a.cast h.1.symm)).val * strides a + (p a).val ∧ (j (a.cast h.1.symm)).val * strides a + (p a).val - lo a < s.size a
          then x (fun a => ⟨(j (a.cast h.1.symm)).val * strides a + (p a).val - lo a, (hin a).2⟩) else 0))
  dsimp only
  split
  · rfl
  · rfl

/-- A window's positions along the chunk. -/
def along : Fin 64 ≃ (⟨4, ![1, 1, 64, 1]⟩ : Shape).Idx where
  toFun s := ix4 0 0 s 0
  invFun p := p 2
  left_inv _ := rfl
  right_inv p := by
    funext a
    match a with
    | ⟨0, _⟩ => exact Fin.ext (by have h : (p 0).val < 1 := (p 0).isLt; show 0 = (p 0).val; omega)
    | ⟨1, _⟩ => exact Fin.ext (by have h : (p 1).val < 1 := (p 1).isLt; show 0 = (p 1).val; omega)
    | ⟨2, _⟩ => rfl
    | ⟨3, _⟩ => exact Fin.ext (by have h : (p 3).val < 1 := (p 3).isLt; show 0 = (p 3).val; omega)

/-- The running sums, at an index. -/
theorem refSums_at (x : FVec Ideal S2x256x64x512 .f32) (B : Fin 2) (n : Fin 256) (q : Fin 64) (j : Fin 512) :
    (refSums x (ix4 B n q j) : EReal) = before (fun s => x (ix4 B n s j)) q := by
  have hv : (broadcastInDim S_ ![] bcast_S_S_ (constant (F := Ideal) S_ .f32 0x00000000#32) (Shape.Idx.first h_S_) : EReal) = 0 := by
    show Ideal.ofBits .f32 0x00000000#32 = 0
    simp
  refine (window_sum (s := S2x256x64x512) (t := S2x256x64x512) (u := ⟨0, ![]⟩) ![1, 1, 64, 1] ![1, 1, 1, 1] ![0, 0, 63, 0] ![0, 0, 0, 0] x (fun _ => (broadcastInDim S_ ![] bcast_S_S_ (constant (F := Ideal) S_ .f32 0x00000000#32) (Shape.Idx.first h_S_) : EReal))
    reduceWindows_S2x256x64x512_S2x256x64x512_w1s1p0_0_w1s1p0_0_w64s1p63_0_w1s1p0_0 (by decide) (ix4 B n q j) hv).trans ?_
  refine (Equiv.sum_comp along _).symm.trans ?_
  unfold before
  refine Eq.trans ?_ (Equiv.sum_comp (Equiv.addRight (q + 1)) (fun s : Fin 64 => if s.val ≤ q.val then (x (ix4 B n s j) : EReal) else 0))
  refine Fintype.sum_congr _ _ fun s => ?_
  have hq := q.isLt
  have hs := s.isLt
  have e : (s + (q + 1)).val = (s.val + q.val + 1) % 64 := by
    rw [Fin.val_add, Fin.val_add]
    show (s.val + (q.val + 1) % 64) % 64 = _
    omega
  show _ = if (s + (q + 1)).val ≤ q.val then (x (ix4 B n (s + (q + 1)) j) : EReal) else 0
  by_cases h : 63 ≤ q.val + s.val
  · rw [if_pos (by omega), dif_pos]
    · refine congrArg x (funext fun a => Fin.ext ?_)
      match a with
      | ⟨0, _⟩ => show B.val * 1 + 0 - 0 = B.val; omega
      | ⟨1, _⟩ => show n.val * 1 + 0 - 0 = n.val; omega
      | ⟨2, _⟩ => show q.val * 1 + s.val - 63 = (s + (q + 1)).val; omega
      | ⟨3, _⟩ => show j.val * 1 + 0 - 0 = j.val; omega
    · intro a
      have hB := B.isLt
      have hn := n.isLt
      have hj := j.isLt
      match a with
      | ⟨0, _⟩ => show 0 ≤ B.val * 1 + 0 ∧ B.val * 1 + 0 - 0 < 2; omega
      | ⟨1, _⟩ => show 0 ≤ n.val * 1 + 0 ∧ n.val * 1 + 0 - 0 < 256; omega
      | ⟨2, _⟩ => show 63 ≤ q.val * 1 + s.val ∧ q.val * 1 + s.val - 63 < 64; omega
      | ⟨3, _⟩ => show 0 ≤ j.val * 1 + 0 ∧ j.val * 1 + 0 - 0 < 512; omega
  · rw [if_neg (by omega), dif_neg]
    intro hin
    have h2 : 63 ≤ q.val * 1 + s.val := (hin 2).1
    omega

/-- A sum of a turned chunk. -/
theorem turn_before (x : Fin 64 → EReal) (q : Fin 64) : before (fun s => x ⟨63 - s.val, by omega⟩) ⟨63 - q.val, by omega⟩ = after x q := by
  unfold before after
  refine Eq.trans ?_ (Equiv.sum_comp Fin.revPerm (fun s : Fin 64 => if q.val ≤ s.val then x s else 0))
  refine Fintype.sum_congr _ _ fun s => ?_
  have hq := q.isLt
  have e : (⟨63 - s.val, by omega⟩ : Fin 64) = Fin.revPerm s := Fin.ext (by rw [Fin.revPerm_apply, Fin.val_rev]; dsimp only; omega)
  rw [← e]
  dsimp only
  by_cases h : q.val ≤ 63 - s.val
  · rw [if_pos (by omega), if_pos h]
  · rw [if_neg (by omega), if_neg h]

/-- A row of the result. -/
theorem refFlat_at (x : FVec Ideal S2x16384x512 .f32) (B : Fin 2) (l : Fin 16384) (j : Fin 512) (R : Fin 32768) (hR : R.val = 16384 * B.val + l.val) :
    (refFlat x (ix2 R j) : EReal) = x (ix3 B l j) := by
  have hl := l.isLt
  have e : (⟨R.val / 16384, by omega⟩ : Fin 2) = B := Fin.ext (by dsimp only; omega)
  have g : (⟨R.val % 16384, by omega⟩ : Fin 16384) = l := Fin.ext (by dsimp only; omega)
  pointwise [refFlat]
  rw [e, g]

/-- A wide row of the result. -/
theorem refFlatWide_at (x : FVec Ideal S2x16384x1024 .f32) (B : Fin 2) (l : Fin 16384) (j : Fin 1024) (R : Fin 32768) (hR : R.val = 16384 * B.val + l.val) :
    (refFlatWide x (ix2 R j) : EReal) = x (ix3 B l j) := by
  have hl := l.isLt
  have e : (⟨R.val / 16384, by omega⟩ : Fin 2) = B := Fin.ext (by dsimp only; omega)
  have g : (⟨R.val % 16384, by omega⟩ : Fin 16384) = l := Fin.ext (by dsimp only; omega)
  pointwise [refFlatWide]
  rw [e, g]

/-- A matrix at half its width, at an index. -/
theorem half_at (x : FVec Ideal S32768x1024 .f32) (k : Fin 32768) (j : Fin 1024) : ((truncf .bf16 x bitsLt_bf16_f32 : FVec Ideal S32768x1024 .bf16) (ix2 k j) : EReal) = x (ix2 k j) := by
  pointwise []

/-- Columns of the projection. -/
theorem slice_k (p : FVec Ideal S2x16384x3104 .f32) (B : Fin 2) (l : Fin 16384) (j : Fin 512) :
    (extractStridedSlice S2x16384x512 ![0, 0, 0] p slices_S2x16384x3104_S2x16384x512_0_0_0 (ix3 B l j) : EReal) = p (ix3 B l ⟨0 + j.val, by omega⟩) := by
  have e : (⟨0 + j.val, by omega⟩ : Fin 3104) = ⟨j.val, by omega⟩ := Fin.ext (by dsimp only; omega)
  rw [e]
  pointwise []

/-- Columns of the projection. -/
theorem slice_v (p : FVec Ideal S2x16384x3104 .f32) (B : Fin 2) (l : Fin 16384) (j : Fin 1024) :
    (extractStridedSlice S2x16384x1024 ![0, 0, 512] p slices_S2x16384x3104_S2x16384x1024_0_0_512 (ix3 B l j) : EReal) = p (ix3 B l ⟨512 + j.val, by omega⟩) := by
  pointwise []

/-- Columns of the projection. -/
theorem slice_zf (p : FVec Ideal S2x16384x3104 .f32) (B : Fin 2) (l : Fin 16384) (j : Fin 16) :
    (extractStridedSlice S2x16384x16 ![0, 0, 1536] p slices_S2x16384x3104_S2x16384x16_0_0_1536 (ix3 B l j) : EReal) = p (ix3 B l ⟨1536 + j.val, by omega⟩) := by
  pointwise []

/-- Columns of the projection. -/
theorem slice_zb (p : FVec Ideal S2x16384x3104 .f32) (B : Fin 2) (l : Fin 16384) (j : Fin 16) :
    (extractStridedSlice S2x16384x16 ![0, 0, 1552] p slices_S2x16384x3104_S2x16384x16_0_0_1552 (ix3 B l j) : EReal) = p (ix3 B l ⟨1552 + j.val, by omega⟩) := by
  pointwise []

/-- Columns of the projection. -/
theorem slice_q (p : FVec Ideal S2x16384x3104 .f32) (B : Fin 2) (l : Fin 16384) (j : Fin 512) :
    (extractStridedSlice S2x16384x512 ![0, 0, 1568] p slices_S2x16384x3104_S2x16384x512_0_0_1568 (ix3 B l j) : EReal) = p (ix3 B l ⟨1568 + j.val, by omega⟩) := by
  pointwise []

/-- Columns of the projection. -/
theorem slice_r (p : FVec Ideal S2x16384x3104 .f32) (B : Fin 2) (l : Fin 16384) (j : Fin 1024) :
    (extractStridedSlice S2x16384x1024 ![0, 0, 2080] p slices_S2x16384x3104_S2x16384x1024_0_0_2080 (ix3 B l j) : EReal) = p (ix3 B l ⟨2080 + j.val, by omega⟩) := by
  pointwise []

/-- The queries' scale, at an index. -/
theorem scaled_at (p : FVec Ideal S2x16384x512 .f32) (B : Fin 2) (l : Fin 16384) (j : Fin 512) :
    (mulf p (broadcastInDim S2x16384x512 ![] bcast_S_S2x16384x512 (constant (F := Ideal) S_ .f32 0x3DB504F3#32)) (ix3 B l j) : EReal) = p (ix3 B l j) * Ideal.ofBits .f32 0x3DB504F3#32 := by
  pointwise []

section Results
variable (m : (ℓ : Loc nD τ sig) → Buf (Elt Ideal) ℓ) (c : Dev nD) (B : Fin 2) (l : Fin 16384)

/-- The modulated norm of a row of the arguments. -/
def argRow : Fin 1024 → EReal :=
  normed (fun j => m ((c.tc : Thread nD τ).loc main_arg0) (ix3 B l j)) (fun j => m ((c.tc : Thread nD τ).loc main_arg1) (ix1 j)) (fun j => m ((c.tc : Thread nD τ).loc main_arg3) (ix2 B j)) (fun j => m ((c.tc : Thread nD τ).loc main_arg2) (ix2 B j))

/-- The projection of the arguments, at an index. -/
theorem refP_at (j : Fin 3104) : (refP m c (ix3 B l j) : EReal) = times (argRow m c B l) (fun k j => m ((c.tc : Thread nD τ).loc main_arg4) (ix2 k j)) j := by
  rw [refP, refProj_at]
  simp only [refModulate_at, refNorm_at]
  rfl

/-- The keys, at an index. -/
theorem refK_at (j : Fin 512) (R : Fin 32768) (hR : R.val = 16384 * B.val + l.val) :
    (refK m c (ix2 R j) : EReal) = times (argRow m c B l) (fun k j => m ((c.tc : Thread nD τ).loc main_arg4) (ix2 k j)) ⟨0 + j.val, by omega⟩ := by
  rw [refK, refFlat_at _ B l j R hR, slice_k, refP_at]

/-- The values, at an index. -/
theorem refV_at (j : Fin 1024) (R : Fin 32768) (hR : R.val = 16384 * B.val + l.val) :
    (refV m c (ix2 R j) : EReal) = times (argRow m c B l) (fun k j => m ((c.tc : Thread nD τ).loc main_arg4) (ix2 k j)) ⟨512 + j.val, by omega⟩ := by
  rw [refV, half_at, refFlatWide_at _ B l j R hR, slice_v, refP_at]

/-- The queries, at an index. -/
theorem refQ_at (j : Fin 512) (R : Fin 32768) (hR : R.val = 16384 * B.val + l.val) :
    (refQ m c (ix2 R j) : EReal) = times (argRow m c B l) (fun k j => m ((c.tc : Thread nD τ).loc main_arg4) (ix2 k j)) ⟨1568 + j.val, by omega⟩ * Ideal.ofBits .f32 0x3DB504F3#32 := by
  rw [refQ, refFlat_at _ B l j R hR, scaled_at, slice_q, refP_at]

/-- The output gate's entries, at an index. -/
theorem refR_at (j : Fin 1024) (R : Fin 32768) (hR : R.val = 16384 * B.val + l.val) :
    (refR m c (ix2 R j) : EReal) = times (argRow m c B l) (fun k j => m ((c.tc : Thread nD τ).loc main_arg4) (ix2 k j)) ⟨2080 + j.val, by omega⟩ := by
  rw [refR, refFlatWide_at _ B l j R hR, slice_r, refP_at]

/-- The sums up to each position, at an index. -/
theorem before_at (j : Fin 512) (R : Fin 32768) (hR : R.val = 16384 * B.val + l.val) :
    (res_main_v55 m c (ix2 R j) : EReal)
      = before (fun s => gate (argRow m c B ⟨64 * (l.val / 64) + s.val, by omega⟩) (fun k i => m ((c.tc : Thread nD τ).loc main_arg4) (ix2 k ⟨1536 + i.val, by omega⟩)) (fun i d => m ((c.tc : Thread nD τ).loc main_arg5) (ix2 i d)) (fun d => m ((c.tc : Thread nD τ).loc main_arg6) (ix1 d)) j) ⟨l.val % 64, by omega⟩ := by
  rw [res_before, refRows_at _ B l j R hR, refSums_at]
  simp only [refChunks_at, refDecay_at, refGate_at, slice_zf, refP_at]
  rfl

/-- The sums from each position on, at an index. -/
theorem after_at (j : Fin 512) (R : Fin 32768) (hR : R.val = 16384 * B.val + l.val) :
    (res_main_v56 m c (ix2 R j) : EReal)
      = after (fun s => gate (argRow m c B ⟨64 * (l.val / 64) + s.val, by omega⟩) (fun k i => m ((c.tc : Thread nD τ).loc main_arg4) (ix2 k ⟨1552 + i.val, by omega⟩)) (fun i d => m ((c.tc : Thread nD τ).loc main_arg7) (ix2 i d)) (fun d => m ((c.tc : Thread nD τ).loc main_arg8) (ix1 d)) j) ⟨l.val % 64, by omega⟩ := by
  rw [res_after, refRows_at _ B l j R hR, refTurn_at, refSums_at, ← turn_before]
  simp only [refTurn_at, refChunks_at, refDecay_at, refGate_at, slice_zb, refP_at]
  rfl

end Results

end Cert.Reference5Ideal.Odd
-- ==== Proof.OddFinal.lean ====
module

public import proofs.«01_k».proof.Proof.OddPoint
public import proofs.«01_k».proof.Proof.OddRef

@[expose] public section

set_option maxRecDepth 16384

noncomputable section

/-! An odd layer's projections: the call's whole results are the reference's. -/

namespace Cert.Kernel5Ideal.Odd

open Cert.Kernel5Ideal Cert.Kernel5Ideal.Gen Idealize.ShloMosaic Idealize.ShloMosaic.TcCoe Cert.Post Cert.Odd

variable (m : (ℓ : Loc nD τ sig) → Buf (Elt Ideal) ℓ) (c : Dev nD)
  (m' : (ℓ : Loc Cert.Reference5Ideal.nD Cert.Reference5Ideal.τ Cert.Reference5Ideal.sig) → Buf (Elt Ideal) ℓ)

/-- From arguments that agree, a row's modulated norm is the reference's. -/
theorem argRow_eq (B : Fin 2) (L : Fin 16384)
    (h0 : m' ((c.tc : Thread Cert.Reference5Ideal.nD Cert.Reference5Ideal.τ).loc Cert.Reference5Ideal.main_arg0) = m ((c.tc : Thread nD τ).loc main_arg0))
    (h1 : m' ((c.tc : Thread Cert.Reference5Ideal.nD Cert.Reference5Ideal.τ).loc Cert.Reference5Ideal.main_arg1) = m ((c.tc : Thread nD τ).loc main_arg1))
    (h2 : m' ((c.tc : Thread Cert.Reference5Ideal.nD Cert.Reference5Ideal.τ).loc Cert.Reference5Ideal.main_arg2) = m ((c.tc : Thread nD τ).loc main_arg2))
    (h3 : m' ((c.tc : Thread Cert.Reference5Ideal.nD Cert.Reference5Ideal.τ).loc Cert.Reference5Ideal.main_arg3) = m ((c.tc : Thread nD τ).loc main_arg3)) :
    Cert.Reference5Ideal.Odd.argRow m' c B L = argRow m c B L := by
  unfold Cert.Reference5Ideal.Odd.argRow argRow
  rw [h0, h1, h2, h3]

/-- From arguments that agree, the call's keys are the reference's. -/
theorem result_9
    (h0 : m' ((c.tc : Thread Cert.Reference5Ideal.nD Cert.Reference5Ideal.τ).loc Cert.Reference5Ideal.main_arg0) = m ((c.tc : Thread nD τ).loc main_arg0))
    (h1 : m' ((c.tc : Thread Cert.Reference5Ideal.nD Cert.Reference5Ideal.τ).loc Cert.Reference5Ideal.main_arg1) = m ((c.tc : Thread nD τ).loc main_arg1))
    (h2 : m' ((c.tc : Thread Cert.Reference5Ideal.nD Cert.Reference5Ideal.τ).loc Cert.Reference5Ideal.main_arg2) = m ((c.tc : Thread nD τ).loc main_arg2))
    (h3 : m' ((c.tc : Thread Cert.Reference5Ideal.nD Cert.Reference5Ideal.τ).loc Cert.Reference5Ideal.main_arg3) = m ((c.tc : Thread nD τ).loc main_arg3))
    (h4 : m' ((c.tc : Thread Cert.Reference5Ideal.nD Cert.Reference5Ideal.τ).loc Cert.Reference5Ideal.main_arg4) = m ((c.tc : Thread nD τ).loc main_arg4)) :
    (dats m 0 c).arrAt 9 cfg0.N = Cert.Reference5Ideal.Odd.refK m' c := by
  refine (dats m 0 c).arrAt_eq_of_covers 9 _ covers_9 fun t hf y => ?_
  blk_simp
  rw [after0_9]
  obtain ⟨p0, p1, p2, p3, p4, p5, p6, p7, p8, p9, p10, p11, p12, p13, p14, ht⟩ := places t
  obtain ⟨l, j, rfl⟩ : ∃ (l : Fin 512) (j : Fin 512), y = ix2 l j := ⟨y 0, y 1, by blk_ext []⟩
  have hl := l.isLt
  obtain ⟨B, hB⟩ : ∃ B : Fin 2, B.val = (grid0.coords t 0).val / 32 := ⟨⟨_, by omega⟩, rfl⟩
  obtain ⟨L, hL⟩ : ∃ L : Fin 16384, L.val = 512 * ((grid0.coords t 0).val % 32) + l.val := ⟨⟨_, by omega⟩, rfl⟩
  obtain ⟨R, hR⟩ : ∃ R : Fin 32768, R.val = 512 * (grid0.coords t 0).val + l.val := ⟨⟨_, by omega⟩, rfl⟩
  have hRL : R.val = 16384 * B.val + L.val := by omega
  have hs : 16384 * B.val + L.val = 512 * (grid0.coords t 0).val + l.val := by omega
  have he : (win0_9.blk t).view.emb (ix2 l j) = ix2 R j := by
    have q : win0_9.index t = ![(grid0.coords t 0).val, 0] := p9
    blk_ext [q]
  rw [he, Cert.Reference5Ideal.Odd.refK_at m' c B L j R hRL, argRow_eq m c m' B L h0 h1 h2 h3, h4]
  refine (block_9 _ _ _ _ _ _ _ _ _ l j).trans ?_
  rw [row_arg m c t l B L hB hs]
  unfold times
  refine Fintype.sum_congr _ _ fun k => ?_
  have hj := j.isLt
  refine congrArg (argRow m c B L k * ·) ?_
  dsimp only
  rw [blk_4 m c t, wall_kv _ _ _ (by dsimp only; omega)]
  exact congrArg (fun j => m ((c.tc : Thread nD τ).loc main_arg4) (ix2 k j)) (Fin.ext (by dsimp only; omega))

/-- From arguments that agree, the call's values are the reference's. -/
theorem result_10
    (h0 : m' ((c.tc : Thread Cert.Reference5Ideal.nD Cert.Reference5Ideal.τ).loc Cert.Reference5Ideal.main_arg0) = m ((c.tc : Thread nD τ).loc main_arg0))
    (h1 : m' ((c.tc : Thread Cert.Reference5Ideal.nD Cert.Reference5Ideal.τ).loc Cert.Reference5Ideal.main_arg1) = m ((c.tc : Thread nD τ).loc main_arg1))
    (h2 : m' ((c.tc : Thread Cert.Reference5Ideal.nD Cert.Reference5Ideal.τ).loc Cert.Reference5Ideal.main_arg2) = m ((c.tc : Thread nD τ).loc main_arg2))
    (h3 : m' ((c.tc : Thread Cert.Reference5Ideal.nD Cert.Reference5Ideal.τ).loc Cert.Reference5Ideal.main_arg3) = m ((c.tc : Thread nD τ).loc main_arg3))
    (h4 : m' ((c.tc : Thread Cert.Reference5Ideal.nD Cert.Reference5Ideal.τ).loc Cert.Reference5Ideal.main_arg4) = m ((c.tc : Thread nD τ).loc main_arg4)) :
    (dats m 0 c).arrAt 10 cfg0.N = Cert.Reference5Ideal.Odd.refV m' c := by
  refine (dats m 0 c).arrAt_eq_of_covers 10 _ covers_10 fun t hf y => ?_
  blk_simp
  rw [after0_10]
  obtain ⟨p0, p1, p2, p3, p4, p5, p6, p7, p8, p9, p10, p11, p12, p13, p14, ht⟩ := places t
  obtain ⟨l, j, rfl⟩ : ∃ (l : Fin 512) (j : Fin 1024), y = ix2 l j := ⟨y 0, y 1, by blk_ext []⟩
  have hl := l.isLt
  obtain ⟨B, hB⟩ : ∃ B : Fin 2, B.val = (grid0.coords t 0).val / 32 := ⟨⟨_, by omega⟩, rfl⟩
  obtain ⟨L, hL⟩ : ∃ L : Fin 16384, L.val = 512 * ((grid0.coords t 0).val % 32) + l.val := ⟨⟨_, by omega⟩, rfl⟩
  obtain ⟨R, hR⟩ : ∃ R : Fin 32768, R.val = 512 * (grid0.coords t 0).val + l.val := ⟨⟨_, by omega⟩, rfl⟩
  have hRL : R.val = 16384 * B.val + L.val := by omega
  have hs : 16384 * B.val + L.val = 512 * (grid0.coords t 0).val + l.val := by omega
  have he : (win0_10.blk t).view.emb (ix2 l j) = ix2 R j := by
    have q : win0_10.index t = ![(grid0.coords t 0).val, 0] := p10
    blk_ext [q]
  rw [he, Cert.Reference5Ideal.Odd.refV_at m' c B L j R hRL, argRow_eq m c m' B L h0 h1 h2 h3, h4]
  refine (block_10 _ _ _ _ _ _ _ _ _ l j).trans ?_
  rw [row_arg m c t l B L hB hs]
  unfold times
  refine Fintype.sum_congr _ _ fun k => ?_
  have hj := j.isLt
  refine congrArg (argRow m c B L k * ·) ?_
  dsimp only
  rw [blk_4 m c t, wall_kv _ _ _ (by dsimp only; omega)]
  exact congrArg (fun j => m ((c.tc : Thread nD τ).loc main_arg4) (ix2 k j)) (Fin.ext (by dsimp only; omega))

/-- From arguments that agree, the call's queries are the reference's. -/
theorem result_11
    (h0 : m' ((c.tc : Thread Cert.Reference5Ideal.nD Cert.Reference5Ideal.τ).loc Cert.Reference5Ideal.main_arg0) = m ((c.tc : Thread nD τ).loc main_arg0))
    (h1 : m' ((c.tc : Thread Cert.Reference5Ideal.nD Cert.Reference5Ideal.τ).loc Cert.Reference5Ideal.main_arg1) = m ((c.tc : Thread nD τ).loc main_arg1))
    (h2 : m' ((c.tc : Thread Cert.Reference5Ideal.nD Cert.Reference5Ideal.τ).loc Cert.Reference5Ideal.main_arg2) = m ((c.tc : Thread nD τ).loc main_arg2))
    (h3 : m' ((c.tc : Thread Cert.Reference5Ideal.nD Cert.Reference5Ideal.τ).loc Cert.Reference5Ideal.main_arg3) = m ((c.tc : Thread nD τ).loc main_arg3))
    (h4 : m' ((c.tc : Thread Cert.Reference5Ideal.nD Cert.Reference5Ideal.τ).loc Cert.Reference5Ideal.main_arg4) = m ((c.tc : Thread nD τ).loc main_arg4)) :
    (dats m 0 c).arrAt 11 cfg0.N = Cert.Reference5Ideal.Odd.refQ m' c := by
  refine (dats m 0 c).arrAt_eq_of_covers 11 _ covers_11 fun t hf y => ?_
  blk_simp
  rw [after0_11]
  obtain ⟨p0, p1, p2, p3, p4, p5, p6, p7, p8, p9, p10, p11, p12, p13, p14, ht⟩ := places t
  obtain ⟨l, j, rfl⟩ : ∃ (l : Fin 512) (j : Fin 512), y = ix2 l j := ⟨y 0, y 1, by blk_ext []⟩
  have hl := l.isLt
  obtain ⟨B, hB⟩ : ∃ B : Fin 2, B.val = (grid0.coords t 0).val / 32 := ⟨⟨_, by omega⟩, rfl⟩
  obtain ⟨L, hL⟩ : ∃ L : Fin 16384, L.val = 512 * ((grid0.coords t 0).val % 32) + l.val := ⟨⟨_, by omega⟩, rfl⟩
  obtain ⟨R, hR⟩ : ∃ R : Fin 32768, R.val = 512 * (grid0.coords t 0).val + l.val := ⟨⟨_, by omega⟩, rfl⟩
  have hRL : R.val = 16384 * B.val + L.val := by omega
  have hs : 16384 * B.val + L.val = 512 * (grid0.coords t 0).val + l.val := by omega
  have he : (win0_11.blk t).view.emb (ix2 l j) = ix2 R j := by
    have q : win0_11.index t = ![(grid0.coords t 0).val, 0] := p11
    blk_ext [q]
  rw [he, Cert.Reference5Ideal.Odd.refQ_at m' c B L j R hRL, argRow_eq m c m' B L h0 h1 h2 h3, h4]
  refine (block_11 _ _ _ _ _ _ _ _ _ l j).trans ?_
  rw [row_arg m c t l B L hB hs]
  refine congrArg (· * _) ?_
  unfold times
  refine Fintype.sum_congr _ _ fun k => ?_
  have hj := j.isLt
  refine congrArg (argRow m c B L k * ·) ?_
  dsimp only
  rw [blk_4 m c t, wall_q _ _ _ (by dsimp only; omega)]
  exact congrArg (fun j => m ((c.tc : Thread nD τ).loc main_arg4) (ix2 k j)) (Fin.ext (by dsimp only; omega))

/-- From arguments that agree, the call's output gate's entries are the reference's. -/
theorem result_12
    (h0 : m' ((c.tc : Thread Cert.Reference5Ideal.nD Cert.Reference5Ideal.τ).loc Cert.Reference5Ideal.main_arg0) = m ((c.tc : Thread nD τ).loc main_arg0))
    (h1 : m' ((c.tc : Thread Cert.Reference5Ideal.nD Cert.Reference5Ideal.τ).loc Cert.Reference5Ideal.main_arg1) = m ((c.tc : Thread nD τ).loc main_arg1))
    (h2 : m' ((c.tc : Thread Cert.Reference5Ideal.nD Cert.Reference5Ideal.τ).loc Cert.Reference5Ideal.main_arg2) = m ((c.tc : Thread nD τ).loc main_arg2))
    (h3 : m' ((c.tc : Thread Cert.Reference5Ideal.nD Cert.Reference5Ideal.τ).loc Cert.Reference5Ideal.main_arg3) = m ((c.tc : Thread nD τ).loc main_arg3))
    (h4 : m' ((c.tc : Thread Cert.Reference5Ideal.nD Cert.Reference5Ideal.τ).loc Cert.Reference5Ideal.main_arg4) = m ((c.tc : Thread nD τ).loc main_arg4)) :
    (dats m 0 c).arrAt 12 cfg0.N = Cert.Reference5Ideal.Odd.refR m' c := by
  refine (dats m 0 c).arrAt_eq_of_covers 12 _ covers_12 fun t hf y => ?_
  blk_simp
  rw [after0_12]
  obtain ⟨p0, p1, p2, p3, p4, p5, p6, p7, p8, p9, p10, p11, p12, p13, p14, ht⟩ := places t
  obtain ⟨l, j, rfl⟩ : ∃ (l : Fin 512) (j : Fin 1024), y = ix2 l j := ⟨y 0, y 1, by blk_ext []⟩
  have hl := l.isLt
  obtain ⟨B, hB⟩ : ∃ B : Fin 2, B.val = (grid0.coords t 0).val / 32 := ⟨⟨_, by omega⟩, rfl⟩
  obtain ⟨L, hL⟩ : ∃ L : Fin 16384, L.val = 512 * ((grid0.coords t 0).val % 32) + l.val := ⟨⟨_, by omega⟩, rfl⟩
  obtain ⟨R, hR⟩ : ∃ R : Fin 32768, R.val = 512 * (grid0.coords t 0).val + l.val := ⟨⟨_, by omega⟩, rfl⟩
  have hRL : R.val = 16384 * B.val + L.val := by omega
  have hs : 16384 * B.val + L.val = 512 * (grid0.coords t 0).val + l.val := by omega
  have he : (win0_12.blk t).view.emb (ix2 l j) = ix2 R j := by
    have q : win0_12.index t = ![(grid0.coords t 0).val, 0] := p12
    blk_ext [q]
  rw [he, Cert.Reference5Ideal.Odd.refR_at m' c B L j R hRL, argRow_eq m c m' B L h0 h1 h2 h3, h4]
  refine (block_12 _ _ _ _ _ _ _ _ _ l j).trans ?_
  rw [row_arg m c t l B L hB hs]
  unfold times
  refine Fintype.sum_congr _ _ fun k => ?_
  have hj := j.isLt
  refine congrArg (argRow m c B L k * ·) ?_
  dsimp only
  rw [blk_4 m c t, wall_r _ _ _ (by dsimp only; omega)]
  exact congrArg (fun j => m ((c.tc : Thread nD τ).loc main_arg4) (ix2 k j)) (Fin.ext (by dsimp only; omega))

/-- From arguments that agree, the call's sums up to each position are the reference's. -/
theorem result_13
    (h0 : m' ((c.tc : Thread Cert.Reference5Ideal.nD Cert.Reference5Ideal.τ).loc Cert.Reference5Ideal.main_arg0) = m ((c.tc : Thread nD τ).loc main_arg0))
    (h1 : m' ((c.tc : Thread Cert.Reference5Ideal.nD Cert.Reference5Ideal.τ).loc Cert.Reference5Ideal.main_arg1) = m ((c.tc : Thread nD τ).loc main_arg1))
    (h2 : m' ((c.tc : Thread Cert.Reference5Ideal.nD Cert.Reference5Ideal.τ).loc Cert.Reference5Ideal.main_arg2) = m ((c.tc : Thread nD τ).loc main_arg2))
    (h3 : m' ((c.tc : Thread Cert.Reference5Ideal.nD Cert.Reference5Ideal.τ).loc Cert.Reference5Ideal.main_arg3) = m ((c.tc : Thread nD τ).loc main_arg3))
    (h4 : m' ((c.tc : Thread Cert.Reference5Ideal.nD Cert.Reference5Ideal.τ).loc Cert.Reference5Ideal.main_arg4) = m ((c.tc : Thread nD τ).loc main_arg4))
    (h5 : m' ((c.tc : Thread Cert.Reference5Ideal.nD Cert.Reference5Ideal.τ).loc Cert.Reference5Ideal.main_arg5) = m ((c.tc : Thread nD τ).loc main_arg5))
    (h6 : m' ((c.tc : Thread Cert.Reference5Ideal.nD Cert.Reference5Ideal.τ).loc Cert.Reference5Ideal.main_arg6) = m ((c.tc : Thread nD τ).loc main_arg6)) :
    (dats m 0 c).arrAt 13 cfg0.N = Cert.Reference5Ideal.Value.res_main_v55 m' c := by
  refine (dats m 0 c).arrAt_eq_of_covers 13 _ covers_13 fun t hf y => ?_
  blk_simp
  rw [after0_13]
  obtain ⟨p0, p1, p2, p3, p4, p5, p6, p7, p8, p9, p10, p11, p12, p13, p14, ht⟩ := places t
  obtain ⟨l, j, rfl⟩ : ∃ (l : Fin 512) (j : Fin 512), y = ix2 l j := ⟨y 0, y 1, by blk_ext []⟩
  have hl := l.isLt
  obtain ⟨B, hB⟩ : ∃ B : Fin 2, B.val = (grid0.coords t 0).val / 32 := ⟨⟨_, by omega⟩, rfl⟩
  obtain ⟨L, hL⟩ : ∃ L : Fin 16384, L.val = 512 * ((grid0.coords t 0).val % 32) + l.val := ⟨⟨_, by omega⟩, rfl⟩
  obtain ⟨R, hR⟩ : ∃ R : Fin 32768, R.val = 512 * (grid0.coords t 0).val + l.val := ⟨⟨_, by omega⟩, rfl⟩
  have hRL : R.val = 16384 * B.val + L.val := by omega
  have hs : 16384 * B.val + L.val = 512 * (grid0.coords t 0).val + l.val := by omega
  have he : (win0_13.blk t).view.emb (ix2 l j) = ix2 R j := by
    have q : win0_13.index t = ![(grid0.coords t 0).val, 0] := p13
    blk_ext [q]
  rw [he, Cert.Reference5Ideal.Odd.before_at m' c B L j R hRL, h4, h5, h6]
  refine (block_13 _ _ _ _ _ _ _ _ _ l j).trans ?_
  have eq : (⟨l.val % 64, by omega⟩ : Fin 64) = ⟨L.val % 64, by omega⟩ := Fin.ext (by dsimp only; omega)
  rw [eq]
  refine congrArg (fun x => before x _) (funext fun s => ?_)
  have hss := s.isLt
  rw [argRow_eq m c m' B _ h0 h1 h2 h3]
  exact gates_arg_f m c t _ j B ⟨64 * (L.val / 64) + s.val, by omega⟩ hB (by dsimp only; omega)

/-- From arguments that agree, the call's sums from each position on are the reference's. -/
theorem result_14
    (h0 : m' ((c.tc : Thread Cert.Reference5Ideal.nD Cert.Reference5Ideal.τ).loc Cert.Reference5Ideal.main_arg0) = m ((c.tc : Thread nD τ).loc main_arg0))
    (h1 : m' ((c.tc : Thread Cert.Reference5Ideal.nD Cert.Reference5Ideal.τ).loc Cert.Reference5Ideal.main_arg1) = m ((c.tc : Thread nD τ).loc main_arg1))
    (h2 : m' ((c.tc : Thread Cert.Reference5Ideal.nD Cert.Reference5Ideal.τ).loc Cert.Reference5Ideal.main_arg2) = m ((c.tc : Thread nD τ).loc main_arg2))
    (h3 : m' ((c.tc : Thread Cert.Reference5Ideal.nD Cert.Reference5Ideal.τ).loc Cert.Reference5Ideal.main_arg3) = m ((c.tc : Thread nD τ).loc main_arg3))
    (h4 : m' ((c.tc : Thread Cert.Reference5Ideal.nD Cert.Reference5Ideal.τ).loc Cert.Reference5Ideal.main_arg4) = m ((c.tc : Thread nD τ).loc main_arg4))
    (h7 : m' ((c.tc : Thread Cert.Reference5Ideal.nD Cert.Reference5Ideal.τ).loc Cert.Reference5Ideal.main_arg7) = m ((c.tc : Thread nD τ).loc main_arg7))
    (h8 : m' ((c.tc : Thread Cert.Reference5Ideal.nD Cert.Reference5Ideal.τ).loc Cert.Reference5Ideal.main_arg8) = m ((c.tc : Thread nD τ).loc main_arg8)) :
    (dats m 0 c).arrAt 14 cfg0.N = Cert.Reference5Ideal.Value.res_main_v56 m' c := by
  refine (dats m 0 c).arrAt_eq_of_covers 14 _ covers_14 fun t hf y => ?_
  blk_simp
  rw [after0_14]
  obtain ⟨p0, p1, p2, p3, p4, p5, p6, p7, p8, p9, p10, p11, p12, p13, p14, ht⟩ := places t
  obtain ⟨l, j, rfl⟩ : ∃ (l : Fin 512) (j : Fin 512), y = ix2 l j := ⟨y 0, y 1, by blk_ext []⟩
  have hl := l.isLt
  obtain ⟨B, hB⟩ : ∃ B : Fin 2, B.val = (grid0.coords t 0).val / 32 := ⟨⟨_, by omega⟩, rfl⟩
  obtain ⟨L, hL⟩ : ∃ L : Fin 16384, L.val = 512 * ((grid0.coords t 0).val % 32) + l.val := ⟨⟨_, by omega⟩, rfl⟩
  obtain ⟨R, hR⟩ : ∃ R : Fin 32768, R.val = 512 * (grid0.coords t 0).val + l.val := ⟨⟨_, by omega⟩, rfl⟩
  have hRL : R.val = 16384 * B.val + L.val := by omega
  have hs : 16384 * B.val + L.val = 512 * (grid0.coords t 0).val + l.val := by omega
  have he : (win0_14.blk t).view.emb (ix2 l j) = ix2 R j := by
    have q : win0_14.index t = ![(grid0.coords t 0).val, 0] := p14
    blk_ext [q]
  rw [he, Cert.Reference5Ideal.Odd.after_at m' c B L j R hRL, h4, h7, h8]
  refine (block_14 _ _ _ _ _ _ _ _ _ l j).trans ?_
  have eq : (⟨l.val % 64, by omega⟩ : Fin 64) = ⟨L.val % 64, by omega⟩ := Fin.ext (by dsimp only; omega)
  rw [eq]
  refine congrArg (fun x => after x _) (funext fun s => ?_)
  have hss := s.isLt
  rw [argRow_eq m c m' B _ h0 h1 h2 h3]
  exact gates_arg_b m c t _ j B ⟨64 * (L.val / 64) + s.val, by omega⟩ hB (by dsimp only; omega)

end Cert.Kernel5Ideal.Odd
-- ==== Proof.InRun.lean ====
module

public import proofs.«01_k».proof.Proof.Gen.Kernel6Ideal.Frame.Runs

@[expose] public section

-- membership in a rectangle of production extents (`View.cover_of_tiled`): the elaborator's structural look
-- recurses once per coordinate of the long axes
set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 40000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1024x1792 .bf16) (harg9 : arg9.IsWhole) (arg10 : Memref sig .tc .vmem S1x384 .f32) (harg10 : arg10.IsWhole) (arg11 : Memref sig .tc .vmem S1024x384 .bf16) (harg11 : arg11.IsWhole) (arg12 : Memref sig .tc .vmem S1x256 .f32) (harg12 : arg12.IsWhole) (arg13 : Memref sig .tc .vmem S256x1024 .bf16) (harg13 : arg13.IsWhole) (arg14 : Memref sig .tc .vmem S512x256 .bf16) (harg14 : arg14.IsWhole) (arg15 : Memref sig .tc .vmem S1x128 .f32) (harg15 : arg15.IsWhole) (arg16 : Memref sig .tc .vmem S4x128x128 .bf16) (harg16 : arg16.IsWhole) (arg17 : Memref sig .tc .vmem S128x512 .f32) (harg17 : arg17.IsWhole) (arg18 : Memref sig .tc .vmem S1024x512 .bf16) (harg18 : arg18.IsWhole) (arg19 : Memref sig .tc .vmem S512x1024 .bf16) (harg19 : arg19.IsWhole) (arg20 : Memref sig .tc .vmem S640x512 .bf16) (harg20 : arg20.IsWhole) (arg21 : Memref sig .tc .vmem S512x512 .bf16) (harg21 : arg21.IsWhole)
    (x0 : Vec F S512x1024 .f32) (x1 : Vec F S1x1024 .f32) (x2 : Vec F S1x1x1024 .f32) (x3 : Vec F S1x1x1024 .f32) (x4 : Vec F S512x128 .f32) (x5 : Vec F S512x128 .f32) (x6 : Vec F S32x512 .f32) (x7 : Vec F S32x512 .f32) (x8 : Vec F S1024x1792 .bf16) (x9 : Vec F S1x384 .f32) (x10 : Vec F S1024x384 .bf16) (x11 : Vec F S1x256 .f32) (x12 : Vec F S256x1024 .bf16) (x13 : Vec F S512x256 .bf16) (x14 : Vec F S1x128 .f32) (x15 : Vec F S4x128x128 .bf16) (x16 : Vec F S128x512 .f32) :
    Σ' (L17 : List (View.Piece (Elt F) S1024x512 .bf16)), Σ' (L18 : List (View.Piece (Elt F) S512x1024 .bf16)), Σ' (L19 : List (View.Piece (Elt F) S640x512 .bf16)), { L20 : List (View.Piece (Elt F) S512x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20)) -∗ K ⟨⟩))
          ⊢ wp frame (wpE (defs₀ (F := F)) Variants.none c none) E (cc0_even_in i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, fun E K => ?run⟩
  case run =>
    simp only [cc0_even_in_eq_skeleton]; unfold cc0_even_in_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [H18]; · iexists _; iexact H18
    isplitl [H19]; · iexists _; iexact H19
    iexists _; iexact H20

end Cert.Kernel6Ideal.Gen

end
-- ==== Proof.InFrame.lean ====
module

public import proofs.«01_k».proof.Proof.InRun
public import Idealize.ShloMosaic.Lib.Claim

@[expose] public section

set_option maxHeartbeats 8000000
-- membership in a rectangle of production extents (`View.cover_of_tiled`): the elaborator's structural look
-- recurses once per coordinate of the long axes
set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 17 are of SEVERAL sizes (24 stores of `S32x512`, `S64x512`): cut into blocks of `![32, 512]` they tile its block (checked by the kernel's evaluation: Lib/Ring.lean `Piece.tiledBy`), so they cover it. -/
theorem cover0_A_17 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1024x1792 .bf16) (harg9 : arg9.IsWhole) (arg10 : Memref sig .tc .vmem S1x384 .f32) (harg10 : arg10.IsWhole) (arg11 : Memref sig .tc .vmem S1024x384 .bf16) (harg11 : arg11.IsWhole) (arg12 : Memref sig .tc .vmem S1x256 .f32) (harg12 : arg12.IsWhole) (arg13 : Memref sig .tc .vmem S256x1024 .bf16) (harg13 : arg13.IsWhole) (arg14 : Memref sig .tc .vmem S512x256 .bf16) (harg14 : arg14.IsWhole) (arg15 : Memref sig .tc .vmem S1x128 .f32) (harg15 : arg15.IsWhole) (arg16 : Memref sig .tc .vmem S4x128x128 .bf16) (harg16 : arg16.IsWhole) (arg17 : Memref sig .tc .vmem S128x512 .f32) (harg17 : arg17.IsWhole) (arg18 : Memref sig .tc .vmem S1024x512 .bf16) (harg18 : arg18.IsWhole) (arg19 : Memref sig .tc .vmem S512x1024 .bf16) (harg19 : arg19.IsWhole) (arg20 : Memref sig .tc .vmem S640x512 .bf16) (harg20 : arg20.IsWhole) (arg21 : Memref sig .tc .vmem S512x512 .bf16) (harg21 : arg21.IsWhole)
    (x0 : Vec F S512x1024 .f32) (x1 : Vec F S1x1024 .f32) (x2 : Vec F S1x1x1024 .f32) (x3 : Vec F S1x1x1024 .f32) (x4 : Vec F S512x128 .f32) (x5 : Vec F S512x128 .f32) (x6 : Vec F S32x512 .f32) (x7 : Vec F S32x512 .f32) (x8 : Vec F S1024x1792 .bf16) (x9 : Vec F S1x384 .f32) (x10 : Vec F S1024x384 .bf16) (x11 : Vec F S1x256 .f32) (x12 : Vec F S256x1024 .bf16) (x13 : Vec F S512x256 .bf16) (x14 : Vec F S1x128 .f32) (x15 : Vec F S4x128x128 .bf16) (x16 : Vec F S128x512 .f32) (y : S1024x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).1 ![32, 512] (by sl_kernel_rfl) y

/-- What the run leaves in output 17's staging buffer: its pieces read back over junk. -/
def out0_A_17 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1024x1792 .bf16) (harg9 : arg9.IsWhole) (arg10 : Memref sig .tc .vmem S1x384 .f32) (harg10 : arg10.IsWhole) (arg11 : Memref sig .tc .vmem S1024x384 .bf16) (harg11 : arg11.IsWhole) (arg12 : Memref sig .tc .vmem S1x256 .f32) (harg12 : arg12.IsWhole) (arg13 : Memref sig .tc .vmem S256x1024 .bf16) (harg13 : arg13.IsWhole) (arg14 : Memref sig .tc .vmem S512x256 .bf16) (harg14 : arg14.IsWhole) (arg15 : Memref sig .tc .vmem S1x128 .f32) (harg15 : arg15.IsWhole) (arg16 : Memref sig .tc .vmem S4x128x128 .bf16) (harg16 : arg16.IsWhole) (arg17 : Memref sig .tc .vmem S128x512 .f32) (harg17 : arg17.IsWhole) (arg18 : Memref sig .tc .vmem S1024x512 .bf16) (harg18 : arg18.IsWhole) (arg19 : Memref sig .tc .vmem S512x1024 .bf16) (harg19 : arg19.IsWhole) (arg20 : Memref sig .tc .vmem S640x512 .bf16) (harg20 : arg20.IsWhole) (arg21 : Memref sig .tc .vmem S512x512 .bf16) (harg21 : arg21.IsWhole)
    (x0 : Vec F S512x1024 .f32) (x1 : Vec F S1x1024 .f32) (x2 : Vec F S1x1x1024 .f32) (x3 : Vec F S1x1x1024 .f32) (x4 : Vec F S512x128 .f32) (x5 : Vec F S512x128 .f32) (x6 : Vec F S32x512 .f32) (x7 : Vec F S32x512 .f32) (x8 : Vec F S1024x1792 .bf16) (x9 : Vec F S1x384 .f32) (x10 : Vec F S1024x384 .bf16) (x11 : Vec F S1x256 .f32) (x12 : Vec F S256x1024 .bf16) (x13 : Vec F S512x256 .bf16) (x14 : Vec F S1x128 .f32) (x15 : Vec F S4x128x128 .bf16) (x16 : Vec F S128x512 .f32) : Vec F S1024x512 .bf16 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).1)

/-- The run's pieces for output 18 tile its block (8 stores of `S512x128`, checked by the kernel's evaluation: Lib/Ring.lean `Piece.tiledL`, linear in the pieces, through a loop's `@[irreducible]` trip theorem too), so they cover it. -/
theorem cover0_A_18 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1024x1792 .bf16) (harg9 : arg9.IsWhole) (arg10 : Memref sig .tc .vmem S1x384 .f32) (harg10 : arg10.IsWhole) (arg11 : Memref sig .tc .vmem S1024x384 .bf16) (harg11 : arg11.IsWhole) (arg12 : Memref sig .tc .vmem S1x256 .f32) (harg12 : arg12.IsWhole) (arg13 : Memref sig .tc .vmem S256x1024 .bf16) (harg13 : arg13.IsWhole) (arg14 : Memref sig .tc .vmem S512x256 .bf16) (harg14 : arg14.IsWhole) (arg15 : Memref sig .tc .vmem S1x128 .f32) (harg15 : arg15.IsWhole) (arg16 : Memref sig .tc .vmem S4x128x128 .bf16) (harg16 : arg16.IsWhole) (arg17 : Memref sig .tc .vmem S128x512 .f32) (harg17 : arg17.IsWhole) (arg18 : Memref sig .tc .vmem S1024x512 .bf16) (harg18 : arg18.IsWhole) (arg19 : Memref sig .tc .vmem S512x1024 .bf16) (harg19 : arg19.IsWhole) (arg20 : Memref sig .tc .vmem S640x512 .bf16) (harg20 : arg20.IsWhole) (arg21 : Memref sig .tc .vmem S512x512 .bf16) (harg21 : arg21.IsWhole)
    (x0 : Vec F S512x1024 .f32) (x1 : Vec F S1x1024 .f32) (x2 : Vec F S1x1x1024 .f32) (x3 : Vec F S1x1x1024 .f32) (x4 : Vec F S512x128 .f32) (x5 : Vec F S512x128 .f32) (x6 : Vec F S32x512 .f32) (x7 : Vec F S32x512 .f32) (x8 : Vec F S1024x1792 .bf16) (x9 : Vec F S1x384 .f32) (x10 : Vec F S1024x384 .bf16) (x11 : Vec F S1x256 .f32) (x12 : Vec F S256x1024 .bf16) (x13 : Vec F S512x256 .bf16) (x14 : Vec F S1x128 .f32) (x15 : Vec F S4x128x128 .bf16) (x16 : Vec F S128x512 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).2.1 S512x128.size (by sl_kernel_rfl) y

/-- What the run leaves in output 18's staging buffer: its pieces read back over junk. -/
def out0_A_18 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1024x1792 .bf16) (harg9 : arg9.IsWhole) (arg10 : Memref sig .tc .vmem S1x384 .f32) (harg10 : arg10.IsWhole) (arg11 : Memref sig .tc .vmem S1024x384 .bf16) (harg11 : arg11.IsWhole) (arg12 : Memref sig .tc .vmem S1x256 .f32) (harg12 : arg12.IsWhole) (arg13 : Memref sig .tc .vmem S256x1024 .bf16) (harg13 : arg13.IsWhole) (arg14 : Memref sig .tc .vmem S512x256 .bf16) (harg14 : arg14.IsWhole) (arg15 : Memref sig .tc .vmem S1x128 .f32) (harg15 : arg15.IsWhole) (arg16 : Memref sig .tc .vmem S4x128x128 .bf16) (harg16 : arg16.IsWhole) (arg17 : Memref sig .tc .vmem S128x512 .f32) (harg17 : arg17.IsWhole) (arg18 : Memref sig .tc .vmem S1024x512 .bf16) (harg18 : arg18.IsWhole) (arg19 : Memref sig .tc .vmem S512x1024 .bf16) (harg19 : arg19.IsWhole) (arg20 : Memref sig .tc .vmem S640x512 .bf16) (harg20 : arg20.IsWhole) (arg21 : Memref sig .tc .vmem S512x512 .bf16) (harg21 : arg21.IsWhole)
    (x0 : Vec F S512x1024 .f32) (x1 : Vec F S1x1024 .f32) (x2 : Vec F S1x1x1024 .f32) (x3 : Vec F S1x1x1024 .f32) (x4 : Vec F S512x128 .f32) (x5 : Vec F S512x128 .f32) (x6 : Vec F S32x512 .f32) (x7 : Vec F S32x512 .f32) (x8 : Vec F S1024x1792 .bf16) (x9 : Vec F S1x384 .f32) (x10 : Vec F S1024x384 .bf16) (x11 : Vec F S1x256 .f32) (x12 : Vec F S256x1024 .bf16) (x13 : Vec F S512x256 .bf16) (x14 : Vec F S1x128 .f32) (x15 : Vec F S4x128x128 .bf16) (x16 : Vec F S128x512 .f32) : Vec F S512x1024 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).2.1)

/-- The run's pieces for output 19 are of SEVERAL sizes (16 stores of `S16x512`, `S64x512`): cut into blocks of `![16, 512]` they tile its block (checked by the kernel's evaluation: Lib/Ring.lean `Piece.tiledBy`), so they cover it. -/
theorem cover0_A_19 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1024x1792 .bf16) (harg9 : arg9.IsWhole) (arg10 : Memref sig .tc .vmem S1x384 .f32) (harg10 : arg10.IsWhole) (arg11 : Memref sig .tc .vmem S1024x384 .bf16) (harg11 : arg11.IsWhole) (arg12 : Memref sig .tc .vmem S1x256 .f32) (harg12 : arg12.IsWhole) (arg13 : Memref sig .tc .vmem S256x1024 .bf16) (harg13 : arg13.IsWhole) (arg14 : Memref sig .tc .vmem S512x256 .bf16) (harg14 : arg14.IsWhole) (arg15 : Memref sig .tc .vmem S1x128 .f32) (harg15 : arg15.IsWhole) (arg16 : Memref sig .tc .vmem S4x128x128 .bf16) (harg16 : arg16.IsWhole) (arg17 : Memref sig .tc .vmem S128x512 .f32) (harg17 : arg17.IsWhole) (arg18 : Memref sig .tc .vmem S1024x512 .bf16) (harg18 : arg18.IsWhole) (arg19 : Memref sig .tc .vmem S512x1024 .bf16) (harg19 : arg19.IsWhole) (arg20 : Memref sig .tc .vmem S640x512 .bf16) (harg20 : arg20.IsWhole) (arg21 : Memref sig .tc .vmem S512x512 .bf16) (harg21 : arg21.IsWhole)
    (x0 : Vec F S512x1024 .f32) (x1 : Vec F S1x1024 .f32) (x2 : Vec F S1x1x1024 .f32) (x3 : Vec F S1x1x1024 .f32) (x4 : Vec F S512x128 .f32) (x5 : Vec F S512x128 .f32) (x6 : Vec F S32x512 .f32) (x7 : Vec F S32x512 .f32) (x8 : Vec F S1024x1792 .bf16) (x9 : Vec F S1x384 .f32) (x10 : Vec F S1024x384 .bf16) (x11 : Vec F S1x256 .f32) (x12 : Vec F S256x1024 .bf16) (x13 : Vec F S512x256 .bf16) (x14 : Vec F S1x128 .f32) (x15 : Vec F S4x128x128 .bf16) (x16 : Vec F S128x512 .f32) (y : S640x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).2.2.1 ![16, 512] (by sl_kernel_rfl) y

/-- What the run leaves in output 19's staging buffer: its pieces read back over junk. -/
def out0_A_19 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1024x1792 .bf16) (harg9 : arg9.IsWhole) (arg10 : Memref sig .tc .vmem S1x384 .f32) (harg10 : arg10.IsWhole) (arg11 : Memref sig .tc .vmem S1024x384 .bf16) (harg11 : arg11.IsWhole) (arg12 : Memref sig .tc .vmem S1x256 .f32) (harg12 : arg12.IsWhole) (arg13 : Memref sig .tc .vmem S256x1024 .bf16) (harg13 : arg13.IsWhole) (arg14 : Memref sig .tc .vmem S512x256 .bf16) (harg14 : arg14.IsWhole) (arg15 : Memref sig .tc .vmem S1x128 .f32) (harg15 : arg15.IsWhole) (arg16 : Memref sig .tc .vmem S4x128x128 .bf16) (harg16 : arg16.IsWhole) (arg17 : Memref sig .tc .vmem S128x512 .f32) (harg17 : arg17.IsWhole) (arg18 : Memref sig .tc .vmem S1024x512 .bf16) (harg18 : arg18.IsWhole) (arg19 : Memref sig .tc .vmem S512x1024 .bf16) (harg19 : arg19.IsWhole) (arg20 : Memref sig .tc .vmem S640x512 .bf16) (harg20 : arg20.IsWhole) (arg21 : Memref sig .tc .vmem S512x512 .bf16) (harg21 : arg21.IsWhole)
    (x0 : Vec F S512x1024 .f32) (x1 : Vec F S1x1024 .f32) (x2 : Vec F S1x1x1024 .f32) (x3 : Vec F S1x1x1024 .f32) (x4 : Vec F S512x128 .f32) (x5 : Vec F S512x128 .f32) (x6 : Vec F S32x512 .f32) (x7 : Vec F S32x512 .f32) (x8 : Vec F S1024x1792 .bf16) (x9 : Vec F S1x384 .f32) (x10 : Vec F S1024x384 .bf16) (x11 : Vec F S1x256 .f32) (x12 : Vec F S256x1024 .bf16) (x13 : Vec F S512x256 .bf16) (x14 : Vec F S1x128 .f32) (x15 : Vec F S4x128x128 .bf16) (x16 : Vec F S128x512 .f32) : Vec F S640x512 .bf16 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).2.2.1)

/-- The run's pieces for output 20 tile its block (16 stores of `S128x128`, checked by the kernel's evaluation: Lib/Ring.lean `Piece.tiledL`, linear in the pieces, through a loop's `@[irreducible]` trip theorem too), so they cover it. -/
theorem cover0_A_20 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1024x1792 .bf16) (harg9 : arg9.IsWhole) (arg10 : Memref sig .tc .vmem S1x384 .f32) (harg10 : arg10.IsWhole) (arg11 : Memref sig .tc .vmem S1024x384 .bf16) (harg11 : arg11.IsWhole) (arg12 : Memref sig .tc .vmem S1x256 .f32) (harg12 : arg12.IsWhole) (arg13 : Memref sig .tc .vmem S256x1024 .bf16) (harg13 : arg13.IsWhole) (arg14 : Memref sig .tc .vmem S512x256 .bf16) (harg14 : arg14.IsWhole) (arg15 : Memref sig .tc .vmem S1x128 .f32) (harg15 : arg15.IsWhole) (arg16 : Memref sig .tc .vmem S4x128x128 .bf16) (harg16 : arg16.IsWhole) (arg17 : Memref sig .tc .vmem S128x512 .f32) (harg17 : arg17.IsWhole) (arg18 : Memref sig .tc .vmem S1024x512 .bf16) (harg18 : arg18.IsWhole) (arg19 : Memref sig .tc .vmem S512x1024 .bf16) (harg19 : arg19.IsWhole) (arg20 : Memref sig .tc .vmem S640x512 .bf16) (harg20 : arg20.IsWhole) (arg21 : Memref sig .tc .vmem S512x512 .bf16) (harg21 : arg21.IsWhole)
    (x0 : Vec F S512x1024 .f32) (x1 : Vec F S1x1024 .f32) (x2 : Vec F S1x1x1024 .f32) (x3 : Vec F S1x1x1024 .f32) (x4 : Vec F S512x128 .f32) (x5 : Vec F S512x128 .f32) (x6 : Vec F S32x512 .f32) (x7 : Vec F S32x512 .f32) (x8 : Vec F S1024x1792 .bf16) (x9 : Vec F S1x384 .f32) (x10 : Vec F S1024x384 .bf16) (x11 : Vec F S1x256 .f32) (x12 : Vec F S256x1024 .bf16) (x13 : Vec F S512x256 .bf16) (x14 : Vec F S1x128 .f32) (x15 : Vec F S4x128x128 .bf16) (x16 : Vec F S128x512 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).2.2.2.1 S128x128.size (by sl_kernel_rfl) y

/-- What the run leaves in output 20's staging buffer: its pieces read back over junk. -/
def out0_A_20 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1024x1792 .bf16) (harg9 : arg9.IsWhole) (arg10 : Memref sig .tc .vmem S1x384 .f32) (harg10 : arg10.IsWhole) (arg11 : Memref sig .tc .vmem S1024x384 .bf16) (harg11 : arg11.IsWhole) (arg12 : Memref sig .tc .vmem S1x256 .f32) (harg12 : arg12.IsWhole) (arg13 : Memref sig .tc .vmem S256x1024 .bf16) (harg13 : arg13.IsWhole) (arg14 : Memref sig .tc .vmem S512x256 .bf16) (harg14 : arg14.IsWhole) (arg15 : Memref sig .tc .vmem S1x128 .f32) (harg15 : arg15.IsWhole) (arg16 : Memref sig .tc .vmem S4x128x128 .bf16) (harg16 : arg16.IsWhole) (arg17 : Memref sig .tc .vmem S128x512 .f32) (harg17 : arg17.IsWhole) (arg18 : Memref sig .tc .vmem S1024x512 .bf16) (harg18 : arg18.IsWhole) (arg19 : Memref sig .tc .vmem S512x1024 .bf16) (harg19 : arg19.IsWhole) (arg20 : Memref sig .tc .vmem S640x512 .bf16) (harg20 : arg20.IsWhole) (arg21 : Memref sig .tc .vmem S512x512 .bf16) (harg21 : arg21.IsWhole)
    (x0 : Vec F S512x1024 .f32) (x1 : Vec F S1x1024 .f32) (x2 : Vec F S1x1x1024 .f32) (x3 : Vec F S1x1x1024 .f32) (x4 : Vec F S512x128 .f32) (x5 : Vec F S512x128 .f32) (x6 : Vec F S32x512 .f32) (x7 : Vec F S32x512 .f32) (x8 : Vec F S1024x1792 .bf16) (x9 : Vec F S1x384 .f32) (x10 : Vec F S1024x384 .bf16) (x11 : Vec F S1x256 .f32) (x12 : Vec F S256x1024 .bf16) (x13 : Vec F S512x256 .bf16) (x14 : Vec F S1x128 .f32) (x15 : Vec F S4x128x128 .bf16) (x16 : Vec F S128x512 .f32) : Vec F S512x512 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).2.2.2.1)

/-! ## What the outputs hold after each point -/

/-- What the outputs' staging buffers hold after the body at point `t` (as a tuple, in window order): the run's contents at
    the point's memrefs and input blocks. -/
def outsAt0 (c : Dev nD) (t : Fin cfg0.N) : Vec F S1024x512 .bf16 × Vec F S512x1024 .bf16 × Vec F S640x512 .bf16 × Vec F S512x512 .bf16 :=
  (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t).1
    | ⟨18, _⟩ => (outsAt0 m c t).2.1
    | ⟨19, _⟩ => (outsAt0 m c t).2.2.1
    | ⟨20, _⟩ => (outsAt0 m c t).2.2.2
    | ⟨_ + 21, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t).1 := by dsimp only [dats]
theorem after0_18 (c : Dev nD) (t : Fin cfg0.N) : (dats m 0 c).after 18 t = (outsAt0 m c t).2.1 := by dsimp only [dats]
theorem after0_19 (c : Dev nD) (t : Fin cfg0.N) : (dats m 0 c).after 19 t = (outsAt0 m c t).2.2.1 := by dsimp only [dats]
theorem after0_20 (c : Dev nD) (t : Fin cfg0.N) : (dats m 0 c).after 20 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 2000000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  unfold outsAt0
  unfold out0_A_17 out0_A_18 out0_A_19 out0_A_20; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((kernelRun0_A c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, ⟨%e17, H17⟩, ⟨%e18, H18⟩, ⟨%e19, H19⟩, ⟨%e20, H20⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H20
  ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_Kernel6Ideal`'s statement (Defs.lean) at any `F` — Proof.lean cites it at `Bits`:
    `theorem Cert.Proof.claim : Cert.Claim := ⟨Cert.Kernel6Ideal.Gen.facts, fun m ρ _ => Cert.Kernel6Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel6Ideal.Gen

end
-- ==== Proof.InValue.lean ====
module

public import proofs.«01_k».proof.Proof.InFrame
public import Idealize.ShloMosaic.Lib.Pipeline.Value

@[expose] public section

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 17's array: the run's contents for that window after the body (`Gen.outsAt0`: its component 0), read through the window's block. -/
theorem flushed17 (c : Dev nD) (t : Fin cfg0.N) :
    (dats m 0 c).flushed 17 t = (cfg0.win 17).cut (grid0.coords t) ((outsAt0 m c t).1) := by
  show (cfg0.win 17).cut (grid0.coords t) ((dats m 0 c).after 17 t) = _
  rw [after0_17]

/-- … so at a point where case A runs, what its write-back would write is that case's NAMED TERM for the window (`Gen.out0_A_17`: the pieces
    its run found, read back) at the point's memrefs and input blocks, and for an output the case reads back what the point before left (`Gen.outsAt0` at `t - 1`) — the kernel's one case, `Gen.outsAt0` by definition. -/
theorem flushed17_A (c : Dev nD) (t : Fin cfg0.N) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed17, outsAt0]

/-- The index map sends distinct grid points to distinct block indices (decided over the 64 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S1024x32768.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the run's contents for that window after the body (`Gen.outsAt0`: its component 1), read through the window's block. -/
theorem flushed18 (c : Dev nD) (t : Fin cfg0.N) :
    (dats m 0 c).flushed 18 t = (cfg0.win 18).cut (grid0.coords t) ((outsAt0 m c t).2.1) := by
  show (cfg0.win 18).cut (grid0.coords t) ((dats m 0 c).after 18 t) = _
  rw [after0_18]

/-- … so at a point where case A runs, what its write-back would write is that case's NAMED TERM for the window (`Gen.out0_A_18`: the pieces
    its run found, read back) at the point's memrefs and input blocks, and for an output the case reads back what the point before left (`Gen.outsAt0` at `t - 1`) — the kernel's one case, `Gen.outsAt0` by definition. -/
theorem flushed18_A (c : Dev nD) (t : Fin cfg0.N) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed18, outsAt0]

/-- The index map sends distinct grid points to distinct block indices (decided over the 64 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S32768x1024.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the run's contents for that window after the body (`Gen.outsAt0`: its component 2), read through the window's block. -/
theorem flushed19 (c : Dev nD) (t : Fin cfg0.N) :
    (dats m 0 c).flushed 19 t = (cfg0.win 19).cut (grid0.coords t) ((outsAt0 m c t).2.2.1) := by
  show (cfg0.win 19).cut (grid0.coords t) ((dats m 0 c).after 19 t) = _
  rw [after0_19]

/-- … so at a point where case A runs, what its write-back would write is that case's NAMED TERM for the window (`Gen.out0_A_19`: the pieces
    its run found, read back) at the point's memrefs and input blocks, and for an output the case reads back what the point before left (`Gen.outsAt0` at `t - 1`) — the kernel's one case, `Gen.outsAt0` by definition. -/
theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed19, outsAt0]

/-- The index map sends distinct grid points to distinct block indices (decided over the 64 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S640x32768.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the run's contents for that window after the body (`Gen.outsAt0`: its component 3), read through the window's block. -/
theorem flushed20 (c : Dev nD) (t : Fin cfg0.N) :
    (dats m 0 c).flushed 20 t = (cfg0.win 20).cut (grid0.coords t) ((outsAt0 m c t).2.2.2) := by
  show (cfg0.win 20).cut (grid0.coords t) ((dats m 0 c).after 20 t) = _
  rw [after0_20]

/-- … so at a point where case A runs, what its write-back would write is that case's NAMED TERM for the window (`Gen.out0_A_20`: the pieces
    its run found, read back) at the point's memrefs and input blocks, and for an output the case reads back what the point before left (`Gen.outsAt0` at `t - 1`) — the kernel's one case, `Gen.outsAt0` by definition. -/
theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed20, outsAt0]

/-- The index map sends distinct grid points to distinct block indices (decided over the 64 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S32768x512.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v88_0) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v88_1) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v88_2) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v88_3) = (dats m 0 c).arrAt 20 cfg0.N :=
  (h c).1 20

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v88_0) = (dats m 0 c).arrAt 17 cfg0.N
      ∧ r.2.mem ((c : Thread nD τ).loc main_v88_1) = (dats m 0 c).arrAt 18 cfg0.N
      ∧ r.2.mem ((c : Thread nD τ).loc main_v88_2) = (dats m 0 c).arrAt 19 cfg0.N
      ∧ r.2.mem ((c : Thread nD τ).loc main_v88_3) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨post17 m r h c,
      post18 m r h c,
      post19 m r h c,
      post20 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.Kernel6Ideal.Value

end
-- ==== Proof.InPre.lean ====
module

public import proofs.«01_k».proof.Proof.Pre
public import proofs.«01_k».proof.Pre_finite6
public import proofs.«01_k».proof.Proof.Gen.Pre_finite6

@[expose] public section

set_option maxRecDepth 16384

noncomputable section

/-! What the precondition of the even layers' projections says: the arguments of the negated columns are reals. -/

namespace Cert.Pre_finite6.Decode

open Cert.Pre_finite6 Idealize.ShloMosaic Cert.Pre_finite.Decode

/-- The precondition makes the named arguments' entries reals. -/
theorem reals [Facts] (a0 : FVec Ideal S2x16384x1024 .f32) (a1 : FVec Ideal S1024 .f32) (a2 a3 : FVec Ideal S2x1024 .f32) (a4 : FVec Ideal S1024x1696 .f32) (a5 : FVec Ideal S384 .f32)
    (a6 : FVec Ideal S384x768 .f32) (a7 : FVec Ideal S256 .f32) (a8 : FVec Ideal S256x1024 .f32) (a9 : FVec Ideal S128 .f32) (a10 : FVec Ideal S4x128x128 .f32) (a11 : FVec Ideal S4x128 .f32)
    (h : fn a0 a1 a2 a3 a4 a5 a6 a7 a8 a9 a10 a11 = fun _ => 1#1) :
    (∀ i, ∃ r : ℝ, (a0 i : EReal) = (r : EReal)) ∧ (∀ i, ∃ r : ℝ, (a1 i : EReal) = (r : EReal)) ∧ (∀ i, ∃ r : ℝ, (a2 i : EReal) = (r : EReal))
      ∧ (∀ i, ∃ r : ℝ, (a3 i : EReal) = (r : EReal)) ∧ (∀ i, ∃ r : ℝ, (a4 i : EReal) = (r : EReal)) ∧ (∀ i, ∃ r : ℝ, (a5 i : EReal) = (r : EReal)) ∧ (∀ i, ∃ r : ℝ, (a6 i : EReal) = (r : EReal)) := by
  have hb : Ideal.ofBits .f32 0x7F800000#32 = (⊤ : EReal) := by simp [Ideal.ofBits, Ideal.ieee]
  have h0 := congrFun h (fun i => i.elim0)
  dsimp only [fn, fn_part1] at h0
  obtain ⟨h0, h6⟩ := both _ _ _ h0
  obtain ⟨h0, h5⟩ := both _ _ _ h0
  obtain ⟨h0, h4⟩ := both _ _ _ h0
  obtain ⟨h0, h3⟩ := both _ _ _ h0
  obtain ⟨h0, h2⟩ := both _ _ _ h0
  obtain ⟨h0, h1⟩ := both _ _ _ h0
  exact ⟨reals_of_all _ _ (fun _ => hb) _ _ _ _ h0, reals_of_all _ _ (fun _ => hb) _ _ _ _ h1, reals_of_all _ _ (fun _ => hb) _ _ _ _ h2,
    reals_of_all _ _ (fun _ => hb) _ _ _ _ h3, reals_of_all _ _ (fun _ => hb) _ _ _ _ h4, reals_of_all _ _ (fun _ => hb) _ _ _ _ h5, reals_of_all _ _ (fun _ => hb) _ _ _ _ h6⟩

end Cert.Pre_finite6.Decode
-- ==== Proof.In.lean ====
module

public import proofs.«01_k».proof.Proof.Row

@[expose] public section

noncomputable section

/-! An even layer's projections, over the extended reals: the rotary positions, the attention's layouts, and the chunked gating MLP. -/

namespace Cert.In

open Idealize.ShloMosaic Cert.Post

/-- The rounded form of the gated linear unit. -/
def gelu (z : EReal) : EReal :=
  z * (Ideal.ofBits .f32 0x3F000000#32 * (1 + Ideal.tanh (Ideal.ofBits .f32 0x3F4C422A#32 * (z + Ideal.ofBits .f32 0x3D372713#32 * (z * (z * z))))))

/-- The scale of the queries. -/
def scale : EReal := Ideal.ofBits .f32 0x3E16C740#32

/-- Each half of the rotated entries, turned by a quarter. -/
def rot (x : Fin 32 → EReal) (i : Fin 32) : EReal := if h : i.val % 16 < 8 then -x ⟨i.val + 8, by omega⟩ else x ⟨i.val - 8, by omega⟩

/-- Half turns of a row's two halves, written with four parts. -/
theorem rot_eq (x : Fin 32 → EReal) (i : Fin 32) :
    (if h₁ : i.val < 8 then -x ⟨8 + i.val, by omega⟩ else if h₂ : i.val - 8 < 8 then x ⟨i.val - 8, by omega⟩
      else if h₃ : i.val - 8 - 8 < 8 then -x ⟨24 + (i.val - 8 - 8), by omega⟩ else x ⟨16 + (i.val - 8 - 8 - 8), by omega⟩) = rot x i := by
  unfold rot
  split_ifs <;> first
    | (exfalso; omega)
    | exact congrArg (fun j => -x j) (Fin.ext (by first | rfl | (dsimp only; omega)))
    | exact congrArg x (Fin.ext (by first | rfl | (dsimp only; omega)))

/-- The rotary positions. -/
def rope (x co si : Fin 32 → EReal) (i : Fin 32) : EReal := x i * co i + rot x i * si i

/-- A head's queries in a slot of 128. -/
def slotQ (q : Fin 96 → EReal) (co si : Fin 32 → EReal) (a : Fin 128) : EReal :=
  if h : a.val < 64 then q ⟨a.val, by omega⟩ * scale
  else if h' : a.val < 96 then rope (fun i => q ⟨64 + i.val, by omega⟩) co si ⟨a.val - 64, by omega⟩ * scale else 0

/-- A head's queries in a slot of 128, from the projection that has the turned entries beside the rest. -/
def slotQ' (q : Fin 128 → EReal) (co si : Fin 32 → EReal) (a : Fin 128) : EReal :=
  if h : a.val < 64 then q a * scale
  else if h' : a.val < 96 then (q a * co ⟨a.val - 64, by omega⟩ + q ⟨a.val + 32, by omega⟩ * si ⟨a.val - 64, by omega⟩) * scale else 0

/-- The two slots agree where the turned entries are what they should be. -/
theorem slotQ_eq (q : Fin 96 → EReal) (q' : Fin 128 → EReal) (co si : Fin 32 → EReal) (a : Fin 128)
    (h₁ : ∀ i : Fin 96, q' ⟨i.val, by omega⟩ = q i) (h₂ : ∀ i : Fin 32, q' ⟨96 + i.val, by omega⟩ = rot (fun i => q ⟨64 + i.val, by omega⟩) i) :
    slotQ' q' co si a = slotQ q co si a := by
  unfold slotQ' slotQ
  by_cases h : a.val < 64
  · rw [dif_pos h, dif_pos h, ← h₁]
  · rw [dif_neg h, dif_neg h]
    by_cases h' : a.val < 96
    · rw [dif_pos h', dif_pos h', rope, ← h₂, ← h₁]
      have e₁ : (⟨64 + (a.val - 64), by omega⟩ : Fin 128) = a := Fin.ext (by dsimp only; omega)
      have e₂ : (⟨96 + (a.val - 64), by omega⟩ : Fin 128) = ⟨a.val + 32, by omega⟩ := Fin.ext (by dsimp only; omega)
      rw [e₁, e₂]
    · rw [dif_neg h', dif_neg h']

/-- A head's keys in a slot of 128. -/
def slotK (kv : Fin 128 → EReal) (kr co si : Fin 32 → EReal) (a : Fin 128) : EReal :=
  if a.val < 64 then kv a else if h' : a.val < 96 then rope kr co si ⟨a.val - 64, by omega⟩ else 0

/-- A head's keys in a slot of 128, from the projections and the two tables: the rotary entries are turned into their place. -/
def slotK' (kn : EReal) (p : Fin 128 → EReal) (ta tb : EReal) (a : Fin 128) : EReal :=
  kn + (p ⟨(a.val + 64) % 128, by omega⟩ * ta + p ⟨(a.val + 96) % 128, by omega⟩ * tb)

/-- The two slots agree. -/
theorem slotK_eq (kv : Fin 128 → EReal) (kr co si : Fin 32 → EReal) (kn : EReal) (p : Fin 128 → EReal) (ta tb : EReal) (a : Fin 128)
    (hn : a.val < 64 → kn = kv a) (hn' : ¬ a.val < 64 → kn = 0)
    (h₁ : ∀ i : Fin 32, p ⟨i.val, by omega⟩ = kr i) (h₂ : ∀ i : Fin 32, p ⟨32 + i.val, by omega⟩ = rot kr i) (h₃ : ∀ i : Fin 128, 64 ≤ i.val → p i = 0)
    (ta₁ : ¬ a.val < 64 → ∀ h : a.val < 96, ta = co ⟨a.val - 64, by omega⟩) (tb₁ : ¬ a.val < 64 → ∀ h : a.val < 96, tb = si ⟨a.val - 64, by omega⟩)
    (tb₀ : a.val < 64 → tb = 0) (ta₂ : ¬ a.val < 96 → ta = 0) (tb₂ : ¬ a.val < 96 → tb = 0) :
    slotK' kn p ta tb a = slotK kv kr co si a := by
  unfold slotK' slotK
  by_cases h : a.val < 64
  · have e : p ⟨(a.val + 64) % 128, by omega⟩ = 0 := h₃ _ (by dsimp only; omega)
    rw [if_pos h, hn h, tb₀ h, e, zero_mul, mul_zero, add_zero, add_zero]
  · rw [if_neg h, hn' h]
    by_cases h' : a.val < 96
    · have e₁ : (⟨(a.val + 64) % 128, by omega⟩ : Fin 128) = ⟨(⟨a.val - 64, by omega⟩ : Fin 32).val, by dsimp only; omega⟩ := Fin.ext (by dsimp only; omega)
      have e₂ : (⟨(a.val + 96) % 128, by omega⟩ : Fin 128) = ⟨32 + (⟨a.val - 64, by omega⟩ : Fin 32).val, by dsimp only; omega⟩ := Fin.ext (by dsimp only; omega)
      rw [dif_pos h', ta₁ h h', tb₁ h h', e₁, e₂, h₁, h₂, zero_add, rope]
    · rw [dif_neg h', ta₂ h', tb₂ h', mul_zero, mul_zero, add_zero, add_zero]

/-- A head's values, with the rows of ones. -/
def slotV (kv : Fin 128 → EReal) (a : Fin 80) : EReal := if h : a.val < 64 then kv ⟨64 + a.val, by omega⟩ else 1

/-- A chunk's gating, at one position and lane: the weighted sum of the chunk's normalised rows, and a bias. -/
def mixed (u : EReal) (v : Fin 128 → Fin 128 → EReal) (g : Fin 128 → EReal) (w : Fin 128 → EReal) (b : EReal) (d : Fin 128) : EReal :=
  gelu u * (∑ s, w s * rms (Ideal.ofBits .f32 0x43000000#32) (fun j => gelu (v s j)) g d + b)

/-- A head's queries, from a row's projection. -/
def qAt (p : Fin 1696 → EReal) (g : Fin 384 → EReal) (w : Fin 384 → Fin 768 → EReal) (h : Fin 8) (a : Fin 96) : EReal :=
  times (fun k => rms (Ideal.ofBits .f32 0x43C00000#32) (fun j : Fin 384 => p ⟨j.val, by omega⟩) g k) w ⟨96 * h.val + a.val, by omega⟩

/-- A head's keys and values, from a row's projection. -/
def kvAt (p : Fin 1696 → EReal) (g : Fin 256 → EReal) (w : Fin 256 → Fin 1024 → EReal) (h : Fin 8) (a : Fin 128) : EReal :=
  times (fun k => rms (Ideal.ofBits .f32 0x43800000#32) (fun j : Fin 256 => p ⟨384 + j.val, by omega⟩) g k) w ⟨128 * h.val + a.val, by omega⟩

/-- A real number among the extended ones. -/
def Real' (a : EReal) : Prop := ∃ r : ℝ, a = r

/-- Sums of reals are real. -/
theorem Real'.add {a b : EReal} (ha : Real' a) (hb : Real' b) : Real' (a + b) := by
  obtain ⟨r, rfl⟩ := ha
  obtain ⟨s, rfl⟩ := hb
  exact ⟨r + s, (EReal.coe_add r s).symm⟩

/-- Products of reals are real. -/
theorem Real'.mul {a b : EReal} (ha : Real' a) (hb : Real' b) : Real' (a * b) := by
  obtain ⟨r, rfl⟩ := ha
  obtain ⟨s, rfl⟩ := hb
  exact ⟨r * s, (EReal.coe_mul r s).symm⟩

/-- Negations of reals are real. -/
theorem Real'.neg {a : EReal} (ha : Real' a) : Real' (-a) := by
  obtain ⟨r, rfl⟩ := ha
  exact ⟨-r, (EReal.coe_neg r).symm⟩

/-- A finite sum of reals, taken among the reals. -/
theorem sum_coe {n : ℕ} (f : Fin n → ℝ) : ∑ i, (f i : EReal) = ((∑ i, f i : ℝ) : EReal) := by
  induction (Finset.univ : Finset (Fin n)) using Finset.cons_induction with
  | empty => simp
  | cons a s h ih => rw [Finset.sum_cons, Finset.sum_cons, ih, EReal.coe_add]

/-- Finite sums of reals are real. -/
theorem Real'.sum {n : ℕ} {f : Fin n → EReal} (h : ∀ i, Real' (f i)) : Real' (∑ i, f i) := by
  choose r hr using h
  refine ⟨∑ i, r i, ?_⟩
  rw [← sum_coe]
  exact Finset.sum_congr rfl fun i _ => hr i

/-- A projection of a real row is real. -/
theorem Real'.times {n k : ℕ} {v : Fin n → EReal} {w : Fin n → Fin k → EReal} (hv : ∀ i, Real' (v i)) (hw : ∀ i j, Real' (w i j)) (j : Fin k) : Real' (times v w j) :=
  Real'.sum fun i => (hv i).mul (hw i j)

/-- A sum of negated products is the negated sum, of reals. -/
theorem sum_neg {n : ℕ} {v w : Fin n → EReal} (hv : ∀ i, Real' (v i)) (hw : ∀ i, Real' (w i)) : ∑ i, v i * -w i = -∑ i, v i * w i := by
  choose r hr using hv
  choose s hs using hw
  have e₁ : ∑ i, v i * -w i = ((∑ i, r i * -s i : ℝ) : EReal) := by
    rw [← sum_coe]
    exact Finset.sum_congr rfl fun i _ => by rw [hr i, hs i, ← EReal.coe_neg, ← EReal.coe_mul]
  have e₂ : ∑ i, v i * w i = ((∑ i, r i * s i : ℝ) : EReal) := by
    rw [← sum_coe]
    exact Finset.sum_congr rfl fun i _ => by rw [hr i, hs i, ← EReal.coe_mul]
  rw [e₁, e₂, ← EReal.coe_neg]
  simp

/-- A real row's norm is real. -/
theorem Real'.rms {n : ℕ} {len : EReal} {x g : Fin n → EReal} (l : ℝ) (hl : len = l) (hl' : 0 < l) (hx : ∀ i, Real' (x i)) (hg : ∀ i, Real' (g i)) (j : Fin n) : Real' (rms len x g j) := by
  choose r hr using hx
  obtain ⟨ε, he, he'⟩ : ∃ ε : ℝ, eps = ε ∧ 0 < ε := by
    unfold eps
    simp only [Ideal.ofBits, Ideal.ieee]
    norm_num
    refine ⟨_, rfl, ?_⟩
    rw [if_neg (by decide)]
    positivity
  have e : ∑ k, x k * x k = ((∑ k, r k * r k : ℝ) : EReal) := by
    rw [← sum_coe]
    exact Finset.sum_congr rfl fun i _ => by rw [hr i, ← EReal.coe_mul]
  have hs : 0 ≤ ∑ k, r k * r k := Finset.sum_nonneg fun k _ => mul_self_nonneg _
  have hp : 0 < (∑ k, r k * r k) * (1 / l) + ε := by positivity
  unfold Cert.Post.rms
  refine (Real'.mul ⟨r j, hr j⟩ ?_).mul (hg j)
  rw [e, hl, Ideal.div_coe hl'.ne', he, ← EReal.coe_mul, ← EReal.coe_add, Ideal.rsqrt_coe, if_neg (by linarith), if_neg hp.ne']
  exact ⟨_, rfl⟩

end Cert.In
-- ==== Proof.InPay.lean ====
module

public import proofs.«01_k».proof.Proof.In
public import proofs.«01_k».proof.Proof.Gen.Kernel6Ideal.Skeleton
public import Idealize.ShloMosaic.Lib.Pointwise
public import Idealize.ShloMosaic.Lib.Pipeline.ValueKit
public import Idealize.ShloMosaic.Lib.Pipeline.ReadBack

@[expose] public section

set_option maxRecDepth 16384

noncomputable section

/-! The pure parts of one grid point of the even layers' projections, entry by entry. -/

namespace Cert.Kernel6Ideal.In

open Cert.Kernel6Ideal Cert.Kernel6Ideal.Gen Idealize.ShloMosaic Idealize.ShloMosaic.TcCoe Idealize.ShloMosaic.Tactic Cert.Post Cert.In

variable (P : FVec Ideal S512x1792 .f32)

/-- The projection of a block's rows. -/
theorem proj_at (x : Vec Ideal S512x1024 .f32) (g : Vec Ideal S1x1024 .f32) (sc sh : Vec Ideal S1x1x1024 .f32) (w : Vec Ideal S1024x1792 .bf16) (l : Fin 512) (c : Fin 1792) :
    (k0_pay4 x g sc sh w (ix2 l c) : EReal)
      = times (normed (fun j => x (ix2 l j)) (fun j => g (ix2 0 j)) (fun j => sc (ix3 0 0 j)) (fun j => sh (ix3 0 0 j))) (fun k j => w (ix2 k j)) c := by
  pointwise [k0_pay4, times, normed, rms, eps]

/-- The queries of all heads, one row per entry. -/
theorem query_at (x : Vec Ideal S512x1024 .f32) (g : Vec Ideal S1x1024 .f32) (sc sh : Vec Ideal S1x1x1024 .f32) (w : Vec Ideal S1024x1792 .bf16) (qn : Vec Ideal S1x384 .f32) (u : Vec Ideal S1024x384 .bf16)
    (r : Fin 1024) (l : Fin 512) :
    (k0_pay8 (k0_pay5 x g sc sh w) (k0_pay6 qn) (k0_pay7 x g sc sh w) u (ix2 r l) : EReal)
      = ∑ k : Fin 384, u (ix2 r k) * rms (Ideal.ofBits .f32 0x43C00000#32) (fun j : Fin 384 => k0_pay4 x g sc sh w (ix2 l ⟨0 + j.val, by omega⟩)) (fun j => qn (ix2 0 j)) k := by
  pointwise [k0_pay8, k0_pay7, k0_pay6, k0_pay5, rms, eps]

/-- The normed latent. -/
theorem latent_at (kn : Vec Ideal S1x256 .f32) (l : Fin 512) (k : Fin 256) :
    (k0_pay38 P kn (ix2 l k) : EReal) = rms (Ideal.ofBits .f32 0x43800000#32) (fun j : Fin 256 => P (ix2 l ⟨384 + j.val, by omega⟩)) (fun j => kn (ix2 0 j)) k := by
  pointwise [k0_pay38, rms, eps]

/-- The keys' part from the latent. -/
theorem key_at (kn : Vec Ideal S1x256 .f32) (w : Vec Ideal S256x1024 .bf16) (l : Fin 512) (c : Fin 1024) :
    (k0_pay39 P kn w (ix2 l c) : EReal) = ∑ k : Fin 256, k0_pay38 P kn (ix2 l k) * w (ix2 k c) := by
  pointwise [k0_pay39]

/-- The keys' rotary part, turned into its place. -/
theorem turned_at (ta tb : Vec Ideal S512x128 .f32) (l : Fin 512) (a : Fin 128) :
    (k0_pay40 P ta tb (ix2 l a) : EReal) = P (ix2 l ⟨640 + (a.val + 64) % 128, by omega⟩) * ta (ix2 l a) + P (ix2 l ⟨640 + (a.val + 96) % 128, by omega⟩) * tb (ix2 l a) := by
  pointwise [k0_pay40]
  exact congrArg₂ (fun p q : Fin 1792 => (P (ix2 l p) : EReal) * ta (ix2 l a) + P (ix2 l q) * tb (ix2 l a)) (Fin.ext (by dsimp only; omega)) (Fin.ext (by dsimp only; omega))

/-- The values from the latent, one row per entry. -/
theorem value_at (v : FVec Ideal S512x256 .bf16) (w : Vec Ideal S512x256 .bf16) (r l : Fin 512) :
    (k0_pay49 v w (ix2 r l) : EReal) = ∑ k : Fin 256, w (ix2 r k) * v (ix2 l k) := by
  pointwise [k0_pay49]

/-- The gate's rows. -/
theorem u_at (l c : Fin 512) : (k0_pay66 P (ix2 l c) : EReal) = gelu (P (ix2 l ⟨768 + c.val, by omega⟩)) := by
  pointwise [k0_pay66, gelu]

/-- The gated rows. -/
theorem v_at (l c : Fin 512) : (k0_pay69 (k0_pay67 P) (k0_pay68 P) (ix2 l c) : EReal) = gelu (P (ix2 l ⟨1280 + c.val, by omega⟩)) := by
  pointwise [k0_pay69, k0_pay68, k0_pay67, gelu]

variable (v : FVec Ideal S512x512 .f32) (cmn : Vec Ideal S1x128 .f32)

/-- The gated rows of the first group, normed. -/
theorem vn_0 (v₁ v₂ : FVec Ideal S512x512 .f32) (l : Fin 512) (d : Fin 128) :
    (k0_pay71 v₁ v₂ cmn (ix2 l d) : EReal) = rms (Ideal.ofBits .f32 0x43000000#32) (fun j : Fin 128 => k0_pay69 v₁ v₂ (ix2 l ⟨0 + j.val, by omega⟩)) (fun j => cmn (ix2 0 j)) d := by
  pointwise [k0_pay71, k0_pay70, rms, eps]

/-- The gated rows of the second group, normed. -/
theorem vn_1 (l : Fin 512) (d : Fin 128) :
    (k0_pay77 v (k0_pay70 cmn) (ix2 l d) : EReal) = rms (Ideal.ofBits .f32 0x43000000#32) (fun j : Fin 128 => v (ix2 l ⟨128 + j.val, by omega⟩)) (fun j => cmn (ix2 0 j)) d := by
  pointwise [k0_pay77, k0_pay70, rms, eps]

/-- The gated rows of the third group, normed. -/
theorem vn_2 (l : Fin 512) (d : Fin 128) :
    (k0_pay86 (k0_pay70 cmn) (k0_pay84 v) (k0_pay85 v) (ix2 l d) : EReal) = rms (Ideal.ofBits .f32 0x43000000#32) (fun j : Fin 128 => v (ix2 l ⟨256 + j.val, by omega⟩)) (fun j => cmn (ix2 0 j)) d := by
  pointwise [k0_pay86, k0_pay85, k0_pay84, k0_pay70, rms, eps]

/-- The gated rows of the fourth group, normed. -/
theorem vn_3 (l : Fin 512) (d : Fin 128) :
    (k0_pay93 v (k0_pay70 cmn) (ix2 l d) : EReal) = rms (Ideal.ofBits .f32 0x43000000#32) (fun j : Fin 128 => v (ix2 l ⟨384 + j.val, by omega⟩)) (fun j => cmn (ix2 0 j)) d := by
  pointwise [k0_pay93, k0_pay70, rms, eps]

end Cert.Kernel6Ideal.In
-- ==== Proof.InBlock.lean ====
module

public import proofs.«01_k».proof.Proof.InPay
public import proofs.«01_k».proof.Proof.InValue
public import Idealize.ShloMosaic.Lib.Pointwise
public import Idealize.ShloMosaic.Lib.Pipeline.ValueKit
public import Idealize.ShloMosaic.Lib.Pipeline.ReadBack

@[expose] public section

set_option maxRecDepth 16384

noncomputable section

/-! What one grid point of the even layers' projections leaves in its blocks, entry by entry. -/

namespace Cert.Kernel6Ideal.In

open Cert.Kernel6Ideal Cert.Kernel6Ideal.Gen Idealize.ShloMosaic Idealize.ShloMosaic.TcCoe Idealize.ShloMosaic.Tactic Cert.Post Cert.In
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Blocks of one array that cover it leave that array. -/
theorem canon_of {s : Shape} {e : EltTy} (G : s.Idx → Elt Ideal e) (L : List (View.Piece (Elt Ideal) s e)) (h : View.PiecesOf G L) (y : s.Idx) (hc : ∃ p ∈ L, y ∈ p.1.set) : View.canon L y = G y := by
  have := View.canon_append_of_piecesOf G [] L h y hc
  rwa [List.append_nil] at this

/-- A load of one matrix of a stack, at an index. -/
theorem ld_stack {e : EltTy} (x : S4x128x128.Idx → Elt Ideal e) (g : Fin 4) (inb) (a s : Fin 128) :
    View.ld x (Rect.unit (s := S4x128x128) ![g.val, 0, 0] ![1, 128, 128] inb) (ix3 0 a s) = x (ix3 g a s) := by
  refine congrArg x (funext fun i => ?_)
  match i with
  | 0 => exact Fin.ext (by show g.val + 1 * 0 = g.val; omega)
  | 1 => exact Fin.ext (by show 0 + 1 * a.val = a.val; omega)
  | 2 => exact Fin.ext (by show 0 + 1 * s.val = s.val; omega)

/-- The queries' block. -/
def blockQ (Q : FVec Ideal S1024x512 .f32) (co si : Vec Ideal S32x512 .f32) : Vec Ideal S1024x512 .bf16 := fun y =>
  slotQ' (fun b => Q (ix2 ⟨128 * ((y 0).val / 128) + b.val, by have h : (y 0).val < 1024 := (y 0).isLt; omega⟩ (y 1))) (fun i => co (ix2 i (y 1))) (fun i => si (ix2 i (y 1))) ⟨(y 0).val % 128, by omega⟩

/-- The queries' block, in one head's slot. -/
theorem blockQ_at (Q : FVec Ideal S1024x512 .f32) (co si : Vec Ideal S32x512 .f32) (h : Fin 8) (b : Fin 128) (c : Fin 512) (r : Fin 1024) (hr : r.val = 128 * h.val + b.val) :
    blockQ Q co si (ix2 r c) = slotQ' (fun b => Q (ix2 ⟨128 * h.val + b.val, by omega⟩ c)) (fun i => co (ix2 i c)) (fun i => si (ix2 i c)) b := by
  obtain ⟨r, hr'⟩ := r
  dsimp only at hr
  subst hr
  have e : (128 * h.val + b.val) / 128 = h.val := by omega
  have e' : (⟨(128 * h.val + b.val) % 128, by omega⟩ : Fin 128) = b := Fin.ext (by dsimp only; omega)
  show slotQ' (fun b' => Q (ix2 ⟨128 * ((128 * h.val + b.val) / 128) + b'.val, _⟩ c)) _ _ ⟨(128 * h.val + b.val) % 128, _⟩ = _
  rw [e']
  exact congrArg (slotQ' · _ _ b) (funext fun b' => congrArg Q (congrArg (ix2 · c) (Fin.ext (by dsimp only; omega))))

/-- The queries' block, in a slot's first part. -/
theorem blockQ_nope (Q : FVec Ideal S1024x512 .f32) (co si : Vec Ideal S32x512 .f32) (h : Fin 8) (a : Fin 64) (c : Fin 512) (r : Fin 1024) (hr : r.val = 128 * h.val + a.val) :
    blockQ Q co si (ix2 r c) = (Q (ix2 r c) : EReal) * scale := by
  rw [blockQ_at Q co si h ⟨a.val, by omega⟩ c r hr, slotQ', dif_pos a.isLt]
  exact congrArg (fun r => (Q (ix2 r c) : EReal) * scale) (Fin.ext (by dsimp only; omega))

/-- The queries' block, in a slot's rotary part. -/
theorem blockQ_rope (Q : FVec Ideal S1024x512 .f32) (co si : Vec Ideal S32x512 .f32) (h : Fin 8) (a : Fin 32) (c : Fin 512) (r r' : Fin 1024) (hr : r.val = 128 * h.val + 64 + a.val) (hr' : r'.val = 128 * h.val + 96 + a.val) :
    blockQ Q co si (ix2 r c) = ((Q (ix2 r c) : EReal) * co (ix2 a c) + Q (ix2 r' c) * si (ix2 a c)) * scale := by
  rw [blockQ_at Q co si h ⟨64 + a.val, by omega⟩ c r (by dsimp only; omega), slotQ', dif_neg (by dsimp only; omega), dif_pos (by dsimp only; omega)]
  have e₁ : (⟨128 * h.val + (⟨64 + a.val, by omega⟩ : Fin 128).val, by dsimp only; omega⟩ : Fin 1024) = r := Fin.ext (by dsimp only; omega)
  have e₂ : (⟨128 * h.val + (⟨64 + a.val + 32, by omega⟩ : Fin 128).val, by dsimp only; omega⟩ : Fin 1024) = r' := Fin.ext (by dsimp only; omega)
  have e₃ : (⟨64 + a.val - 64, by omega⟩ : Fin 32) = a := Fin.ext (by dsimp only; omega)
  dsimp only
  rw [e₃]
  exact congrArg₂ (fun p q => ((Q (ix2 p c) : EReal) * co (ix2 a c) + Q (ix2 q c) * si (ix2 a c)) * scale) e₁ e₂

/-- The queries' block, in a slot's rest. -/
theorem blockQ_rest (Q : FVec Ideal S1024x512 .f32) (co si : Vec Ideal S32x512 .f32) (h : Fin 8) (a : Fin 32) (c : Fin 512) (r : Fin 1024) (hr : r.val = 128 * h.val + 96 + a.val) :
    blockQ Q co si (ix2 r c) = (0 : EReal) := by
  rw [blockQ_at Q co si h ⟨96 + a.val, by omega⟩ c r (by dsimp only; omega), slotQ', dif_neg (by dsimp only; omega), dif_neg (by dsimp only; omega)]

/-- The keys' block. -/
def blockK (N : FVec Ideal S512x1024 .f32) (T : FVec Ideal S512x128 .f32) : Vec Ideal S512x1024 .bf16 := fun y =>
  ((N (ix2 (y 0) (y 1)) : EReal) + T (ix2 (y 0) ⟨(y 1).val % 128, by omega⟩) : EReal)

/-- The values' block, entry by entry. -/
def entryV (V : FVec Ideal S512x512 .f32) (r : Fin 640) (c : Fin 512) : EReal :=
  if h : r.val % 80 < 64 then V (ix2 ⟨64 * (r.val / 80) + r.val % 80, by omega⟩ c) else 1

/-- The values' block. -/
def blockV (V : FVec Ideal S512x512 .f32) : Vec Ideal S640x512 .bf16 := fun y => entryV V (y 0) (y 1)

/-- The values' block, in a slot's first part. -/
theorem blockV_val (V : FVec Ideal S512x512 .f32) (h : Fin 8) (a : Fin 64) (c : Fin 512) (r : Fin 640) (r' : Fin 512) (hr : r.val = 80 * h.val + a.val) (hr' : r'.val = 64 * h.val + a.val) :
    blockV V (ix2 r c) = (V (ix2 r' c) : EReal) := by
  have e : r.val % 80 < 64 := by omega
  show entryV V r c = _
  rw [entryV, dif_pos e]
  exact congrArg (fun r => (V (ix2 r c) : EReal)) (Fin.ext (by show 64 * (r.val / 80) + r.val % 80 = r'.val; omega))

/-- The values' block, in a slot's rows of ones. -/
theorem blockV_one (V : FVec Ideal S512x512 .f32) (h : Fin 8) (a : Fin 16) (c : Fin 512) (r : Fin 640) (hr : r.val = 80 * h.val + 64 + a.val) :
    blockV V (ix2 r c) = (1 : EReal) := by
  have e : ¬ r.val % 80 < 64 := by omega
  show entryV V r c = _
  rw [entryV, dif_neg e]

/-- The chunked gating's block. -/
def blockM (P : FVec Ideal S512x1792 .f32) (cmn : Vec Ideal S1x128 .f32) (w : Vec Ideal S4x128x128 .bf16) (b : Vec Ideal S128x512 .f32) : Vec Ideal S512x512 .bf16 := fun y =>
  mixed (P (ix2 (y 0) ⟨768 + (y 1).val, by have h : (y 1).val < 512 := (y 1).isLt; omega⟩))
    (fun s j => P (ix2 ⟨128 * ((y 0).val / 128) + s.val, by have h : (y 0).val < 512 := (y 0).isLt; omega⟩ ⟨1280 + (128 * ((y 1).val / 128) + j.val), by have h : (y 1).val < 512 := (y 1).isLt; omega⟩))
    (fun j => cmn (ix2 0 j)) (fun s => w (ix3 ⟨(y 1).val / 128, by have h : (y 1).val < 512 := (y 1).isLt; omega⟩ ⟨(y 0).val % 128, by omega⟩ s)) (b (ix2 ⟨(y 0).val % 128, by omega⟩ (y 1))) ⟨(y 1).val % 128, by omega⟩

/-- The chunked gating's block, in one chunk and group. -/
theorem blockM_at (P : FVec Ideal S512x1792 .f32) (cmn : Vec Ideal S1x128 .f32) (w : Vec Ideal S4x128x128 .bf16) (b : Vec Ideal S128x512 .f32) (k g : Fin 4) (a d : Fin 128) (r c : Fin 512)
    (hr : r.val = 128 * k.val + a.val) (hc : c.val = 128 * g.val + d.val) (V : FVec Ideal S512x128 .bf16)
    (hV : ∀ l d, (V (ix2 l d) : EReal) = rms (Ideal.ofBits .f32 0x43000000#32) (fun j : Fin 128 => k0_pay69 (k0_pay67 P) (k0_pay68 P) (ix2 l ⟨128 * g.val + j.val, by omega⟩)) (fun j => cmn (ix2 0 j)) d)
    (f : Fin 128 → Fin 512) (hf : ∀ s, (f s).val = 128 * k.val + s.val) (inb) (B : EReal) (hB : B = b (ix2 a c)) :
    (k0_pay66 P (ix2 r c) : EReal) * (∑ s : Fin 128, View.ld w (Rect.unit (s := S4x128x128) ![g.val, 0, 0] ![1, 128, 128] inb) (ix3 0 a s) * V (ix2 (f s) d) + B) = blockM P cmn w b (ix2 r c) := by
  have e₁ : (⟨c.val / 128, by omega⟩ : Fin 4) = g := Fin.ext (by dsimp only; omega)
  have e₂ : (⟨r.val % 128, by omega⟩ : Fin 128) = a := Fin.ext (by dsimp only; omega)
  have e₃ : (⟨c.val % 128, by omega⟩ : Fin 128) = d := Fin.ext (by dsimp only; omega)
  show _ = mixed (P (ix2 r ⟨768 + c.val, _⟩)) (fun s j => P (ix2 ⟨128 * (r.val / 128) + s.val, _⟩ ⟨1280 + (128 * (c.val / 128) + j.val), _⟩)) _ (fun s => w (ix3 ⟨c.val / 128, _⟩ ⟨r.val % 128, _⟩ s)) (b (ix2 ⟨r.val % 128, _⟩ c)) ⟨c.val % 128, _⟩
  rw [e₁, e₂, e₃, hB, mixed, u_at]
  refine congrArg (fun z => gelu _ * (z + _)) (Finset.sum_congr rfl fun s _ => ?_)
  rw [ld_stack, hV]
  refine congrArg (fun z => _ * rms _ z _ d) (funext fun j => ?_)
  rw [v_at]
  exact congrArg gelu (congrArg P (congr (congrArg ix2 (Fin.ext (by have := hf s; dsimp only; omega))) (Fin.ext (by dsimp only; omega))))

set_option maxHeartbeats 8000000 in
/-- The queries that a grid point leaves. -/
theorem opened_17 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1024x1792 .bf16) (harg9 : arg9.IsWhole) (arg10 : Memref sig .tc .vmem S1x384 .f32) (harg10 : arg10.IsWhole) (arg11 : Memref sig .tc .vmem S1024x384 .bf16) (harg11 : arg11.IsWhole) (arg12 : Memref sig .tc .vmem S1x256 .f32) (harg12 : arg12.IsWhole) (arg13 : Memref sig .tc .vmem S256x1024 .bf16) (harg13 : arg13.IsWhole) (arg14 : Memref sig .tc .vmem S512x256 .bf16) (harg14 : arg14.IsWhole) (arg15 : Memref sig .tc .vmem S1x128 .f32) (harg15 : arg15.IsWhole) (arg16 : Memref sig .tc .vmem S4x128x128 .bf16) (harg16 : arg16.IsWhole) (arg17 : Memref sig .tc .vmem S128x512 .f32) (harg17 : arg17.IsWhole) (arg18 : Memref sig .tc .vmem S1024x512 .bf16) (harg18 : arg18.IsWhole) (arg19 : Memref sig .tc .vmem S512x1024 .bf16) (harg19 : arg19.IsWhole) (arg20 : Memref sig .tc .vmem S640x512 .bf16) (harg20 : arg20.IsWhole) (arg21 : Memref sig .tc .vmem S512x512 .bf16) (harg21 : arg21.IsWhole)
    (x0 : Vec Ideal S512x1024 .f32) (x1 : Vec Ideal S1x1024 .f32) (x2 : Vec Ideal S1x1x1024 .f32) (x3 : Vec Ideal S1x1x1024 .f32) (x4 : Vec Ideal S512x128 .f32) (x5 : Vec Ideal S512x128 .f32) (x6 : Vec Ideal S32x512 .f32) (x7 : Vec Ideal S32x512 .f32) (x8 : Vec Ideal S1024x1792 .bf16) (x9 : Vec Ideal S1x384 .f32) (x10 : Vec Ideal S1024x384 .bf16) (x11 : Vec Ideal S1x256 .f32) (x12 : Vec Ideal S256x1024 .bf16) (x13 : Vec Ideal S512x256 .bf16) (x14 : Vec Ideal S1x128 .f32) (x15 : Vec Ideal S4x128x128 .bf16) (x16 : Vec Ideal S128x512 .f32) (l : Fin 1024) (r : Fin 512) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 (ix2 l r) = blockQ (k0_pay8 (k0_pay5 x0 x1 x3 x2 x8) (k0_pay6 x9) (k0_pay7 x0 x1 x3 x2 x8) x10) x6 x7 (ix2 l r) := by
  frame_open
  simp (disch := decide) only [↓ View.readCov_skip, ↓ View.readCov_cons_toLoadRect, View.read_writes_junk_eq_canon]
  simp only [View.readAt_eq_ld, Memref.IsWhole.read_unread]
  simp (disch := decide) only [View.ld_unit_lit']
  generalize hG : blockQ (k0_pay8 (k0_pay5 x0 x1 x3 x2 x8) (k0_pay6 x9) (k0_pay7 x0 x1 x3 x2 x8) x10) x6 x7 = G
  refine canon_of G _ ?_ _ (View.cover_of_tiledBy _ ![32, 512] (by sl_kernel_rfl) _)
  refine ⟨?_, ?_, ?_, ?_, ?_, ?_, ?_, ?_, ?_, ?_, ?_, ?_, ?_, ?_, ?_, ?_, ?_, ?_, ?_, ?_, ?_, ?_, ?_, ?_, trivial⟩
  · intro y
    obtain ⟨a, c, rfl⟩ : ∃ (a : Fin 32) (c : Fin 512), y = ix2 a c := ⟨y 0, y 1, by blk_ext []⟩
    have e : (Rect.unit ![992, 0] ![32, 512] inb_S1024x512_S32x512_992_0).emb (ix2 a c) = ix2 (⟨992 + a.val, by omega⟩ : Fin 1024) c := by
      blk_ext []
    refine Eq.trans ?_ (congrArg G e).symm
    rw [← hG, blockQ_rest _ _ _ 7 a _ _ (by dsimp only; omega)]
    pointwise [k0_pay37]
  · intro y
    obtain ⟨a, c, rfl⟩ : ∃ (a : Fin 32) (c : Fin 512), y = ix2 a c := ⟨y 0, y 1, by blk_ext []⟩
    have e : (Rect.unit ![960, 0] ![32, 512] inb_S1024x512_S32x512_960_0).emb (ix2 a c) = ix2 (⟨960 + a.val, by omega⟩ : Fin 1024) c := by
      blk_ext []
    refine Eq.trans ?_ (congrArg G e).symm
    rw [← hG, blockQ_rope _ _ _ 7 a _ _ ⟨992 + a.val, by omega⟩ (by dsimp only; omega) (by dsimp only; omega)]
    pointwise [k0_pay36, k0_pay9, k0_pay10, scale]
  · intro y
    obtain ⟨a, c, rfl⟩ : ∃ (a : Fin 64) (c : Fin 512), y = ix2 a c := ⟨y 0, y 1, by blk_ext []⟩
    have e : (Rect.unit ![896, 0] ![64, 512] inb_S1024x512_S64x512_896_0).emb (ix2 a c) = ix2 (⟨896 + a.val, by omega⟩ : Fin 1024) c := by
      blk_ext []
    refine Eq.trans ?_ (congrArg G e).symm
    rw [← hG, blockQ_nope _ _ _ 7 a _ _ (by dsimp only; omega)]
    pointwise [k0_pay35, scale]
  · intro y
    obtain ⟨a, c, rfl⟩ : ∃ (a : Fin 32) (c : Fin 512), y = ix2 a c := ⟨y 0, y 1, by blk_ext []⟩
    have e : (Rect.unit ![864, 0] ![32, 512] inb_S1024x512_S32x512_864_0).emb (ix2 a c) = ix2 (⟨864 + a.val, by omega⟩ : Fin 1024) c := by
      blk_ext []
    refine Eq.trans ?_ (congrArg G e).symm
    rw [← hG, blockQ_rest _ _ _ 6 a _ _ (by dsimp only; omega)]
    pointwise [k0_pay34]
  · intro y
    obtain ⟨a, c, rfl⟩ : ∃ (a : Fin 32) (c : Fin 512), y = ix2 a c := ⟨y 0, y 1, by blk_ext []⟩
    have e : (Rect.unit ![832, 0] ![32, 512] inb_S1024x512_S32x512_832_0).emb (ix2 a c) = ix2 (⟨832 + a.val, by omega⟩ : Fin 1024) c := by
      blk_ext []
    refine Eq.trans ?_ (congrArg G e).symm
    rw [← hG, blockQ_rope _ _ _ 6 a _ _ ⟨864 + a.val, by omega⟩ (by dsimp only; omega) (by dsimp only; omega)]
    pointwise [k0_pay33, k0_pay9, k0_pay10, scale]
  · intro y
    obtain ⟨a, c, rfl⟩ : ∃ (a : Fin 64) (c : Fin 512), y = ix2 a c := ⟨y 0, y 1, by blk_ext []⟩
    have e : (Rect.unit ![768, 0] ![64, 512] inb_S1024x512_S64x512_768_0).emb (ix2 a c) = ix2 (⟨768 + a.val, by omega⟩ : Fin 1024) c := by
      blk_ext []
    refine Eq.trans ?_ (congrArg G e).symm
    rw [← hG, blockQ_nope _ _ _ 6 a _ _ (by dsimp only; omega)]
    pointwise [k0_pay32, scale]
  · intro y
    obtain ⟨a, c, rfl⟩ : ∃ (a : Fin 32) (c : Fin 512), y = ix2 a c := ⟨y 0, y 1, by blk_ext []⟩
    have e : (Rect.unit ![736, 0] ![32, 512] inb_S1024x512_S32x512_736_0).emb (ix2 a c) = ix2 (⟨736 + a.val, by omega⟩ : Fin 1024) c := by
      blk_ext []
    refine Eq.trans ?_ (congrArg G e).symm
    rw [← hG, blockQ_rest _ _ _ 5 a _ _ (by dsimp only; omega)]
    pointwise [k0_pay31]
  · intro y
    obtain ⟨a, c, rfl⟩ : ∃ (a : Fin 32) (c : Fin 512), y = ix2 a c := ⟨y 0, y 1, by blk_ext []⟩
    have e : (Rect.unit ![704, 0] ![32, 512] inb_S1024x512_S32x512_704_0).emb (ix2 a c) = ix2 (⟨704 + a.val, by omega⟩ : Fin 1024) c := by
      blk_ext []
    refine Eq.trans ?_ (congrArg G e).symm
    rw [← hG, blockQ_rope _ _ _ 5 a _ _ ⟨736 + a.val, by omega⟩ (by dsimp only; omega) (by dsimp only; omega)]
    pointwise [k0_pay30, k0_pay29, k0_pay9, k0_pay10, scale]
  · intro y
    obtain ⟨a, c, rfl⟩ : ∃ (a : Fin 64) (c : Fin 512), y = ix2 a c := ⟨y 0, y 1, by blk_ext []⟩
    have e : (Rect.unit ![640, 0] ![64, 512] inb_S1024x512_S64x512_640_0).emb (ix2 a c) = ix2 (⟨640 + a.val, by omega⟩ : Fin 1024) c := by
      blk_ext []
    refine Eq.trans ?_ (congrArg G e).symm
    rw [← hG, blockQ_nope _ _ _ 5 a _ _ (by dsimp only; omega)]
    pointwise [k0_pay28, scale]
  · intro y
    obtain ⟨a, c, rfl⟩ : ∃ (a : Fin 32) (c : Fin 512), y = ix2 a c := ⟨y 0, y 1, by blk_ext []⟩
    have e : (Rect.unit ![608, 0] ![32, 512] inb_S1024x512_S32x512_608_0).emb (ix2 a c) = ix2 (⟨608 + a.val, by omega⟩ : Fin 1024) c := by
      blk_ext []
    refine Eq.trans ?_ (congrArg G e).symm
    rw [← hG, blockQ_rest _ _ _ 4 a _ _ (by dsimp only; omega)]
    pointwise [k0_pay27]
  · intro y
    obtain ⟨a, c, rfl⟩ : ∃ (a : Fin 32) (c : Fin 512), y = ix2 a c := ⟨y 0, y 1, by blk_ext []⟩
    have e : (Rect.unit ![576, 0] ![32, 512] inb_S1024x512_S32x512_576_0).emb (ix2 a c) = ix2 (⟨576 + a.val, by omega⟩ : Fin 1024) c := by
      blk_ext []
    refine Eq.trans ?_ (congrArg G e).symm
    rw [← hG, blockQ_rope _ _ _ 4 a _ _ ⟨608 + a.val, by omega⟩ (by dsimp only; omega) (by dsimp only; omega)]
    pointwise [k0_pay26, k0_pay9, k0_pay10, scale]
  · intro y
    obtain ⟨a, c, rfl⟩ : ∃ (a : Fin 64) (c : Fin 512), y = ix2 a c := ⟨y 0, y 1, by blk_ext []⟩
    have e : (Rect.unit ![512, 0] ![64, 512] inb_S1024x512_S64x512_512_0).emb (ix2 a c) = ix2 (⟨512 + a.val, by omega⟩ : Fin 1024) c := by
      blk_ext []
    refine Eq.trans ?_ (congrArg G e).symm
    rw [← hG, blockQ_nope _ _ _ 4 a _ _ (by dsimp only; omega)]
    pointwise [k0_pay25, scale]
  · intro y
    obtain ⟨a, c, rfl⟩ : ∃ (a : Fin 32) (c : Fin 512), y = ix2 a c := ⟨y 0, y 1, by blk_ext []⟩
    have e : (Rect.unit ![480, 0] ![32, 512] inb_S1024x512_S32x512_480_0).emb (ix2 a c) = ix2 (⟨480 + a.val, by omega⟩ : Fin 1024) c := by
      blk_ext []
    refine Eq.trans ?_ (congrArg G e).symm
    rw [← hG, blockQ_rest _ _ _ 3 a _ _ (by dsimp only; omega)]
    pointwise [k0_pay24]
  · intro y
    obtain ⟨a, c, rfl⟩ : ∃ (a : Fin 32) (c : Fin 512), y = ix2 a c := ⟨y 0, y 1, by blk_ext []⟩
    have e : (Rect.unit ![448, 0] ![32, 512] inb_S1024x512_S32x512_448_0).emb (ix2 a c) = ix2 (⟨448 + a.val, by omega⟩ : Fin 1024) c := by
      blk_ext []
    refine Eq.trans ?_ (congrArg G e).symm
    rw [← hG, blockQ_rope _ _ _ 3 a _ _ ⟨480 + a.val, by omega⟩ (by dsimp only; omega) (by dsimp only; omega)]
    pointwise [k0_pay23, k0_pay21, k0_pay22, k0_pay9, k0_pay10, scale]
  · intro y
    obtain ⟨a, c, rfl⟩ : ∃ (a : Fin 64) (c : Fin 512), y = ix2 a c := ⟨y 0, y 1, by blk_ext []⟩
    have e : (Rect.unit ![384, 0] ![64, 512] inb_S1024x512_S64x512_384_0).emb (ix2 a c) = ix2 (⟨384 + a.val, by omega⟩ : Fin 1024) c := by
      blk_ext []
    refine Eq.trans ?_ (congrArg G e).symm
    rw [← hG, blockQ_nope _ _ _ 3 a _ _ (by dsimp only; omega)]
    pointwise [k0_pay20, scale]
  · intro y
    obtain ⟨a, c, rfl⟩ : ∃ (a : Fin 32) (c : Fin 512), y = ix2 a c := ⟨y 0, y 1, by blk_ext []⟩
    have e : (Rect.unit ![352, 0] ![32, 512] inb_S1024x512_S32x512_352_0).emb (ix2 a c) = ix2 (⟨352 + a.val, by omega⟩ : Fin 1024) c := by
      blk_ext []
    refine Eq.trans ?_ (congrArg G e).symm
    rw [← hG, blockQ_rest _ _ _ 2 a _ _ (by dsimp only; omega)]
    pointwise [k0_pay19]
  · intro y
    obtain ⟨a, c, rfl⟩ : ∃ (a : Fin 32) (c : Fin 512), y = ix2 a c := ⟨y 0, y 1, by blk_ext []⟩
    have e : (Rect.unit ![320, 0] ![32, 512] inb_S1024x512_S32x512_320_0).emb (ix2 a c) = ix2 (⟨320 + a.val, by omega⟩ : Fin 1024) c := by
      blk_ext []
    refine Eq.trans ?_ (congrArg G e).symm
    rw [← hG, blockQ_rope _ _ _ 2 a _ _ ⟨352 + a.val, by omega⟩ (by dsimp only; omega) (by dsimp only; omega)]
    pointwise [k0_pay18, k0_pay9, k0_pay10, scale]
  · intro y
    obtain ⟨a, c, rfl⟩ : ∃ (a : Fin 64) (c : Fin 512), y = ix2 a c := ⟨y 0, y 1, by blk_ext []⟩
    have e : (Rect.unit ![256, 0] ![64, 512] inb_S1024x512_S64x512_256_0).emb (ix2 a c) = ix2 (⟨256 + a.val, by omega⟩ : Fin 1024) c := by
      blk_ext []
    refine Eq.trans ?_ (congrArg G e).symm
    rw [← hG, blockQ_nope _ _ _ 2 a _ _ (by dsimp only; omega)]
    pointwise [k0_pay17, scale]
  · intro y
    obtain ⟨a, c, rfl⟩ : ∃ (a : Fin 32) (c : Fin 512), y = ix2 a c := ⟨y 0, y 1, by blk_ext []⟩
    have e : (Rect.unit ![224, 0] ![32, 512] inb_S1024x512_S32x512_224_0).emb (ix2 a c) = ix2 (⟨224 + a.val, by omega⟩ : Fin 1024) c := by
      blk_ext []
    refine Eq.trans ?_ (congrArg G e).symm
    rw [← hG, blockQ_rest _ _ _ 1 a _ _ (by dsimp only; omega)]
    pointwise [k0_pay16]
  · intro y
    obtain ⟨a, c, rfl⟩ : ∃ (a : Fin 32) (c : Fin 512), y = ix2 a c := ⟨y 0, y 1, by blk_ext []⟩
    have e : (Rect.unit ![192, 0] ![32, 512] inb_S1024x512_S32x512_192_0).emb (ix2 a c) = ix2 (⟨192 + a.val, by omega⟩ : Fin 1024) c := by
      blk_ext []
    refine Eq.trans ?_ (congrArg G e).symm
    rw [← hG, blockQ_rope _ _ _ 1 a _ _ ⟨224 + a.val, by omega⟩ (by dsimp only; omega) (by dsimp only; omega)]
    pointwise [k0_pay15, k0_pay9, k0_pay10, scale]
  · intro y
    obtain ⟨a, c, rfl⟩ : ∃ (a : Fin 64) (c : Fin 512), y = ix2 a c := ⟨y 0, y 1, by blk_ext []⟩
    have e : (Rect.unit ![128, 0] ![64, 512] inb_S1024x512_S64x512_128_0).emb (ix2 a c) = ix2 (⟨128 + a.val, by omega⟩ : Fin 1024) c := by
      blk_ext []
    refine Eq.trans ?_ (congrArg G e).symm
    rw [← hG, blockQ_nope _ _ _ 1 a _ _ (by dsimp only; omega)]
    pointwise [k0_pay14, scale]
  · intro y
    obtain ⟨a, c, rfl⟩ : ∃ (a : Fin 32) (c : Fin 512), y = ix2 a c := ⟨y 0, y 1, by blk_ext []⟩
    have e : (Rect.unit ![96, 0] ![32, 512] inb_S1024x512_S32x512_96_0).emb (ix2 a c) = ix2 (⟨96 + a.val, by omega⟩ : Fin 1024) c := by
      blk_ext []
    refine Eq.trans ?_ (congrArg G e).symm
    rw [← hG, blockQ_rest _ _ _ 0 a _ _ (by dsimp only; omega)]
    pointwise [k0_pay13]
  · intro y
    obtain ⟨a, c, rfl⟩ : ∃ (a : Fin 32) (c : Fin 512), y = ix2 a c := ⟨y 0, y 1, by blk_ext []⟩
    have e : (Rect.unit ![64, 0] ![32, 512] inb_S1024x512_S32x512_64_0).emb (ix2 a c) = ix2 (⟨64 + a.val, by omega⟩ : Fin 1024) c := by
      blk_ext []
    refine Eq.trans ?_ (congrArg G e).symm
    rw [← hG, blockQ_rope _ _ _ 0 a _ _ ⟨96 + a.val, by omega⟩ (by dsimp only; omega) (by dsimp only; omega)]
    pointwise [k0_pay12, k0_pay9, k0_pay10, scale]
  · intro y
    obtain ⟨a, c, rfl⟩ : ∃ (a : Fin 64) (c : Fin 512), y = ix2 a c := ⟨y 0, y 1, by blk_ext []⟩
    have e : (Rect.unit ![0, 0] ![64, 512] inb_S1024x512_S64x512_0_0).emb (ix2 a c) = ix2 (⟨0 + a.val, by omega⟩ : Fin 1024) c := by
      blk_ext []
    refine Eq.trans ?_ (congrArg G e).symm
    rw [← hG, blockQ_nope _ _ _ 0 a _ _ (by dsimp only; omega)]
    pointwise [k0_pay11, scale]

set_option maxHeartbeats 8000000 in
/-- The keys that a grid point leaves. -/
theorem opened_18 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1024x1792 .bf16) (harg9 : arg9.IsWhole) (arg10 : Memref sig .tc .vmem S1x384 .f32) (harg10 : arg10.IsWhole) (arg11 : Memref sig .tc .vmem S1024x384 .bf16) (harg11 : arg11.IsWhole) (arg12 : Memref sig .tc .vmem S1x256 .f32) (harg12 : arg12.IsWhole) (arg13 : Memref sig .tc .vmem S256x1024 .bf16) (harg13 : arg13.IsWhole) (arg14 : Memref sig .tc .vmem S512x256 .bf16) (harg14 : arg14.IsWhole) (arg15 : Memref sig .tc .vmem S1x128 .f32) (harg15 : arg15.IsWhole) (arg16 : Memref sig .tc .vmem S4x128x128 .bf16) (harg16 : arg16.IsWhole) (arg17 : Memref sig .tc .vmem S128x512 .f32) (harg17 : arg17.IsWhole) (arg18 : Memref sig .tc .vmem S1024x512 .bf16) (harg18 : arg18.IsWhole) (arg19 : Memref sig .tc .vmem S512x1024 .bf16) (harg19 : arg19.IsWhole) (arg20 : Memref sig .tc .vmem S640x512 .bf16) (harg20 : arg20.IsWhole) (arg21 : Memref sig .tc .vmem S512x512 .bf16) (harg21 : arg21.IsWhole)
    (x0 : Vec Ideal S512x1024 .f32) (x1 : Vec Ideal S1x1024 .f32) (x2 : Vec Ideal S1x1x1024 .f32) (x3 : Vec Ideal S1x1x1024 .f32) (x4 : Vec Ideal S512x128 .f32) (x5 : Vec Ideal S512x128 .f32) (x6 : Vec Ideal S32x512 .f32) (x7 : Vec Ideal S32x512 .f32) (x8 : Vec Ideal S1024x1792 .bf16) (x9 : Vec Ideal S1x384 .f32) (x10 : Vec Ideal S1024x384 .bf16) (x11 : Vec Ideal S1x256 .f32) (x12 : Vec Ideal S256x1024 .bf16) (x13 : Vec Ideal S512x256 .bf16) (x14 : Vec Ideal S1x128 .f32) (x15 : Vec Ideal S4x128x128 .bf16) (x16 : Vec Ideal S128x512 .f32) (l : Fin 512) (r : Fin 1024) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 (ix2 l r) = blockK (k0_pay39 (k0_pay4 x0 x1 x3 x2 x8) x11 x12) (k0_pay40 (k0_pay4 x0 x1 x3 x2 x8) x4 x5) (ix2 l r) := by
  frame_open
  simp (disch := decide) only [↓ View.readCov_skip, ↓ View.readCov_cons_toLoadRect, View.read_writes_junk_eq_canon]
  simp only [View.readAt_eq_ld, Memref.IsWhole.read_unread]
  simp (disch := decide) only [View.ld_unit_lit']
  generalize hG : blockK (k0_pay39 (k0_pay4 x0 x1 x3 x2 x8) x11 x12) (k0_pay40 (k0_pay4 x0 x1 x3 x2 x8) x4 x5) = G
  refine canon_of G _ ?_ _ (View.cover_of_tiledBy _ ![512, 128] (by sl_kernel_rfl) _)
  refine ⟨?_, ?_, ?_, ?_, ?_, ?_, ?_, ?_, trivial⟩
  · intro y
    obtain ⟨a, c, rfl⟩ : ∃ (a : Fin 512) (c : Fin 128), y = ix2 a c := ⟨y 0, y 1, by blk_ext []⟩
    have e : (Rect.unit ![0, 896] ![512, 128] inb_S512x1024_S512x128_0_896).emb (ix2 a c) = ix2 a (⟨896 + c.val, by omega⟩ : Fin 1024) := by
      blk_ext []
    refine Eq.trans ?_ (congrArg G e).symm
    have ec : (⟨(896 + c.val) % 128, by omega⟩ : Fin 128) = c := Fin.ext (by dsimp only; omega)
    rw [← hG]
    show _ = (k0_pay39 (F := Ideal) _ _ _ (ix2 a (⟨896 + c.val, _⟩ : Fin 1024)) : EReal) + (k0_pay40 (F := Ideal) _ _ _ (ix2 a (⟨(896 + c.val) % 128, _⟩ : Fin 128)) : EReal)
    rw [ec]
    pointwise [k0_pay48]
  · intro y
    obtain ⟨a, c, rfl⟩ : ∃ (a : Fin 512) (c : Fin 128), y = ix2 a c := ⟨y 0, y 1, by blk_ext []⟩
    have e : (Rect.unit ![0, 768] ![512, 128] inb_S512x1024_S512x128_0_768).emb (ix2 a c) = ix2 a (⟨768 + c.val, by omega⟩ : Fin 1024) := by
      blk_ext []
    refine Eq.trans ?_ (congrArg G e).symm
    have ec : (⟨(768 + c.val) % 128, by omega⟩ : Fin 128) = c := Fin.ext (by dsimp only; omega)
    rw [← hG]
    show _ = (k0_pay39 (F := Ideal) _ _ _ (ix2 a (⟨768 + c.val, _⟩ : Fin 1024)) : EReal) + (k0_pay40 (F := Ideal) _ _ _ (ix2 a (⟨(768 + c.val) % 128, _⟩ : Fin 128)) : EReal)
    rw [ec]
    pointwise [k0_pay47]
  · intro y
    obtain ⟨a, c, rfl⟩ : ∃ (a : Fin 512) (c : Fin 128), y = ix2 a c := ⟨y 0, y 1, by blk_ext []⟩
    have e : (Rect.unit ![0, 640] ![512, 128] inb_S512x1024_S512x128_0_640).emb (ix2 a c) = ix2 a (⟨640 + c.val, by omega⟩ : Fin 1024) := by
      blk_ext []
    refine Eq.trans ?_ (congrArg G e).symm
    have ec : (⟨(640 + c.val) % 128, by omega⟩ : Fin 128) = c := Fin.ext (by dsimp only; omega)
    rw [← hG]
    show _ = (k0_pay39 (F := Ideal) _ _ _ (ix2 a (⟨640 + c.val, _⟩ : Fin 1024)) : EReal) + (k0_pay40 (F := Ideal) _ _ _ (ix2 a (⟨(640 + c.val) % 128, _⟩ : Fin 128)) : EReal)
    rw [ec]
    pointwise [k0_pay46]
  · intro y
    obtain ⟨a, c, rfl⟩ : ∃ (a : Fin 512) (c : Fin 128), y = ix2 a c := ⟨y 0, y 1, by blk_ext []⟩
    have e : (Rect.unit ![0, 512] ![512, 128] inb_S512x1024_S512x128_0_512).emb (ix2 a c) = ix2 a (⟨512 + c.val, by omega⟩ : Fin 1024) := by
      blk_ext []
    refine Eq.trans ?_ (congrArg G e).symm
    have ec : (⟨(512 + c.val) % 128, by omega⟩ : Fin 128) = c := Fin.ext (by dsimp only; omega)
    rw [← hG]
    show _ = (k0_pay39 (F := Ideal) _ _ _ (ix2 a (⟨512 + c.val, _⟩ : Fin 1024)) : EReal) + (k0_pay40 (F := Ideal) _ _ _ (ix2 a (⟨(512 + c.val) % 128, _⟩ : Fin 128)) : EReal)
    rw [ec]
    pointwise [k0_pay45]
  · intro y
    obtain ⟨a, c, rfl⟩ : ∃ (a : Fin 512) (c : Fin 128), y = ix2 a c := ⟨y 0, y 1, by blk_ext []⟩
    have e : (Rect.unit ![0, 384] ![512, 128] inb_S512x1024_S512x128_0_384).emb (ix2 a c) = ix2 a (⟨384 + c.val, by omega⟩ : Fin 1024) := by
      blk_ext []
    refine Eq.trans ?_ (congrArg G e).symm
    have ec : (⟨(384 + c.val) % 128, by omega⟩ : Fin 128) = c := Fin.ext (by dsimp only; omega)
    rw [← hG]
    show _ = (k0_pay39 (F := Ideal) _ _ _ (ix2 a (⟨384 + c.val, _⟩ : Fin 1024)) : EReal) + (k0_pay40 (F := Ideal) _ _ _ (ix2 a (⟨(384 + c.val) % 128, _⟩ : Fin 128)) : EReal)
    rw [ec]
    pointwise [k0_pay44]
  · intro y
    obtain ⟨a, c, rfl⟩ : ∃ (a : Fin 512) (c : Fin 128), y = ix2 a c := ⟨y 0, y 1, by blk_ext []⟩
    have e : (Rect.unit ![0, 256] ![512, 128] inb_S512x1024_S512x128_0_256).emb (ix2 a c) = ix2 a (⟨256 + c.val, by omega⟩ : Fin 1024) := by
      blk_ext []
    refine Eq.trans ?_ (congrArg G e).symm
    have ec : (⟨(256 + c.val) % 128, by omega⟩ : Fin 128) = c := Fin.ext (by dsimp only; omega)
    rw [← hG]
    show _ = (k0_pay39 (F := Ideal) _ _ _ (ix2 a (⟨256 + c.val, _⟩ : Fin 1024)) : EReal) + (k0_pay40 (F := Ideal) _ _ _ (ix2 a (⟨(256 + c.val) % 128, _⟩ : Fin 128)) : EReal)
    rw [ec]
    pointwise [k0_pay43]
  · intro y
    obtain ⟨a, c, rfl⟩ : ∃ (a : Fin 512) (c : Fin 128), y = ix2 a c := ⟨y 0, y 1, by blk_ext []⟩
    have e : (Rect.unit ![0, 128] ![512, 128] inb_S512x1024_S512x128_0_128).emb (ix2 a c) = ix2 a (⟨128 + c.val, by omega⟩ : Fin 1024) := by
      blk_ext []
    refine Eq.trans ?_ (congrArg G e).symm
    have ec : (⟨(128 + c.val) % 128, by omega⟩ : Fin 128) = c := Fin.ext (by dsimp only; omega)
    rw [← hG]
    show _ = (k0_pay39 (F := Ideal) _ _ _ (ix2 a (⟨128 + c.val, _⟩ : Fin 1024)) : EReal) + (k0_pay40 (F := Ideal) _ _ _ (ix2 a (⟨(128 + c.val) % 128, _⟩ : Fin 128)) : EReal)
    rw [ec]
    pointwise [k0_pay42]
  · intro y
    obtain ⟨a, c, rfl⟩ : ∃ (a : Fin 512) (c : Fin 128), y = ix2 a c := ⟨y 0, y 1, by blk_ext []⟩
    have e : (Rect.unit ![0, 0] ![512, 128] inb_S512x1024_S512x128_0_0).emb (ix2 a c) = ix2 a (⟨0 + c.val, by omega⟩ : Fin 1024) := by
      blk_ext []
    refine Eq.trans ?_ (congrArg G e).symm
    have ec : (⟨(0 + c.val) % 128, by omega⟩ : Fin 128) = c := Fin.ext (by dsimp only; omega)
    rw [← hG]
    show _ = (k0_pay39 (F := Ideal) _ _ _ (ix2 a (⟨0 + c.val, _⟩ : Fin 1024)) : EReal) + (k0_pay40 (F := Ideal) _ _ _ (ix2 a (⟨(0 + c.val) % 128, _⟩ : Fin 128)) : EReal)
    rw [ec]
    pointwise [k0_pay41]

set_option maxHeartbeats 8000000 in
/-- The values that a grid point leaves. -/
theorem opened_19 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1024x1792 .bf16) (harg9 : arg9.IsWhole) (arg10 : Memref sig .tc .vmem S1x384 .f32) (harg10 : arg10.IsWhole) (arg11 : Memref sig .tc .vmem S1024x384 .bf16) (harg11 : arg11.IsWhole) (arg12 : Memref sig .tc .vmem S1x256 .f32) (harg12 : arg12.IsWhole) (arg13 : Memref sig .tc .vmem S256x1024 .bf16) (harg13 : arg13.IsWhole) (arg14 : Memref sig .tc .vmem S512x256 .bf16) (harg14 : arg14.IsWhole) (arg15 : Memref sig .tc .vmem S1x128 .f32) (harg15 : arg15.IsWhole) (arg16 : Memref sig .tc .vmem S4x128x128 .bf16) (harg16 : arg16.IsWhole) (arg17 : Memref sig .tc .vmem S128x512 .f32) (harg17 : arg17.IsWhole) (arg18 : Memref sig .tc .vmem S1024x512 .bf16) (harg18 : arg18.IsWhole) (arg19 : Memref sig .tc .vmem S512x1024 .bf16) (harg19 : arg19.IsWhole) (arg20 : Memref sig .tc .vmem S640x512 .bf16) (harg20 : arg20.IsWhole) (arg21 : Memref sig .tc .vmem S512x512 .bf16) (harg21 : arg21.IsWhole)
    (x0 : Vec Ideal S512x1024 .f32) (x1 : Vec Ideal S1x1024 .f32) (x2 : Vec Ideal S1x1x1024 .f32) (x3 : Vec Ideal S1x1x1024 .f32) (x4 : Vec Ideal S512x128 .f32) (x5 : Vec Ideal S512x128 .f32) (x6 : Vec Ideal S32x512 .f32) (x7 : Vec Ideal S32x512 .f32) (x8 : Vec Ideal S1024x1792 .bf16) (x9 : Vec Ideal S1x384 .f32) (x10 : Vec Ideal S1024x384 .bf16) (x11 : Vec Ideal S1x256 .f32) (x12 : Vec Ideal S256x1024 .bf16) (x13 : Vec Ideal S512x256 .bf16) (x14 : Vec Ideal S1x128 .f32) (x15 : Vec Ideal S4x128x128 .bf16) (x16 : Vec Ideal S128x512 .f32) (l : Fin 640) (r : Fin 512) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 (ix2 l r) = blockV (k0_pay49 (k0_pay38 (k0_pay4 x0 x1 x3 x2 x8) x11) x13) (ix2 l r) := by
  frame_open
  simp (disch := decide) only [↓ View.readCov_skip, ↓ View.readCov_cons_toLoadRect, View.read_writes_junk_eq_canon]
  simp only [View.readAt_eq_ld, Memref.IsWhole.read_unread]
  simp (disch := decide) only [View.ld_unit_lit']
  generalize hG : blockV (k0_pay49 (k0_pay38 (k0_pay4 x0 x1 x3 x2 x8) x11) x13) = G
  refine canon_of G _ ?_ _ (View.cover_of_tiledBy _ ![16, 512] (by sl_kernel_rfl) _)
  refine ⟨?_, ?_, ?_, ?_, ?_, ?_, ?_, ?_, ?_, ?_, ?_, ?_, ?_, ?_, ?_, ?_, trivial⟩
  · intro y
    obtain ⟨a, c, rfl⟩ : ∃ (a : Fin 16) (c : Fin 512), y = ix2 a c := ⟨y 0, y 1, by blk_ext []⟩
    have e : (Rect.unit ![624, 0] ![16, 512] inb_S640x512_S16x512_624_0).emb (ix2 a c) = ix2 (⟨624 + a.val, by omega⟩ : Fin 640) c := by
      blk_ext []
    refine Eq.trans ?_ (congrArg G e).symm
    rw [← hG, blockV_one _ 7 a _ _ (by dsimp only; omega)]
    pointwise [k0_pay65]
  · intro y
    obtain ⟨a, c, rfl⟩ : ∃ (a : Fin 64) (c : Fin 512), y = ix2 a c := ⟨y 0, y 1, by blk_ext []⟩
    have e : (Rect.unit ![560, 0] ![64, 512] inb_S640x512_S64x512_560_0).emb (ix2 a c) = ix2 (⟨560 + a.val, by omega⟩ : Fin 640) c := by
      blk_ext []
    refine Eq.trans ?_ (congrArg G e).symm
    rw [← hG, blockV_val _ 7 a _ _ ⟨448 + a.val, by omega⟩ (by dsimp only; omega) (by dsimp only; omega)]
    pointwise [k0_pay64]
  · intro y
    obtain ⟨a, c, rfl⟩ : ∃ (a : Fin 16) (c : Fin 512), y = ix2 a c := ⟨y 0, y 1, by blk_ext []⟩
    have e : (Rect.unit ![544, 0] ![16, 512] inb_S640x512_S16x512_544_0).emb (ix2 a c) = ix2 (⟨544 + a.val, by omega⟩ : Fin 640) c := by
      blk_ext []
    refine Eq.trans ?_ (congrArg G e).symm
    rw [← hG, blockV_one _ 6 a _ _ (by dsimp only; omega)]
    pointwise [k0_pay63]
  · intro y
    obtain ⟨a, c, rfl⟩ : ∃ (a : Fin 64) (c : Fin 512), y = ix2 a c := ⟨y 0, y 1, by blk_ext []⟩
    have e : (Rect.unit ![480, 0] ![64, 512] inb_S640x512_S64x512_480_0).emb (ix2 a c) = ix2 (⟨480 + a.val, by omega⟩ : Fin 640) c := by
      blk_ext []
    refine Eq.trans ?_ (congrArg G e).symm
    rw [← hG, blockV_val _ 6 a _ _ ⟨384 + a.val, by omega⟩ (by dsimp only; omega) (by dsimp only; omega)]
    pointwise [k0_pay62]
  · intro y
    obtain ⟨a, c, rfl⟩ : ∃ (a : Fin 16) (c : Fin 512), y = ix2 a c := ⟨y 0, y 1, by blk_ext []⟩
    have e : (Rect.unit ![464, 0] ![16, 512] inb_S640x512_S16x512_464_0).emb (ix2 a c) = ix2 (⟨464 + a.val, by omega⟩ : Fin 640) c := by
      blk_ext []
    refine Eq.trans ?_ (congrArg G e).symm
    rw [← hG, blockV_one _ 5 a _ _ (by dsimp only; omega)]
    pointwise [k0_pay61]
  · intro y
    obtain ⟨a, c, rfl⟩ : ∃ (a : Fin 64) (c : Fin 512), y = ix2 a c := ⟨y 0, y 1, by blk_ext []⟩
    have e : (Rect.unit ![400, 0] ![64, 512] inb_S640x512_S64x512_400_0).emb (ix2 a c) = ix2 (⟨400 + a.val, by omega⟩ : Fin 640) c := by
      blk_ext []
    refine Eq.trans ?_ (congrArg G e).symm
    rw [← hG, blockV_val _ 5 a _ _ ⟨320 + a.val, by omega⟩ (by dsimp only; omega) (by dsimp only; omega)]
    pointwise [k0_pay60]
  · intro y
    obtain ⟨a, c, rfl⟩ : ∃ (a : Fin 16) (c : Fin 512), y = ix2 a c := ⟨y 0, y 1, by blk_ext []⟩
    have e : (Rect.unit ![384, 0] ![16, 512] inb_S640x512_S16x512_384_0).emb (ix2 a c) = ix2 (⟨384 + a.val, by omega⟩ : Fin 640) c := by
      blk_ext []
    refine Eq.trans ?_ (congrArg G e).symm
    rw [← hG, blockV_one _ 4 a _ _ (by dsimp only; omega)]
    pointwise [k0_pay59]
  · intro y
    obtain ⟨a, c, rfl⟩ : ∃ (a : Fin 64) (c : Fin 512), y = ix2 a c := ⟨y 0, y 1, by blk_ext []⟩
    have e : (Rect.unit ![320, 0] ![64, 512] inb_S640x512_S64x512_320_0).emb (ix2 a c) = ix2 (⟨320 + a.val, by omega⟩ : Fin 640) c := by
      blk_ext []
    refine Eq.trans ?_ (congrArg G e).symm
    rw [← hG, blockV_val _ 4 a _ _ ⟨256 + a.val, by omega⟩ (by dsimp only; omega) (by dsimp only; omega)]
    pointwise [k0_pay58]
  · intro y
    obtain ⟨a, c, rfl⟩ : ∃ (a : Fin 16) (c : Fin 512), y = ix2 a c := ⟨y 0, y 1, by blk_ext []⟩
    have e : (Rect.unit ![304, 0] ![16, 512] inb_S640x512_S16x512_304_0).emb (ix2 a c) = ix2 (⟨304 + a.val, by omega⟩ : Fin 640) c := by
      blk_ext []
    refine Eq.trans ?_ (congrArg G e).symm
    rw [← hG, blockV_one _ 3 a _ _ (by dsimp only; omega)]
    pointwise [k0_pay57]
  · intro y
    obtain ⟨a, c, rfl⟩ : ∃ (a : Fin 64) (c : Fin 512), y = ix2 a c := ⟨y 0, y 1, by blk_ext []⟩
    have e : (Rect.unit ![240, 0] ![64, 512] inb_S640x512_S64x512_240_0).emb (ix2 a c) = ix2 (⟨240 + a.val, by omega⟩ : Fin 640) c := by
      blk_ext []
    refine Eq.trans ?_ (congrArg G e).symm
    rw [← hG, blockV_val _ 3 a _ _ ⟨192 + a.val, by omega⟩ (by dsimp only; omega) (by dsimp only; omega)]
    pointwise [k0_pay56]
  · intro y
    obtain ⟨a, c, rfl⟩ : ∃ (a : Fin 16) (c : Fin 512), y = ix2 a c := ⟨y 0, y 1, by blk_ext []⟩
    have e : (Rect.unit ![224, 0] ![16, 512] inb_S640x512_S16x512_224_0).emb (ix2 a c) = ix2 (⟨224 + a.val, by omega⟩ : Fin 640) c := by
      blk_ext []
    refine Eq.trans ?_ (congrArg G e).symm
    rw [← hG, blockV_one _ 2 a _ _ (by dsimp only; omega)]
    pointwise [k0_pay55]
  · intro y
    obtain ⟨a, c, rfl⟩ : ∃ (a : Fin 64) (c : Fin 512), y = ix2 a c := ⟨y 0, y 1, by blk_ext []⟩
    have e : (Rect.unit ![160, 0] ![64, 512] inb_S640x512_S64x512_160_0).emb (ix2 a c) = ix2 (⟨160 + a.val, by omega⟩ : Fin 640) c := by
      blk_ext []
    refine Eq.trans ?_ (congrArg G e).symm
    rw [← hG, blockV_val _ 2 a _ _ ⟨128 + a.val, by omega⟩ (by dsimp only; omega) (by dsimp only; omega)]
    pointwise [k0_pay54]
  · intro y
    obtain ⟨a, c, rfl⟩ : ∃ (a : Fin 16) (c : Fin 512), y = ix2 a c := ⟨y 0, y 1, by blk_ext []⟩
    have e : (Rect.unit ![144, 0] ![16, 512] inb_S640x512_S16x512_144_0).emb (ix2 a c) = ix2 (⟨144 + a.val, by omega⟩ : Fin 640) c := by
      blk_ext []
    refine Eq.trans ?_ (congrArg G e).symm
    rw [← hG, blockV_one _ 1 a _ _ (by dsimp only; omega)]
    pointwise [k0_pay53]
  · intro y
    obtain ⟨a, c, rfl⟩ : ∃ (a : Fin 64) (c : Fin 512), y = ix2 a c := ⟨y 0, y 1, by blk_ext []⟩
    have e : (Rect.unit ![80, 0] ![64, 512] inb_S640x512_S64x512_80_0).emb (ix2 a c) = ix2 (⟨80 + a.val, by omega⟩ : Fin 640) c := by
      blk_ext []
    refine Eq.trans ?_ (congrArg G e).symm
    rw [← hG, blockV_val _ 1 a _ _ ⟨64 + a.val, by omega⟩ (by dsimp only; omega) (by dsimp only; omega)]
    pointwise [k0_pay52]
  · intro y
    obtain ⟨a, c, rfl⟩ : ∃ (a : Fin 16) (c : Fin 512), y = ix2 a c := ⟨y 0, y 1, by blk_ext []⟩
    have e : (Rect.unit ![64, 0] ![16, 512] inb_S640x512_S16x512_64_0).emb (ix2 a c) = ix2 (⟨64 + a.val, by omega⟩ : Fin 640) c := by
      blk_ext []
    refine Eq.trans ?_ (congrArg G e).symm
    rw [← hG, blockV_one _ 0 a _ _ (by dsimp only; omega)]
    pointwise [k0_pay51]
  · intro y
    obtain ⟨a, c, rfl⟩ : ∃ (a : Fin 64) (c : Fin 512), y = ix2 a c := ⟨y 0, y 1, by blk_ext []⟩
    have e : (Rect.unit ![0, 0] ![64, 512] inb_S640x512_S64x512_0_0).emb (ix2 a c) = ix2 (⟨0 + a.val, by omega⟩ : Fin 640) c := by
      blk_ext []
    refine Eq.trans ?_ (congrArg G e).symm
    rw [← hG, blockV_val _ 0 a _ _ ⟨0 + a.val, by omega⟩ (by dsimp only; omega) (by dsimp only; omega)]
    pointwise [k0_pay50]

set_option maxHeartbeats 8000000 in
/-- The chunked gating that a grid point leaves. -/
theorem opened_20 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1024x1792 .bf16) (harg9 : arg9.IsWhole) (arg10 : Memref sig .tc .vmem S1x384 .f32) (harg10 : arg10.IsWhole) (arg11 : Memref sig .tc .vmem S1024x384 .bf16) (harg11 : arg11.IsWhole) (arg12 : Memref sig .tc .vmem S1x256 .f32) (harg12 : arg12.IsWhole) (arg13 : Memref sig .tc .vmem S256x1024 .bf16) (harg13 : arg13.IsWhole) (arg14 : Memref sig .tc .vmem S512x256 .bf16) (harg14 : arg14.IsWhole) (arg15 : Memref sig .tc .vmem S1x128 .f32) (harg15 : arg15.IsWhole) (arg16 : Memref sig .tc .vmem S4x128x128 .bf16) (harg16 : arg16.IsWhole) (arg17 : Memref sig .tc .vmem S128x512 .f32) (harg17 : arg17.IsWhole) (arg18 : Memref sig .tc .vmem S1024x512 .bf16) (harg18 : arg18.IsWhole) (arg19 : Memref sig .tc .vmem S512x1024 .bf16) (harg19 : arg19.IsWhole) (arg20 : Memref sig .tc .vmem S640x512 .bf16) (harg20 : arg20.IsWhole) (arg21 : Memref sig .tc .vmem S512x512 .bf16) (harg21 : arg21.IsWhole)
    (x0 : Vec Ideal S512x1024 .f32) (x1 : Vec Ideal S1x1024 .f32) (x2 : Vec Ideal S1x1x1024 .f32) (x3 : Vec Ideal S1x1x1024 .f32) (x4 : Vec Ideal S512x128 .f32) (x5 : Vec Ideal S512x128 .f32) (x6 : Vec Ideal S32x512 .f32) (x7 : Vec Ideal S32x512 .f32) (x8 : Vec Ideal S1024x1792 .bf16) (x9 : Vec Ideal S1x384 .f32) (x10 : Vec Ideal S1024x384 .bf16) (x11 : Vec Ideal S1x256 .f32) (x12 : Vec Ideal S256x1024 .bf16) (x13 : Vec Ideal S512x256 .bf16) (x14 : Vec Ideal S1x128 .f32) (x15 : Vec Ideal S4x128x128 .bf16) (x16 : Vec Ideal S128x512 .f32) (l : Fin 512) (r : Fin 512) :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 (ix2 l r) = blockM (k0_pay4 x0 x1 x3 x2 x8) x14 x15 x16 (ix2 l r) := by
  frame_open
  simp (disch := decide) only [↓ View.readCov_skip, ↓ View.readCov_cons_toLoadRect, View.read_writes_junk_eq_canon]
  simp only [View.readAt_eq_ld, Memref.IsWhole.read_unread]
  simp (disch := decide) only [View.ld_unit_lit']
  generalize hG : blockM (k0_pay4 x0 x1 x3 x2 x8) x14 x15 x16 = G
  refine canon_of G _ ?_ _ (View.cover_of_tiledBy _ ![128, 128] (by sl_kernel_rfl) _)
  refine ⟨?_, ?_, ?_, ?_, ?_, ?_, ?_, ?_, ?_, ?_, ?_, ?_, ?_, ?_, ?_, ?_, trivial⟩
  · intro y
    obtain ⟨a, c, rfl⟩ : ∃ (a : Fin 128) (c : Fin 128), y = ix2 a c := ⟨y 0, y 1, by blk_ext []⟩
    have e : (Rect.unit ![384, 384] ![128, 128] inb_S512x512_S128x128_384_384).emb (ix2 a c) = ix2 (⟨384 + a.val, by omega⟩ : Fin 512) (⟨384 + c.val, by omega⟩ : Fin 512) := by
      blk_ext []
    refine Eq.trans ?_ (congrArg G e).symm
    rw [← hG]
    refine Eq.trans ?_ (blockM_at _ _ _ _ 3 3 a c _ _ (by dsimp only; omega) (by dsimp only; omega) (k0_pay93 (k0_pay69 (k0_pay67 (k0_pay4 x0 x1 x3 x2 x8)) (k0_pay68 (k0_pay4 x0 x1 x3 x2 x8))) (k0_pay70 x14)) (fun l d => ?_) (fun s => ⟨384 + s.val, by omega⟩) (fun s => rfl) inb_S4x128x128_S1x128x128_3_0_0 _ (ld_ix2 x16 0 384 inb_S128x512_S128x128_0_384 a c _ _ (Nat.zero_add _) rfl))
    · pointwise [k0_pay3, k0_pay94]
    · exact vn_3 _ _ _ _
  · intro y
    obtain ⟨a, c, rfl⟩ : ∃ (a : Fin 128) (c : Fin 128), y = ix2 a c := ⟨y 0, y 1, by blk_ext []⟩
    have e : (Rect.unit ![256, 384] ![128, 128] inb_S512x512_S128x128_256_384).emb (ix2 a c) = ix2 (⟨256 + a.val, by omega⟩ : Fin 512) (⟨384 + c.val, by omega⟩ : Fin 512) := by
      blk_ext []
    refine Eq.trans ?_ (congrArg G e).symm
    rw [← hG]
    refine Eq.trans ?_ (blockM_at _ _ _ _ 2 3 a c _ _ (by dsimp only; omega) (by dsimp only; omega) (k0_pay93 (k0_pay69 (k0_pay67 (k0_pay4 x0 x1 x3 x2 x8)) (k0_pay68 (k0_pay4 x0 x1 x3 x2 x8))) (k0_pay70 x14)) (fun l d => ?_) (fun s => ⟨256 + s.val, by omega⟩) (fun s => rfl) inb_S4x128x128_S1x128x128_3_0_0 _ (ld_ix2 x16 0 384 inb_S128x512_S128x128_0_384 a c _ _ (Nat.zero_add _) rfl))
    · pointwise [k0_pay2, k0_pay94]
    · exact vn_3 _ _ _ _
  · intro y
    obtain ⟨a, c, rfl⟩ : ∃ (a : Fin 128) (c : Fin 128), y = ix2 a c := ⟨y 0, y 1, by blk_ext []⟩
    have e : (Rect.unit ![128, 384] ![128, 128] inb_S512x512_S128x128_128_384).emb (ix2 a c) = ix2 (⟨128 + a.val, by omega⟩ : Fin 512) (⟨384 + c.val, by omega⟩ : Fin 512) := by
      blk_ext []
    refine Eq.trans ?_ (congrArg G e).symm
    rw [← hG]
    refine Eq.trans ?_ (blockM_at _ _ _ _ 1 3 a c _ _ (by dsimp only; omega) (by dsimp only; omega) (k0_pay93 (k0_pay69 (k0_pay67 (k0_pay4 x0 x1 x3 x2 x8)) (k0_pay68 (k0_pay4 x0 x1 x3 x2 x8))) (k0_pay70 x14)) (fun l d => ?_) (fun s => ⟨128 + s.val, by omega⟩) (fun s => rfl) inb_S4x128x128_S1x128x128_3_0_0 _ (ld_ix2 x16 0 384 inb_S128x512_S128x128_0_384 a c _ _ (Nat.zero_add _) rfl))
    · pointwise [k0_pay1, k0_pay97, k0_pay96, k0_pay94]
    · exact vn_3 _ _ _ _
  · intro y
    obtain ⟨a, c, rfl⟩ : ∃ (a : Fin 128) (c : Fin 128), y = ix2 a c := ⟨y 0, y 1, by blk_ext []⟩
    have e : (Rect.unit ![0, 384] ![128, 128] inb_S512x512_S128x128_0_384).emb (ix2 a c) = ix2 (⟨0 + a.val, by omega⟩ : Fin 512) (⟨384 + c.val, by omega⟩ : Fin 512) := by
      blk_ext []
    refine Eq.trans ?_ (congrArg G e).symm
    rw [← hG]
    refine Eq.trans ?_ (blockM_at _ _ _ _ 0 3 a c _ _ (by dsimp only; omega) (by dsimp only; omega) (k0_pay93 (k0_pay69 (k0_pay67 (k0_pay4 x0 x1 x3 x2 x8)) (k0_pay68 (k0_pay4 x0 x1 x3 x2 x8))) (k0_pay70 x14)) (fun l d => ?_) (fun s => ⟨0 + s.val, by omega⟩) (fun s => rfl) inb_S4x128x128_S1x128x128_3_0_0 _ (ld_ix2 x16 0 384 inb_S128x512_S128x128_0_384 a c _ _ (Nat.zero_add _) rfl))
    · pointwise [k0_pay95, k0_pay94]
    · exact vn_3 _ _ _ _
  · intro y
    obtain ⟨a, c, rfl⟩ : ∃ (a : Fin 128) (c : Fin 128), y = ix2 a c := ⟨y 0, y 1, by blk_ext []⟩
    have e : (Rect.unit ![384, 256] ![128, 128] inb_S512x512_S128x128_384_256).emb (ix2 a c) = ix2 (⟨384 + a.val, by omega⟩ : Fin 512) (⟨256 + c.val, by omega⟩ : Fin 512) := by
      blk_ext []
    refine Eq.trans ?_ (congrArg G e).symm
    rw [← hG]
    refine Eq.trans ?_ (blockM_at _ _ _ _ 3 2 a c _ _ (by dsimp only; omega) (by dsimp only; omega) (k0_pay86 (k0_pay70 x14) (k0_pay84 (k0_pay69 (k0_pay67 (k0_pay4 x0 x1 x3 x2 x8)) (k0_pay68 (k0_pay4 x0 x1 x3 x2 x8)))) (k0_pay85 (k0_pay69 (k0_pay67 (k0_pay4 x0 x1 x3 x2 x8)) (k0_pay68 (k0_pay4 x0 x1 x3 x2 x8))))) (fun l d => ?_) (fun s => ⟨384 + s.val, by omega⟩) (fun s => rfl) inb_S4x128x128_S1x128x128_2_0_0 _ (ld_ix2 x16 0 256 inb_S128x512_S128x128_0_256 a c _ _ (Nat.zero_add _) rfl))
    · pointwise [k0_pay92, k0_pay91, k0_pay87]
    · exact vn_2 _ _ _ _
  · intro y
    obtain ⟨a, c, rfl⟩ : ∃ (a : Fin 128) (c : Fin 128), y = ix2 a c := ⟨y 0, y 1, by blk_ext []⟩
    have e : (Rect.unit ![256, 256] ![128, 128] inb_S512x512_S128x128_256_256).emb (ix2 a c) = ix2 (⟨256 + a.val, by omega⟩ : Fin 512) (⟨256 + c.val, by omega⟩ : Fin 512) := by
      blk_ext []
    refine Eq.trans ?_ (congrArg G e).symm
    rw [← hG]
    refine Eq.trans ?_ (blockM_at _ _ _ _ 2 2 a c _ _ (by dsimp only; omega) (by dsimp only; omega) (k0_pay86 (k0_pay70 x14) (k0_pay84 (k0_pay69 (k0_pay67 (k0_pay4 x0 x1 x3 x2 x8)) (k0_pay68 (k0_pay4 x0 x1 x3 x2 x8)))) (k0_pay85 (k0_pay69 (k0_pay67 (k0_pay4 x0 x1 x3 x2 x8)) (k0_pay68 (k0_pay4 x0 x1 x3 x2 x8))))) (fun l d => ?_) (fun s => ⟨256 + s.val, by omega⟩) (fun s => rfl) inb_S4x128x128_S1x128x128_2_0_0 _ (ld_ix2 x16 0 256 inb_S128x512_S128x128_0_256 a c _ _ (Nat.zero_add _) rfl))
    · pointwise [k0_pay90, k0_pay87]
    · exact vn_2 _ _ _ _
  · intro y
    obtain ⟨a, c, rfl⟩ : ∃ (a : Fin 128) (c : Fin 128), y = ix2 a c := ⟨y 0, y 1, by blk_ext []⟩
    have e : (Rect.unit ![128, 256] ![128, 128] inb_S512x512_S128x128_128_256).emb (ix2 a c) = ix2 (⟨128 + a.val, by omega⟩ : Fin 512) (⟨256 + c.val, by omega⟩ : Fin 512) := by
      blk_ext []
    refine Eq.trans ?_ (congrArg G e).symm
    rw [← hG]
    refine Eq.trans ?_ (blockM_at _ _ _ _ 1 2 a c _ _ (by dsimp only; omega) (by dsimp only; omega) (k0_pay86 (k0_pay70 x14) (k0_pay84 (k0_pay69 (k0_pay67 (k0_pay4 x0 x1 x3 x2 x8)) (k0_pay68 (k0_pay4 x0 x1 x3 x2 x8)))) (k0_pay85 (k0_pay69 (k0_pay67 (k0_pay4 x0 x1 x3 x2 x8)) (k0_pay68 (k0_pay4 x0 x1 x3 x2 x8))))) (fun l d => ?_) (fun s => ⟨128 + s.val, by omega⟩) (fun s => rfl) inb_S4x128x128_S1x128x128_2_0_0 _ (ld_ix2 x16 0 256 inb_S128x512_S128x128_0_256 a c _ _ (Nat.zero_add _) rfl))
    · pointwise [k0_pay89, k0_pay87]
    · exact vn_2 _ _ _ _
  · intro y
    obtain ⟨a, c, rfl⟩ : ∃ (a : Fin 128) (c : Fin 128), y = ix2 a c := ⟨y 0, y 1, by blk_ext []⟩
    have e : (Rect.unit ![0, 256] ![128, 128] inb_S512x512_S128x128_0_256).emb (ix2 a c) = ix2 (⟨0 + a.val, by omega⟩ : Fin 512) (⟨256 + c.val, by omega⟩ : Fin 512) := by
      blk_ext []
    refine Eq.trans ?_ (congrArg G e).symm
    rw [← hG]
    refine Eq.trans ?_ (blockM_at _ _ _ _ 0 2 a c _ _ (by dsimp only; omega) (by dsimp only; omega) (k0_pay86 (k0_pay70 x14) (k0_pay84 (k0_pay69 (k0_pay67 (k0_pay4 x0 x1 x3 x2 x8)) (k0_pay68 (k0_pay4 x0 x1 x3 x2 x8)))) (k0_pay85 (k0_pay69 (k0_pay67 (k0_pay4 x0 x1 x3 x2 x8)) (k0_pay68 (k0_pay4 x0 x1 x3 x2 x8))))) (fun l d => ?_) (fun s => ⟨0 + s.val, by omega⟩) (fun s => rfl) inb_S4x128x128_S1x128x128_2_0_0 _ (ld_ix2 x16 0 256 inb_S128x512_S128x128_0_256 a c _ _ (Nat.zero_add _) rfl))
    · pointwise [k0_pay88, k0_pay87]
    · exact vn_2 _ _ _ _
  · intro y
    obtain ⟨a, c, rfl⟩ : ∃ (a : Fin 128) (c : Fin 128), y = ix2 a c := ⟨y 0, y 1, by blk_ext []⟩
    have e : (Rect.unit ![384, 128] ![128, 128] inb_S512x512_S128x128_384_128).emb (ix2 a c) = ix2 (⟨384 + a.val, by omega⟩ : Fin 512) (⟨128 + c.val, by omega⟩ : Fin 512) := by
      blk_ext []
    refine Eq.trans ?_ (congrArg G e).symm
    rw [← hG]
    refine Eq.trans ?_ (blockM_at _ _ _ _ 3 1 a c _ _ (by dsimp only; omega) (by dsimp only; omega) (k0_pay77 (k0_pay69 (k0_pay67 (k0_pay4 x0 x1 x3 x2 x8)) (k0_pay68 (k0_pay4 x0 x1 x3 x2 x8))) (k0_pay70 x14)) (fun l d => ?_) (fun s => ⟨384 + s.val, by omega⟩) (fun s => rfl) inb_S4x128x128_S1x128x128_1_0_0 _ (ld_ix2 x16 0 128 inb_S128x512_S128x128_0_128 a c _ _ (Nat.zero_add _) rfl))
    · pointwise [k0_pay83, k0_pay78]
    · exact vn_1 _ _ _ _
  · intro y
    obtain ⟨a, c, rfl⟩ : ∃ (a : Fin 128) (c : Fin 128), y = ix2 a c := ⟨y 0, y 1, by blk_ext []⟩
    have e : (Rect.unit ![256, 128] ![128, 128] inb_S512x512_S128x128_256_128).emb (ix2 a c) = ix2 (⟨256 + a.val, by omega⟩ : Fin 512) (⟨128 + c.val, by omega⟩ : Fin 512) := by
      blk_ext []
    refine Eq.trans ?_ (congrArg G e).symm
    rw [← hG]
    refine Eq.trans ?_ (blockM_at _ _ _ _ 2 1 a c _ _ (by dsimp only; omega) (by dsimp only; omega) (k0_pay77 (k0_pay69 (k0_pay67 (k0_pay4 x0 x1 x3 x2 x8)) (k0_pay68 (k0_pay4 x0 x1 x3 x2 x8))) (k0_pay70 x14)) (fun l d => ?_) (fun s => ⟨256 + s.val, by omega⟩) (fun s => rfl) inb_S4x128x128_S1x128x128_1_0_0 _ (ld_ix2 x16 0 128 inb_S128x512_S128x128_0_128 a c _ _ (Nat.zero_add _) rfl))
    · pointwise [k0_pay82, k0_pay78]
    · exact vn_1 _ _ _ _
  · intro y
    obtain ⟨a, c, rfl⟩ : ∃ (a : Fin 128) (c : Fin 128), y = ix2 a c := ⟨y 0, y 1, by blk_ext []⟩
    have e : (Rect.unit ![128, 128] ![128, 128] inb_S512x512_S128x128_128_128).emb (ix2 a c) = ix2 (⟨128 + a.val, by omega⟩ : Fin 512) (⟨128 + c.val, by omega⟩ : Fin 512) := by
      blk_ext []
    refine Eq.trans ?_ (congrArg G e).symm
    rw [← hG]
    refine Eq.trans ?_ (blockM_at _ _ _ _ 1 1 a c _ _ (by dsimp only; omega) (by dsimp only; omega) (k0_pay77 (k0_pay69 (k0_pay67 (k0_pay4 x0 x1 x3 x2 x8)) (k0_pay68 (k0_pay4 x0 x1 x3 x2 x8))) (k0_pay70 x14)) (fun l d => ?_) (fun s => ⟨128 + s.val, by omega⟩) (fun s => rfl) inb_S4x128x128_S1x128x128_1_0_0 _ (ld_ix2 x16 0 128 inb_S128x512_S128x128_0_128 a c _ _ (Nat.zero_add _) rfl))
    · pointwise [k0_pay81, k0_pay78]
    · exact vn_1 _ _ _ _
  · intro y
    obtain ⟨a, c, rfl⟩ : ∃ (a : Fin 128) (c : Fin 128), y = ix2 a c := ⟨y 0, y 1, by blk_ext []⟩
    have e : (Rect.unit ![0, 128] ![128, 128] inb_S512x512_S128x128_0_128).emb (ix2 a c) = ix2 (⟨0 + a.val, by omega⟩ : Fin 512) (⟨128 + c.val, by omega⟩ : Fin 512) := by
      blk_ext []
    refine Eq.trans ?_ (congrArg G e).symm
    rw [← hG]
    refine Eq.trans ?_ (blockM_at _ _ _ _ 0 1 a c _ _ (by dsimp only; omega) (by dsimp only; omega) (k0_pay77 (k0_pay69 (k0_pay67 (k0_pay4 x0 x1 x3 x2 x8)) (k0_pay68 (k0_pay4 x0 x1 x3 x2 x8))) (k0_pay70 x14)) (fun l d => ?_) (fun s => ⟨0 + s.val, by omega⟩) (fun s => rfl) inb_S4x128x128_S1x128x128_1_0_0 _ (ld_ix2 x16 0 128 inb_S128x512_S128x128_0_128 a c _ _ (Nat.zero_add _) rfl))
    · pointwise [k0_pay80, k0_pay79, k0_pay78]
    · exact vn_1 _ _ _ _
  · intro y
    obtain ⟨a, c, rfl⟩ : ∃ (a : Fin 128) (c : Fin 128), y = ix2 a c := ⟨y 0, y 1, by blk_ext []⟩
    have e : (Rect.unit ![384, 0] ![128, 128] inb_S512x512_S128x128_384_0).emb (ix2 a c) = ix2 (⟨384 + a.val, by omega⟩ : Fin 512) (⟨0 + c.val, by omega⟩ : Fin 512) := by
      blk_ext []
    refine Eq.trans ?_ (congrArg G e).symm
    rw [← hG]
    refine Eq.trans ?_ (blockM_at _ _ _ _ 3 0 a c _ _ (by dsimp only; omega) (by dsimp only; omega) (k0_pay71 (k0_pay67 (k0_pay4 x0 x1 x3 x2 x8)) (k0_pay68 (k0_pay4 x0 x1 x3 x2 x8)) x14) (fun l d => ?_) (fun s => ⟨384 + s.val, by omega⟩) (fun s => rfl) inb_S4x128x128_S1x128x128_0_0_0 _ (ld_ix2 x16 0 0 inb_S128x512_S128x128_0_0 a c _ _ (Nat.zero_add _) rfl))
    · pointwise [k0_pay76, k0_pay72]
    · exact vn_0 _ _ _ _ _
  · intro y
    obtain ⟨a, c, rfl⟩ : ∃ (a : Fin 128) (c : Fin 128), y = ix2 a c := ⟨y 0, y 1, by blk_ext []⟩
    have e : (Rect.unit ![256, 0] ![128, 128] inb_S512x512_S128x128_256_0).emb (ix2 a c) = ix2 (⟨256 + a.val, by omega⟩ : Fin 512) (⟨0 + c.val, by omega⟩ : Fin 512) := by
      blk_ext []
    refine Eq.trans ?_ (congrArg G e).symm
    rw [← hG]
    refine Eq.trans ?_ (blockM_at _ _ _ _ 2 0 a c _ _ (by dsimp only; omega) (by dsimp only; omega) (k0_pay71 (k0_pay67 (k0_pay4 x0 x1 x3 x2 x8)) (k0_pay68 (k0_pay4 x0 x1 x3 x2 x8)) x14) (fun l d => ?_) (fun s => ⟨256 + s.val, by omega⟩) (fun s => rfl) inb_S4x128x128_S1x128x128_0_0_0 _ (ld_ix2 x16 0 0 inb_S128x512_S128x128_0_0 a c _ _ (Nat.zero_add _) rfl))
    · pointwise [k0_pay75, k0_pay72]
    · exact vn_0 _ _ _ _ _
  · intro y
    obtain ⟨a, c, rfl⟩ : ∃ (a : Fin 128) (c : Fin 128), y = ix2 a c := ⟨y 0, y 1, by blk_ext []⟩
    have e : (Rect.unit ![128, 0] ![128, 128] inb_S512x512_S128x128_128_0).emb (ix2 a c) = ix2 (⟨128 + a.val, by omega⟩ : Fin 512) (⟨0 + c.val, by omega⟩ : Fin 512) := by
      blk_ext []
    refine Eq.trans ?_ (congrArg G e).symm
    rw [← hG]
    refine Eq.trans ?_ (blockM_at _ _ _ _ 1 0 a c _ _ (by dsimp only; omega) (by dsimp only; omega) (k0_pay71 (k0_pay67 (k0_pay4 x0 x1 x3 x2 x8)) (k0_pay68 (k0_pay4 x0 x1 x3 x2 x8)) x14) (fun l d => ?_) (fun s => ⟨128 + s.val, by omega⟩) (fun s => rfl) inb_S4x128x128_S1x128x128_0_0_0 _ (ld_ix2 x16 0 0 inb_S128x512_S128x128_0_0 a c _ _ (Nat.zero_add _) rfl))
    · pointwise [k0_pay74, k0_pay72]
    · exact vn_0 _ _ _ _ _
  · intro y
    obtain ⟨a, c, rfl⟩ : ∃ (a : Fin 128) (c : Fin 128), y = ix2 a c := ⟨y 0, y 1, by blk_ext []⟩
    have e : (Rect.unit ![0, 0] ![128, 128] inb_S512x512_S128x128_0_0).emb (ix2 a c) = ix2 (⟨0 + a.val, by omega⟩ : Fin 512) (⟨0 + c.val, by omega⟩ : Fin 512) := by
      blk_ext []
    refine Eq.trans ?_ (congrArg G e).symm
    rw [← hG]
    refine Eq.trans ?_ (blockM_at _ _ _ _ 0 0 a c _ _ (by dsimp only; omega) (by dsimp only; omega) (k0_pay71 (k0_pay67 (k0_pay4 x0 x1 x3 x2 x8)) (k0_pay68 (k0_pay4 x0 x1 x3 x2 x8)) x14) (fun l d => ?_) (fun s => ⟨0 + s.val, by omega⟩) (fun s => rfl) inb_S4x128x128_S1x128x128_0_0_0 _ (ld_ix2 x16 0 0 inb_S128x512_S128x128_0_0 a c _ _ (Nat.zero_add _) rfl))
    · pointwise [k0_pay73, k0_pay72]
    · exact vn_0 _ _ _ _ _

end Cert.Kernel6Ideal.In
-- ==== Proof.InPoint.lean ====
module

public import proofs.«01_k».proof.Proof.InBlock
public import Idealize.ShloMosaic.Lib.StableHlo.RunRead
public import Idealize.ShloMosaic.Lib.Pointwise

@[expose] public section

set_option maxRecDepth 16384

noncomputable section

/-! The blocks that a grid point of the even layers' projections reads, from the arguments. -/

namespace Cert.Kernel6Ideal.In

open Cert.Kernel6Ideal Cert.Kernel6Ideal.Gen Idealize.ShloMosaic Idealize.ShloMosaic.TcCoe Cert.Post Cert.In

/-- The rotary frequencies. -/
def freq : FVec Ideal S8 .f32 :=
  Host.powf (broadcastInDim S8 ![] bcast_S_S8 (constant S_ .f32 0x461C4000#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))

/-- The rotary angles of the rows. -/
def angRow : FVec Ideal S16384x8 .f32 :=
  mulf (broadcastInDim S16384x8 ![0, 1] bcast_S16384x1_S16384x8_0_1 (broadcastInDim S16384x1 ![0] bcast_S16384_S16384x1_0 (shapeCast _ (broadcastInDim S256x64 ![0] bcast_S256_S256x64_0 (sitofp .f32 (iotaInDim S256 32 0))) shapeCasts_S256x64_S16384))) (broadcastInDim S16384x8 ![0, 1] bcast_S1x8_S16384x8_0_1 (broadcastInDim S1x8 ![1] bcast_S8_S1x8_1 freq))

/-- The rotary angles of the columns. -/
def angCol : FVec Ideal S16384x8 .f32 :=
  mulf (broadcastInDim S16384x8 ![0, 1] bcast_S16384x1_S16384x8_0_1 (broadcastInDim S16384x1 ![0] bcast_S16384_S16384x1_0 (shapeCast _ (broadcastInDim S256x64 ![0, 1] bcast_S1x64_S256x64_0_1 (shapeCast _ (sitofp .f32 (iotaInDim S64 32 0)) shapeCasts_S64_S1x64)) shapeCasts_S256x64_S16384))) (broadcastInDim S16384x8 ![0, 1] bcast_S1x8_S16384x8_0_1 (broadcastInDim S1x8 ![1] bcast_S8_S1x8_1 freq))

/-- The rotary angles. -/
def ang : FVec Ideal S16384x32 .f32 :=
  concatenate S16384x32 1 [⟨S16384x8, angRow⟩, ⟨S16384x8, angRow⟩, ⟨S16384x8, angCol⟩, ⟨S16384x8, angCol⟩] concatenates_S16384x8_S16384x8_S16384x8_S16384x8_S16384x32_d1

/-- The cosines. -/
def co : FVec Ideal S16384x32 .f32 := Host.cos ang

/-- The sines. -/
def si : FVec Ideal S16384x32 .f32 := Host.sin ang

/-- The ones beside a table. -/
def ones : FVec Ideal S16384x64 .f32 := broadcastInDim S16384x64 ![] bcast_S_S16384x64 (constant S_ .f32 0x3F800000#32)

/-- The zeros beside a table. -/
def zeros : FVec Ideal S16384x32 .f32 := broadcastInDim S16384x32 ![] bcast_S_S16384x32 (constant S_ .f32 0x00000000#32)

/-- The keys' table of cosines. -/
def tabA (x : FVec Ideal S16384x32 .f32) : FVec Ideal S16384x128 .f32 :=
  concatenate S16384x128 1 [⟨S16384x64, ones⟩, ⟨S16384x32, x⟩, ⟨S16384x32, zeros⟩] concatenates_S16384x64_S16384x32_S16384x32_S16384x128_d1

/-- The keys' table of sines. -/
def tabB (x : FVec Ideal S16384x32 .f32) : FVec Ideal S16384x128 .f32 :=
  concatenate S16384x128 1 [⟨S16384x64, (mulf (broadcastInDim S16384x64 ![] bcast_S_S16384x64 (constant S_ .f32 0x00000000#32)) ones : FVec Ideal S16384x64 .f32)⟩, ⟨S16384x32, x⟩, ⟨S16384x32, zeros⟩] concatenates_S16384x64_S16384x32_S16384x32_S16384x128_d1

/-- The table of cosines, in the rotary entries. -/
theorem tabA_mid (x : FVec Ideal S16384x32 .f32) (L : Fin 16384) (a : Fin 128) (h : ¬ a.val < 64) (h' : a.val < 96) : (tabA x (ix2 L a) : EReal) = x (ix2 L ⟨a.val - 64, by omega⟩) := by
  pointwise [tabA, ones, zeros]
  rw [dif_neg (by omega), dif_pos (by omega)]

/-- The table of cosines, in the rest. -/
theorem tabA_rest (x : FVec Ideal S16384x32 .f32) (L : Fin 16384) (a : Fin 128) (h' : ¬ a.val < 96) : (tabA x (ix2 L a) : EReal) = 0 := by
  pointwise [tabA, ones, zeros]
  rw [dif_neg (by omega), dif_neg (by omega)]

/-- The table of sines, in the first part. -/
theorem tabB_low (x : FVec Ideal S16384x32 .f32) (L : Fin 16384) (a : Fin 128) (h : a.val < 64) : (tabB x (ix2 L a) : EReal) = 0 := by
  pointwise [tabB, ones, zeros]
  rw [dif_pos (by omega)]

/-- The table of sines, in the rotary entries. -/
theorem tabB_mid (x : FVec Ideal S16384x32 .f32) (L : Fin 16384) (a : Fin 128) (h : ¬ a.val < 64) (h' : a.val < 96) : (tabB x (ix2 L a) : EReal) = x (ix2 L ⟨a.val - 64, by omega⟩) := by
  pointwise [tabB, ones, zeros]
  rw [dif_neg (by omega), dif_pos (by omega)]

/-- The table of sines, in the rest. -/
theorem tabB_rest (x : FVec Ideal S16384x32 .f32) (L : Fin 16384) (a : Fin 128) (h' : ¬ a.val < 96) : (tabB x (ix2 L a) : EReal) = 0 := by
  pointwise [tabB, ones, zeros]
  rw [dif_neg (by omega), dif_neg (by omega)]

/-- The columns of the rotary keys. -/
def wkr (w : FVec Ideal S1024x1696 .f32) : FVec Ideal S1024x32 .f32 := extractStridedSlice S1024x32 ![0, 640] w slices_S1024x1696_S1024x32_0_640

/-- The turned columns of the rotary keys. -/
def wturn (w : FVec Ideal S1024x32 .f32) : FVec Ideal S1024x32 .f32 :=
  concatenate S1024x32 1 [⟨S1024x8, (Host.negf (extractStridedSlice S1024x8 ![0, 8] w slices_S1024x32_S1024x8_0_8) : FVec Ideal S1024x8 .f32)⟩, ⟨S1024x8, extractStridedSlice S1024x8 ![0, 0] w slices_S1024x32_S1024x8_0_0⟩,
    ⟨S1024x8, (Host.negf (extractStridedSlice S1024x8 ![0, 24] w slices_S1024x32_S1024x8_0_24) : FVec Ideal S1024x8 .f32)⟩, ⟨S1024x8, extractStridedSlice S1024x8 ![0, 16] w slices_S1024x32_S1024x8_0_16⟩] concatenates_S1024x8_S1024x8_S1024x8_S1024x8_S1024x32_d1

/-- The turned columns, at an index. -/
theorem wturn_at (w : FVec Ideal S1024x32 .f32) (k : Fin 1024) (i : Fin 32) : (wturn w (ix2 k i) : EReal) = rot (fun i => w (ix2 k i)) i := by
  rw [← rot_eq]
  pointwise [wturn]

/-- The projection's weights, side by side. -/
def wall (w : FVec Ideal S1024x1696 .f32) : FVec Ideal S1024x1792 .bf16 :=
  truncf .bf16 (concatenate S1024x1792 1 [⟨S1024x640, extractStridedSlice S1024x640 ![0, 0] w slices_S1024x1696_S1024x640_0_0⟩, ⟨S1024x32, wkr w⟩, ⟨S1024x32, wturn (wkr w)⟩,
    ⟨S1024x64, broadcastInDim S1024x64 ![] bcast_S_S1024x64 (constant (F := Ideal) S_ .f32 0x00000000#32)⟩,
    ⟨S1024x512, extractStridedSlice S1024x512 ![0, 672] w slices_S1024x1696_S1024x512_0_672⟩, ⟨S1024x512, extractStridedSlice S1024x512 ![0, 1184] w slices_S1024x1696_S1024x512_0_1184⟩] concatenates_S1024x640_S1024x32_S1024x32_S1024x64_S1024x512_S1024x512_S1024x1792_d1 : FVec Ideal S1024x1792 .f32) bitsLt_bf16_f32

/-- The weights' columns of the latents and the rotary keys. -/
theorem wall_low (w : FVec Ideal S1024x1696 .f32) (k : Fin 1024) (c : Fin 1792) (hc : c.val < 672) : (wall w (ix2 k c) : EReal) = w (ix2 k ⟨c.val, by omega⟩) := by
  by_cases h : c.val < 640
  · pointwise [wall, wkr]
    rw [dif_pos (by omega)]
  · pointwise [wall, wkr]
    rw [dif_neg (by omega), dif_pos (by omega)]
    exact congrArg (fun j => w (ix2 k j)) (Fin.ext (by dsimp only; omega))

/-- The weights' turned columns. -/
theorem wall_turn (w : FVec Ideal S1024x1696 .f32) (k : Fin 1024) (i : Fin 32) (c : Fin 1792) (hc : c.val = 672 + i.val) : (wall w (ix2 k c) : EReal) = rot (fun i => w (ix2 k ⟨640 + i.val, by omega⟩)) i := by
  pointwise [wall]
  rw [dif_neg (by omega), dif_neg (by omega), dif_pos (by omega), wturn_at]
  have e : (⟨c.val - 640 - 32, by omega⟩ : Fin 32) = i := Fin.ext (by dsimp only; omega)
  rw [e]
  refine congrArg (fun f => rot f i) (funext fun i => ?_)
  pointwise [wkr]

/-- The weights' columns of zeros. -/
theorem wall_zero (w : FVec Ideal S1024x1696 .f32) (k : Fin 1024) (c : Fin 1792) (hc : 704 ≤ c.val) (hc' : c.val < 768) : (wall w (ix2 k c) : EReal) = 0 := by
  pointwise [wall]
  rw [dif_neg (by omega), dif_neg (by omega), dif_neg (by omega), dif_pos (by omega)]

/-- The weights' columns of the gating. -/
theorem wall_high (w : FVec Ideal S1024x1696 .f32) (k : Fin 1024) (c : Fin 1792) (hc : 768 ≤ c.val) : (wall w (ix2 k c) : EReal) = w (ix2 k ⟨c.val - 96, by omega⟩) := by
  by_cases h : c.val < 1280
  · pointwise [wall]
    rw [dif_neg (by omega), dif_neg (by omega), dif_neg (by omega), dif_neg (by omega), dif_pos (by omega)]
    exact congrArg (fun j => w (ix2 k j)) (Fin.ext (by dsimp only; omega))
  · pointwise [wall]
    rw [dif_neg (by omega), dif_neg (by omega), dif_neg (by omega), dif_neg (by omega), dif_neg (by omega)]
    exact congrArg (fun j => w (ix2 k j)) (Fin.ext (by dsimp only; omega))

/-- The queries' weights, head by head. -/
def wq (w : FVec Ideal S384x768 .f32) : FVec Ideal S384x8x96 .f32 := shapeCast _ w shapeCasts_S384x768_S384x8x96

/-- The queries' rotary weights, head by head. -/
def wqr (w : FVec Ideal S384x768 .f32) : FVec Ideal S384x8x32 .f32 := extractStridedSlice S384x8x32 ![0, 0, 64] (wq w) slices_S384x8x96_S384x8x32_0_0_64

/-- The turned rotary weights of the queries. -/
def wqturn (w : FVec Ideal S384x8x32 .f32) : FVec Ideal S384x8x32 .f32 :=
  concatenate S384x8x32 2 [⟨S384x8x8, (Host.negf (extractStridedSlice S384x8x8 ![0, 0, 8] w slices_S384x8x32_S384x8x8_0_0_8) : FVec Ideal S384x8x8 .f32)⟩, ⟨S384x8x8, extractStridedSlice S384x8x8 ![0, 0, 0] w slices_S384x8x32_S384x8x8_0_0_0⟩,
    ⟨S384x8x8, (Host.negf (extractStridedSlice S384x8x8 ![0, 0, 24] w slices_S384x8x32_S384x8x8_0_0_24) : FVec Ideal S384x8x8 .f32)⟩, ⟨S384x8x8, extractStridedSlice S384x8x8 ![0, 0, 16] w slices_S384x8x32_S384x8x8_0_0_16⟩] concatenates_S384x8x8_S384x8x8_S384x8x8_S384x8x8_S384x8x32_d2

/-- The turned rotary weights of the queries, at an index. -/
theorem wqturn_at (w : FVec Ideal S384x8x32 .f32) (k : Fin 384) (h : Fin 8) (i : Fin 32) : (wqturn w (ix3 k h i) : EReal) = rot (fun i => w (ix3 k h i)) i := by
  rw [← rot_eq]
  pointwise [wqturn]

/-- The queries' weights in slots of 128, turned. -/
def wuq (w : FVec Ideal S384x768 .f32) : FVec Ideal S1024x384 .bf16 :=
  truncf .bf16 (transpose S1024x384 [1, 0] (shapeCast S384x1024 (concatenate S384x8x128 2 [⟨S384x8x96, wq w⟩, ⟨S384x8x32, wqturn (wqr w)⟩] concatenates_S384x8x96_S384x8x32_S384x8x128_d2 : FVec Ideal S384x8x128 .f32) shapeCasts_S384x8x128_S384x1024 : FVec Ideal S384x1024 .f32) transposes_S384x1024_S1024x384_1_0) bitsLt_bf16_f32

/-- The queries' weights, in a slot's first part. -/
theorem wuq_low (w : FVec Ideal S384x768 .f32) (k : Fin 384) (h : Fin 8) (a : Fin 96) (r : Fin 1024) (hr : r.val = 128 * h.val + a.val) : (wuq w (ix2 r k) : EReal) = w (ix2 k ⟨96 * h.val + a.val, by omega⟩) := by
  pointwise [wuq, wq]
  rw [dif_pos (by omega)]
  exact congrArg (fun j => w (ix2 k j)) (Fin.ext (by dsimp only; omega))

/-- The queries' weights, in a slot's turned part. -/
theorem wuq_turn (w : FVec Ideal S384x768 .f32) (k : Fin 384) (h : Fin 8) (i : Fin 32) (r : Fin 1024) (hr : r.val = 128 * h.val + (96 + i.val)) : (wuq w (ix2 r k) : EReal) = rot (fun i => w (ix2 k ⟨96 * h.val + (64 + i.val), by omega⟩)) i := by
  pointwise [wuq, wq]
  rw [dif_neg (by omega), wqturn_at]
  have e : (⟨r.val % 128 - 96, by omega⟩ : Fin 32) = i := Fin.ext (by dsimp only; omega)
  have e' : (⟨r.val / 128, by omega⟩ : Fin 8) = h := Fin.ext (by dsimp only; omega)
  rw [e, e']
  refine congrArg (fun f => rot f i) (funext fun i => ?_)
  pointwise [wqr, wq]
  exact congrArg (fun j => w (ix2 k j)) (Fin.ext (by dsimp only; omega))

/-- The keys' weights in slots of 128. -/
def wuk (w : FVec Ideal S256x1024 .f32) : FVec Ideal S256x1024 .bf16 :=
  truncf .bf16 (shapeCast S256x1024 (concatenate S256x8x128 2 [⟨S256x8x64, extractStridedSlice S256x8x64 ![0, 0, 0] (shapeCast S256x8x128 w shapeCasts_S256x1024_S256x8x128 : FVec Ideal S256x8x128 .f32) slices_S256x8x128_S256x8x64_0_0_0⟩,
    ⟨S256x8x64, broadcastInDim S256x8x64 ![] bcast_S_S256x8x64 (constant (F := Ideal) S_ .f32 0x00000000#32)⟩] concatenates_S256x8x64_S256x8x64_S256x8x128_d2 : FVec Ideal S256x8x128 .f32) shapeCasts_S256x8x128_S256x1024 : FVec Ideal S256x1024 .f32) bitsLt_bf16_f32

/-- The keys' weights, in a slot's first part. -/
theorem wuk_low (w : FVec Ideal S256x1024 .f32) (k : Fin 256) (c : Fin 1024) (hc : c.val % 128 < 64) : (wuk w (ix2 k c) : EReal) = w (ix2 k c) := by
  pointwise [wuk]
  rw [dif_pos (by omega)]

/-- The keys' weights, in a slot's rest. -/
theorem wuk_rest (w : FVec Ideal S256x1024 .f32) (k : Fin 256) (c : Fin 1024) (hc : ¬ c.val % 128 < 64) : (wuk w (ix2 k c) : EReal) = 0 := by
  pointwise [wuk]
  rw [dif_neg (by omega)]

/-- The values' weights. -/
def wuv (w : FVec Ideal S256x1024 .f32) : FVec Ideal S512x256 .bf16 :=
  truncf .bf16 (transpose S512x256 [1, 0] (shapeCast S256x512 (extractStridedSlice S256x8x64 ![0, 0, 64] (shapeCast S256x8x128 w shapeCasts_S256x1024_S256x8x128 : FVec Ideal S256x8x128 .f32) slices_S256x8x128_S256x8x64_0_0_64 : FVec Ideal S256x8x64 .f32) shapeCasts_S256x8x64_S256x512 : FVec Ideal S256x512 .f32) transposes_S256x512_S512x256_1_0) bitsLt_bf16_f32

/-- The values' weights, at an index. -/
theorem wuv_at (w : FVec Ideal S256x1024 .f32) (k : Fin 256) (h : Fin 8) (a : Fin 64) (r : Fin 512) (hr : r.val = 64 * h.val + a.val) : (wuv w (ix2 r k) : EReal) = w (ix2 k ⟨128 * h.val + (64 + a.val), by omega⟩) := by
  pointwise [wuv]
  exact congrArg (fun j => w (ix2 k j)) (Fin.ext (by dsimp only; omega))

/-- The chunks' bias, lane by lane. -/
def bias (b : FVec Ideal S4x128 .f32) : FVec Ideal S128x512 .f32 :=
  shapeCast _ (broadcastInDim S128x4x128 ![0, 1] bcast_S128x4_S128x4x128_0_1 (transpose S128x4 [1, 0] b transposes_S4x128_S128x4_1_0) : FVec Ideal S128x4x128 .f32) shapeCasts_S128x4x128_S128x512

/-- The chunks' bias, at an index. -/
theorem bias_at (b : FVec Ideal S4x128 .f32) (a : Fin 128) (q : Fin 4) (d : Fin 128) (j : Fin 512) (hj : j.val = 128 * q.val + d.val) : (bias b (ix2 a j) : EReal) = b (ix2 q a) := by
  pointwise [bias]
  exact congrArg (fun q => b (ix2 q a)) (Fin.ext (by dsimp only; omega))

/-- The flattened rows, at an index. -/
theorem flat_at (x : FVec Ideal S2x16384x1024 .f32) (R : Fin 32768) (j : Fin 1024) (B : Fin 2) (L : Fin 16384) (hR : 16384 * B.val + L.val = R.val) :
    (shapeCast S32768x1024 x shapeCasts_S2x16384x1024_S32768x1024 (ix2 R j) : EReal) = x (ix3 B L j) := by
  have hL := L.isLt
  have e₀ : (⟨R.val / 16384, by omega⟩ : Fin 2) = B := Fin.ext (by dsimp only; omega)
  have e₁ : (⟨R.val % 16384, by omega⟩ : Fin 16384) = L := Fin.ext (by dsimp only; omega)
  pointwise []
  rw [e₀, e₁]

/-- The block of each window at a grid point. -/
theorem places (t : Fin cfg0.N) :
    (cfg0.win 0).index t = ![(grid0.coords t 0).val, 0] ∧ (cfg0.win 1).index t = ![0, 0] ∧ (cfg0.win 2).index t = ![(grid0.coords t 0).val / 32, 0, 0] ∧ (cfg0.win 3).index t = ![(grid0.coords t 0).val / 32, 0, 0]
    ∧ (cfg0.win 4).index t = ![(grid0.coords t 0).val % 32, 0] ∧ (cfg0.win 5).index t = ![(grid0.coords t 0).val % 32, 0] ∧ (cfg0.win 6).index t = ![0, (grid0.coords t 0).val % 32] ∧ (cfg0.win 7).index t = ![0, (grid0.coords t 0).val % 32]
    ∧ (cfg0.win 8).index t = ![0, 0] ∧ (cfg0.win 9).index t = ![0, 0] ∧ (cfg0.win 10).index t = ![0, 0] ∧ (cfg0.win 11).index t = ![0, 0] ∧ (cfg0.win 12).index t = ![0, 0] ∧ (cfg0.win 13).index t = ![0, 0]
    ∧ (cfg0.win 14).index t = ![0, 0] ∧ (cfg0.win 15).index t = ![0, 0, 0] ∧ (cfg0.win 16).index t = ![0, 0]
    ∧ (cfg0.win 17).index t = ![0, (grid0.coords t 0).val] ∧ (cfg0.win 18).index t = ![(grid0.coords t 0).val, 0] ∧ (cfg0.win 19).index t = ![0, (grid0.coords t 0).val] ∧ (cfg0.win 20).index t = ![(grid0.coords t 0).val, 0]
    ∧ (grid0.coords t 0).val < 64 := by
  revert t
  decide +kernel

/-- The call's blocks cover the queries. -/
theorem covers_17 : (cfg0.win 17).Covers := by
  decide +kernel

/-- The call's blocks cover the keys. -/
theorem covers_18 : (cfg0.win 18).Covers := by
  decide +kernel

/-- The call's blocks cover the values. -/
theorem covers_19 : (cfg0.win 19).Covers := by
  decide +kernel

/-- The call's blocks cover the gating's entries. -/
theorem covers_20 : (cfg0.win 20).Covers := by
  decide +kernel

variable (m : (ℓ : Loc nD τ sig) → Buf (Elt Ideal) ℓ) (c : Dev nD) (t : Fin cfg0.N)

/-- What operand 0 of the call holds. -/
theorem V_0 : V m c main_v0 = shapeCast S32768x1024 (m ((c.tc : Thread nD τ).loc main_arg0) : FVec Ideal S2x16384x1024 .f32) shapeCasts_S2x16384x1024_S32768x1024 := by
  unfold_abbrev_sides
  after_reads_simp
  rfl

/-- A block of operand 0. -/
theorem blk_0 (l : Fin 512) (j : Fin 1024) (B : Fin 2) (L : Fin 16384) (hL : 16384 * B.val + L.val = 512 * (grid0.coords t 0).val + l.val) :
    (iblk m c 0 t (ix2 l j) : EReal) = m ((c.tc : Thread nD τ).loc main_arg0) (ix3 B L j) := by
  obtain ⟨h0, h1, h2, h3, h4, h5, h6, h7, h8, h9, h10, h11, h12, h13, h14, h15, h16, h17, h18, h19, h20, ht⟩ := places t
  obtain ⟨R, hR⟩ : ∃ R : Fin 32768, R.val = 512 * (grid0.coords t 0).val + l.val := ⟨⟨_, by omega⟩, rfl⟩
  have e : iblk m c 0 t (ix2 l j) = V m c main_v0 (ix2 R j) := by
    blk_ext [iblk, h0]
  rw [e, V_0]
  exact flat_at _ R j B L (hL.trans hR.symm)

/-- What operand 1 of the call holds. -/
theorem V_1 : V m c main_v1 = broadcastInDim S1x1024 ![1] bcast_S1024_S1x1024_1 (m ((c.tc : Thread nD τ).loc main_arg1)) := by
  unfold_abbrev_sides
  after_reads_simp

/-- A block of operand 1. -/
theorem blk_1 (j : Fin 1024) :
    (iblk m c 1 t (ix2 0 j) : EReal) = m ((c.tc : Thread nD τ).loc main_arg1) (ix1 j) := by
  obtain ⟨h0, h1, h2, h3, h4, h5, h6, h7, h8, h9, h10, h11, h12, h13, h14, h15, h16, h17, h18, h19, h20, ht⟩ := places t
  have e : iblk m c 1 t (ix2 0 j) = V m c main_v1 (ix2 0 j) := by
    blk_ext [iblk, h1]
  rw [e, V_1]
  pointwise []

/-- What operand 9 of the call holds. -/
theorem V_9 : V m c main_v84 = broadcastInDim S1x384 ![1] bcast_S384_S1x384_1 (m ((c.tc : Thread nD τ).loc main_arg5)) := by
  unfold_abbrev_sides
  after_reads_simp

/-- A block of operand 9. -/
theorem blk_9 (j : Fin 384) :
    (iblk m c 9 t (ix2 0 j) : EReal) = m ((c.tc : Thread nD τ).loc main_arg5) (ix1 j) := by
  obtain ⟨h0, h1, h2, h3, h4, h5, h6, h7, h8, h9, h10, h11, h12, h13, h14, h15, h16, h17, h18, h19, h20, ht⟩ := places t
  have e : iblk m c 9 t (ix2 0 j) = V m c main_v84 (ix2 0 j) := by
    blk_ext [iblk, h9]
  rw [e, V_9]
  pointwise []

/-- What operand 11 of the call holds. -/
theorem V_11 : V m c main_v85 = broadcastInDim S1x256 ![1] bcast_S256_S1x256_1 (m ((c.tc : Thread nD τ).loc main_arg7)) := by
  unfold_abbrev_sides
  after_reads_simp

/-- A block of operand 11. -/
theorem blk_11 (j : Fin 256) :
    (iblk m c 11 t (ix2 0 j) : EReal) = m ((c.tc : Thread nD τ).loc main_arg7) (ix1 j) := by
  obtain ⟨h0, h1, h2, h3, h4, h5, h6, h7, h8, h9, h10, h11, h12, h13, h14, h15, h16, h17, h18, h19, h20, ht⟩ := places t
  have e : iblk m c 11 t (ix2 0 j) = V m c main_v85 (ix2 0 j) := by
    blk_ext [iblk, h11]
  rw [e, V_11]
  pointwise []

/-- What operand 14 of the call holds. -/
theorem V_14 : V m c main_v86 = broadcastInDim S1x128 ![1] bcast_S128_S1x128_1 (m ((c.tc : Thread nD τ).loc main_arg9)) := by
  unfold_abbrev_sides
  after_reads_simp

/-- A block of operand 14. -/
theorem blk_14 (j : Fin 128) :
    (iblk m c 14 t (ix2 0 j) : EReal) = m ((c.tc : Thread nD τ).loc main_arg9) (ix1 j) := by
  obtain ⟨h0, h1, h2, h3, h4, h5, h6, h7, h8, h9, h10, h11, h12, h13, h14, h15, h16, h17, h18, h19, h20, ht⟩ := places t
  have e : iblk m c 14 t (ix2 0 j) = V m c main_v86 (ix2 0 j) := by
    blk_ext [iblk, h14]
  rw [e, V_14]
  pointwise []

/-- What operand 2 of the call holds. -/
theorem V_2 : V m c main_v2 = broadcastInDim S2x1x1024 ![0, 2] bcast_S2x1024_S2x1x1024_0_2 (m ((c.tc : Thread nD τ).loc main_arg2)) := by
  unfold_abbrev_sides
  after_reads_simp

/-- A block of operand 2. -/
theorem blk_2 (j : Fin 1024) (B : Fin 2) (hB : B.val = (grid0.coords t 0).val / 32) :
    (iblk m c 2 t (ix3 0 0 j) : EReal) = m ((c.tc : Thread nD τ).loc main_arg2) (ix2 B j) := by
  obtain ⟨h0, h1, h2, h3, h4, h5, h6, h7, h8, h9, h10, h11, h12, h13, h14, h15, h16, h17, h18, h19, h20, ht⟩ := places t
  have e : iblk m c 2 t (ix3 0 0 j) = V m c main_v2 (ix3 B 0 j) := by
    blk_ext [iblk, h2]
  rw [e, V_2]
  pointwise []

/-- What operand 3 of the call holds. -/
theorem V_3 : V m c main_v3 = broadcastInDim S2x1x1024 ![0, 2] bcast_S2x1024_S2x1x1024_0_2 (m ((c.tc : Thread nD τ).loc main_arg3)) := by
  unfold_abbrev_sides
  after_reads_simp

/-- A block of operand 3. -/
theorem blk_3 (j : Fin 1024) (B : Fin 2) (hB : B.val = (grid0.coords t 0).val / 32) :
    (iblk m c 3 t (ix3 0 0 j) : EReal) = m ((c.tc : Thread nD τ).loc main_arg3) (ix2 B j) := by
  obtain ⟨h0, h1, h2, h3, h4, h5, h6, h7, h8, h9, h10, h11, h12, h13, h14, h15, h16, h17, h18, h19, h20, ht⟩ := places t
  have e : iblk m c 3 t (ix3 0 0 j) = V m c main_v3 (ix3 B 0 j) := by
    blk_ext [iblk, h3]
  rw [e, V_3]
  pointwise []

/-- What operand 4 of the call holds. -/
theorem V_4 : V m c main_v35 = tabA co := by
  unfold_abbrev_sides
  after_reads_simp
  rfl

/-- A block of operand 4. -/
theorem blk_4 (l : Fin 512) (a : Fin 128) (L : Fin 16384) (hL : L.val = 512 * ((grid0.coords t 0).val % 32) + l.val) :
    (iblk m c 4 t (ix2 l a) : EReal) = tabA co (ix2 L a) := by
  obtain ⟨h0, h1, h2, h3, h4, h5, h6, h7, h8, h9, h10, h11, h12, h13, h14, h15, h16, h17, h18, h19, h20, ht⟩ := places t
  have e : iblk m c 4 t (ix2 l a) = V m c main_v35 (ix2 L a) := by
    blk_ext [iblk, h4]
  rw [e, V_4]

/-- What operand 5 of the call holds. -/
theorem V_5 : V m c main_v39 = tabB si := by
  unfold_abbrev_sides
  after_reads_simp
  rfl

/-- A block of operand 5. -/
theorem blk_5 (l : Fin 512) (a : Fin 128) (L : Fin 16384) (hL : L.val = 512 * ((grid0.coords t 0).val % 32) + l.val) :
    (iblk m c 5 t (ix2 l a) : EReal) = tabB si (ix2 L a) := by
  obtain ⟨h0, h1, h2, h3, h4, h5, h6, h7, h8, h9, h10, h11, h12, h13, h14, h15, h16, h17, h18, h19, h20, ht⟩ := places t
  have e : iblk m c 5 t (ix2 l a) = V m c main_v39 (ix2 L a) := by
    blk_ext [iblk, h5]
  rw [e, V_5]

/-- What operand 6 of the call holds. -/
theorem V_6 : V m c main_v41 = transpose S32x16384 [1, 0] co transposes_S16384x32_S32x16384_1_0 := by
  unfold_abbrev_sides
  after_reads_simp
  rfl

/-- A block of operand 6. -/
theorem blk_6 (i : Fin 32) (l : Fin 512) (L : Fin 16384) (hL : L.val = 512 * ((grid0.coords t 0).val % 32) + l.val) :
    (iblk m c 6 t (ix2 i l) : EReal) = co (ix2 L i) := by
  obtain ⟨h0, h1, h2, h3, h4, h5, h6, h7, h8, h9, h10, h11, h12, h13, h14, h15, h16, h17, h18, h19, h20, ht⟩ := places t
  have e : iblk m c 6 t (ix2 i l) = V m c main_v41 (ix2 i L) := by
    blk_ext [iblk, h6]
  rw [e, V_6]
  pointwise []

/-- What operand 7 of the call holds. -/
theorem V_7 : V m c main_v43 = transpose S32x16384 [1, 0] si transposes_S16384x32_S32x16384_1_0 := by
  unfold_abbrev_sides
  after_reads_simp
  rfl

/-- A block of operand 7. -/
theorem blk_7 (i : Fin 32) (l : Fin 512) (L : Fin 16384) (hL : L.val = 512 * ((grid0.coords t 0).val % 32) + l.val) :
    (iblk m c 7 t (ix2 i l) : EReal) = si (ix2 L i) := by
  obtain ⟨h0, h1, h2, h3, h4, h5, h6, h7, h8, h9, h10, h11, h12, h13, h14, h15, h16, h17, h18, h19, h20, ht⟩ := places t
  have e : iblk m c 7 t (ix2 i l) = V m c main_v43 (ix2 i L) := by
    blk_ext [iblk, h7]
  rw [e, V_7]
  pointwise []

/-- What operand 8 of the call holds. -/
theorem V_8 : V m c main_v57 = wall (m ((c.tc : Thread nD τ).loc main_arg4)) := by
  unfold_abbrev_sides
  after_reads_simp
  rfl

/-- A block of operand 8. -/
theorem blk_8 (k : Fin 1024) (j : Fin 1792) :
    (iblk m c 8 t (ix2 k j) : EReal) = wall (m ((c.tc : Thread nD τ).loc main_arg4)) (ix2 k j) := by
  obtain ⟨h0, h1, h2, h3, h4, h5, h6, h7, h8, h9, h10, h11, h12, h13, h14, h15, h16, h17, h18, h19, h20, ht⟩ := places t
  have e : iblk m c 8 t (ix2 k j) = V m c main_v57 (ix2 k j) := by
    blk_ext [iblk, h8]
  rw [e, V_8]

/-- What operand 10 of the call holds. -/
theorem V_10 : V m c main_v70 = wuq (m ((c.tc : Thread nD τ).loc main_arg6)) := by
  unfold_abbrev_sides
  after_reads_simp
  rfl

/-- A block of operand 10. -/
theorem blk_10 (k : Fin 1024) (j : Fin 384) :
    (iblk m c 10 t (ix2 k j) : EReal) = wuq (m ((c.tc : Thread nD τ).loc main_arg6)) (ix2 k j) := by
  obtain ⟨h0, h1, h2, h3, h4, h5, h6, h7, h8, h9, h10, h11, h12, h13, h14, h15, h16, h17, h18, h19, h20, ht⟩ := places t
  have e : iblk m c 10 t (ix2 k j) = V m c main_v70 (ix2 k j) := by
    blk_ext [iblk, h10]
  rw [e, V_10]

/-- What operand 12 of the call holds. -/
theorem V_12 : V m c main_v76 = wuk (m ((c.tc : Thread nD τ).loc main_arg8)) := by
  unfold_abbrev_sides
  after_reads_simp
  rfl

/-- A block of operand 12. -/
theorem blk_12 (k : Fin 256) (j : Fin 1024) :
    (iblk m c 12 t (ix2 k j) : EReal) = wuk (m ((c.tc : Thread nD τ).loc main_arg8)) (ix2 k j) := by
  obtain ⟨h0, h1, h2, h3, h4, h5, h6, h7, h8, h9, h10, h11, h12, h13, h14, h15, h16, h17, h18, h19, h20, ht⟩ := places t
  have e : iblk m c 12 t (ix2 k j) = V m c main_v76 (ix2 k j) := by
    blk_ext [iblk, h12]
  rw [e, V_12]

/-- What operand 13 of the call holds. -/
theorem V_13 : V m c main_v80 = wuv (m ((c.tc : Thread nD τ).loc main_arg8)) := by
  unfold_abbrev_sides
  after_reads_simp
  rfl

/-- A block of operand 13. -/
theorem blk_13 (k : Fin 512) (j : Fin 256) :
    (iblk m c 13 t (ix2 k j) : EReal) = wuv (m ((c.tc : Thread nD τ).loc main_arg8)) (ix2 k j) := by
  obtain ⟨h0, h1, h2, h3, h4, h5, h6, h7, h8, h9, h10, h11, h12, h13, h14, h15, h16, h17, h18, h19, h20, ht⟩ := places t
  have e : iblk m c 13 t (ix2 k j) = V m c main_v80 (ix2 k j) := by
    blk_ext [iblk, h13]
  rw [e, V_13]

/-- What operand 16 of the call holds. -/
theorem V_16 : V m c main_v83 = bias (m ((c.tc : Thread nD τ).loc main_arg11)) := by
  unfold_abbrev_sides
  after_reads_simp
  rfl

/-- A block of operand 16. -/
theorem blk_16 (k : Fin 128) (j : Fin 512) :
    (iblk m c 16 t (ix2 k j) : EReal) = bias (m ((c.tc : Thread nD τ).loc main_arg11)) (ix2 k j) := by
  obtain ⟨h0, h1, h2, h3, h4, h5, h6, h7, h8, h9, h10, h11, h12, h13, h14, h15, h16, h17, h18, h19, h20, ht⟩ := places t
  have e : iblk m c 16 t (ix2 k j) = V m c main_v83 (ix2 k j) := by
    blk_ext [iblk, h16]
  rw [e, V_16]

/-- What operand 15 of the call holds. -/
theorem V_15 : V m c main_v87 = (truncf .bf16 (m ((c.tc : Thread nD τ).loc main_arg10) : FVec Ideal S4x128x128 .f32) bitsLt_bf16_f32 : FVec Ideal S4x128x128 .bf16) := by
  unfold_abbrev_sides
  after_reads_simp

/-- A block of operand 15. -/
theorem blk_15 (g : Fin 4) (a s : Fin 128) :
    (iblk m c 15 t (ix3 g a s) : EReal) = m ((c.tc : Thread nD τ).loc main_arg10) (ix3 g a s) := by
  obtain ⟨h0, h1, h2, h3, h4, h5, h6, h7, h8, h9, h10, h11, h12, h13, h14, h15, h16, h17, h18, h19, h20, ht⟩ := places t
  have e : iblk m c 15 t (ix3 g a s) = V m c main_v87 (ix3 g a s) := by
    blk_ext [iblk, h15]
  rw [e, V_15]
  pointwise []

end Cert.Kernel6Ideal.In
-- ==== Proof.InArg.lean ====
module

public import proofs.«01_k».proof.Proof.InPoint

@[expose] public section

set_option maxRecDepth 16384

noncomputable section

/-! The rows that a grid point of the even layers' projections computes, from the arguments. -/

namespace Cert.Kernel6Ideal.In

open Cert.Kernel6Ideal Cert.Kernel6Ideal.Gen Idealize.ShloMosaic Idealize.ShloMosaic.TcCoe Cert.Post Cert.In

/-- The length of a row is a positive real. -/
theorem len_1024 : ∃ l : ℝ, Ideal.ofBits .f32 0x44800000#32 = l ∧ 0 < l := by
  simp only [Ideal.ofBits, Ideal.ieee]
  rw [if_neg (by decide), if_neg (by decide), if_neg (by decide)]
  exact ⟨_, rfl, by positivity⟩

/-- The length of the queries' latent is a positive real. -/
theorem len_384 : ∃ l : ℝ, Ideal.ofBits .f32 0x43C00000#32 = l ∧ 0 < l := by
  simp only [Ideal.ofBits, Ideal.ieee]
  rw [if_neg (by decide), if_neg (by decide), if_neg (by decide)]
  exact ⟨_, rfl, by positivity⟩

/-- A sum of turned weights is the turned sum, of reals. -/
theorem times_rot {n : ℕ} (v : Fin n → EReal) (w : Fin n → Fin 32 → EReal) (hv : ∀ k, Real' (v k)) (hw : ∀ k i, Real' (w k i)) (i : Fin 32) :
    ∑ k, v k * rot (fun i => w k i) i = rot (fun i => ∑ k, v k * w k i) i := by
  unfold rot
  by_cases h : i.val % 16 < 8
  · simp only [dif_pos h]
    exact sum_neg hv fun k => hw k _
  · simp only [dif_neg h]

/-- Equal parts give an equal gating. -/
theorem mixed_congr {u u' : EReal} {v v' : Fin 128 → Fin 128 → EReal} {g g' w w' : Fin 128 → EReal} {b b' : EReal} (d : Fin 128) (hu : u = u') (hv : v = v') (hg : g = g') (hw : w = w') (hb : b = b') :
    mixed u v g w b d = mixed u' v' g' w' b' d := by
  rw [hu, hv, hg, hw, hb]

variable (m : (ℓ : Loc nD τ sig) → Buf (Elt Ideal) ℓ) (c : Dev nD) (t : Fin cfg0.N)

/-- The modulated norm of a row of the arguments. -/
def argRow (B : Fin 2) (L : Fin 16384) : Fin 1024 → EReal :=
  normed (fun j => m ((c.tc : Thread nD τ).loc main_arg0) (ix3 B L j)) (fun j => m ((c.tc : Thread nD τ).loc main_arg1) (ix1 j)) (fun j => m ((c.tc : Thread nD τ).loc main_arg3) (ix2 B j)) (fun j => m ((c.tc : Thread nD τ).loc main_arg2) (ix2 B j))

/-- A row's projection, from the arguments. -/
def argP (B : Fin 2) (L : Fin 16384) : Fin 1696 → EReal := times (argRow m c B L) (fun k j => m ((c.tc : Thread nD τ).loc main_arg4) (ix2 k j))

/-- The arguments of the negated columns are reals. -/
def Fine : Prop :=
  (∀ i, Real' (m ((c.tc : Thread nD τ).loc main_arg0) i)) ∧ (∀ i, Real' (m ((c.tc : Thread nD τ).loc main_arg1) i)) ∧ (∀ i, Real' (m ((c.tc : Thread nD τ).loc main_arg2) i)) ∧ (∀ i, Real' (m ((c.tc : Thread nD τ).loc main_arg3) i)) ∧ (∀ i, Real' (m ((c.tc : Thread nD τ).loc main_arg4) i)) ∧ (∀ i, Real' (m ((c.tc : Thread nD τ).loc main_arg5) i)) ∧ (∀ i, Real' (m ((c.tc : Thread nD τ).loc main_arg6) i))

/-- A real row's modulated norm is real. -/
theorem argRow_real (hm : Fine m c) (B : Fin 2) (L : Fin 16384) (k : Fin 1024) : Real' (argRow m c B L k) := by
  obtain ⟨h0, h1, h2, h3, h4, h5, h6⟩ := hm
  obtain ⟨n, e, hn⟩ := len_1024
  unfold argRow normed
  exact ((Real'.rms n e hn (fun _ => h0 _) (fun _ => h1 _) k).mul (Real'.add ⟨1, EReal.coe_one.symm⟩ (h3 _))).add (h2 _)

/-- A real row's projection is real. -/
theorem argP_real (hm : Fine m c) (B : Fin 2) (L : Fin 16384) (j : Fin 1696) : Real' (argP m c B L j) :=
  Real'.times (argRow_real m c hm B L) (fun _ _ => hm.2.2.2.2.1 _) j

/-- A block's projection, from the arguments. -/
theorem proj_arg (l : Fin 512) (j : Fin 1792) (B : Fin 2) (L : Fin 16384) (hB : B.val = (grid0.coords t 0).val / 32) (hL : 16384 * B.val + L.val = 512 * (grid0.coords t 0).val + l.val) :
    (k0_pay4 (iblk m c 0 t) (iblk m c 1 t) (iblk m c 3 t) (iblk m c 2 t) (iblk m c 8 t) (ix2 l j) : EReal) = ∑ k, argRow m c B L k * wall (m ((c.tc : Thread nD τ).loc main_arg4)) (ix2 k j) := by
  rw [proj_at]
  unfold argRow times
  simp only [blk_0 m c t l _ B L hL, blk_1 m c t, blk_2 m c t _ B hB, blk_3 m c t _ B hB, blk_8 m c t]

/-- A block's latents and rotary keys. -/
theorem proj_low (l : Fin 512) (j : Fin 1792) (B : Fin 2) (L : Fin 16384) (hB : B.val = (grid0.coords t 0).val / 32) (hL : 16384 * B.val + L.val = 512 * (grid0.coords t 0).val + l.val) (hj : j.val < 672) :
    (k0_pay4 (iblk m c 0 t) (iblk m c 1 t) (iblk m c 3 t) (iblk m c 2 t) (iblk m c 8 t) (ix2 l j) : EReal) = argP m c B L ⟨j.val, by omega⟩ := by
  rw [proj_arg m c t l j B L hB hL]
  unfold argP times
  refine Finset.sum_congr rfl fun k _ => ?_
  rw [wall_low _ k j hj]

/-- A block's turned rotary keys. -/
theorem proj_turn (hm : Fine m c) (l : Fin 512) (i : Fin 32) (j : Fin 1792) (B : Fin 2) (L : Fin 16384) (hB : B.val = (grid0.coords t 0).val / 32) (hL : 16384 * B.val + L.val = 512 * (grid0.coords t 0).val + l.val) (hj : j.val = 672 + i.val) :
    (k0_pay4 (iblk m c 0 t) (iblk m c 1 t) (iblk m c 3 t) (iblk m c 2 t) (iblk m c 8 t) (ix2 l j) : EReal) = rot (fun i => argP m c B L ⟨640 + i.val, by omega⟩) i := by
  rw [proj_arg m c t l j B L hB hL]
  refine (Finset.sum_congr rfl fun k _ => by rw [wall_turn _ k i j hj]).trans (times_rot _ _ (argRow_real m c hm B L) (fun k i => hm.2.2.2.2.1 _) i)

/-- A block's columns of zeros. -/
theorem proj_zero (l : Fin 512) (j : Fin 1792) (B : Fin 2) (L : Fin 16384) (hB : B.val = (grid0.coords t 0).val / 32) (hL : 16384 * B.val + L.val = 512 * (grid0.coords t 0).val + l.val) (hj : 704 ≤ j.val) (hj' : j.val < 768) :
    (k0_pay4 (iblk m c 0 t) (iblk m c 1 t) (iblk m c 3 t) (iblk m c 2 t) (iblk m c 8 t) (ix2 l j) : EReal) = 0 := by
  rw [proj_arg m c t l j B L hB hL]
  exact Finset.sum_eq_zero fun k _ => by rw [wall_zero _ k j hj hj', mul_zero]

/-- A block's gating columns. -/
theorem proj_high (l : Fin 512) (j : Fin 1792) (B : Fin 2) (L : Fin 16384) (hB : B.val = (grid0.coords t 0).val / 32) (hL : 16384 * B.val + L.val = 512 * (grid0.coords t 0).val + l.val) (hj : 768 ≤ j.val) :
    (k0_pay4 (iblk m c 0 t) (iblk m c 1 t) (iblk m c 3 t) (iblk m c 2 t) (iblk m c 8 t) (ix2 l j) : EReal) = argP m c B L ⟨j.val - 96, by omega⟩ := by
  rw [proj_arg m c t l j B L hB hL]
  unfold argP times
  refine Finset.sum_congr rfl fun k _ => ?_
  rw [wall_high _ k j hj]

/-- The queries' latent of a row, normed. -/
def argCq (B : Fin 2) (L : Fin 16384) (k : Fin 384) : EReal :=
  rms (Ideal.ofBits .f32 0x43C00000#32) (fun j : Fin 384 => argP m c B L ⟨j.val, by omega⟩) (fun j => m ((c.tc : Thread nD τ).loc main_arg5) (ix1 j)) k

/-- The keys' and values' latent of a row, normed. -/
def argCkv (B : Fin 2) (L : Fin 16384) (k : Fin 256) : EReal :=
  rms (Ideal.ofBits .f32 0x43800000#32) (fun j : Fin 256 => argP m c B L ⟨384 + j.val, by omega⟩) (fun j => m ((c.tc : Thread nD τ).loc main_arg7) (ix1 j)) k

/-- A real row's latent is real. -/
theorem argCq_real (hm : Fine m c) (B : Fin 2) (L : Fin 16384) (k : Fin 384) : Real' (argCq m c B L k) := by
  obtain ⟨n, e, hn⟩ := len_384
  exact Real'.rms n e hn (fun _ => argP_real m c hm B L _) (fun _ => hm.2.2.2.2.2.1 _) k

/-- A head's queries, from the arguments. -/
def argQ (B : Fin 2) (L : Fin 16384) (h : Fin 8) (a : Fin 96) : EReal :=
  qAt (argP m c B L) (fun j => m ((c.tc : Thread nD τ).loc main_arg5) (ix1 j)) (fun k j => m ((c.tc : Thread nD τ).loc main_arg6) (ix2 k j)) h a

/-- A head's keys and values, from the arguments. -/
def argKv (B : Fin 2) (L : Fin 16384) (h : Fin 8) (a : Fin 128) : EReal :=
  kvAt (argP m c B L) (fun j => m ((c.tc : Thread nD τ).loc main_arg7) (ix1 j)) (fun k j => m ((c.tc : Thread nD τ).loc main_arg8) (ix2 k j)) h a

/-- A block's queries, as sums. -/
theorem query_arg (l : Fin 512) (r : Fin 1024) (B : Fin 2) (L : Fin 16384) (hB : B.val = (grid0.coords t 0).val / 32) (hL : 16384 * B.val + L.val = 512 * (grid0.coords t 0).val + l.val) :
    (k0_pay8 (k0_pay5 (iblk m c 0 t) (iblk m c 1 t) (iblk m c 3 t) (iblk m c 2 t) (iblk m c 8 t)) (k0_pay6 (iblk m c 9 t)) (k0_pay7 (iblk m c 0 t) (iblk m c 1 t) (iblk m c 3 t) (iblk m c 2 t) (iblk m c 8 t)) (iblk m c 10 t) (ix2 r l) : EReal) = ∑ k, argCq m c B L k * wuq (m ((c.tc : Thread nD τ).loc main_arg6)) (ix2 r k) := by
  rw [query_at]
  refine Finset.sum_congr rfl fun k _ => ?_
  have e₁ : (fun j : Fin 384 => (k0_pay4 (iblk m c 0 t) (iblk m c 1 t) (iblk m c 3 t) (iblk m c 2 t) (iblk m c 8 t) (ix2 l ⟨0 + j.val, by omega⟩) : EReal)) = fun j => argP m c B L ⟨j.val, by omega⟩ := funext fun j => by
    rw [proj_low m c t l _ B L hB hL (by dsimp only; omega)]
    exact congrArg (argP m c B L) (Fin.ext (by dsimp only; omega))
  have e₂ : (fun j : Fin 384 => (iblk m c 9 t (ix2 0 j) : EReal)) = fun j => m ((c.tc : Thread nD τ).loc main_arg5) (ix1 j) := funext fun j => blk_9 m c t j
  rw [blk_10 m c t, mul_comm]
  exact congrArg (· * _) (congrArg₂ (fun f g => rms (Ideal.ofBits .f32 0x43C00000#32) f g k) e₁ e₂)

/-- A block's queries, in a slot's first part. -/
theorem query_low (l : Fin 512) (h : Fin 8) (a : Fin 96) (r : Fin 1024) (B : Fin 2) (L : Fin 16384) (hB : B.val = (grid0.coords t 0).val / 32) (hL : 16384 * B.val + L.val = 512 * (grid0.coords t 0).val + l.val) (hr : r.val = 128 * h.val + a.val) :
    (k0_pay8 (k0_pay5 (iblk m c 0 t) (iblk m c 1 t) (iblk m c 3 t) (iblk m c 2 t) (iblk m c 8 t)) (k0_pay6 (iblk m c 9 t)) (k0_pay7 (iblk m c 0 t) (iblk m c 1 t) (iblk m c 3 t) (iblk m c 2 t) (iblk m c 8 t)) (iblk m c 10 t) (ix2 r l) : EReal) = argQ m c B L h a := by
  rw [query_arg m c t l r B L hB hL]
  unfold argQ qAt times
  refine Finset.sum_congr rfl fun k _ => ?_
  rw [wuq_low _ k h a r hr]
  rfl

/-- A block's queries, in a slot's turned part. -/
theorem query_turn (hm : Fine m c) (l : Fin 512) (h : Fin 8) (i : Fin 32) (r : Fin 1024) (B : Fin 2) (L : Fin 16384) (hB : B.val = (grid0.coords t 0).val / 32) (hL : 16384 * B.val + L.val = 512 * (grid0.coords t 0).val + l.val) (hr : r.val = 128 * h.val + (96 + i.val)) :
    (k0_pay8 (k0_pay5 (iblk m c 0 t) (iblk m c 1 t) (iblk m c 3 t) (iblk m c 2 t) (iblk m c 8 t)) (k0_pay6 (iblk m c 9 t)) (k0_pay7 (iblk m c 0 t) (iblk m c 1 t) (iblk m c 3 t) (iblk m c 2 t) (iblk m c 8 t)) (iblk m c 10 t) (ix2 r l) : EReal) = rot (fun i => argQ m c B L h ⟨64 + i.val, by omega⟩) i := by
  rw [query_arg m c t l r B L hB hL]
  exact (Finset.sum_congr rfl fun k _ => by rw [wuq_turn _ k h i r hr]).trans (times_rot _ _ (argCq_real m c hm B L) (fun k i => hm.2.2.2.2.2.2 _) i)

/-- A block's latent of the keys and values. -/
theorem latent_arg (l : Fin 512) (k : Fin 256) (B : Fin 2) (L : Fin 16384) (hB : B.val = (grid0.coords t 0).val / 32) (hL : 16384 * B.val + L.val = 512 * (grid0.coords t 0).val + l.val) :
    (k0_pay38 (k0_pay4 (iblk m c 0 t) (iblk m c 1 t) (iblk m c 3 t) (iblk m c 2 t) (iblk m c 8 t)) (iblk m c 11 t) (ix2 l k) : EReal) = argCkv m c B L k := by
  have e₁ : (fun j : Fin 256 => (k0_pay4 (iblk m c 0 t) (iblk m c 1 t) (iblk m c 3 t) (iblk m c 2 t) (iblk m c 8 t) (ix2 l ⟨384 + j.val, by omega⟩) : EReal)) = fun j => argP m c B L ⟨384 + j.val, by omega⟩ := funext fun j => by
    rw [proj_low m c t l _ B L hB hL (by dsimp only; omega)]
  have e₂ : (fun j : Fin 256 => (iblk m c 11 t (ix2 0 j) : EReal)) = fun j => m ((c.tc : Thread nD τ).loc main_arg7) (ix1 j) := funext fun j => blk_11 m c t j
  rw [latent_at]
  exact congrArg₂ (fun f g => rms (Ideal.ofBits .f32 0x43800000#32) f g k) e₁ e₂

/-- A block's keys, in a slot's first part. -/
theorem key_low (l : Fin 512) (h : Fin 8) (a : Fin 128) (r : Fin 1024) (B : Fin 2) (L : Fin 16384) (hB : B.val = (grid0.coords t 0).val / 32) (hL : 16384 * B.val + L.val = 512 * (grid0.coords t 0).val + l.val) (hr : r.val = 128 * h.val + a.val) (ha : a.val < 64) :
    (k0_pay39 (k0_pay4 (iblk m c 0 t) (iblk m c 1 t) (iblk m c 3 t) (iblk m c 2 t) (iblk m c 8 t)) (iblk m c 11 t) (iblk m c 12 t) (ix2 l r) : EReal) = argKv m c B L h a := by
  rw [key_at]
  unfold argKv kvAt times
  refine Finset.sum_congr rfl fun k _ => ?_
  rw [latent_arg m c t l k B L hB hL, blk_12 m c t, wuk_low _ k r (by omega)]
  exact congrArg (fun j => argCkv m c B L k * m ((c.tc : Thread nD τ).loc main_arg8) (ix2 k j)) (Fin.ext hr)

/-- A block's keys, in a slot's rest. -/
theorem key_rest (l : Fin 512) (r : Fin 1024) (hr : ¬ r.val % 128 < 64) :
    (k0_pay39 (k0_pay4 (iblk m c 0 t) (iblk m c 1 t) (iblk m c 3 t) (iblk m c 2 t) (iblk m c 8 t)) (iblk m c 11 t) (iblk m c 12 t) (ix2 l r) : EReal) = 0 := by
  rw [key_at]
  exact Finset.sum_eq_zero fun k _ => by rw [blk_12 m c t, wuk_rest _ k r hr, mul_zero]

/-- A block's values. -/
theorem value_arg (l : Fin 512) (h : Fin 8) (a : Fin 64) (r : Fin 512) (B : Fin 2) (L : Fin 16384) (hB : B.val = (grid0.coords t 0).val / 32) (hL : 16384 * B.val + L.val = 512 * (grid0.coords t 0).val + l.val) (hr : r.val = 64 * h.val + a.val) :
    (k0_pay49 (k0_pay38 (k0_pay4 (iblk m c 0 t) (iblk m c 1 t) (iblk m c 3 t) (iblk m c 2 t) (iblk m c 8 t)) (iblk m c 11 t)) (iblk m c 13 t) (ix2 r l) : EReal) = argKv m c B L h ⟨64 + a.val, by omega⟩ := by
  rw [value_at]
  unfold argKv kvAt times
  refine Finset.sum_congr rfl fun k _ => ?_
  rw [latent_arg m c t l k B L hB hL, blk_13 m c t, wuv_at _ k h a r hr, mul_comm]
  rfl

/-- What a grid point leaves of the queries. -/
theorem left_17 (l : Fin 1024) (r : Fin 512) : (outsAt0 m c t).1 (ix2 l r) = blockQ (k0_pay8 (k0_pay5 (iblk m c 0 t) (iblk m c 1 t) (iblk m c 3 t) (iblk m c 2 t) (iblk m c 8 t)) (k0_pay6 (iblk m c 9 t)) (k0_pay7 (iblk m c 0 t) (iblk m c 1 t) (iblk m c 3 t) (iblk m c 2 t) (iblk m c 8 t)) (iblk m c 10 t)) (iblk m c 6 t) (iblk m c 7 t) (ix2 l r) := by
  unfold outsAt0
  dsimp only
  rw [opened_17]

/-- What a grid point leaves of the keys. -/
theorem left_18 (l : Fin 512) (r : Fin 1024) : (outsAt0 m c t).2.1 (ix2 l r) = blockK (k0_pay39 (k0_pay4 (iblk m c 0 t) (iblk m c 1 t) (iblk m c 3 t) (iblk m c 2 t) (iblk m c 8 t)) (iblk m c 11 t) (iblk m c 12 t)) (k0_pay40 (k0_pay4 (iblk m c 0 t) (iblk m c 1 t) (iblk m c 3 t) (iblk m c 2 t) (iblk m c 8 t)) (iblk m c 4 t) (iblk m c 5 t)) (ix2 l r) := by
  unfold outsAt0
  dsimp only
  rw [opened_18]

/-- What a grid point leaves of the values. -/
theorem left_19 (l : Fin 640) (r : Fin 512) : (outsAt0 m c t).2.2.1 (ix2 l r) = blockV (k0_pay49 (k0_pay38 (k0_pay4 (iblk m c 0 t) (iblk m c 1 t) (iblk m c 3 t) (iblk m c 2 t) (iblk m c 8 t)) (iblk m c 11 t)) (iblk m c 13 t)) (ix2 l r) := by
  unfold outsAt0
  dsimp only
  rw [opened_19]

/-- What a grid point leaves of the gating. -/
theorem left_20 (l : Fin 512) (r : Fin 512) : (outsAt0 m c t).2.2.2 (ix2 l r) = blockM (k0_pay4 (iblk m c 0 t) (iblk m c 1 t) (iblk m c 3 t) (iblk m c 2 t) (iblk m c 8 t)) (iblk m c 14 t) (iblk m c 15 t) (iblk m c 16 t) (ix2 l r) := by
  unfold outsAt0
  dsimp only
  rw [opened_20]

end Cert.Kernel6Ideal.In
-- ==== Proof.InRef.lean ====
module

public import proofs.«01_k».proof.Proof.In
public import proofs.«01_k».proof.Proof.Gen.Reference6Ideal.Run
public import Idealize.ShloMosaic.Lib.Pointwise

@[expose] public section

set_option maxRecDepth 16384

noncomputable section

/-! The reference of the even layers' projections, entry by entry. -/

namespace Cert.Reference6Ideal.In

open Cert.Reference6Ideal Cert.Reference6Ideal.Gen Cert.Reference6Ideal.Value Idealize.ShloMosaic Idealize.ShloMosaic.TcCoe Idealize.ShloMosaic.StableHlo Cert.Post Cert.In

section Stages
variable {F : FTy → Type} [FloatOps F]

/-- The norm of each row. -/
def refNorm (x : FVec F S2x16384x1024 .f32) (g : FVec F S1024 .f32) : FVec F S2x16384x1024 .f32 :=
  mulf (mulf x (broadcastInDim S2x16384x1024 ![0, 1, 2] bcast_S2x16384x1_S2x16384x1024_0_1_2 (Host.rsqrt (addf (Host.divf
      (broadcastInDim S2x16384x1 ![0, 1] bcast_S2x16384_S2x16384x1_0_1 (Host.reduceAdd (mulf x x) (constant S_ .f32 0x00000000#32) reducesTo_S2x16384x1024_S2x16384_d2 h_S_))
      (broadcastInDim S2x16384x1 ![] bcast_S_S2x16384x1 (constant S_ .f32 0x44800000#32))) (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- The modulated norm. -/
def refModulate (x : FVec F S2x16384x1024 .f32) (sc sh : FVec F S2x1024 .f32) : FVec F S2x16384x1024 .f32 :=
  addf (mulf x (broadcastInDim S2x16384x1024 ![0, 1, 2] bcast_S2x1x1024_S2x16384x1024_0_1_2 (addf (broadcastInDim S2x1x1024 ![] bcast_S_S2x1x1024 (constant S_ .f32 0x3F800000#32)) (broadcastInDim S2x1x1024 ![0, 2] bcast_S2x1024_S2x1x1024_0_2 sc))))
    (broadcastInDim S2x16384x1024 ![0, 1, 2] bcast_S2x1x1024_S2x16384x1024_0_1_2 (broadcastInDim S2x1x1024 ![0, 2] bcast_S2x1024_S2x1x1024_0_2 sh))

/-- The projection. -/
def refProj (h : FVec F S2x16384x1024 .f32) (w : FVec F S1024x1696 .f32) : FVec F S2x16384x1696 .f32 :=
  Host.dotGeneral dot_S2x16384x1024_S1024x1696_S2x16384x1696_2_0_01_1_n_n none h w

/-- The queries' latent, normed. -/
def refCq (x : FVec F S2x16384x384 .f32) (g : FVec F S384 .f32) : FVec F S2x16384x384 .f32 :=
  mulf (mulf x (broadcastInDim S2x16384x384 ![0, 1, 2] bcast_S2x16384x1_S2x16384x384_0_1_2 (Host.rsqrt (addf (Host.divf
      (broadcastInDim S2x16384x1 ![0, 1] bcast_S2x16384_S2x16384x1_0_1 (Host.reduceAdd (mulf x x) (constant S_ .f32 0x00000000#32) reducesTo_S2x16384x384_S2x16384_d2 h_S_))
      (broadcastInDim S2x16384x1 ![] bcast_S_S2x16384x1 (constant S_ .f32 0x43C00000#32))) (broadcastInDim S2x16384x1 ![] bcast_S_S2x16384x1 (constant S_ .f32 0x358637BD#32))))))
    (broadcastInDim S2x16384x384 ![0, 1, 2] bcast_S1x1x384_S2x16384x384_0_1_2 (broadcastInDim S1x1x384 ![2] bcast_S384_S1x1x384_2 g))

/-- The keys' and values' latent, normed. -/
def refCkv (x : FVec F S2x16384x256 .f32) (g : FVec F S256 .f32) : FVec F S2x16384x256 .f32 :=
  mulf (mulf x (broadcastInDim S2x16384x256 ![0, 1, 2] bcast_S2x16384x1_S2x16384x256_0_1_2 (Host.rsqrt (addf (Host.divf
      (broadcastInDim S2x16384x1 ![0, 1] bcast_S2x16384_S2x16384x1_0_1 (Host.reduceAdd (mulf x x) (constant S_ .f32 0x00000000#32) reducesTo_S2x16384x256_S2x16384_d2 h_S_))
      (broadcastInDim S2x16384x1 ![] bcast_S_S2x16384x1 (constant S_ .f32 0x43800000#32))) (broadcastInDim S2x16384x1 ![] bcast_S_S2x16384x1 (constant S_ .f32 0x358637BD#32))))))
    (broadcastInDim S2x16384x256 ![0, 1, 2] bcast_S1x1x256_S2x16384x256_0_1_2 (broadcastInDim S1x1x256 ![2] bcast_S256_S1x1x256_2 g))

/-- The queries of each head. -/
def refQ (x : FVec F S2x16384x384 .f32) (w : FVec F S384x768 .f32) : FVec F S2x16384x8x96 .f32 :=
  shapeCast _ (Host.dotGeneral dot_S2x16384x384_S384x768_S2x16384x768_2_0_01_1_n_n none x w) shapeCasts_S2x16384x768_S2x16384x8x96

/-- The keys and values of each head. -/
def refKv (x : FVec F S2x16384x256 .f32) (w : FVec F S256x1024 .f32) : FVec F S2x16384x8x128 .f32 :=
  shapeCast _ (Host.dotGeneral dot_S2x16384x256_S256x1024_S2x16384x1024_2_0_01_1_n_n none x w) shapeCasts_S2x16384x1024_S2x16384x8x128

/-- The rotary part of the queries. -/
def refQr (x : FVec F S2x16384x8x32 .f32) (co si : FVec F S16384x32 .f32) : FVec F S2x16384x8x32 .f32 :=
  addf (mulf x (broadcastInDim S2x16384x8x32 ![0, 1, 2, 3] bcast_S1x16384x1x32_S2x16384x8x32_0_1_2_3 (broadcastInDim S1x16384x1x32 ![1, 2, 3] bcast_S16384x1x32_S1x16384x1x32_1_2_3 (broadcastInDim S16384x1x32 ![0, 2] bcast_S16384x32_S16384x1x32_0_2 co))))
    (mulf (concatenate S2x16384x8x32 3 [⟨S2x16384x8x8, Host.negf (extractStridedSlice S2x16384x8x8 ![0, 0, 0, 8] x slices_S2x16384x8x32_S2x16384x8x8_0_0_0_8)⟩, ⟨S2x16384x8x8, extractStridedSlice S2x16384x8x8 ![0, 0, 0, 0] x slices_S2x16384x8x32_S2x16384x8x8_0_0_0_0⟩,
        ⟨S2x16384x8x8, Host.negf (extractStridedSlice S2x16384x8x8 ![0, 0, 0, 24] x slices_S2x16384x8x32_S2x16384x8x8_0_0_0_24)⟩, ⟨S2x16384x8x8, extractStridedSlice S2x16384x8x8 ![0, 0, 0, 16] x slices_S2x16384x8x32_S2x16384x8x8_0_0_0_16⟩] concatenates_S2x16384x8x8_S2x16384x8x8_S2x16384x8x8_S2x16384x8x8_S2x16384x8x32_d3 : FVec F S2x16384x8x32 .f32)
      (broadcastInDim S2x16384x8x32 ![0, 1, 2, 3] bcast_S1x16384x1x32_S2x16384x8x32_0_1_2_3 (broadcastInDim S1x16384x1x32 ![1, 2, 3] bcast_S16384x1x32_S1x16384x1x32_1_2_3 (broadcastInDim S16384x1x32 ![0, 2] bcast_S16384x32_S16384x1x32_0_2 si))))

/-- The rotary part of the keys. -/
def refKr (x : FVec F S2x16384x32 .f32) (co si : FVec F S16384x32 .f32) : FVec F S2x16384x32 .f32 :=
  addf (mulf x (broadcastInDim S2x16384x32 ![0, 1, 2] bcast_S1x16384x32_S2x16384x32_0_1_2 (broadcastInDim S1x16384x32 ![1, 2] bcast_S16384x32_S1x16384x32_1_2 co)))
    (mulf (concatenate S2x16384x32 2 [⟨S2x16384x8, Host.negf (extractStridedSlice S2x16384x8 ![0, 0, 8] x slices_S2x16384x32_S2x16384x8_0_0_8)⟩, ⟨S2x16384x8, extractStridedSlice S2x16384x8 ![0, 0, 0] x slices_S2x16384x32_S2x16384x8_0_0_0⟩,
        ⟨S2x16384x8, Host.negf (extractStridedSlice S2x16384x8 ![0, 0, 24] x slices_S2x16384x32_S2x16384x8_0_0_24)⟩, ⟨S2x16384x8, extractStridedSlice S2x16384x8 ![0, 0, 16] x slices_S2x16384x32_S2x16384x8_0_0_16⟩] concatenates_S2x16384x8_S2x16384x8_S2x16384x8_S2x16384x8_S2x16384x32_d2 : FVec F S2x16384x32 .f32)
      (broadcastInDim S2x16384x32 ![0, 1, 2] bcast_S1x16384x32_S2x16384x32_0_1_2 (broadcastInDim S1x16384x32 ![1, 2] bcast_S16384x32_S1x16384x32_1_2 si)))

/-- The slots' zeros. -/
def refZero : FVec F S2x16384x8x32 .f32 := broadcastInDim S2x16384x8x32 ![] bcast_S_S2x16384x8x32 (constant S_ .f32 0x00000000#32)

/-- Three parts of a slot, side by side. -/
def refSlots (a : FVec F S2x16384x8x64 .f32) (b z : FVec F S2x16384x8x32 .f32) : FVec F S32768x1024 .f32 :=
  shapeCast _ (concatenate S2x16384x8x128 3 [⟨S2x16384x8x64, a⟩, ⟨S2x16384x8x32, b⟩, ⟨S2x16384x8x32, z⟩] concatenates_S2x16384x8x64_S2x16384x8x32_S2x16384x8x32_S2x16384x8x128_d3 : FVec F S2x16384x8x128 .f32) shapeCasts_S2x16384x8x128_S32768x1024

/-- The queries in the attention's layout. -/
def refQT (q : FVec F S2x16384x8x96 .f32) (co si : FVec F S16384x32 .f32) : FVec F S1024x32768 .bf16 :=
  truncf .bf16 (transpose S1024x32768 [1, 0] (refSlots
    (mulf (extractStridedSlice S2x16384x8x64 ![0, 0, 0, 0] q slices_S2x16384x8x96_S2x16384x8x64_0_0_0_0) (broadcastInDim S2x16384x8x64 ![] bcast_S_S2x16384x8x64 (constant S_ .f32 0x3E16C740#32)))
    (mulf (refQr (extractStridedSlice S2x16384x8x32 ![0, 0, 0, 64] q slices_S2x16384x8x96_S2x16384x8x32_0_0_0_64) co si) (broadcastInDim S2x16384x8x32 ![] bcast_S_S2x16384x8x32 (constant S_ .f32 0x3E16C740#32)))
    refZero) transposes_S32768x1024_S1024x32768_1_0) bitsLt_bf16_f32

/-- The keys in the attention's layout. -/
def refKT (kv : FVec F S2x16384x8x128 .f32) (kr : FVec F S2x16384x32 .f32) (co si : FVec F S16384x32 .f32) : FVec F S32768x1024 .bf16 :=
  truncf .bf16 (refSlots (extractStridedSlice S2x16384x8x64 ![0, 0, 0, 0] kv slices_S2x16384x8x128_S2x16384x8x64_0_0_0_0)
    (broadcastInDim S2x16384x8x32 ![0, 1, 2, 3] bcast_S2x16384x1x32_S2x16384x8x32_0_1_2_3 (broadcastInDim S2x16384x1x32 ![0, 1, 3] bcast_S2x16384x32_S2x16384x1x32_0_1_3 (refKr kr co si)))
    refZero) bitsLt_bf16_f32

/-- The values in the attention's layout. -/
def refVT (kv : FVec F S2x16384x8x128 .f32) : FVec F S640x32768 .bf16 :=
  truncf .bf16 (transpose S640x32768 [1, 0] (shapeCast _ (concatenate S2x16384x8x80 3 [⟨S2x16384x8x64, (extractStridedSlice S2x16384x8x64 ![0, 0, 0, 64] kv slices_S2x16384x8x128_S2x16384x8x64_0_0_0_64)⟩,
    ⟨S2x16384x8x16, (broadcastInDim S2x16384x8x16 ![] bcast_S_S2x16384x8x16 (constant S_ .f32 0x3F800000#32))⟩] concatenates_S2x16384x8x64_S2x16384x8x16_S2x16384x8x80_d3 : FVec F S2x16384x8x80 .f32) shapeCasts_S2x16384x8x80_S32768x640 : FVec F S32768x640 .f32) transposes_S32768x640_S640x32768_1_0) bitsLt_bf16_f32

/-- The gated linear unit. -/
def refGelu (z : FVec F S2x16384x512 .f32) : FVec F S2x16384x512 .f32 :=
  mulf z (mulf (broadcastInDim S2x16384x512 ![] bcast_S_S2x16384x512 (constant S_ .f32 0x3F000000#32)) (addf (broadcastInDim S2x16384x512 ![] bcast_S_S2x16384x512 (constant S_ .f32 0x3F800000#32))
    (Host.tanh (mulf (broadcastInDim S2x16384x512 ![] bcast_S_S2x16384x512 (constant S_ .f32 0x3F4C422A#32)) (addf z (mulf (broadcastInDim S2x16384x512 ![] bcast_S_S2x16384x512 (constant S_ .f32 0x3D372713#32)) (mulf (mulf z z) z)))))))

/-- The chunks' groups. -/
def refChunks (z : FVec F S2x16384x512 .f32) : FVec F S256x128x4x128 .f32 := shapeCast _ z shapeCasts_S2x16384x512_S256x128x4x128

/-- The chunks' groups, normed. -/
def refVn (x : FVec F S256x128x4x128 .f32) (g : FVec F S128 .f32) : FVec F S256x128x4x128 .f32 :=
  mulf (mulf x (broadcastInDim S256x128x4x128 ![0, 1, 2, 3] bcast_S256x128x4x1_S256x128x4x128_0_1_2_3 (Host.rsqrt (addf (Host.divf (broadcastInDim S256x128x4x1 ![0, 1, 2] bcast_S256x128x4_S256x128x4x1_0_1_2
      (Host.reduceAdd (mulf x x) (constant S_ .f32 0x00000000#32) reducesTo_S256x128x4x128_S256x128x4_d3 h_S_)) (broadcastInDim S256x128x4x1 ![] bcast_S_S256x128x4x1 (constant S_ .f32 0x43000000#32)))
      (broadcastInDim S256x128x4x1 ![] bcast_S_S256x128x4x1 (constant S_ .f32 0x358637BD#32))))))
    (broadcastInDim S256x128x4x128 ![0, 1, 2, 3] bcast_S1x1x1x128_S256x128x4x128_0_1_2_3 (broadcastInDim S1x1x1x128 ![3] bcast_S128_S1x1x1x128_3 g))

/-- The chunks' weighted sums. -/
def refMix (x : FVec F S256x128x4x128 .f32) (w : FVec F S4x128x128 .f32) (b : FVec F S4x128 .f32) : FVec F S256x128x4x128 .f32 :=
  addf (transpose S256x128x4x128 [1, 3, 0, 2] (Host.dotGeneral dot_S256x128x4x128_S4x128x128_S4x256x128x128_1_2_03_1_2_0 none x w) transposes_S4x256x128x128_S256x128x4x128_1_3_0_2)
    (broadcastInDim S256x128x4x128 ![0, 1, 2, 3] bcast_S1x128x4x1_S256x128x4x128_0_1_2_3 (broadcastInDim S1x128x4x1 ![1, 2, 3] bcast_S128x4x1_S1x128x4x1_1_2_3 (broadcastInDim S128x4x1 ![0, 1] bcast_S128x4_S128x4x1_0_1 (transpose S128x4 [1, 0] b transposes_S4x128_S128x4_1_0))))

/-- The chunked gating. -/
def refML (u v : FVec F S2x16384x512 .f32) (g : FVec F S128 .f32) (w : FVec F S4x128x128 .f32) (b : FVec F S4x128 .f32) : FVec F S32768x512 .bf16 :=
  truncf .bf16 (mulf (shapeCast _ (refGelu u) shapeCasts_S2x16384x512_S32768x512 : FVec F S32768x512 .f32) (shapeCast _ (refMix (refVn (refChunks (refGelu v)) g) w b) shapeCasts_S256x128x4x128_S32768x512 : FVec F S32768x512 .f32)) bitsLt_bf16_f32

end Stages

/-- The norm, at an index. -/
theorem refNorm_at (x : FVec Ideal S2x16384x1024 .f32) (g : FVec Ideal S1024 .f32) (B : Fin 2) (l : Fin 16384) (j : Fin 1024) :
    (refNorm x g (ix3 B l j) : EReal) = rms (Ideal.ofBits .f32 0x44800000#32) (fun j => x (ix3 B l j)) (fun j => g (ix1 j)) j := by
  pointwise [refNorm, rms, eps]

/-- The modulated norm, at an index. -/
theorem refModulate_at (x : FVec Ideal S2x16384x1024 .f32) (sc sh : FVec Ideal S2x1024 .f32) (B : Fin 2) (l : Fin 16384) (j : Fin 1024) :
    (refModulate x sc sh (ix3 B l j) : EReal) = x (ix3 B l j) * (1 + sc (ix2 B j)) + sh (ix2 B j) := by
  pointwise [refModulate]

/-- The projection, at an index. -/
theorem refProj_at (h : FVec Ideal S2x16384x1024 .f32) (w : FVec Ideal S1024x1696 .f32) (B : Fin 2) (l : Fin 16384) (j : Fin 1696) :
    (refProj h w (ix3 B l j) : EReal) = times (fun k => h (ix3 B l k)) (fun k j => w (ix2 k j)) j := by
  pointwise [refProj, times]

/-- The queries' latent, at an index. -/
theorem refCq_at (x : FVec Ideal S2x16384x384 .f32) (g : FVec Ideal S384 .f32) (B : Fin 2) (l : Fin 16384) (j : Fin 384) :
    (refCq x g (ix3 B l j) : EReal) = rms (Ideal.ofBits .f32 0x43C00000#32) (fun j => x (ix3 B l j)) (fun j => g (ix1 j)) j := by
  pointwise [refCq, rms, eps]

/-- The keys' and values' latent, at an index. -/
theorem refCkv_at (x : FVec Ideal S2x16384x256 .f32) (g : FVec Ideal S256 .f32) (B : Fin 2) (l : Fin 16384) (j : Fin 256) :
    (refCkv x g (ix3 B l j) : EReal) = rms (Ideal.ofBits .f32 0x43800000#32) (fun j => x (ix3 B l j)) (fun j => g (ix1 j)) j := by
  pointwise [refCkv, rms, eps]

/-- The queries of each head, at an index. -/
theorem refQ_at (x : FVec Ideal S2x16384x384 .f32) (w : FVec Ideal S384x768 .f32) (B : Fin 2) (l : Fin 16384) (h : Fin 8) (a : Fin 96) :
    (refQ x w (ix4 B l h a) : EReal) = times (fun k => x (ix3 B l k)) (fun k j => w (ix2 k j)) ⟨96 * h.val + a.val, by omega⟩ := by
  pointwise [refQ, times]
  have e : (⟨h.val * 96 + a.val, by omega⟩ : Fin 768) = ⟨96 * h.val + a.val, by omega⟩ := Fin.ext (by dsimp only; omega)
  rw [e]

/-- The keys and values of each head, at an index. -/
theorem refKv_at (x : FVec Ideal S2x16384x256 .f32) (w : FVec Ideal S256x1024 .f32) (B : Fin 2) (l : Fin 16384) (h : Fin 8) (a : Fin 128) :
    (refKv x w (ix4 B l h a) : EReal) = times (fun k => x (ix3 B l k)) (fun k j => w (ix2 k j)) ⟨128 * h.val + a.val, by omega⟩ := by
  pointwise [refKv, times]
  have e : (⟨h.val * 128 + a.val, by omega⟩ : Fin 1024) = ⟨128 * h.val + a.val, by omega⟩ := Fin.ext (by dsimp only; omega)
  rw [e]

/-- The rotary part of the queries, at an index. -/
theorem refQr_at (x : FVec Ideal S2x16384x8x32 .f32) (co si : FVec Ideal S16384x32 .f32) (B : Fin 2) (l : Fin 16384) (h : Fin 8) (i : Fin 32) :
    (refQr x co si (ix4 B l h i) : EReal) = rope (fun i => x (ix4 B l h i)) (fun i => co (ix2 l i)) (fun i => si (ix2 l i)) i := by
  rw [rope, ← rot_eq]
  pointwise [refQr]

/-- The rotary part of the keys, at an index. -/
theorem refKr_at (x : FVec Ideal S2x16384x32 .f32) (co si : FVec Ideal S16384x32 .f32) (B : Fin 2) (l : Fin 16384) (i : Fin 32) :
    (refKr x co si (ix3 B l i) : EReal) = rope (fun i => x (ix3 B l i)) (fun i => co (ix2 l i)) (fun i => si (ix2 l i)) i := by
  rw [rope, ← rot_eq]
  pointwise [refKr]

/-- The parts of a slot, at an index. -/
theorem refSlots_at (a : FVec Ideal S2x16384x8x64 .f32) (b z : FVec Ideal S2x16384x8x32 .f32) (B : Fin 2) (l : Fin 16384) (h : Fin 8) (d : Fin 128) (R : Fin 32768) (r : Fin 1024)
    (hR : R.val = 16384 * B.val + l.val) (hr : r.val = 128 * h.val + d.val) :
    (refSlots a b z (ix2 R r) : EReal) = if h₁ : d.val < 64 then a (ix4 B l h ⟨d.val, by omega⟩) else if h₂ : d.val < 96 then b (ix4 B l h ⟨d.val - 64, by omega⟩) else z (ix4 B l h ⟨d.val - 96, by omega⟩) := by
  pointwise [refSlots]
  have e₁ : (⟨R.val / 16384, by omega⟩ : Fin 2) = B := Fin.ext (by dsimp only; omega)
  have e₂ : (⟨R.val % 16384, by omega⟩ : Fin 16384) = l := Fin.ext (by dsimp only; omega)
  have e₃ : (⟨r.val / 128, by omega⟩ : Fin 8) = h := Fin.ext (by dsimp only; omega)
  by_cases h₁ : d.val < 64
  · rw [dif_pos (by omega), dif_pos h₁, e₁, e₂, e₃]
    exact congrArg (fun j => a (ix4 B l h j)) (Fin.ext (by dsimp only; omega))
  · by_cases h₂ : d.val < 96
    · rw [dif_neg (by omega), dif_neg h₁, dif_pos (by omega), dif_pos h₂, e₁, e₂, e₃]
      exact congrArg (fun j => b (ix4 B l h j)) (Fin.ext (by dsimp only; omega))
    · rw [dif_neg (by omega), dif_neg h₁, dif_neg (by omega), dif_neg h₂, e₁, e₂, e₃]
      exact congrArg (fun j => z (ix4 B l h j)) (Fin.ext (by dsimp only; omega))

/-- The gated linear unit, at an index. -/
theorem refGelu_at (z : FVec Ideal S2x16384x512 .f32) (B : Fin 2) (l : Fin 16384) (j : Fin 512) : (refGelu z (ix3 B l j) : EReal) = gelu (z (ix3 B l j)) := by
  rw [gelu, ← mul_assoc (z (ix3 B l j)) (z (ix3 B l j)) (z (ix3 B l j))]
  pointwise [refGelu]

/-- The chunks' norm, at an index. -/
theorem refVn_at (x : FVec Ideal S256x128x4x128 .f32) (g : FVec Ideal S128 .f32) (k : Fin 256) (s : Fin 128) (q : Fin 4) (d : Fin 128) :
    (refVn x g (ix4 k s q d) : EReal) = rms (Ideal.ofBits .f32 0x43000000#32) (fun j => x (ix4 k s q j)) (fun j => g (ix1 j)) d := by
  pointwise [refVn, rms, eps]

/-- The chunks' weighted sums, at an index. -/
theorem refMix_at (x : FVec Ideal S256x128x4x128 .f32) (w : FVec Ideal S4x128x128 .f32) (b : FVec Ideal S4x128 .f32) (k : Fin 256) (t : Fin 128) (q : Fin 4) (d : Fin 128) :
    (refMix x w b (ix4 k t q d) : EReal) = ∑ s, x (ix4 k s q d) * w (ix3 q t s) + b (ix2 q t) := by
  pointwise [refMix]

/-- The chunks' groups, at an index. -/
theorem refChunks_at (z : FVec Ideal S2x16384x512 .f32) (k : Fin 256) (s : Fin 128) (q : Fin 4) (d : Fin 128) (B : Fin 2) (l : Fin 16384) (j : Fin 512) (hR : 128 * k.val + s.val = 16384 * B.val + l.val) (hj : j.val = 128 * q.val + d.val) :
    (refChunks z (ix4 k s q d) : EReal) = z (ix3 B l j) := by
  pointwise [refChunks]
  have e₁ : (⟨k.val / 128, by omega⟩ : Fin 2) = B := Fin.ext (by dsimp only; omega)
  have e₂ : (⟨k.val % 128 * 128 + s.val, by omega⟩ : Fin 16384) = l := Fin.ext (by dsimp only; omega)
  have e₃ : (⟨q.val * 128 + d.val, by omega⟩ : Fin 512) = j := Fin.ext (by dsimp only; omega)
  rw [e₁, e₂, e₃]

/-- Rows of both batches, one after another, at an index. -/
theorem flat_at (z : FVec Ideal S2x16384x512 .f32) (B : Fin 2) (l : Fin 16384) (j : Fin 512) (R : Fin 32768) (hR : R.val = 16384 * B.val + l.val) :
    (shapeCast S32768x512 z shapeCasts_S2x16384x512_S32768x512 (ix2 R j) : EReal) = z (ix3 B l j) := by
  pointwise []
  have e₁ : (⟨R.val / 16384, by omega⟩ : Fin 2) = B := Fin.ext (by dsimp only; omega)
  have e₂ : (⟨R.val % 16384, by omega⟩ : Fin 16384) = l := Fin.ext (by dsimp only; omega)
  rw [e₁, e₂]

/-- The chunks' rows, one after another, at an index. -/
theorem rows_at (z : FVec Ideal S256x128x4x128 .f32) (k : Fin 256) (s : Fin 128) (q : Fin 4) (d : Fin 128) (R : Fin 32768) (j : Fin 512) (hR : 128 * k.val + s.val = R.val) (hj : j.val = 128 * q.val + d.val) :
    (shapeCast S32768x512 z shapeCasts_S256x128x4x128_S32768x512 (ix2 R j) : EReal) = z (ix4 k s q d) := by
  pointwise []
  have e₁ : (⟨R.val / 128, by omega⟩ : Fin 256) = k := Fin.ext (by dsimp only; omega)
  have e₂ : (⟨R.val % 128, by omega⟩ : Fin 128) = s := Fin.ext (by dsimp only; omega)
  have e₃ : (⟨j.val / 128, by omega⟩ : Fin 4) = q := Fin.ext (by dsimp only; omega)
  have e₄ : (⟨j.val % 128, by omega⟩ : Fin 128) = d := Fin.ext (by dsimp only; omega)
  rw [e₁, e₂, e₃, e₄]

/-- The queries in the attention's layout, at an index. -/
theorem refQT_at (q : FVec Ideal S2x16384x8x96 .f32) (co si : FVec Ideal S16384x32 .f32) (B : Fin 2) (l : Fin 16384) (h : Fin 8) (d : Fin 128) (R : Fin 32768) (r : Fin 1024)
    (hR : R.val = 16384 * B.val + l.val) (hr : r.val = 128 * h.val + d.val) :
    (refQT q co si (ix2 r R) : EReal) = slotQ (fun a => q (ix4 B l h a)) (fun i => co (ix2 l i)) (fun i => si (ix2 l i)) d := by
  have e : (refQT q co si (ix2 r R) : EReal) = refSlots
    (mulf (extractStridedSlice S2x16384x8x64 ![0, 0, 0, 0] q slices_S2x16384x8x96_S2x16384x8x64_0_0_0_0) (broadcastInDim S2x16384x8x64 ![] bcast_S_S2x16384x8x64 (constant S_ .f32 0x3E16C740#32)))
    (mulf (refQr (extractStridedSlice S2x16384x8x32 ![0, 0, 0, 64] q slices_S2x16384x8x96_S2x16384x8x32_0_0_0_64) co si) (broadcastInDim S2x16384x8x32 ![] bcast_S_S2x16384x8x32 (constant S_ .f32 0x3E16C740#32)))
    refZero (ix2 R r) := by pointwise [refQT]
  rw [e, refSlots_at _ _ _ B l h d R r hR hr]
  unfold slotQ
  by_cases h₁ : d.val < 64
  · rw [dif_pos h₁, dif_pos h₁]
    pointwise [scale]
  · by_cases h₂ : d.val < 96
    · rw [dif_neg h₁, dif_neg h₁, dif_pos h₂, dif_pos h₂]
      refine Eq.trans (b := (refQr (extractStridedSlice S2x16384x8x32 ![0, 0, 0, 64] q slices_S2x16384x8x96_S2x16384x8x32_0_0_0_64) co si (ix4 B l h ⟨d.val - 64, by omega⟩) : EReal) * scale) rfl ?_
      rw [refQr_at]
      refine congrArg (fun f => rope f _ _ _ * scale) (funext fun i => ?_)
      pointwise []
    · rw [dif_neg h₁, dif_neg h₁, dif_neg h₂, dif_neg h₂]
      pointwise [refZero]

/-- The keys in the attention's layout, at an index. -/
theorem refKT_at (kv : FVec Ideal S2x16384x8x128 .f32) (kr : FVec Ideal S2x16384x32 .f32) (co si : FVec Ideal S16384x32 .f32) (B : Fin 2) (l : Fin 16384) (h : Fin 8) (d : Fin 128) (R : Fin 32768) (r : Fin 1024)
    (hR : R.val = 16384 * B.val + l.val) (hr : r.val = 128 * h.val + d.val) :
    (refKT kv kr co si (ix2 R r) : EReal) = slotK (fun a => kv (ix4 B l h a)) (fun i => kr (ix3 B l i)) (fun i => co (ix2 l i)) (fun i => si (ix2 l i)) d := by
  have e : (refKT kv kr co si (ix2 R r) : EReal) = refSlots (extractStridedSlice S2x16384x8x64 ![0, 0, 0, 0] kv slices_S2x16384x8x128_S2x16384x8x64_0_0_0_0)
    (broadcastInDim S2x16384x8x32 ![0, 1, 2, 3] bcast_S2x16384x1x32_S2x16384x8x32_0_1_2_3 (broadcastInDim S2x16384x1x32 ![0, 1, 3] bcast_S2x16384x32_S2x16384x1x32_0_1_3 (refKr kr co si)))
    refZero (ix2 R r) := by pointwise [refKT]
  rw [e, refSlots_at _ _ _ B l h d R r hR hr]
  unfold slotK
  by_cases h₁ : d.val < 64
  · rw [dif_pos h₁, if_pos h₁]
    pointwise []
  · by_cases h₂ : d.val < 96
    · rw [dif_neg h₁, if_neg h₁, dif_pos h₂, dif_pos h₂, ← refKr_at]
      pointwise []
    · rw [dif_neg h₁, if_neg h₁, dif_neg h₂, dif_neg h₂]
      pointwise [refZero]

/-- The values in the attention's layout, at an index. -/
theorem refVT_at (kv : FVec Ideal S2x16384x8x128 .f32) (B : Fin 2) (l : Fin 16384) (h : Fin 8) (d : Fin 80) (R : Fin 32768) (r : Fin 640)
    (hR : R.val = 16384 * B.val + l.val) (hr : r.val = 80 * h.val + d.val) :
    (refVT kv (ix2 r R) : EReal) = slotV (fun a => kv (ix4 B l h a)) d := by
  pointwise [refVT]
  have e₁ : (⟨R.val / 16384, by omega⟩ : Fin 2) = B := Fin.ext (by dsimp only; omega)
  have e₂ : (⟨R.val % 16384, by omega⟩ : Fin 16384) = l := Fin.ext (by dsimp only; omega)
  have e₃ : (⟨r.val / 80, by omega⟩ : Fin 8) = h := Fin.ext (by dsimp only; omega)
  unfold slotV
  by_cases h₁ : d.val < 64
  · rw [dif_pos (by omega), dif_pos h₁, e₁, e₂, e₃]
    exact congrArg (fun j => kv (ix4 B l h j)) (Fin.ext (by dsimp only; omega))
  · rw [dif_neg (by omega), dif_neg h₁]

/-- The chunked gating, at an index. -/
theorem refML_at (u v : FVec Ideal S2x16384x512 .f32) (g : FVec Ideal S128 .f32) (w : FVec Ideal S4x128x128 .f32) (b : FVec Ideal S4x128 .f32) (k : Fin 256) (t : Fin 128) (q : Fin 4) (d : Fin 128)
    (B : Fin 2) (l : Fin 16384) (R : Fin 32768) (j : Fin 512) (hR : R.val = 16384 * B.val + l.val) (hk : 128 * k.val + t.val = R.val) (hj : j.val = 128 * q.val + d.val) :
    (refML u v g w b (ix2 R j) : EReal) = mixed (u (ix3 B l j)) (fun s j => v (ix3 B ⟨(128 * k.val + s.val) % 16384, by omega⟩ ⟨128 * q.val + j.val, by omega⟩)) (fun j => g (ix1 j)) (fun s => w (ix3 q t s)) (b (ix2 q t)) d := by
  have e : (refML u v g w b (ix2 R j) : EReal) = (shapeCast S32768x512 (refGelu u) shapeCasts_S2x16384x512_S32768x512 (ix2 R j) : EReal) *
      (shapeCast S32768x512 (refMix (refVn (refChunks (refGelu v)) g) w b) shapeCasts_S256x128x4x128_S32768x512 (ix2 R j) : EReal) := rfl
  rw [e, flat_at _ B l j R hR, rows_at _ k t q d R j hk hj, refGelu_at, refMix_at, mixed]
  have n : ∀ s : Fin 128, (refVn (refChunks (refGelu v)) g (ix4 k s q d) : EReal) = rms (Ideal.ofBits .f32 0x43000000#32)
      (fun j => gelu (v (ix3 B ⟨(128 * k.val + s.val) % 16384, by omega⟩ ⟨128 * q.val + j.val, by omega⟩))) (fun j => g (ix1 j)) d := fun s => by
    rw [refVn_at]
    refine congrArg (fun f => rms _ f _ d) (funext fun j => ?_)
    rw [refChunks_at _ k s q j B ⟨(128 * k.val + s.val) % 16384, by omega⟩ ⟨128 * q.val + j.val, by omega⟩ (by dsimp only; omega) rfl, refGelu_at]
  refine congrArg (fun z => _ * (z + _)) (Finset.sum_congr rfl fun s _ => ?_)
  rw [n, mul_comm]

variable (m : (ℓ : Loc nD τ sig) → Buf (Elt Ideal) ℓ) (c : Dev nD)

/-- A row's projection, from the arguments. -/
def argP (B : Fin 2) (L : Fin 16384) : Fin 1696 → EReal :=
  times (normed (fun j => m ((c.tc : Thread nD τ).loc main_arg0) (ix3 B L j)) (fun j => m ((c.tc : Thread nD τ).loc main_arg1) (ix1 j)) (fun j => m ((c.tc : Thread nD τ).loc main_arg3) (ix2 B j)) (fun j => m ((c.tc : Thread nD τ).loc main_arg2) (ix2 B j)))
    (fun k j => m ((c.tc : Thread nD τ).loc main_arg4) (ix2 k j))

/-- The projection's entries, from the arguments. -/
theorem v21_at (B : Fin 2) (L : Fin 16384) (j : Fin 1696) : (res_main_v21 (launchContents m c) (ix3 B L j) : EReal) = argP m c B L j := by
  have e : res_main_v21 (launchContents m c) = refProj (F := Ideal) (refModulate (refNorm (m ((c.tc : Thread nD τ).loc main_arg0)) (m ((c.tc : Thread nD τ).loc main_arg1))) (m ((c.tc : Thread nD τ).loc main_arg3)) (m ((c.tc : Thread nD τ).loc main_arg2))) (m ((c.tc : Thread nD τ).loc main_arg4)) := by
    unfold res_main_v21
    rfl
  rw [e, refProj_at, argP]
  refine congrArg (fun f => times f _ j) (funext fun k => ?_)
  rw [refModulate_at, refNorm_at]
  rfl

/-- The queries' entries, from the arguments. -/
theorem v71_at (B : Fin 2) (L : Fin 16384) (h : Fin 8) (a : Fin 96) : (res_main_v71 (launchContents m c) (ix4 B L h a) : EReal)
    = qAt (argP m c B L) (fun j => m ((c.tc : Thread nD τ).loc main_arg5) (ix1 j)) (fun k j => m ((c.tc : Thread nD τ).loc main_arg6) (ix2 k j)) h a := by
  have e : res_main_v71 (launchContents m c) = refQ (refCq (res_main_v22 (launchContents m c)) (m ((c.tc : Thread nD τ).loc main_arg5))) (m ((c.tc : Thread nD τ).loc main_arg6)) := by
    unfold res_main_v71
    rfl
  rw [e, refQ_at, qAt]
  refine congrArg (fun f => times f _ _) (funext fun k => ?_)
  rw [refCq_at]
  refine congrArg (fun f => rms _ f _ k) (funext fun j => ?_)
  rw [← v21_at, res_main_v22]
  pointwise []

/-- The keys' and values' entries, from the arguments. -/
theorem v103_at (B : Fin 2) (L : Fin 16384) (h : Fin 8) (a : Fin 128) : (res_main_v103 (launchContents m c) (ix4 B L h a) : EReal)
    = kvAt (argP m c B L) (fun j => m ((c.tc : Thread nD τ).loc main_arg7) (ix1 j)) (fun k j => m ((c.tc : Thread nD τ).loc main_arg8) (ix2 k j)) h a := by
  have e : res_main_v103 (launchContents m c) = refKv (refCkv (res_main_v23 (launchContents m c)) (m ((c.tc : Thread nD τ).loc main_arg7))) (m ((c.tc : Thread nD τ).loc main_arg8)) := by
    unfold res_main_v103
    rfl
  rw [e, refKv_at, kvAt]
  refine congrArg (fun f => times f _ _) (funext fun k => ?_)
  rw [refCkv_at]
  refine congrArg (fun f => rms _ f _ k) (funext fun j => ?_)
  rw [← v21_at, res_main_v23]
  pointwise []

/-- The rotary keys' entries, from the arguments. -/
theorem v24_at (B : Fin 2) (L : Fin 16384) (i : Fin 32) : (res_main_v24 (launchContents m c) (ix3 B L i) : EReal) = argP m c B L ⟨640 + i.val, by omega⟩ := by
  rw [← v21_at, res_main_v24]
  pointwise []

/-- The first half of the gating's entries, from the arguments. -/
theorem v25_at (B : Fin 2) (L : Fin 16384) (j : Fin 512) : (res_main_v25 (launchContents m c) (ix3 B L j) : EReal) = argP m c B L ⟨672 + j.val, by omega⟩ := by
  rw [← v21_at, res_main_v25]
  pointwise []

/-- The second half of the gating's entries, from the arguments. -/
theorem v26_at (B : Fin 2) (L : Fin 16384) (j : Fin 512) : (res_main_v26 (launchContents m c) (ix3 B L j) : EReal) = argP m c B L ⟨1184 + j.val, by omega⟩ := by
  rw [← v21_at, res_main_v26]
  pointwise []

end Cert.Reference6Ideal.In
-- ==== Proof.InFinal.lean ====
module

public import proofs.«01_k».proof.Proof.InArg
public import proofs.«01_k».proof.Proof.InRef

@[expose] public section

set_option maxRecDepth 16384

noncomputable section

/-! The even layers' projections: the call's whole results are the reference's. -/

namespace Cert.Kernel6Ideal.In

open Cert.Kernel6Ideal Cert.Kernel6Ideal.Gen Idealize.ShloMosaic Idealize.ShloMosaic.TcCoe Cert.Post Cert.In

variable (m : (ℓ : Loc nD τ sig) → Buf (Elt Ideal) ℓ) (c : Dev nD)
  (m' : (ℓ : Loc Cert.Reference6Ideal.nD Cert.Reference6Ideal.τ Cert.Reference6Ideal.sig) → Buf (Elt Ideal) ℓ)

/-- From arguments that agree, a row's projection is the reference's. -/
theorem argP_eq (B : Fin 2) (L : Fin 16384)
    (h0 : m' ((c.tc : Thread Cert.Reference6Ideal.nD Cert.Reference6Ideal.τ).loc Cert.Reference6Ideal.main_arg0) = m ((c.tc : Thread nD τ).loc main_arg0))
    (h1 : m' ((c.tc : Thread Cert.Reference6Ideal.nD Cert.Reference6Ideal.τ).loc Cert.Reference6Ideal.main_arg1) = m ((c.tc : Thread nD τ).loc main_arg1))
    (h2 : m' ((c.tc : Thread Cert.Reference6Ideal.nD Cert.Reference6Ideal.τ).loc Cert.Reference6Ideal.main_arg2) = m ((c.tc : Thread nD τ).loc main_arg2))
    (h3 : m' ((c.tc : Thread Cert.Reference6Ideal.nD Cert.Reference6Ideal.τ).loc Cert.Reference6Ideal.main_arg3) = m ((c.tc : Thread nD τ).loc main_arg3))
    (h4 : m' ((c.tc : Thread Cert.Reference6Ideal.nD Cert.Reference6Ideal.τ).loc Cert.Reference6Ideal.main_arg4) = m ((c.tc : Thread nD τ).loc main_arg4)) :
    Cert.Reference6Ideal.In.argP m' c B L = argP m c B L := by
  unfold Cert.Reference6Ideal.In.argP argP argRow
  rw [h0, h1, h2, h3, h4]

/-- The reference's cosines are the program's. -/
theorem co_eq : Cert.Reference6Ideal.Value.res_main_v55 (Idealize.ShloMosaic.StableHlo.launchContents m' c) = co := by
  unfold Cert.Reference6Ideal.Value.res_main_v55 Cert.Reference6Ideal.Value.res_main_v54 Cert.Reference6Ideal.Value.res_main_v53 Cert.Reference6Ideal.Value.res_main_v48 Cert.Reference6Ideal.Value.res_main_v43 co ang angRow angCol freq
  rfl

/-- The reference's sines are the program's. -/
theorem si_eq : Cert.Reference6Ideal.Value.res_main_v56 (Idealize.ShloMosaic.StableHlo.launchContents m' c) = si := by
  unfold Cert.Reference6Ideal.Value.res_main_v56 Cert.Reference6Ideal.Value.res_main_v54 Cert.Reference6Ideal.Value.res_main_v53 Cert.Reference6Ideal.Value.res_main_v48 Cert.Reference6Ideal.Value.res_main_v43 si ang angRow angCol freq
  rfl

/-- From arguments that agree and are reals, the call's queries are the reference's. -/
theorem result_17 (hm : Fine m c)
    (h0 : m' ((c.tc : Thread Cert.Reference6Ideal.nD Cert.Reference6Ideal.τ).loc Cert.Reference6Ideal.main_arg0) = m ((c.tc : Thread nD τ).loc main_arg0))
    (h1 : m' ((c.tc : Thread Cert.Reference6Ideal.nD Cert.Reference6Ideal.τ).loc Cert.Reference6Ideal.main_arg1) = m ((c.tc : Thread nD τ).loc main_arg1))
    (h2 : m' ((c.tc : Thread Cert.Reference6Ideal.nD Cert.Reference6Ideal.τ).loc Cert.Reference6Ideal.main_arg2) = m ((c.tc : Thread nD τ).loc main_arg2))
    (h3 : m' ((c.tc : Thread Cert.Reference6Ideal.nD Cert.Reference6Ideal.τ).loc Cert.Reference6Ideal.main_arg3) = m ((c.tc : Thread nD τ).loc main_arg3))
    (h4 : m' ((c.tc : Thread Cert.Reference6Ideal.nD Cert.Reference6Ideal.τ).loc Cert.Reference6Ideal.main_arg4) = m ((c.tc : Thread nD τ).loc main_arg4))
    (h5 : m' ((c.tc : Thread Cert.Reference6Ideal.nD Cert.Reference6Ideal.τ).loc Cert.Reference6Ideal.main_arg5) = m ((c.tc : Thread nD τ).loc main_arg5))
    (h6 : m' ((c.tc : Thread Cert.Reference6Ideal.nD Cert.Reference6Ideal.τ).loc Cert.Reference6Ideal.main_arg6) = m ((c.tc : Thread nD τ).loc main_arg6)) :
    (dats m 0 c).arrAt 17 cfg0.N = Cert.Reference6Ideal.In.refQT (Cert.Reference6Ideal.Value.res_main_v71 (Idealize.ShloMosaic.StableHlo.launchContents m' c)) (Cert.Reference6Ideal.Value.res_main_v55 (Idealize.ShloMosaic.StableHlo.launchContents m' c)) (Cert.Reference6Ideal.Value.res_main_v56 (Idealize.ShloMosaic.StableHlo.launchContents m' c)) := by
  refine (dats m 0 c).arrAt_eq_of_covers 17 _ covers_17 fun t hf y => ?_
  blk_simp
  rw [after0_17]
  obtain ⟨p0, p1, p2, p3, p4, p5, p6, p7, p8, p9, p10, p11, p12, p13, p14, p15, p16, p17, p18, p19, p20, ht⟩ := places t
  obtain ⟨r, l, rfl⟩ : ∃ (r : Fin 1024) (l : Fin 512), y = ix2 r l := ⟨y 0, y 1, by blk_ext []⟩
  have hl := l.isLt
  have hr := r.isLt
  obtain ⟨B, hB⟩ : ∃ B : Fin 2, B.val = (grid0.coords t 0).val / 32 := ⟨⟨_, by omega⟩, rfl⟩
  obtain ⟨L, hL⟩ : ∃ L : Fin 16384, L.val = 512 * ((grid0.coords t 0).val % 32) + l.val := ⟨⟨_, by omega⟩, rfl⟩
  obtain ⟨R, hR⟩ : ∃ R : Fin 32768, R.val = 512 * (grid0.coords t 0).val + l.val := ⟨⟨_, by omega⟩, rfl⟩
  have hRL : R.val = 16384 * B.val + L.val := by omega
  have hs : 16384 * B.val + L.val = 512 * (grid0.coords t 0).val + l.val := by omega
  have he : (win0_17.blk t).view.emb (ix2 r l) = ix2 r R := by
    have q : win0_17.index t = ![0, (grid0.coords t 0).val] := p17
    blk_ext [q]
  obtain ⟨h, hh⟩ : ∃ h : Fin 8, h.val = r.val / 128 := ⟨⟨_, by omega⟩, rfl⟩
  obtain ⟨d, hd⟩ : ∃ d : Fin 128, d.val = r.val % 128 := ⟨⟨_, by omega⟩, rfl⟩
  have hx : r.val = 128 * h.val + d.val := by omega
  rw [he, co_eq, si_eq, Cert.Reference6Ideal.In.refQT_at _ _ _ B L h d R r hRL hx]
  refine (left_17 m c t r l).trans ((blockQ_at _ _ _ h d l r hx).trans ?_)
  have e : (fun a => (Cert.Reference6Ideal.Value.res_main_v71 (Idealize.ShloMosaic.StableHlo.launchContents m' c) (ix4 B L h a) : EReal)) = argQ m c B L h := funext fun a => by
    rw [Cert.Reference6Ideal.In.v71_at, argP_eq m c m' B L h0 h1 h2 h3 h4, h5, h6]
    rfl
  have e₁ : (fun i : Fin 32 => (iblk m c 6 t (ix2 i l) : EReal)) = fun i => co (ix2 L i) := funext fun i => blk_6 m c t i l L hL
  have e₂ : (fun i : Fin 32 => (iblk m c 7 t (ix2 i l) : EReal)) = fun i => si (ix2 L i) := funext fun i => blk_7 m c t i l L hL
  refine Eq.trans ?_ (congrArg (fun f => slotQ f (fun i => co (ix2 L i)) (fun i => si (ix2 L i)) d) e.symm)
  refine (congrArg₂ (fun f g => slotQ' _ f g d) e₁ e₂).trans (slotQ_eq (argQ m c B L h) _ _ _ d (fun i => ?_) (fun i => ?_))
  · exact query_low m c t l h i _ B L hB hs rfl
  · exact query_turn m c t hm l h i _ B L hB hs rfl

/-- From arguments that agree and are reals, the call's keys are the reference's. -/
theorem result_18 (hm : Fine m c)
    (h0 : m' ((c.tc : Thread Cert.Reference6Ideal.nD Cert.Reference6Ideal.τ).loc Cert.Reference6Ideal.main_arg0) = m ((c.tc : Thread nD τ).loc main_arg0))
    (h1 : m' ((c.tc : Thread Cert.Reference6Ideal.nD Cert.Reference6Ideal.τ).loc Cert.Reference6Ideal.main_arg1) = m ((c.tc : Thread nD τ).loc main_arg1))
    (h2 : m' ((c.tc : Thread Cert.Reference6Ideal.nD Cert.Reference6Ideal.τ).loc Cert.Reference6Ideal.main_arg2) = m ((c.tc : Thread nD τ).loc main_arg2))
    (h3 : m' ((c.tc : Thread Cert.Reference6Ideal.nD Cert.Reference6Ideal.τ).loc Cert.Reference6Ideal.main_arg3) = m ((c.tc : Thread nD τ).loc main_arg3))
    (h4 : m' ((c.tc : Thread Cert.Reference6Ideal.nD Cert.Reference6Ideal.τ).loc Cert.Reference6Ideal.main_arg4) = m ((c.tc : Thread nD τ).loc main_arg4))
    (h7 : m' ((c.tc : Thread Cert.Reference6Ideal.nD Cert.Reference6Ideal.τ).loc Cert.Reference6Ideal.main_arg7) = m ((c.tc : Thread nD τ).loc main_arg7))
    (h8 : m' ((c.tc : Thread Cert.Reference6Ideal.nD Cert.Reference6Ideal.τ).loc Cert.Reference6Ideal.main_arg8) = m ((c.tc : Thread nD τ).loc main_arg8)) :
    (dats m 0 c).arrAt 18 cfg0.N = Cert.Reference6Ideal.In.refKT (Cert.Reference6Ideal.Value.res_main_v103 (Idealize.ShloMosaic.StableHlo.launchContents m' c)) (Cert.Reference6Ideal.Value.res_main_v24 (Idealize.ShloMosaic.StableHlo.launchContents m' c)) (Cert.Reference6Ideal.Value.res_main_v55 (Idealize.ShloMosaic.StableHlo.launchContents m' c)) (Cert.Reference6Ideal.Value.res_main_v56 (Idealize.ShloMosaic.StableHlo.launchContents m' c)) := by
  refine (dats m 0 c).arrAt_eq_of_covers 18 _ covers_18 fun t hf y => ?_
  blk_simp
  rw [after0_18]
  obtain ⟨p0, p1, p2, p3, p4, p5, p6, p7, p8, p9, p10, p11, p12, p13, p14, p15, p16, p17, p18, p19, p20, ht⟩ := places t
  obtain ⟨l, r, rfl⟩ : ∃ (l : Fin 512) (r : Fin 1024), y = ix2 l r := ⟨y 0, y 1, by blk_ext []⟩
  have hl := l.isLt
  have hr := r.isLt
  obtain ⟨B, hB⟩ : ∃ B : Fin 2, B.val = (grid0.coords t 0).val / 32 := ⟨⟨_, by omega⟩, rfl⟩
  obtain ⟨L, hL⟩ : ∃ L : Fin 16384, L.val = 512 * ((grid0.coords t 0).val % 32) + l.val := ⟨⟨_, by omega⟩, rfl⟩
  obtain ⟨R, hR⟩ : ∃ R : Fin 32768, R.val = 512 * (grid0.coords t 0).val + l.val := ⟨⟨_, by omega⟩, rfl⟩
  have hRL : R.val = 16384 * B.val + L.val := by omega
  have hs : 16384 * B.val + L.val = 512 * (grid0.coords t 0).val + l.val := by omega
  have he : (win0_18.blk t).view.emb (ix2 l r) = ix2 R r := by
    have q : win0_18.index t = ![(grid0.coords t 0).val, 0] := p18
    blk_ext [q]
  obtain ⟨h, hh⟩ : ∃ h : Fin 8, h.val = r.val / 128 := ⟨⟨_, by omega⟩, rfl⟩
  obtain ⟨d, hd⟩ : ∃ d : Fin 128, d.val = r.val % 128 := ⟨⟨_, by omega⟩, rfl⟩
  have hx : r.val = 128 * h.val + d.val := by omega
  rw [he, co_eq, si_eq, Cert.Reference6Ideal.In.refKT_at _ _ _ _ B L h d R r hRL hx]
  refine (left_18 m c t l r).trans ?_
  have e : (fun a => (Cert.Reference6Ideal.Value.res_main_v103 (Idealize.ShloMosaic.StableHlo.launchContents m' c) (ix4 B L h a) : EReal)) = argKv m c B L h := funext fun a => by
    rw [Cert.Reference6Ideal.In.v103_at, argP_eq m c m' B L h0 h1 h2 h3 h4, h7, h8]
    rfl
  have e' : (fun i => (Cert.Reference6Ideal.Value.res_main_v24 (Idealize.ShloMosaic.StableHlo.launchContents m' c) (ix3 B L i) : EReal)) = fun i : Fin 32 => argP m c B L ⟨640 + i.val, by omega⟩ := funext fun i => by
    rw [Cert.Reference6Ideal.In.v24_at, argP_eq m c m' B L h0 h1 h2 h3 h4]
  refine Eq.trans ?_ (congrArg₂ (fun f g => slotK f g (fun i => co (ix2 L i)) (fun i => si (ix2 L i)) d) e.symm e'.symm)
  have ed : (⟨r.val % 128, by omega⟩ : Fin 128) = d := Fin.ext hd.symm
  refine Eq.trans (b := slotK' (k0_pay39 (k0_pay4 (iblk m c 0 t) (iblk m c 1 t) (iblk m c 3 t) (iblk m c 2 t) (iblk m c 8 t)) (iblk m c 11 t) (iblk m c 12 t) (ix2 l r))
    (fun b => k0_pay4 (iblk m c 0 t) (iblk m c 1 t) (iblk m c 3 t) (iblk m c 2 t) (iblk m c 8 t) (ix2 l ⟨640 + b.val, by omega⟩)) (iblk m c 4 t (ix2 l d)) (iblk m c 5 t (ix2 l d)) d) ?_ ?_
  · refine (congrArg (fun d => (k0_pay39 (k0_pay4 (iblk m c 0 t) (iblk m c 1 t) (iblk m c 3 t) (iblk m c 2 t) (iblk m c 8 t)) (iblk m c 11 t) (iblk m c 12 t) (ix2 l r) : EReal)
      + k0_pay40 (k0_pay4 (iblk m c 0 t) (iblk m c 1 t) (iblk m c 3 t) (iblk m c 2 t) (iblk m c 8 t)) (iblk m c 4 t) (iblk m c 5 t) (ix2 l d)) ed).trans ?_
    exact congrArg (_ + ·) (turned_at _ _ _ l d)
  · refine slotK_eq (argKv m c B L h) _ _ _ _ _ _ _ d (fun hd' => ?_) (fun hd' => ?_) (fun i => ?_) (fun i => ?_) (fun i hi => ?_) (fun hd' hd'' => ?_) (fun hd' hd'' => ?_) (fun hd' => ?_) (fun hd' => ?_) (fun hd' => ?_)
    · exact key_low m c t l h d r B L hB hs hx hd'
    · exact key_rest m c t l r (by omega)
    · exact proj_low m c t l _ B L hB hs (by dsimp only; omega)
    · exact proj_turn m c t hm l i _ B L hB hs (by dsimp only; omega)
    · exact proj_zero m c t l _ B L hB hs (by dsimp only; omega) (by dsimp only; omega)
    · exact (blk_4 m c t l d L hL).trans (tabA_mid _ L d hd' hd'')
    · exact (blk_5 m c t l d L hL).trans (tabB_mid _ L d hd' hd'')
    · exact (blk_5 m c t l d L hL).trans (tabB_low _ L d hd')
    · exact (blk_4 m c t l d L hL).trans (tabA_rest _ L d hd')
    · exact (blk_5 m c t l d L hL).trans (tabB_rest _ L d hd')

/-- From arguments that agree, the call's values are the reference's. -/
theorem result_19
    (h0 : m' ((c.tc : Thread Cert.Reference6Ideal.nD Cert.Reference6Ideal.τ).loc Cert.Reference6Ideal.main_arg0) = m ((c.tc : Thread nD τ).loc main_arg0))
    (h1 : m' ((c.tc : Thread Cert.Reference6Ideal.nD Cert.Reference6Ideal.τ).loc Cert.Reference6Ideal.main_arg1) = m ((c.tc : Thread nD τ).loc main_arg1))
    (h2 : m' ((c.tc : Thread Cert.Reference6Ideal.nD Cert.Reference6Ideal.τ).loc Cert.Reference6Ideal.main_arg2) = m ((c.tc : Thread nD τ).loc main_arg2))
    (h3 : m' ((c.tc : Thread Cert.Reference6Ideal.nD Cert.Reference6Ideal.τ).loc Cert.Reference6Ideal.main_arg3) = m ((c.tc : Thread nD τ).loc main_arg3))
    (h4 : m' ((c.tc : Thread Cert.Reference6Ideal.nD Cert.Reference6Ideal.τ).loc Cert.Reference6Ideal.main_arg4) = m ((c.tc : Thread nD τ).loc main_arg4))
    (h7 : m' ((c.tc : Thread Cert.Reference6Ideal.nD Cert.Reference6Ideal.τ).loc Cert.Reference6Ideal.main_arg7) = m ((c.tc : Thread nD τ).loc main_arg7))
    (h8 : m' ((c.tc : Thread Cert.Reference6Ideal.nD Cert.Reference6Ideal.τ).loc Cert.Reference6Ideal.main_arg8) = m ((c.tc : Thread nD τ).loc main_arg8)) :
    (dats m 0 c).arrAt 19 cfg0.N = Cert.Reference6Ideal.In.refVT (Cert.Reference6Ideal.Value.res_main_v103 (Idealize.ShloMosaic.StableHlo.launchContents m' c)) := by
  refine (dats m 0 c).arrAt_eq_of_covers 19 _ covers_19 fun t hf y => ?_
  blk_simp
  rw [after0_19]
  obtain ⟨p0, p1, p2, p3, p4, p5, p6, p7, p8, p9, p10, p11, p12, p13, p14, p15, p16, p17, p18, p19, p20, ht⟩ := places t
  obtain ⟨r, l, rfl⟩ : ∃ (r : Fin 640) (l : Fin 512), y = ix2 r l := ⟨y 0, y 1, by blk_ext []⟩
  have hl := l.isLt
  have hr := r.isLt
  obtain ⟨B, hB⟩ : ∃ B : Fin 2, B.val = (grid0.coords t 0).val / 32 := ⟨⟨_, by omega⟩, rfl⟩
  obtain ⟨L, hL⟩ : ∃ L : Fin 16384, L.val = 512 * ((grid0.coords t 0).val % 32) + l.val := ⟨⟨_, by omega⟩, rfl⟩
  obtain ⟨R, hR⟩ : ∃ R : Fin 32768, R.val = 512 * (grid0.coords t 0).val + l.val := ⟨⟨_, by omega⟩, rfl⟩
  have hRL : R.val = 16384 * B.val + L.val := by omega
  have hs : 16384 * B.val + L.val = 512 * (grid0.coords t 0).val + l.val := by omega
  have he : (win0_19.blk t).view.emb (ix2 r l) = ix2 r R := by
    have q : win0_19.index t = ![0, (grid0.coords t 0).val] := p19
    blk_ext [q]
  obtain ⟨h, hh⟩ : ∃ h : Fin 8, h.val = r.val / 80 := ⟨⟨_, by omega⟩, rfl⟩
  obtain ⟨d, hd⟩ : ∃ d : Fin 80, d.val = r.val % 80 := ⟨⟨_, by omega⟩, rfl⟩
  have hx : r.val = 80 * h.val + d.val := by omega
  rw [he, Cert.Reference6Ideal.In.refVT_at _ B L h d R r hRL hx]
  refine (left_19 m c t r l).trans ?_
  have e : (fun a => (Cert.Reference6Ideal.Value.res_main_v103 (Idealize.ShloMosaic.StableHlo.launchContents m' c) (ix4 B L h a) : EReal)) = argKv m c B L h := funext fun a => by
    rw [Cert.Reference6Ideal.In.v103_at, argP_eq m c m' B L h0 h1 h2 h3 h4, h7, h8]
    rfl
  refine Eq.trans ?_ (congrArg (fun f => slotV f d) e.symm)
  unfold slotV
  by_cases hd' : d.val < 64
  · rw [dif_pos hd']
    exact (blockV_val _ h ⟨d.val, hd'⟩ l r ⟨64 * h.val + d.val, by omega⟩ hx rfl).trans (value_arg m c t l h ⟨d.val, hd'⟩ _ B L hB hs rfl)
  · rw [dif_neg hd']
    exact blockV_one _ h ⟨d.val - 64, by omega⟩ l r (by dsimp only; omega)

/-- From arguments that agree, the call's gating is the reference's. -/
theorem result_20
    (h0 : m' ((c.tc : Thread Cert.Reference6Ideal.nD Cert.Reference6Ideal.τ).loc Cert.Reference6Ideal.main_arg0) = m ((c.tc : Thread nD τ).loc main_arg0))
    (h1 : m' ((c.tc : Thread Cert.Reference6Ideal.nD Cert.Reference6Ideal.τ).loc Cert.Reference6Ideal.main_arg1) = m ((c.tc : Thread nD τ).loc main_arg1))
    (h2 : m' ((c.tc : Thread Cert.Reference6Ideal.nD Cert.Reference6Ideal.τ).loc Cert.Reference6Ideal.main_arg2) = m ((c.tc : Thread nD τ).loc main_arg2))
    (h3 : m' ((c.tc : Thread Cert.Reference6Ideal.nD Cert.Reference6Ideal.τ).loc Cert.Reference6Ideal.main_arg3) = m ((c.tc : Thread nD τ).loc main_arg3))
    (h4 : m' ((c.tc : Thread Cert.Reference6Ideal.nD Cert.Reference6Ideal.τ).loc Cert.Reference6Ideal.main_arg4) = m ((c.tc : Thread nD τ).loc main_arg4))
    (h9 : m' ((c.tc : Thread Cert.Reference6Ideal.nD Cert.Reference6Ideal.τ).loc Cert.Reference6Ideal.main_arg9) = m ((c.tc : Thread nD τ).loc main_arg9))
    (h10 : m' ((c.tc : Thread Cert.Reference6Ideal.nD Cert.Reference6Ideal.τ).loc Cert.Reference6Ideal.main_arg10) = m ((c.tc : Thread nD τ).loc main_arg10))
    (h11 : m' ((c.tc : Thread Cert.Reference6Ideal.nD Cert.Reference6Ideal.τ).loc Cert.Reference6Ideal.main_arg11) = m ((c.tc : Thread nD τ).loc main_arg11)) :
    (dats m 0 c).arrAt 20 cfg0.N = Cert.Reference6Ideal.In.refML (Cert.Reference6Ideal.Value.res_main_v25 (Idealize.ShloMosaic.StableHlo.launchContents m' c)) (Cert.Reference6Ideal.Value.res_main_v26 (Idealize.ShloMosaic.StableHlo.launchContents m' c)) (m' ((c.tc : Thread Cert.Reference6Ideal.nD Cert.Reference6Ideal.τ).loc Cert.Reference6Ideal.main_arg9))
      (m' ((c.tc : Thread Cert.Reference6Ideal.nD Cert.Reference6Ideal.τ).loc Cert.Reference6Ideal.main_arg10)) (m' ((c.tc : Thread Cert.Reference6Ideal.nD Cert.Reference6Ideal.τ).loc Cert.Reference6Ideal.main_arg11)) := by
  refine (dats m 0 c).arrAt_eq_of_covers 20 _ covers_20 fun t hf y => ?_
  blk_simp
  rw [after0_20]
  obtain ⟨p0, p1, p2, p3, p4, p5, p6, p7, p8, p9, p10, p11, p12, p13, p14, p15, p16, p17, p18, p19, p20, ht⟩ := places t
  obtain ⟨l, r, rfl⟩ : ∃ (l : Fin 512) (r : Fin 512), y = ix2 l r := ⟨y 0, y 1, by blk_ext []⟩
  have hl := l.isLt
  have hr := r.isLt
  obtain ⟨B, hB⟩ : ∃ B : Fin 2, B.val = (grid0.coords t 0).val / 32 := ⟨⟨_, by omega⟩, rfl⟩
  obtain ⟨L, hL⟩ : ∃ L : Fin 16384, L.val = 512 * ((grid0.coords t 0).val % 32) + l.val := ⟨⟨_, by omega⟩, rfl⟩
  obtain ⟨R, hR⟩ : ∃ R : Fin 32768, R.val = 512 * (grid0.coords t 0).val + l.val := ⟨⟨_, by omega⟩, rfl⟩
  have hRL : R.val = 16384 * B.val + L.val := by omega
  have hs : 16384 * B.val + L.val = 512 * (grid0.coords t 0).val + l.val := by omega
  have he : (win0_20.blk t).view.emb (ix2 l r) = ix2 R r := by
    have q : win0_20.index t = ![(grid0.coords t 0).val, 0] := p20
    blk_ext [q]
  have hk : 128 * (⟨R.val / 128, by omega⟩ : Fin 256).val + (⟨l.val % 128, by omega⟩ : Fin 128).val = R.val := by dsimp only; omega
  have hj : r.val = 128 * (⟨r.val / 128, by omega⟩ : Fin 4).val + (⟨r.val % 128, by omega⟩ : Fin 128).val := by dsimp only; omega
  rw [he, Cert.Reference6Ideal.In.refML_at _ _ _ _ _ ⟨R.val / 128, by omega⟩ ⟨l.val % 128, by omega⟩ ⟨r.val / 128, by omega⟩ ⟨r.val % 128, by omega⟩ B L R r hRL hk hj, h9, h10, h11]
  refine (left_20 m c t l r).trans ?_
  have e0 : (ix2 l r 0).val = l.val := rfl
  have e1 : (ix2 l r 1).val = r.val := rfl
  refine mixed_congr _ ?_ (funext fun s => funext fun j => ?_) (funext fun j => blk_14 m c t j) (funext fun s => blk_15 m c t _ _ s) ?_
  · rw [Cert.Reference6Ideal.In.v25_at, argP_eq m c m' B L h0 h1 h2 h3 h4]
    refine (proj_high m c t l _ B L hB hs (by dsimp only; omega)).trans ?_
    exact congrArg (argP m c B L) (Fin.ext (by dsimp only; omega))
  · have hsl := s.isLt
    have hjl := j.isLt
    rw [Cert.Reference6Ideal.In.v26_at, argP_eq m c m' B _ h0 h1 h2 h3 h4]
    refine (proj_high m c t _ _ B ⟨(128 * (R.val / 128) + s.val) % 16384, by omega⟩ hB (by dsimp only; omega) (by dsimp only; omega)).trans ?_
    exact congrArg (argP m c B _) (Fin.ext (by dsimp only; omega))
  · exact (blk_16 m c t _ r).trans (bias_at _ _ ⟨r.val / 128, by omega⟩ ⟨r.val % 128, by omega⟩ r hj)

end Cert.Kernel6Ideal.In
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Pre_finite6
public import proofs.«01_k».proof.Proof.Pre
public import proofs.«01_k».proof.Proof.Final
public import proofs.«01_k».proof.Proof.PostFinal
public import proofs.«01_k».proof.Proof.EvenFinal
public import proofs.«01_k».proof.Proof.MidFinal
public import proofs.«01_k».proof.Proof.OddFinal
public import Idealize.ShloMosaic.Lib.Quiescent
public import Idealize.ShloMosaic.Adequacy
public import Idealize.ShloMosaic.Init
public import proofs.«01_k».proof.Proof.InValue
public import proofs.«01_k».proof.Proof.InExactFrame
public import proofs.«01_k».proof.Proof.InPre
public import proofs.«01_k».proof.Proof.InFinal

@[expose] public section

noncomputable section

namespace Cert.Proof

open Idealize.ShloMosaic Idealize.SL.Sem

/-- The kernel's program runs, keeps its arguments and leaves every semaphore at zero. -/
theorem frame_kernel : Cert.quiescent_Kernel := fun m g _ => Cert.Kernel.Gen.frame m g

/-- So does the program over the extended reals. -/
theorem frame_ideal : Cert.quiescent_KernelIdeal := fun m g _ => Cert.KernelIdeal.Gen.frame m g

/-- So does it under the precondition. -/
theorem frame_ideal_pre : Cert.quiescent_KernelIdeal_pre_finite := fun m g _ => Cert.KernelIdeal.Gen.frame m g

/-- The reference runs, keeps its arguments and leaves every semaphore at zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- So does it under the precondition. -/
theorem frame_reference_pre : Cert.quiescent_ReferenceIdeal_pre_finite := fun m g _ => frame_reference m g trivial

/-- Under the precondition the attention call's result is the reference's. -/
theorem value : Cert.algebraic_KernelIdeal_ReferenceIdeal_pre_finite := by
  intro m g m' g' hpre hag
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨a0, a1, a2, a3, a5, a6⟩ := Cert.Pre_finite.Decode.reals _ _ _ _ _ _ _ _ (hpre c)
  obtain ⟨h0, h1, h2, h3, h4, h5, h6, h7⟩ := hag c
  choose qn r0 using a0
  choose qr r1 using a1
  choose kn r2 using a2
  choose kr r3 using a3
  choose cn r5 using a5
  choose cr r6 using a6
  exact (Cert.KernelIdeal.Attn.result_eq m c m' h0 h1 h2 h3 h4 h5 h6 h7 qn r0 qr r1 kn r2 kr r3 cn r5 cr r6).symm

/-- The last layer's second half runs, keeps its arguments and leaves every semaphore at zero. -/
theorem frame_kernel2 : Cert.quiescent_Kernel2 := fun m g _ => Cert.Kernel2.Gen.frame m g

/-- So does its program over the extended reals. -/
theorem frame_ideal2 : Cert.quiescent_Kernel2Ideal := fun m g _ => Cert.Kernel2Ideal.Gen.frame m g

/-- So does its reference. -/
theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The call's result is its reference's. -/
theorem value2 : Cert.algebraic_Kernel2Ideal_Reference2Ideal := by
  intro m g m' g' _ hag
  refine ⟨fun c => (Cert.Kernel2Ideal.Gen.dats m 0 c).arrAt 14 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run (F := Ideal) m' g')
  obtain ⟨h0, h1, h2, h3, h4, h5, h6, h7, h8, h9, h10, h11, h12, h13⟩ := hag c
  exact (Cert.Kernel2Ideal.Post.result_eq m c m' h0 h1 h2 h3 h4 h5 h6 h7 h8 h9 h10 h11 h12 h13).symm

/-- An even layer's second half runs, keeps its arguments and leaves every semaphore at zero. -/
theorem frame_kernel3 : Cert.quiescent_Kernel3 := fun m g _ => Cert.Kernel3.Gen.frame m g

/-- So does its program over the extended reals. -/
theorem frame_ideal3 : Cert.quiescent_Kernel3Ideal := fun m g _ => Cert.Kernel3Ideal.Gen.frame m g

/-- So does its reference. -/
theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The call's result is its reference's. -/
theorem value3 : Cert.algebraic_Kernel3Ideal_Reference3Ideal := by
  intro m g m' g' _ hag
  refine ⟨fun c => (Cert.Kernel3Ideal.Gen.dats m 0 c).arrAt 12 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run (F := Ideal) m' g')
  obtain ⟨h0, h1, h2, h3, h4, h5, h6, h7, h8, h9, h10, h11⟩ := hag c
  exact (Cert.Kernel3Ideal.Post.result_eq m c m' h0 h1 h2 h3 h4 h5 h6 h7 h8 h9 h10 h11).symm

/-- The first odd layer's second half runs, keeps its arguments and leaves every semaphore at zero. -/
theorem frame_kernel4 : Cert.quiescent_Kernel4 := fun m g _ => Cert.Kernel4.Gen.frame m g

/-- So does its program over the extended reals. -/
theorem frame_ideal4 : Cert.quiescent_Kernel4Ideal := fun m g _ => Cert.Kernel4Ideal.Gen.frame m g

/-- So does its reference. -/
theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- The call's result is its reference's. -/
theorem value4 : Cert.algebraic_Kernel4Ideal_Reference4Ideal := by
  intro m g m' g' _ hag
  refine ⟨fun c => (Cert.Kernel4Ideal.Gen.dats m 0 c).arrAt 14 Cert.Kernel4Ideal.cfg0.N, Cert.Kernel4Ideal.Value.run_blocks m g, ?_⟩
  refine (θ_run Cert.Reference4Ideal.defs _ _).mono (fun r h c => ⟨(h c).1.trans ?_, (h c).2⟩) (Cert.Reference4Ideal.Value.run (F := Ideal) m' g')
  obtain ⟨h0, h1, h2, h3, h4, h5, h6, h7, h8, h9, h10, h11, h12, h13⟩ := hag c
  exact (Cert.Kernel4Ideal.Post.result_eq m c m' h0 h1 h2 h3 h4 h5 h6 h7 h8 h9 h10 h11 h12 h13).symm

/-- An odd layer's projections run, keep their arguments and leave every semaphore at zero. -/
theorem frame_kernel5 : Cert.quiescent_Kernel5 := fun m g _ => Cert.Kernel5.Gen.frame m g

/-- So does its program over the extended reals. -/
theorem frame_ideal5 : Cert.quiescent_Kernel5Ideal := fun m g _ => Cert.Kernel5Ideal.Gen.frame m g

/-- So does its reference. -/
theorem frame_reference5 : Cert.quiescent_Reference5Ideal := fun m g _ =>
  (θ_run Cert.Reference5Ideal.defs _ _).mono (fun r h => ⟨fun c => (h c).2.2.2.2.2.2, sem_eq_zero_of_no_sems (by decide) r.2⟩)
    (Cert.Reference5Ideal.Value.run (F := Ideal) m g)

/-- The call's six results are its reference's. -/
theorem value5 : Cert.algebraic_Kernel5Ideal_Reference5Ideal := by
  intro m g m' g' _ hag
  refine ⟨fun c => (Cert.Kernel5Ideal.Gen.dats m 0 c).arrAt 9 Cert.Kernel5Ideal.cfg0.N, fun c => (Cert.Kernel5Ideal.Gen.dats m 0 c).arrAt 10 Cert.Kernel5Ideal.cfg0.N,
    fun c => (Cert.Kernel5Ideal.Gen.dats m 0 c).arrAt 11 Cert.Kernel5Ideal.cfg0.N, fun c => (Cert.Kernel5Ideal.Gen.dats m 0 c).arrAt 12 Cert.Kernel5Ideal.cfg0.N,
    fun c => (Cert.Kernel5Ideal.Gen.dats m 0 c).arrAt 13 Cert.Kernel5Ideal.cfg0.N, fun c => (Cert.Kernel5Ideal.Gen.dats m 0 c).arrAt 14 Cert.Kernel5Ideal.cfg0.N, Cert.Kernel5Ideal.Value.run_blocks m g, ?_⟩
  refine (θ_run Cert.Reference5Ideal.defs _ _).mono (fun r h c => ?_) (Cert.Reference5Ideal.Value.run (F := Ideal) m' g')
  obtain ⟨h0, h1, h2, h3, h4, h5, h6, h7, h8⟩ := hag c
  obtain ⟨k, v, q, o, cf, cb, ha⟩ := h c
  exact ⟨k.trans (Cert.Kernel5Ideal.Odd.result_9 m c m' h0 h1 h2 h3 h4).symm, v.trans (Cert.Kernel5Ideal.Odd.result_10 m c m' h0 h1 h2 h3 h4).symm,
    q.trans (Cert.Kernel5Ideal.Odd.result_11 m c m' h0 h1 h2 h3 h4).symm, o.trans (Cert.Kernel5Ideal.Odd.result_12 m c m' h0 h1 h2 h3 h4).symm,
    cf.trans (Cert.Kernel5Ideal.Odd.result_13 m c m' h0 h1 h2 h3 h4 h5 h6).symm, cb.trans (Cert.Kernel5Ideal.Odd.result_14 m c m' h0 h1 h2 h3 h4 h7 h8).symm, ha⟩

/-- The even layers' projections run, keep their arguments and leave every semaphore at zero. -/
theorem frame_kernel6 : Cert.quiescent_Kernel6 := fun m g _ => Cert.Kernel6.Gen.frame m g

/-- So does their program over the extended reals. -/
theorem frame_ideal6 : Cert.quiescent_Kernel6Ideal := fun m g _ => Cert.Kernel6Ideal.Gen.frame m g

/-- So does it under the precondition. -/
theorem frame_ideal6_pre : Cert.quiescent_Kernel6Ideal_pre_finite6 := fun m g _ => Cert.Kernel6Ideal.Gen.frame m g

/-- So does their reference. -/
theorem frame_reference6 : Cert.quiescent_Reference6Ideal := fun m g _ =>
  (θ_run Cert.Reference6Ideal.defs _ _).mono (fun r h => ⟨fun c => (h c).2.2.2.2, sem_eq_zero_of_no_sems (by decide) r.2⟩)
    (Cert.Reference6Ideal.Value.run (F := Ideal) m g)

/-- So does it under the precondition. -/
theorem frame_reference6_pre : Cert.quiescent_Reference6Ideal_pre_finite6 := fun m g _ => frame_reference6 m g trivial

/-- Under the precondition the call's four results are its reference's. -/
theorem value6 : Cert.algebraic_Kernel6Ideal_Reference6Ideal_pre_finite6 := by
  intro m g m' g' hpre hag
  refine ⟨fun c => (Cert.Kernel6Ideal.Gen.dats m 0 c).arrAt 17 Cert.Kernel6Ideal.cfg0.N, fun c => (Cert.Kernel6Ideal.Gen.dats m 0 c).arrAt 18 Cert.Kernel6Ideal.cfg0.N,
    fun c => (Cert.Kernel6Ideal.Gen.dats m 0 c).arrAt 19 Cert.Kernel6Ideal.cfg0.N, fun c => (Cert.Kernel6Ideal.Gen.dats m 0 c).arrAt 20 Cert.Kernel6Ideal.cfg0.N, Cert.Kernel6Ideal.Value.run_blocks m g, ?_⟩
  refine (θ_run Cert.Reference6Ideal.defs _ _).mono (fun r h c => ?_) (Cert.Reference6Ideal.Value.run (F := Ideal) m' g')
  obtain ⟨h0, h1, h2, h3, h4, h5, h6, h7, h8, h9, h10, h11⟩ := hag c
  have hm : Cert.Kernel6Ideal.In.Fine m c := Cert.Pre_finite6.Decode.reals _ _ _ _ _ _ _ _ _ _ _ _ (hpre c)
  obtain ⟨q, k, v, o, ha⟩ := h c
  exact ⟨q.trans (Cert.Kernel6Ideal.In.result_17 m c m' hm h0 h1 h2 h3 h4 h5 h6).symm, k.trans (Cert.Kernel6Ideal.In.result_18 m c m' hm h0 h1 h2 h3 h4 h7 h8).symm,
    v.trans (Cert.Kernel6Ideal.In.result_19 m c m' h0 h1 h2 h3 h4 h7 h8).symm, o.trans (Cert.Kernel6Ideal.In.result_20 m c m' h0 h1 h2 h3 h4 h9 h10 h11).symm, ha⟩

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_finite.Gen.facts, Cert.Pre_finite6.Gen.facts,
    frame_kernel, frame_ideal, frame_ideal_pre, frame_reference, frame_reference_pre, frame_kernel2, frame_ideal2, frame_reference2,
    frame_kernel3, frame_ideal3, frame_reference3, frame_kernel4, frame_ideal4, frame_reference4, frame_kernel5, frame_ideal5, frame_reference5,
    frame_kernel6, frame_ideal6, frame_ideal6_pre, frame_reference6, frame_reference6_pre,
    trivial, value, trivial, value2, trivial, value3, trivial, value4, trivial, value5, trivial, value6⟩

end Cert.Proof

end
